-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4))
      ∧ r.2.sem = fun _ => 0)

def preserves_Kernel_KernelIdeal : Prop :=
  IdealRules.named_const.Statement Cert.KernelIdeal.κ "scale_log2e" .f32 0x3DD53B95#32 (((Real.sqrt 192)⁻¹ * (Real.log 2)⁻¹ : ℝ) : EReal)
  ∧ IdealRules.named_const.Statement Cert.KernelIdeal.κ "mask" .f32 0xF149F2CA#32 ⊥

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v1) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v19) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v1) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v0) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v0) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v1) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v1) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)) →
    ∃ (v0 : (c : Dev Cert.Kernel8Ideal.nD) → Buf (Elt Ideal) ((c.tc : Thread Cert.Kernel8Ideal.nD Cert.Kernel8Ideal.τ).loc Cert.Kernel8Ideal.main_v3_0)) (v1 : (c : Dev Cert.Kernel8Ideal.nD) → Buf (Elt Ideal) ((c.tc : Thread Cert.Kernel8Ideal.nD Cert.Kernel8Ideal.τ).loc Cert.Kernel8Ideal.main_v3_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v3_0) = v0 c
          ∧ r.2.mem ((c.tc : Thread Cert.Kernel8Ideal.nD Cert.Kernel8Ideal.τ).loc Cert.Kernel8Ideal.main_v3_1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v11) = v0 c
          ∧ r.2.mem ((c.tc : Thread Cert.Reference8Ideal.nD Cert.Reference8Ideal.τ).loc Cert.Reference8Ideal.main_v25) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)) →
    ∃ (v0 : (c : Dev Cert.Kernel9Ideal.nD) → Buf (Elt Ideal) ((c.tc : Thread Cert.Kernel9Ideal.nD Cert.Kernel9Ideal.τ).loc Cert.Kernel9Ideal.main_v1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v1) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v33) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v1) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v16) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v1) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v16) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)) →
    ∃ (v0 : (c : Dev Cert.Kernel12Ideal.nD) → Buf (Elt Ideal) ((c.tc : Thread Cert.Kernel12Ideal.nD Cert.Kernel12Ideal.τ).loc Cert.Kernel12Ideal.main_v1_0)) (v1 : (c : Dev Cert.Kernel12Ideal.nD) → Buf (Elt Ideal) ((c.tc : Thread Cert.Kernel12Ideal.nD Cert.Kernel12Ideal.τ).loc Cert.Kernel12Ideal.main_v1_1)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v1_0) = v0 c
          ∧ r.2.mem ((c.tc : Thread Cert.Kernel12Ideal.nD Cert.Kernel12Ideal.τ).loc Cert.Kernel12Ideal.main_v1_1) = v1 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v6) = v0 c
          ∧ r.2.mem ((c.tc : Thread Cert.Reference12Ideal.nD Cert.Reference12Ideal.τ).loc Cert.Reference12Ideal.main_v20) = v1 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hPre_finite_scores : Cert.Pre_finite_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
-- ==== Pre_finite_scores.lean ====
abbrev S8x4096x4096 : Shape := ⟨3, ![8, 4096, 4096]⟩
abbrev S8x4096x2048 : Shape := ⟨3, ![8, 4096, 2048]⟩
abbrev S8x4096x128 : Shape := ⟨3, ![8, 4096, 128]⟩
abbrev S2048x32768 : Shape := ⟨2, ![2048, 32768]⟩
abbrev S_ : Shape := ⟨0, ![]⟩

class Facts : Prop where
  bitsLt_bf16_f32 : FTy.bits .bf16 < FTy.bits .f32
  bcast_S_S8x4096x4096 : S_.BroadcastsInDim S8x4096x4096 (![] : Fin 0 → Fin S8x4096x4096.rank)
  reducesTo_S8x4096x4096_S_d0_1_2 : S8x4096x4096.ReducesTo [0, 1, 2] S_
  h_S_ : 0 < S_.numel
  bcast_S_S8x4096x2048 : S_.BroadcastsInDim S8x4096x2048 (![] : Fin 0 → Fin S8x4096x2048.rank)
  reducesTo_S8x4096x2048_S_d0_1_2 : S8x4096x2048.ReducesTo [0, 1, 2] S_
  bcast_S_S8x4096x128 : S_.BroadcastsInDim S8x4096x128 (![] : Fin 0 → Fin S8x4096x128.rank)
  reducesTo_S8x4096x128_S_d0_1_2 : S8x4096x128.ReducesTo [0, 1, 2] S_

variable [Facts]

def fn {F : FTy → Type} [FloatOps F] (main_arg0 : FVec F S8x4096x4096 .bf16) (main_arg1 : FVec F S8x4096x2048 .bf16) (main_arg2 : FVec F S8x4096x128 .bf16) (main_arg3 : FVec F S2048x32768 .bf16) : IVec S_ 1 :=
  let main_v0 : FVec F S8x4096x4096 .f32 := (extf .f32 · bitsLt_bf16_f32) main_arg0
  let main_v1 : FVec F S8x4096x4096 .f32 := Host.absf main_v0
  let main_cst : FVec F S_ .f32 := constant S_ .f32 0x7F800000#32
  let main_v2 : FVec F S8x4096x4096 .f32 := broadcastInDim S8x4096x4096 ![] bcast_S_S8x4096x4096 main_cst
  let main_v3 : IVec S8x4096x4096 1 := cmpf .olt main_v1 main_v2
  let main_c : IVec S_ 1 := constantI S_ 1 1#1
  let main_v4 : IVec S_ 1 := (fun x v => Host.reduce IntOp.andi x v reducesTo_S8x4096x4096_S_d0_1_2 h_S_) main_v3 main_c
  let main_v5 : FVec F S8x4096x2048 .f32 := (extf .f32 · bitsLt_bf16_f32) main_arg1
  let main_v6 : FVec F S8x4096x2048 .f32 := Host.absf main_v5
  let main_cst_0 : FVec F S_ .f32 := constant S_ .f32 0x7F800000#32
  let main_v7 : FVec F S8x4096x2048 .f32 := broadcastInDim S8x4096x2048 ![] bcast_S_S8x4096x2048 main_cst_0
  let main_v8 : IVec S8x4096x2048 1 := cmpf .olt main_v6 main_v7
  let main_c_1 : IVec S_ 1 := constantI S_ 1 1#1
  let main_v9 : IVec S_ 1 := (fun x v => Host.reduce IntOp.andi x v reducesTo_S8x4096x2048_S_d0_1_2 h_S_) main_v8 main_c_1
  let main_v10 : IVec S_ 1 := andi main_v4 main_v9
  let main_v11 : FVec F S8x4096x128 .f32 := (extf .f32 · bitsLt_bf16_f32) main_arg2
  let main_v12 : FVec F S8x4096x128 .f32 := Host.absf main_v11
  let main_cst_2 : FVec F S_ .f32 := constant S_ .f32 0x7F800000#32
  let main_v13 : FVec F S8x4096x128 .f32 := broadcastInDim S8x4096x128 ![] bcast_S_S8x4096x128 main_cst_2
  let main_v14 : IVec S8x4096x128 1 := cmpf .olt main_v12 main_v13
  let main_c_3 : IVec S_ 1 := constantI S_ 1 1#1
  let main_v15 : IVec S_ 1 := (fun x v => Host.reduce IntOp.andi x v reducesTo_S8x4096x128_S_d0_1_2 h_S_) main_v14 main_c_3
  let main_v16 : IVec S_ 1 := andi main_v10 main_v15
  main_v16
-- ==== Kernel.lean ====
abbrev S8x4096x4096 : Shape := ⟨3, ![8, 4096, 4096]⟩
abbrev S8x4096x2048 : Shape := ⟨3, ![8, 4096, 2048]⟩
abbrev S8x4096x128 : Shape := ⟨3, ![8, 4096, 128]⟩
abbrev S2048x32768 : Shape := ⟨2, ![2048, 32768]⟩
abbrev S37 : Shape := ⟨1, ![37]⟩
abbrev S1x4096x1024 : Shape := ⟨3, ![1, 4096, 1024]⟩
abbrev S1x4096x512 : Shape := ⟨3, ![1, 4096, 512]⟩
abbrev S1x4096x128 : Shape := ⟨3, ![1, 4096, 128]⟩
abbrev S512x4096 : Shape := ⟨2, ![512, 4096]⟩
abbrev S512x512 : Shape := ⟨2, ![512, 512]⟩
abbrev S1x512 : Shape := ⟨2, ![1, 512]⟩
abbrev S128x512 : Shape := ⟨2, ![128, 512]⟩
abbrev S1 : Shape := ⟨1, ![1]⟩
abbrev S1x512x128 : Shape := ⟨3, ![1, 512, 128]⟩
abbrev S512x128 : Shape := ⟨2, ![512, 128]⟩
abbrev S512x256 : Shape := ⟨2, ![512, 256]⟩
abbrev S1x512x256 : Shape := ⟨3, ![1, 512, 256]⟩
abbrev S512 : Shape := ⟨1, ![512]⟩

abbrev nBuf : Space → Nat
  | .hbm => 7
  | .vmem => 38
  | .smem => 2
  | _ => 0

abbrev bufTy : (tb : Table) → Fin (tcTables nBuf tb) → BufTy
  | .hbm, ⟨0, _⟩ => ⟨S8x4096x4096, .bf16⟩
  | .hbm, ⟨1, _⟩ => ⟨S8x4096x2048, .bf16⟩
  | .hbm, ⟨2, _⟩ => ⟨S8x4096x128, .bf16⟩
  | .hbm, ⟨3, _⟩ => ⟨S2048x32768, .bf16⟩
  | .hbm, ⟨4, _⟩ => ⟨S37, .i32⟩
  | .hbm, ⟨5, _⟩ => ⟨S37, .i32⟩
  | .hbm, ⟨6, _⟩ => ⟨S8x4096x2048, .bf16⟩
  | .local _ .vmem, ⟨0, _⟩ => ⟨S1x4096x1024, .bf16⟩
  | .local _ .vmem, ⟨1, _⟩ => ⟨S1x4096x1024, .bf16⟩
  | .local _ .vmem, ⟨2, _⟩ => ⟨S1x4096x512, .bf16⟩
  | .local _ .vmem, ⟨3, _⟩ => ⟨S1x4096x512, .bf16⟩
  | .local _ .vmem, ⟨4, _⟩ => ⟨S1x4096x128, .bf16⟩
  | .local _ .vmem, ⟨5, _⟩ => ⟨S1x4096x128, .bf16⟩
  | .local _ .vmem, ⟨6, _⟩ => ⟨S512x4096, .bf16⟩
  | .local _ .vmem, ⟨7, _⟩ => ⟨S512x4096, .bf16⟩
  | .local _ .vmem, ⟨8, _⟩ => ⟨S1x4096x512, .bf16⟩
  | .local _ .vmem, ⟨9, _⟩ => ⟨S1x4096x512, .bf16⟩
  | .local _ .vmem, ⟨10, _⟩ => ⟨S512x512, .f32⟩
  | .local _ .vmem, ⟨11, _⟩ => ⟨S512x512, .f32⟩
  | .local _ .vmem, ⟨12, _⟩ => ⟨S1x512, .f32⟩
  | .local _ .vmem, ⟨13, _⟩ => ⟨S1x512, .f32⟩
  | .local _ .vmem, ⟨14, _⟩ => ⟨S1x512, .f32⟩
  | .local _ .vmem, ⟨15, _⟩ => ⟨S1x512, .f32⟩
  | .local _ .vmem, ⟨16, _⟩ => ⟨S128x512, .f32⟩
  | .local _ .vmem, ⟨17, _⟩ => ⟨S512x512, .f32⟩
  | .local _ .vmem, ⟨18, _⟩ => ⟨S512x512, .f32⟩
  | .local _ .vmem, ⟨19, _⟩ => ⟨S1x512, .f32⟩
  | .local _ .vmem, ⟨20, _⟩ => ⟨S1x512, .f32⟩
  | .local _ .vmem, ⟨21, _⟩ => ⟨S1x512, .f32⟩
  | .local _ .vmem, ⟨22, _⟩ => ⟨S1x512, .f32⟩
  | .local _ .vmem, ⟨23, _⟩ => ⟨S128x512, .f32⟩
  | .local _ .vmem, ⟨24, _⟩ => ⟨S512x512, .f32⟩
  | .local _ .vmem, ⟨25, _⟩ => ⟨S512x512, .f32⟩
  | .local _ .vmem, ⟨26, _⟩ => ⟨S1x512, .f32⟩
  | .local _ .vmem, ⟨27, _⟩ => ⟨S1x512, .f32⟩
  | .local _ .vmem, ⟨28, _⟩ => ⟨S1x512, .f32⟩
  | .local _ .vmem, ⟨29, _⟩ => ⟨S1x512, .f32⟩
  | .local _ .vmem, ⟨30, _⟩ => ⟨S128x512, .f32⟩
  | .local _ .vmem, ⟨31, _⟩ => ⟨S512x512, .f32⟩
  | .local _ .vmem, ⟨32, _⟩ => ⟨S512x512, .f32⟩
  | .local _ .vmem, ⟨33, _⟩ => ⟨S1x512, .f32⟩
  | .local _ .vmem, ⟨34, _⟩ => ⟨S1x512, .f32⟩
  | .local _ .vmem, ⟨35, _⟩ => ⟨S1x512, .f32⟩
  | .local _ .vmem, ⟨36, _⟩ => ⟨S1x512, .f32⟩
  | .local _ .vmem, ⟨37, _⟩ => ⟨S128x512, .f32⟩
  | .local _ .smem, ⟨0, _⟩ => ⟨S37, .i32⟩
  | .local _ .smem, ⟨1, _⟩ => ⟨S37, .i32⟩
  | _, _ => ⟨S8x4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_v0 : Ref sig .tc := ⟨.hbm, 6, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_scratch5 : Ref sig .tc := ⟨.vmem, 15, rfl⟩
abbrev cc0_scratch6 : Ref sig .tc := ⟨.vmem, 16, rfl⟩
abbrev cc0_scratch7 : Ref sig .tc := ⟨.vmem, 17, rfl⟩
abbrev cc0_scratch8 : Ref sig .tc := ⟨.vmem, 18, rfl⟩
abbrev cc0_scratch9 : Ref sig .tc := ⟨.vmem, 19, rfl⟩
abbrev cc0_scratch10 : Ref sig .tc := ⟨.vmem, 20, rfl⟩
abbrev cc0_scratch11 : Ref sig .tc := ⟨.vmem, 21, rfl⟩
abbrev cc0_scratch12 : Ref sig .tc := ⟨.vmem, 22, rfl⟩
abbrev cc0_scratch13 : Ref sig .tc := ⟨.vmem, 23, rfl⟩
abbrev cc0_scratch14 : Ref sig .tc := ⟨.vmem, 24, rfl⟩
abbrev cc0_scratch15 : Ref sig .tc := ⟨.vmem, 25, rfl⟩
abbrev cc0_scratch16 : Ref sig .tc := ⟨.vmem, 26, rfl⟩
abbrev cc0_scratch17 : Ref sig .tc := ⟨.vmem, 27, rfl⟩
abbrev cc0_scratch18 : Ref sig .tc := ⟨.vmem, 28, rfl⟩
abbrev cc0_scratch19 : Ref sig .tc := ⟨.vmem, 29, rfl⟩
abbrev cc0_scratch20 : Ref sig .tc := ⟨.vmem, 30, rfl⟩
abbrev cc0_scratch21 : Ref sig .tc := ⟨.vmem, 31, rfl⟩
abbrev cc0_scratch22 : Ref sig .tc := ⟨.vmem, 32, rfl⟩
abbrev cc0_scratch23 : Ref sig .tc := ⟨.vmem, 33, rfl⟩
abbrev cc0_scratch24 : Ref sig .tc := ⟨.vmem, 34, rfl⟩
abbrev cc0_scratch25 : Ref sig .tc := ⟨.vmem, 35, rfl⟩
abbrev cc0_scratch26 : Ref sig .tc := ⟨.vmem, 36, rfl⟩
abbrev cc0_scratch27 : Ref sig .tc := ⟨.vmem, 37, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![8, 4], ![false, false]⟩

def k0_mult1 (v50 : BitVec 32) : BitVec 32 :=
  let c512_i32 : BitVec 32 := 512#32
  let v51 : BitVec 32 := Scalar.muli v50 c512_i32
  v51

def k0_mult2 (v53 : BitVec 32) : BitVec 32 :=
  let c512_i32_36 : BitVec 32 := 512#32
  let v54 : BitVec 32 := Scalar.muli v53 c512_i32_36
  v54

def k0_off1 (v50 : BitVec 32) : Fin 3 → Nat :=
  let c0_37 : Index := 0#32
  let c512_i32 : BitVec 32 := 512#32
  let v51 : BitVec 32 := Scalar.muli v50 c512_i32
  let v52 : BitVec 32 := v51
  let v56 : Index := Scalar.indexCast v52
  let c0_38 : Index := 0#32
  ![0, v56.toNat, 0]
def k0_off2 (v50 : BitVec 32) : Fin 3 → Nat :=
  let c0_39 : Index := 0#32
  let c512_i32 : BitVec 32 := 512#32
  let v51 : BitVec 32 := Scalar.muli v50 c512_i32
  let v52 : BitVec 32 := v51
  let v59 : Index := Scalar.indexCast v52
  let c0_40 : Index := 0#32
  ![0, v59.toNat, 0]
def k0_off3 (v53 : BitVec 32) : Fin 3 → Nat :=
  let c0_41 : Index := 0#32
  let c512_i32_36 : BitVec 32 := 512#32
  let v54 : BitVec 32 := Scalar.muli v53 c512_i32_36
  let v55 : BitVec 32 := v54
  let v63 : Index := Scalar.indexCast v55
  let c0_42 : Index := 0#32
  ![0, v63.toNat, 0]
def k0_off4 (v50 : BitVec 32) : Fin 3 → Nat :=
  let c0_49 : Index := 0#32
  let c512_i32 : BitVec 32 := 512#32
  let v51 : BitVec 32 := Scalar.muli v50 c512_i32
  let v52 : BitVec 32 := v51
  let v75 : Index := Scalar.indexCast v52
  let c128 : Index := 128#32
  ![0, v75.toNat, 128]
def k0_off5 (v53 : BitVec 32) : Fin 3 → Nat :=
  let c0_52 : Index := 0#32
  let c512_i32_36 : BitVec 32 := 512#32
  let v54 : BitVec 32 := Scalar.muli v53 c512_i32_36
  let v55 : BitVec 32 := v54
  let v82 : Index := Scalar.indexCast v55
  let c256 : Index := 256#32
  ![0, v82.toNat, 256]
def k0_off6 (v50 : BitVec 32) : Fin 3 → Nat :=
  let c0_59 : Index := 0#32
  let c512_i32 : BitVec 32 := 512#32
  let v51 : BitVec 32 := Scalar.muli v50 c512_i32
  let v52 : BitVec 32 := v51
  let v94 : Index := Scalar.indexCast v52
  let c256_60 : Index := 256#32
  ![0, v94.toNat, 256]
def k0_off7 (v53 : BitVec 32) : Fin 3 → Nat :=
  let c0_63 : Index := 0#32
  let c512_i32_36 : BitVec 32 := 512#32
  let v54 : BitVec 32 := Scalar.muli v53 c512_i32_36
  let v55 : BitVec 32 := v54
  let v101 : Index := Scalar.indexCast v55
  let c512 : Index := 512#32
  ![0, v101.toNat, 512]
def k0_off8 (v50 : BitVec 32) : Fin 3 → Nat :=
  let c0_70 : Index := 0#32
  let c512_i32 : BitVec 32 := 512#32
  let v51 : BitVec 32 := Scalar.muli v50 c512_i32
  let v52 : BitVec 32 := v51
  let v113 : Index := Scalar.indexCast v52
  let c384 : Index := 384#32
  ![0, v113.toNat, 384]

def k0_chk1 (v50 : BitVec 32) : Prop :=
  (512 ∣ (k0_mult1 v50).toNat) ∧
  (∀ a, (k0_off1 v50) a + S1x512x128.size a ≤ S1x4096x512.size a) ∧
  (∀ a, (k0_off2 v50) a + S1x512x128.size a ≤ S1x4096x128.size a) ∧
  (∀ a, (k0_off4 v50) a + S1x512x128.size a ≤ S1x4096x512.size a) ∧
  (∀ a, (k0_off6 v50) a + S1x512x128.size a ≤ S1x4096x512.size a) ∧
  (∀ a, (k0_off8 v50) a + S1x512x128.size a ≤ S1x4096x512.size a)
theorem k0_mult1_dvd : ∀ (v50 : BitVec 32) (k0_hw1 : k0_chk1 v50), 512 ∣ (k0_mult1 v50).toNat := fun v50 k0_hw1 => k0_hw1.1
theorem k0_off1_inb : ∀ (v50 : BitVec 32) (k0_hw1 : k0_chk1 v50), ∀ a, (k0_off1 v50) a + S1x512x128.size a ≤ S1x4096x512.size a := fun v50 k0_hw1 => k0_hw1.2.1
theorem k0_off2_inb : ∀ (v50 : BitVec 32) (k0_hw1 : k0_chk1 v50), ∀ a, (k0_off2 v50) a + S1x512x128.size a ≤ S1x4096x128.size a := fun v50 k0_hw1 => k0_hw1.2.2.1
theorem k0_off4_inb : ∀ (v50 : BitVec 32) (k0_hw1 : k0_chk1 v50), ∀ a, (k0_off4 v50) a + S1x512x128.size a ≤ S1x4096x512.size a := fun v50 k0_hw1 => k0_hw1.2.2.2.1
theorem k0_off6_inb : ∀ (v50 : BitVec 32) (k0_hw1 : k0_chk1 v50), ∀ a, (k0_off6 v50) a + S1x512x128.size a ≤ S1x4096x512.size a := fun v50 k0_hw1 => k0_hw1.2.2.2.2.1
theorem k0_off8_inb : ∀ (v50 : BitVec 32) (k0_hw1 : k0_chk1 v50), ∀ a, (k0_off8 v50) a + S1x512x128.size a ≤ S1x4096x512.size a := fun v50 k0_hw1 => k0_hw1.2.2.2.2.2

def k0_off9 (v53 : BitVec 32) : Fin 3 → Nat :=
  let c0_73 : Index := 0#32
  let c512_i32_36 : BitVec 32 := 512#32
  let v54 : BitVec 32 := Scalar.muli v53 c512_i32_36
  let v55 : BitVec 32 := v54
  let v120 : Index := Scalar.indexCast v55
  let c768 : Index := 768#32
  ![0, v120.toNat, 768]

def k0_chk2 (v53 : BitVec 32) : Prop :=
  (512 ∣ (k0_mult2 v53).toNat) ∧
  (∀ a, (k0_off3 v53) a + S1x512x256.size a ≤ S1x4096x1024.size a) ∧
  (∀ a, (k0_off5 v53) a + S1x512x256.size a ≤ S1x4096x1024.size a) ∧
  (∀ a, (k0_off7 v53) a + S1x512x256.size a ≤ S1x4096x1024.size a) ∧
  (∀ a, (k0_off9 v53) a + S1x512x256.size a ≤ S1x4096x1024.size a)
theorem k0_mult2_dvd : ∀ (v53 : BitVec 32) (k0_hw2 : k0_chk2 v53), 512 ∣ (k0_mult2 v53).toNat := fun v53 k0_hw2 => k0_hw2.1
theorem k0_off3_inb : ∀ (v53 : BitVec 32) (k0_hw2 : k0_chk2 v53), ∀ a, (k0_off3 v53) a + S1x512x256.size a ≤ S1x4096x1024.size a := fun v53 k0_hw2 => k0_hw2.2.1
theorem k0_off5_inb : ∀ (v53 : BitVec 32) (k0_hw2 : k0_chk2 v53), ∀ a, (k0_off5 v53) a + S1x512x256.size a ≤ S1x4096x1024.size a := fun v53 k0_hw2 => k0_hw2.2.2.1
theorem k0_off7_inb : ∀ (v53 : BitVec 32) (k0_hw2 : k0_chk2 v53), ∀ a, (k0_off7 v53) a + S1x512x256.size a ≤ S1x4096x1024.size a := fun v53 k0_hw2 => k0_hw2.2.2.2.1
theorem k0_off9_inb : ∀ (v53 : BitVec 32) (k0_hw2 : k0_chk2 v53), ∀ a, (k0_off9 v53) a + S1x512x256.size a ≤ S1x4096x1024.size a := fun v53 k0_hw2 => k0_hw2.2.2.2.2

@[reducible] def k0_t1_loop : Scf.Loop 32 :=
  let c0_i32 : BitVec 32 := 0#32
  let c18_i32 : BitVec 32 := 18#32
  let v132 : BitVec 32 := Scalar.addi c0_i32 c18_i32
  let c1_i32 : BitVec 32 := 1#32
  ⟨c0_i32, v132, c1_i32⟩
def k0_off10 (k0_t1 : Fin k0_t1_loop.trips) : Fin 1 → Nat :=
  let c2_i32 : BitVec 32 := 2#32
  let c0_i32 : BitVec 32 := 0#32
  let c1_i32 : BitVec 32 := 1#32
  let arg37 : BitVec 32 := Scf.iv c0_i32 c1_i32 k0_t1
  let v133 : BitVec 32 := Scalar.muli c2_i32 arg37
  let v134 : Index := Scalar.indexCast v133
  ![v134.toNat]
def k0_off11 (k0_t1 : Fin k0_t1_loop.trips) : Fin 1 → Nat :=
  let c2_i32 : BitVec 32 := 2#32
  let c0_i32 : BitVec 32 := 0#32
  let c1_i32 : BitVec 32 := 1#32
  let arg37 : BitVec 32 := Scf.iv c0_i32 c1_i32 k0_t1
  let v133 : BitVec 32 := Scalar.muli c2_i32 arg37
  let c1_i32_81 : BitVec 32 := 1#32
  let v139 : BitVec 32 := Scalar.addi v133 c1_i32_81
  let v140 : Index := Scalar.indexCast v139
  ![v140.toNat]
def k0_off12 (k0_t1 : Fin k0_t1_loop.trips) : Fin 1 → Nat :=
  let c2_i32 : BitVec 32 := 2#32
  let c0_i32 : BitVec 32 := 0#32
  let c1_i32 : BitVec 32 := 1#32
  let arg37 : BitVec 32 := Scf.iv c0_i32 c1_i32 k0_t1
  let v133 : BitVec 32 := Scalar.muli c2_i32 arg37
  let c1_i32_96 : BitVec 32 := 1#32
  let v167 : BitVec 32 := Scalar.addi v133 c1_i32_96
  let v168 : Index := Scalar.indexCast v167
  ![v168.toNat]
def k0_mult3 (v169 : BitVec 32) : BitVec 32 :=
  let c512_i32_97 : BitVec 32 := 512#32
  let v170 : BitVec 32 := Scalar.muli v169 c512_i32_97
  v170
def k0_cond1 (v135 : BitVec 32) (v137 : BitVec 32) (v141 : BitVec 32) (v144 : BitVec 32) : BitVec 1 :=
  let v138 : BitVec 1 := Scalar.cmpi .eq v135 v137
  let v_false : BitVec 1 := 0#1
  let v146 : BitVec 1 := Scalar.xori v138 v_false
  let v_true : BitVec 1 := 1#1
  let v147 : BitVec 1 := Scalar.xori v146 v_true
  let v145 : BitVec 1 := Scalar.cmpi .eq v141 v144
  let false_83 : BitVec 1 := 0#1
  let v148 : BitVec 1 := Scalar.xori v145 false_83
  let true_84 : BitVec 1 := 1#1
  let v149 : BitVec 1 := Scalar.xori v148 true_84
  let v150 : BitVec 1 := Scalar.andi v147 v149
  let v151 : BitVec 32 := Scalar.extui v150
  let c0_i32_85 : BitVec 32 := 0#32
  let v152 : BitVec 1 := Scalar.cmpi .ne v151 c0_i32_85
  v152

def k0_off13 (k0_t1 : Fin k0_t1_loop.trips) : Fin 1 → Nat :=
  let c2_i32 : BitVec 32 := 2#32
  let c0_i32 : BitVec 32 := 0#32
  let c1_i32 : BitVec 32 := 1#32
  let arg37 : BitVec 32 := Scf.iv c0_i32 c1_i32 k0_t1
  let v133 : BitVec 32 := Scalar.muli c2_i32 arg37
  let c1_i32_96 : BitVec 32 := 1#32
  let v167 : BitVec 32 := Scalar.addi v133 c1_i32_96
  let v172 : Index := Scalar.indexCast v167
  ![v172.toNat]
def k0_mult4 (v173 : BitVec 32) : BitVec 32 :=
  let c512_i32_98 : BitVec 32 := 512#32
  let v174 : BitVec 32 := Scalar.muli v173 c512_i32_98
  v174

def k0_off14 (v169 : BitVec 32) : Fin 3 → Nat :=
  let c0_99 : Index := 0#32
  let c512_i32_97 : BitVec 32 := 512#32
  let v170 : BitVec 32 := Scalar.muli v169 c512_i32_97
  let v171 : BitVec 32 := v170
  let v176 : Index := Scalar.indexCast v171
  let c0_100 : Index := 0#32
  ![0, v176.toNat, 0]
def k0_off15 (v169 : BitVec 32) : Fin 3 → Nat :=
  let c0_101 : Index := 0#32
  let c512_i32_97 : BitVec 32 := 512#32
  let v170 : BitVec 32 := Scalar.muli v169 c512_i32_97
  let v171 : BitVec 32 := v170
  let v179 : Index := Scalar.indexCast v171
  let c0_102 : Index := 0#32
  ![0, v179.toNat, 0]
def k0_off16 (v173 : BitVec 32) : Fin 3 → Nat :=
  let c0_103 : Index := 0#32
  let c512_i32_98 : BitVec 32 := 512#32
  let v174 : BitVec 32 := Scalar.muli v173 c512_i32_98
  let v175 : BitVec 32 := v174
  let v183 : Index := Scalar.indexCast v175
  let c0_104 : Index := 0#32
  ![0, v183.toNat, 0]
def k0_off17 (v169 : BitVec 32) : Fin 3 → Nat :=
  let c0_111 : Index := 0#32
  let c512_i32_97 : BitVec 32 := 512#32
  let v170 : BitVec 32 := Scalar.muli v169 c512_i32_97
  let v171 : BitVec 32 := v170
  let v195 : Index := Scalar.indexCast v171
  let c128_112 : Index := 128#32
  ![0, v195.toNat, 128]
def k0_off18 (v173 : BitVec 32) : Fin 3 → Nat :=
  let c0_115 : Index := 0#32
  let c512_i32_98 : BitVec 32 := 512#32
  let v174 : BitVec 32 := Scalar.muli v173 c512_i32_98
  let v175 : BitVec 32 := v174
  let v202 : Index := Scalar.indexCast v175
  let c256_116 : Index := 256#32
  ![0, v202.toNat, 256]
def k0_off19 (v169 : BitVec 32) : Fin 3 → Nat :=
  let c0_123 : Index := 0#32
  let c512_i32_97 : BitVec 32 := 512#32
  let v170 : BitVec 32 := Scalar.muli v169 c512_i32_97
  let v171 : BitVec 32 := v170
  let v214 : Index := Scalar.indexCast v171
  let c256_124 : Index := 256#32
  ![0, v214.toNat, 256]
def k0_off20 (v173 : BitVec 32) : Fin 3 → Nat :=
  let c0_127 : Index := 0#32
  let c512_i32_98 : BitVec 32 := 512#32
  let v174 : BitVec 32 := Scalar.muli v173 c512_i32_98
  let v175 : BitVec 32 := v174
  let v221 : Index := Scalar.indexCast v175
  let c512_128 : Index := 512#32
  ![0, v221.toNat, 512]
def k0_off21 (v169 : BitVec 32) : Fin 3 → Nat :=
  let c0_135 : Index := 0#32
  let c512_i32_97 : BitVec 32 := 512#32
  let v170 : BitVec 32 := Scalar.muli v169 c512_i32_97
  let v171 : BitVec 32 := v170
  let v233 : Index := Scalar.indexCast v171
  let c384_136 : Index := 384#32
  ![0, v233.toNat, 384]

def k0_chk3 (v135 : BitVec 32) (v137 : BitVec 32) (v141 : BitVec 32) (v144 : BitVec 32) (v169 : BitVec 32) : Prop :=
  (∀ (k0_h1 : k0_cond1 v135 v137 v141 v144 = 1#1), 512 ∣ (k0_mult3 v169).toNat) ∧
  (∀ (k0_h1 : k0_cond1 v135 v137 v141 v144 = 1#1), ∀ a, (k0_off14 v169) a + S1x512x128.size a ≤ S1x4096x512.size a) ∧
  (∀ (k0_h1 : k0_cond1 v135 v137 v141 v144 = 1#1), ∀ a, (k0_off15 v169) a + S1x512x128.size a ≤ S1x4096x128.size a) ∧
  (∀ (k0_h1 : k0_cond1 v135 v137 v141 v144 = 1#1), ∀ a, (k0_off17 v169) a + S1x512x128.size a ≤ S1x4096x512.size a) ∧
  (∀ (k0_h1 : k0_cond1 v135 v137 v141 v144 = 1#1), ∀ a, (k0_off19 v169) a + S1x512x128.size a ≤ S1x4096x512.size a) ∧
  (∀ (k0_h1 : k0_cond1 v135 v137 v141 v144 = 1#1), ∀ a, (k0_off21 v169) a + S1x512x128.size a ≤ S1x4096x512.size a)
theorem k0_mult3_dvd : ∀ (v135 : BitVec 32) (v137 : BitVec 32) (v141 : BitVec 32) (v144 : BitVec 32) (v169 : BitVec 32) (k0_hw3 : k0_chk3 v135 v137 v141 v144 v169), ∀ (k0_h1 : k0_cond1 v135 v137 v141 v144 = 1#1), 512 ∣ (k0_mult3 v169).toNat := fun v135 v137 v141 v144 v169 k0_hw3 k0_h1 => k0_hw3.1 k0_h1
theorem k0_off14_inb : ∀ (v135 : BitVec 32) (v137 : BitVec 32) (v141 : BitVec 32) (v144 : BitVec 32) (v169 : BitVec 32) (k0_hw3 : k0_chk3 v135 v137 v141 v144 v169), ∀ (k0_h1 : k0_cond1 v135 v137 v141 v144 = 1#1), ∀ a, (k0_off14 v169) a + S1x512x128.size a ≤ S1x4096x512.size a := fun v135 v137 v141 v144 v169 k0_hw3 k0_h1 => k0_hw3.2.1 k0_h1
theorem k0_off15_inb : ∀ (v135 : BitVec 32) (v137 : BitVec 32) (v141 : BitVec 32) (v144 : BitVec 32) (v169 : BitVec 32) (k0_hw3 : k0_chk3 v135 v137 v141 v144 v169), ∀ (k0_h1 : k0_cond1 v135 v137 v141 v144 = 1#1), ∀ a, (k0_off15 v169) a + S1x512x128.size a ≤ S1x4096x128.size a := fun v135 v137 v141 v144 v169 k0_hw3 k0_h1 => k0_hw3.2.2.1 k0_h1
theorem k0_off17_inb : ∀ (v135 : BitVec 32) (v137 : BitVec 32) (v141 : BitVec 32) (v144 : BitVec 32) (v169 : BitVec 32) (k0_hw3 : k0_chk3 v135 v137 v141 v144 v169), ∀ (k0_h1 : k0_cond1 v135 v137 v141 v144 = 1#1), ∀ a, (k0_off17 v169) a + S1x512x128.size a ≤ S1x4096x512.size a := fun v135 v137 v141 v144 v169 k0_hw3 k0_h1 => k0_hw3.2.2.2.1 k0_h1
theorem k0_off19_inb : ∀ (v135 : BitVec 32) (v137 : BitVec 32) (v141 : BitVec 32) (v144 : BitVec 32) (v169 : BitVec 32) (k0_hw3 : k0_chk3 v135 v137 v141 v144 v169), ∀ (k0_h1 : k0_cond1 v135 v137 v141 v144 = 1#1), ∀ a, (k0_off19 v169) a + S1x512x128.size a ≤ S1x4096x512.size a := fun v135 v137 v141 v144 v169 k0_hw3 k0_h1 => k0_hw3.2.2.2.2.1 k0_h1
theorem k0_off21_inb : ∀ (v135 : BitVec 32) (v137 : BitVec 32) (v141 : BitVec 32) (v144 : BitVec 32) (v169 : BitVec 32) (k0_hw3 : k0_chk3 v135 v137 v141 v144 v169), ∀ (k0_h1 : k0_cond1 v135 v137 v141 v144 = 1#1), ∀ a, (k0_off21 v169) a + S1x512x128.size a ≤ S1x4096x512.size a := fun v135 v137 v141 v144 v169 k0_hw3 k0_h1 => k0_hw3.2.2.2.2.2 k0_h1

def k0_off22 (v173 : BitVec 32) : Fin 3 → Nat :=
  let c0_139 : Index := 0#32
  let c512_i32_98 : BitVec 32 := 512#32
  let v174 : BitVec 32 := Scalar.muli v173 c512_i32_98
  let v175 : BitVec 32 := v174
  let v240 : Index := Scalar.indexCast v175
  let c768_140 : Index := 768#32
  ![0, v240.toNat, 768]

def k0_chk4 (v135 : BitVec 32) (v137 : BitVec 32) (v141 : BitVec 32) (v144 : BitVec 32) (v173 : BitVec 32) : Prop :=
  (∀ (k0_h1 : k0_cond1 v135 v137 v141 v144 = 1#1), 512 ∣ (k0_mult4 v173).toNat) ∧
  (∀ (k0_h1 : k0_cond1 v135 v137 v141 v144 = 1#1), ∀ a, (k0_off16 v173) a + S1x512x256.size a ≤ S1x4096x1024.size a) ∧
  (∀ (k0_h1 : k0_cond1 v135 v137 v141 v144 = 1#1), ∀ a, (k0_off18 v173) a + S1x512x256.size a ≤ S1x4096x1024.size a) ∧
  (∀ (k0_h1 : k0_cond1 v135 v137 v141 v144 = 1#1), ∀ a, (k0_off20 v173) a + S1x512x256.size a ≤ S1x4096x1024.size a) ∧
  (∀ (k0_h1 : k0_cond1 v135 v137 v141 v144 = 1#1), ∀ a, (k0_off22 v173) a + S1x512x256.size a ≤ S1x4096x1024.size a)
theorem k0_mult4_dvd : ∀ (v135 : BitVec 32) (v137 : BitVec 32) (v141 : BitVec 32) (v144 : BitVec 32) (v173 : BitVec 32) (k0_hw4 : k0_chk4 v135 v137 v141 v144 v173), ∀ (k0_h1 : k0_cond1 v135 v137 v141 v144 = 1#1), 512 ∣ (k0_mult4 v173).toNat := fun v135 v137 v141 v144 v173 k0_hw4 k0_h1 => k0_hw4.1 k0_h1
theorem k0_off16_inb : ∀ (v135 : BitVec 32) (v137 : BitVec 32) (v141 : BitVec 32) (v144 : BitVec 32) (v173 : BitVec 32) (k0_hw4 : k0_chk4 v135 v137 v141 v144 v173), ∀ (k0_h1 : k0_cond1 v135 v137 v141 v144 = 1#1), ∀ a, (k0_off16 v173) a + S1x512x256.size a ≤ S1x4096x1024.size a := fun v135 v137 v141 v144 v173 k0_hw4 k0_h1 => k0_hw4.2.1 k0_h1
theorem k0_off18_inb : ∀ (v135 : BitVec 32) (v137 : BitVec 32) (v141 : BitVec 32) (v144 : BitVec 32) (v173 : BitVec 32) (k0_hw4 : k0_chk4 v135 v137 v141 v144 v173), ∀ (k0_h1 : k0_cond1 v135 v137 v141 v144 = 1#1), ∀ a, (k0_off18 v173) a + S1x512x256.size a ≤ S1x4096x1024.size a := fun v135 v137 v141 v144 v173 k0_hw4 k0_h1 => k0_hw4.2.2.1 k0_h1
theorem k0_off20_inb : ∀ (v135 : BitVec 32) (v137 : BitVec 32) (v141 : BitVec 32) (v144 : BitVec 32) (v173 : BitVec 32) (k0_hw4 : k0_chk4 v135 v137 v141 v144 v173), ∀ (k0_h1 : k0_cond1 v135 v137 v141 v144 = 1#1), ∀ a, (k0_off20 v173) a + S1x512x256.size a ≤ S1x4096x1024.size a := fun v135 v137 v141 v144 v173 k0_hw4 k0_h1 => k0_hw4.2.2.2.1 k0_h1
theorem k0_off22_inb : ∀ (v135 : BitVec 32) (v137 : BitVec 32) (v141 : BitVec 32) (v144 : BitVec 32) (v173 : BitVec 32) (k0_hw4 : k0_chk4 v135 v137 v141 v144 v173), ∀ (k0_h1 : k0_cond1 v135 v137 v141 v144 = 1#1), ∀ a, (k0_off22 v173) a + S1x512x256.size a ≤ S1x4096x1024.size a := fun v135 v137 v141 v144 v173 k0_hw4 k0_h1 => k0_hw4.2.2.2.2 k0_h1

def k0_off23 (k0_t1 : Fin k0_t1_loop.trips) : Fin 1 → Nat :=
  let c2_i32 : BitVec 32 := 2#32
  let c0_i32 : BitVec 32 := 0#32
  let c1_i32 : BitVec 32 := 1#32
  let arg37 : BitVec 32 := Scf.iv c0_i32 c1_i32 k0_t1
  let v133 : BitVec 32 := Scalar.muli c2_i32 arg37
  let v252 : Index := Scalar.indexCast v133
  ![v252.toNat]
def k0_mult5 (v253 : BitVec 32) : BitVec 32 :=
  let c512_i32_147 : BitVec 32 := 512#32
  let v254 : BitVec 32 := Scalar.muli v253 c512_i32_147
  v254

def k0_off24 (v253 : BitVec 32) : Fin 2 → Nat :=
  let c0_152 : Index := 0#32
  let c512_i32_147 : BitVec 32 := 512#32
  let v254 : BitVec 32 := Scalar.muli v253 c512_i32_147
  let v255 : BitVec 32 := v254
  let v258 : Index := Scalar.indexCast v255
  ![0, v258.toNat]
def k0_off25 (v253 : BitVec 32) : Fin 2 → Nat :=
  let c128_173 : Index := 128#32
  let c512_i32_147 : BitVec 32 := 512#32
  let v254 : BitVec 32 := Scalar.muli v253 c512_i32_147
  let v255 : BitVec 32 := v254
  let v293 : Index := Scalar.indexCast v255
  ![128, v293.toNat]
def k0_off26 (v253 : BitVec 32) : Fin 2 → Nat :=
  let c256_194 : Index := 256#32
  let c512_i32_147 : BitVec 32 := 512#32
  let v254 : BitVec 32 := Scalar.muli v253 c512_i32_147
  let v255 : BitVec 32 := v254
  let v328 : Index := Scalar.indexCast v255
  ![256, v328.toNat]
def k0_off27 (v253 : BitVec 32) : Fin 2 → Nat :=
  let c384_215 : Index := 384#32
  let c512_i32_147 : BitVec 32 := 512#32
  let v254 : BitVec 32 := Scalar.muli v253 c512_i32_147
  let v255 : BitVec 32 := v254
  let v363 : Index := Scalar.indexCast v255
  ![384, v363.toNat]

def k0_chk5 (v135 : BitVec 32) (v137 : BitVec 32) (v141 : BitVec 32) (v144 : BitVec 32) (v253 : BitVec 32) : Prop :=
  (∀ (k0_h1 : k0_cond1 v135 v137 v141 v144 = 1#1), 512 ∣ (k0_mult5 v253).toNat) ∧
  (∀ (k0_h1 : k0_cond1 v135 v137 v141 v144 = 1#1), ∀ a, (k0_off24 v253) a + S128x512.size a ≤ S512x4096.size a) ∧
  (∀ (k0_h1 : k0_cond1 v135 v137 v141 v144 = 1#1), ∀ a, (k0_off25 v253) a + S128x512.size a ≤ S512x4096.size a) ∧
  (∀ (k0_h1 : k0_cond1 v135 v137 v141 v144 = 1#1), ∀ a, (k0_off26 v253) a + S128x512.size a ≤ S512x4096.size a) ∧
  (∀ (k0_h1 : k0_cond1 v135 v137 v141 v144 = 1#1), ∀ a, (k0_off27 v253) a + S128x512.size a ≤ S512x4096.size a)
theorem k0_mult5_dvd : ∀ (v135 : BitVec 32) (v137 : BitVec 32) (v141 : BitVec 32) (v144 : BitVec 32) (v253 : BitVec 32) (k0_hw5 : k0_chk5 v135 v137 v141 v144 v253), ∀ (k0_h1 : k0_cond1 v135 v137 v141 v144 = 1#1), 512 ∣ (k0_mult5 v253).toNat := fun v135 v137 v141 v144 v253 k0_hw5 k0_h1 => k0_hw5.1 k0_h1
theorem k0_off24_inb : ∀ (v135 : BitVec 32) (v137 : BitVec 32) (v141 : BitVec 32) (v144 : BitVec 32) (v253 : BitVec 32) (k0_hw5 : k0_chk5 v135 v137 v141 v144 v253), ∀ (k0_h1 : k0_cond1 v135 v137 v141 v144 = 1#1), ∀ a, (k0_off24 v253) a + S128x512.size a ≤ S512x4096.size a := fun v135 v137 v141 v144 v253 k0_hw5 k0_h1 => k0_hw5.2.1 k0_h1
theorem k0_off25_inb : ∀ (v135 : BitVec 32) (v137 : BitVec 32) (v141 : BitVec 32) (v144 : BitVec 32) (v253 : BitVec 32) (k0_hw5 : k0_chk5 v135 v137 v141 v144 v253), ∀ (k0_h1 : k0_cond1 v135 v137 v141 v144 = 1#1), ∀ a, (k0_off25 v253) a + S128x512.size a ≤ S512x4096.size a := fun v135 v137 v141 v144 v253 k0_hw5 k0_h1 => k0_hw5.2.2.1 k0_h1
theorem k0_off26_inb : ∀ (v135 : BitVec 32) (v137 : BitVec 32) (v141 : BitVec 32) (v144 : BitVec 32) (v253 : BitVec 32) (k0_hw5 : k0_chk5 v135 v137 v141 v144 v253), ∀ (k0_h1 : k0_cond1 v135 v137 v141 v144 = 1#1), ∀ a, (k0_off26 v253) a + S128x512.size a ≤ S512x4096.size a := fun v135 v137 v141 v144 v253 k0_hw5 k0_h1 => k0_hw5.2.2.2.1 k0_h1
theorem k0_off27_inb : ∀ (v135 : BitVec 32) (v137 : BitVec 32) (v141 : BitVec 32) (v144 : BitVec 32) (v253 : BitVec 32) (k0_hw5 : k0_chk5 v135 v137 v141 v144 v253), ∀ (k0_h1 : k0_cond1 v135 v137 v141 v144 = 1#1), ∀ a, (k0_off27 v253) a + S128x512.size a ≤ S512x4096.size a := fun v135 v137 v141 v144 v253 k0_hw5 k0_h1 => k0_hw5.2.2.2.2 k0_h1

def k0_off28 (k0_t1 : Fin k0_t1_loop.trips) : Fin 1 → Nat :=
  let c2_i32 : BitVec 32 := 2#32
  let c0_i32 : BitVec 32 := 0#32
  let c1_i32 : BitVec 32 := 1#32
  let arg37 : BitVec 32 := Scf.iv c0_i32 c1_i32 k0_t1
  let v133 : BitVec 32 := Scalar.muli c2_i32 arg37
  let c2_i32_232 : BitVec 32 := 2#32
  let v396 : BitVec 32 := Scalar.addi v133 c2_i32_232
  let v397 : Index := Scalar.indexCast v396
  ![v397.toNat]
def k0_mult6 (v398 : BitVec 32) : BitVec 32 :=
  let c512_i32_233 : BitVec 32 := 512#32
  let v399 : BitVec 32 := Scalar.muli v398 c512_i32_233
  v399

def k0_off29 (k0_t1 : Fin k0_t1_loop.trips) : Fin 1 → Nat :=
  let c2_i32 : BitVec 32 := 2#32
  let c0_i32 : BitVec 32 := 0#32
  let c1_i32 : BitVec 32 := 1#32
  let arg37 : BitVec 32 := Scf.iv c0_i32 c1_i32 k0_t1
  let v133 : BitVec 32 := Scalar.muli c2_i32 arg37
  let c2_i32_232 : BitVec 32 := 2#32
  let v396 : BitVec 32 := Scalar.addi v133 c2_i32_232
  let v401 : Index := Scalar.indexCast v396
  ![v401.toNat]
def k0_mult7 (v402 : BitVec 32) : BitVec 32 :=
  let c512_i32_234 : BitVec 32 := 512#32
  let v403 : BitVec 32 := Scalar.muli v402 c512_i32_234
  v403

def k0_off30 (v398 : BitVec 32) : Fin 3 → Nat :=
  let c0_235 : Index := 0#32
  let c512_i32_233 : BitVec 32 := 512#32
  let v399 : BitVec 32 := Scalar.muli v398 c512_i32_233
  let v400 : BitVec 32 := v399
  let v405 : Index := Scalar.indexCast v400
  let c0_236 : Index := 0#32
  ![0, v405.toNat, 0]
def k0_off31 (v398 : BitVec 32) : Fin 3 → Nat :=
  let c0_237 : Index := 0#32
  let c512_i32_233 : BitVec 32 := 512#32
  let v399 : BitVec 32 := Scalar.muli v398 c512_i32_233
  let v400 : BitVec 32 := v399
  let v408 : Index := Scalar.indexCast v400
  let c0_238 : Index := 0#32
  ![0, v408.toNat, 0]
def k0_off32 (v402 : BitVec 32) : Fin 3 → Nat :=
  let c0_239 : Index := 0#32
  let c512_i32_234 : BitVec 32 := 512#32
  let v403 : BitVec 32 := Scalar.muli v402 c512_i32_234
  let v404 : BitVec 32 := v403
  let v412 : Index := Scalar.indexCast v404
  let c0_240 : Index := 0#32
  ![0, v412.toNat, 0]
def k0_off33 (v398 : BitVec 32) : Fin 3 → Nat :=
  let c0_247 : Index := 0#32
  let c512_i32_233 : BitVec 32 := 512#32
  let v399 : BitVec 32 := Scalar.muli v398 c512_i32_233
  let v400 : BitVec 32 := v399
  let v424 : Index := Scalar.indexCast v400
  let c128_248 : Index := 128#32
  ![0, v424.toNat, 128]
def k0_off34 (v402 : BitVec 32) : Fin 3 → Nat :=
  let c0_251 : Index := 0#32
  let c512_i32_234 : BitVec 32 := 512#32
  let v403 : BitVec 32 := Scalar.muli v402 c512_i32_234
  let v404 : BitVec 32 := v403
  let v431 : Index := Scalar.indexCast v404
  let c256_252 : Index := 256#32
  ![0, v431.toNat, 256]
def k0_off35 (v398 : BitVec 32) : Fin 3 → Nat :=
  let c0_259 : Index := 0#32
  let c512_i32_233 : BitVec 32 := 512#32
  let v399 : BitVec 32 := Scalar.muli v398 c512_i32_233
  let v400 : BitVec 32 := v399
  let v443 : Index := Scalar.indexCast v400
  let c256_260 : Index := 256#32
  ![0, v443.toNat, 256]
def k0_off36 (v402 : BitVec 32) : Fin 3 → Nat :=
  let c0_263 : Index := 0#32
  let c512_i32_234 : BitVec 32 := 512#32
  let v403 : BitVec 32 := Scalar.muli v402 c512_i32_234
  let v404 : BitVec 32 := v403
  let v450 : Index := Scalar.indexCast v404
  let c512_264 : Index := 512#32
  ![0, v450.toNat, 512]
def k0_off37 (v398 : BitVec 32) : Fin 3 → Nat :=
  let c0_271 : Index := 0#32
  let c512_i32_233 : BitVec 32 := 512#32
  let v399 : BitVec 32 := Scalar.muli v398 c512_i32_233
  let v400 : BitVec 32 := v399
  let v462 : Index := Scalar.indexCast v400
  let c384_272 : Index := 384#32
  ![0, v462.toNat, 384]

def k0_chk6 (v135 : BitVec 32) (v137 : BitVec 32) (v141 : BitVec 32) (v144 : BitVec 32) (v398 : BitVec 32) : Prop :=
  (∀ (k0_h1 : k0_cond1 v135 v137 v141 v144 = 1#1), 512 ∣ (k0_mult6 v398).toNat) ∧
  (∀ (k0_h1 : k0_cond1 v135 v137 v141 v144 = 1#1), ∀ a, (k0_off30 v398) a + S1x512x128.size a ≤ S1x4096x512.size a) ∧
  (∀ (k0_h1 : k0_cond1 v135 v137 v141 v144 = 1#1), ∀ a, (k0_off31 v398) a + S1x512x128.size a ≤ S1x4096x128.size a) ∧
  (∀ (k0_h1 : k0_cond1 v135 v137 v141 v144 = 1#1), ∀ a, (k0_off33 v398) a + S1x512x128.size a ≤ S1x4096x512.size a) ∧
  (∀ (k0_h1 : k0_cond1 v135 v137 v141 v144 = 1#1), ∀ a, (k0_off35 v398) a + S1x512x128.size a ≤ S1x4096x512.size a) ∧
  (∀ (k0_h1 : k0_cond1 v135 v137 v141 v144 = 1#1), ∀ a, (k0_off37 v398) a + S1x512x128.size a ≤ S1x4096x512.size a)
theorem k0_mult6_dvd : ∀ (v135 : BitVec 32) (v137 : BitVec 32) (v141 : BitVec 32) (v144 : BitVec 32) (v398 : BitVec 32) (k0_hw6 : k0_chk6 v135 v137 v141 v144 v398), ∀ (k0_h1 : k0_cond1 v135 v137 v141 v144 = 1#1), 512 ∣ (k0_mult6 v398).toNat := fun v135 v137 v141 v144 v398 k0_hw6 k0_h1 => k0_hw6.1 k0_h1
theorem k0_off30_inb : ∀ (v135 : BitVec 32) (v137 : BitVec 32) (v141 : BitVec 32) (v144 : BitVec 32) (v398 : BitVec 32) (k0_hw6 : k0_chk6 v135 v137 v141 v144 v398), ∀ (k0_h1 : k0_cond1 v135 v137 v141 v144 = 1#1), ∀ a, (k0_off30 v398) a + S1x512x128.size a ≤ S1x4096x512.size a := fun v135 v137 v141 v144 v398 k0_hw6 k0_h1 => k0_hw6.2.1 k0_h1
theorem k0_off31_inb : ∀ (v135 : BitVec 32) (v137 : BitVec 32) (v141 : BitVec 32) (v144 : BitVec 32) (v398 : BitVec 32) (k0_hw6 : k0_chk6 v135 v137 v141 v144 v398), ∀ (k0_h1 : k0_cond1 v135 v137 v141 v144 = 1#1), ∀ a, (k0_off31 v398) a + S1x512x128.size a ≤ S1x4096x128.size a := fun v135 v137 v141 v144 v398 k0_hw6 k0_h1 => k0_hw6.2.2.1 k0_h1
theorem k0_off33_inb : ∀ (v135 : BitVec 32) (v137 : BitVec 32) (v141 : BitVec 32) (v144 : BitVec 32) (v398 : BitVec 32) (k0_hw6 : k0_chk6 v135 v137 v141 v144 v398), ∀ (k0_h1 : k0_cond1 v135 v137 v141 v144 = 1#1), ∀ a, (k0_off33 v398) a + S1x512x128.size a ≤ S1x4096x512.size a := fun v135 v137 v141 v144 v398 k0_hw6 k0_h1 => k0_hw6.2.2.2.1 k0_h1
theorem k0_off35_inb : ∀ (v135 : BitVec 32) (v137 : BitVec 32) (v141 : BitVec 32) (v144 : BitVec 32) (v398 : BitVec 32) (k0_hw6 : k0_chk6 v135 v137 v141 v144 v398), ∀ (k0_h1 : k0_cond1 v135 v137 v141 v144 = 1#1), ∀ a, (k0_off35 v398) a + S1x512x128.size a ≤ S1x4096x512.size a := fun v135 v137 v141 v144 v398 k0_hw6 k0_h1 => k0_hw6.2.2.2.2.1 k0_h1
theorem k0_off37_inb : ∀ (v135 : BitVec 32) (v137 : BitVec 32) (v141 : BitVec 32) (v144 : BitVec 32) (v398 : BitVec 32) (k0_hw6 : k0_chk6 v135 v137 v141 v144 v398), ∀ (k0_h1 : k0_cond1 v135 v137 v141 v144 = 1#1), ∀ a, (k0_off37 v398) a + S1x512x128.size a ≤ S1x4096x512.size a := fun v135 v137 v141 v144 v398 k0_hw6 k0_h1 => k0_hw6.2.2.2.2.2 k0_h1

def k0_off38 (v402 : BitVec 32) : Fin 3 → Nat :=
  let c0_275 : Index := 0#32
  let c512_i32_234 : BitVec 32 := 512#32
  let v403 : BitVec 32 := Scalar.muli v402 c512_i32_234
  let v404 : BitVec 32 := v403
  let v469 : Index := Scalar.indexCast v404
  let c768_276 : Index := 768#32
  ![0, v469.toNat, 768]

def k0_chk7 (v135 : BitVec 32) (v137 : BitVec 32) (v141 : BitVec 32) (v144 : BitVec 32) (v402 : BitVec 32) : Prop :=
  (∀ (k0_h1 : k0_cond1 v135 v137 v141 v144 = 1#1), 512 ∣ (k0_mult7 v402).toNat) ∧
  (∀ (k0_h1 : k0_cond1 v135 v137 v141 v144 = 1#1), ∀ a, (k0_off32 v402) a + S1x512x256.size a ≤ S1x4096x1024.size a) ∧
  (∀ (k0_h1 : k0_cond1 v135 v137 v141 v144 = 1#1), ∀ a, (k0_off34 v402) a + S1x512x256.size a ≤ S1x4096x1024.size a) ∧
  (∀ (k0_h1 : k0_cond1 v135 v137 v141 v144 = 1#1), ∀ a, (k0_off36 v402) a + S1x512x256.size a ≤ S1x4096x1024.size a) ∧
  (∀ (k0_h1 : k0_cond1 v135 v137 v141 v144 = 1#1), ∀ a, (k0_off38 v402) a + S1x512x256.size a ≤ S1x4096x1024.size a)
theorem k0_mult7_dvd : ∀ (v135 : BitVec 32) (v137 : BitVec 32) (v141 : BitVec 32) (v144 : BitVec 32) (v402 : BitVec 32) (k0_hw7 : k0_chk7 v135 v137 v141 v144 v402), ∀ (k0_h1 : k0_cond1 v135 v137 v141 v144 = 1#1), 512 ∣ (k0_mult7 v402).toNat := fun v135 v137 v141 v144 v402 k0_hw7 k0_h1 => k0_hw7.1 k0_h1
theorem k0_off32_inb : ∀ (v135 : BitVec 32) (v137 : BitVec 32) (v141 : BitVec 32) (v144 : BitVec 32) (v402 : BitVec 32) (k0_hw7 : k0_chk7 v135 v137 v141 v144 v402), ∀ (k0_h1 : k0_cond1 v135 v137 v141 v144 = 1#1), ∀ a, (k0_off32 v402) a + S1x512x256.size a ≤ S1x4096x1024.size a := fun v135 v137 v141 v144 v402 k0_hw7 k0_h1 => k0_hw7.2.1 k0_h1
theorem k0_off34_inb : ∀ (v135 : BitVec 32) (v137 : BitVec 32) (v141 : BitVec 32) (v144 : BitVec 32) (v402 : BitVec 32) (k0_hw7 : k0_chk7 v135 v137 v141 v144 v402), ∀ (k0_h1 : k0_cond1 v135 v137 v141 v144 = 1#1), ∀ a, (k0_off34 v402) a + S1x512x256.size a ≤ S1x4096x1024.size a := fun v135 v137 v141 v144 v402 k0_hw7 k0_h1 => k0_hw7.2.2.1 k0_h1
theorem k0_off36_inb : ∀ (v135 : BitVec 32) (v137 : BitVec 32) (v141 : BitVec 32) (v144 : BitVec 32) (v402 : BitVec 32) (k0_hw7 : k0_chk7 v135 v137 v141 v144 v402), ∀ (k0_h1 : k0_cond1 v135 v137 v141 v144 = 1#1), ∀ a, (k0_off36 v402) a + S1x512x256.size a ≤ S1x4096x1024.size a := fun v135 v137 v141 v144 v402 k0_hw7 k0_h1 => k0_hw7.2.2.2.1 k0_h1
theorem k0_off38_inb : ∀ (v135 : BitVec 32) (v137 : BitVec 32) (v141 : BitVec 32) (v144 : BitVec 32) (v402 : BitVec 32) (k0_hw7 : k0_chk7 v135 v137 v141 v144 v402), ∀ (k0_h1 : k0_cond1 v135 v137 v141 v144 = 1#1), ∀ a, (k0_off38 v402) a + S1x512x256.size a ≤ S1x4096x1024.size a := fun v135 v137 v141 v144 v402 k0_hw7 k0_h1 => k0_hw7.2.2.2.2 k0_h1

def k0_off39 (k0_t1 : Fin k0_t1_loop.trips) : Fin 1 → Nat :=
  let c2_i32 : BitVec 32 := 2#32
  let c0_i32 : BitVec 32 := 0#32
  let c1_i32 : BitVec 32 := 1#32
  let arg37 : BitVec 32 := Scf.iv c0_i32 c1_i32 k0_t1
  let v133 : BitVec 32 := Scalar.muli c2_i32 arg37
  let c1_i32_283 : BitVec 32 := 1#32
  let v481 : BitVec 32 := Scalar.addi v133 c1_i32_283
  let v482 : Index := Scalar.indexCast v481
  ![v482.toNat]
def k0_mult8 (v483 : BitVec 32) : BitVec 32 :=
  let c512_i32_284 : BitVec 32 := 512#32
  let v484 : BitVec 32 := Scalar.muli v483 c512_i32_284
  v484

def k0_off40 (v483 : BitVec 32) : Fin 2 → Nat :=
  let c0_289 : Index := 0#32
  let c512_i32_284 : BitVec 32 := 512#32
  let v484 : BitVec 32 := Scalar.muli v483 c512_i32_284
  let v485 : BitVec 32 := v484
  let v488 : Index := Scalar.indexCast v485
  ![0, v488.toNat]
def k0_off41 (v483 : BitVec 32) : Fin 2 → Nat :=
  let c128_310 : Index := 128#32
  let c512_i32_284 : BitVec 32 := 512#32
  let v484 : BitVec 32 := Scalar.muli v483 c512_i32_284
  let v485 : BitVec 32 := v484
  let v523 : Index := Scalar.indexCast v485
  ![128, v523.toNat]
def k0_off42 (v483 : BitVec 32) : Fin 2 → Nat :=
  let c256_331 : Index := 256#32
  let c512_i32_284 : BitVec 32 := 512#32
  let v484 : BitVec 32 := Scalar.muli v483 c512_i32_284
  let v485 : BitVec 32 := v484
  let v558 : Index := Scalar.indexCast v485
  ![256, v558.toNat]
def k0_off43 (v483 : BitVec 32) : Fin 2 → Nat :=
  let c384_352 : Index := 384#32
  let c512_i32_284 : BitVec 32 := 512#32
  let v484 : BitVec 32 := Scalar.muli v483 c512_i32_284
  let v485 : BitVec 32 := v484
  let v593 : Index := Scalar.indexCast v485
  ![384, v593.toNat]

def k0_chk8 (v135 : BitVec 32) (v137 : BitVec 32) (v141 : BitVec 32) (v144 : BitVec 32) (v483 : BitVec 32) : Prop :=
  (∀ (k0_h1 : k0_cond1 v135 v137 v141 v144 = 1#1), 512 ∣ (k0_mult8 v483).toNat) ∧
  (∀ (k0_h1 : k0_cond1 v135 v137 v141 v144 = 1#1), ∀ a, (k0_off40 v483) a + S128x512.size a ≤ S512x4096.size a) ∧
  (∀ (k0_h1 : k0_cond1 v135 v137 v141 v144 = 1#1), ∀ a, (k0_off41 v483) a + S128x512.size a ≤ S512x4096.size a) ∧
  (∀ (k0_h1 : k0_cond1 v135 v137 v141 v144 = 1#1), ∀ a, (k0_off42 v483) a + S128x512.size a ≤ S512x4096.size a) ∧
  (∀ (k0_h1 : k0_cond1 v135 v137 v141 v144 = 1#1), ∀ a, (k0_off43 v483) a + S128x512.size a ≤ S512x4096.size a)
theorem k0_mult8_dvd : ∀ (v135 : BitVec 32) (v137 : BitVec 32) (v141 : BitVec 32) (v144 : BitVec 32) (v483 : BitVec 32) (k0_hw8 : k0_chk8 v135 v137 v141 v144 v483), ∀ (k0_h1 : k0_cond1 v135 v137 v141 v144 = 1#1), 512 ∣ (k0_mult8 v483).toNat := fun v135 v137 v141 v144 v483 k0_hw8 k0_h1 => k0_hw8.1 k0_h1
theorem k0_off40_inb : ∀ (v135 : BitVec 32) (v137 : BitVec 32) (v141 : BitVec 32) (v144 : BitVec 32) (v483 : BitVec 32) (k0_hw8 : k0_chk8 v135 v137 v141 v144 v483), ∀ (k0_h1 : k0_cond1 v135 v137 v141 v144 = 1#1), ∀ a, (k0_off40 v483) a + S128x512.size a ≤ S512x4096.size a := fun v135 v137 v141 v144 v483 k0_hw8 k0_h1 => k0_hw8.2.1 k0_h1
theorem k0_off41_inb : ∀ (v135 : BitVec 32) (v137 : BitVec 32) (v141 : BitVec 32) (v144 : BitVec 32) (v483 : BitVec 32) (k0_hw8 : k0_chk8 v135 v137 v141 v144 v483), ∀ (k0_h1 : k0_cond1 v135 v137 v141 v144 = 1#1), ∀ a, (k0_off41 v483) a + S128x512.size a ≤ S512x4096.size a := fun v135 v137 v141 v144 v483 k0_hw8 k0_h1 => k0_hw8.2.2.1 k0_h1
theorem k0_off42_inb : ∀ (v135 : BitVec 32) (v137 : BitVec 32) (v141 : BitVec 32) (v144 : BitVec 32) (v483 : BitVec 32) (k0_hw8 : k0_chk8 v135 v137 v141 v144 v483), ∀ (k0_h1 : k0_cond1 v135 v137 v141 v144 = 1#1), ∀ a, (k0_off42 v483) a + S128x512.size a ≤ S512x4096.size a := fun v135 v137 v141 v144 v483 k0_hw8 k0_h1 => k0_hw8.2.2.2.1 k0_h1
theorem k0_off43_inb : ∀ (v135 : BitVec 32) (v137 : BitVec 32) (v141 : BitVec 32) (v144 : BitVec 32) (v483 : BitVec 32) (k0_hw8 : k0_chk8 v135 v137 v141 v144 v483), ∀ (k0_h1 : k0_cond1 v135 v137 v141 v144 = 1#1), ∀ a, (k0_off43 v483) a + S128x512.size a ≤ S512x4096.size a := fun v135 v137 v141 v144 v483 k0_hw8 k0_h1 => k0_hw8.2.2.2.2 k0_h1

def k0_off44 (k0_t1 : Fin k0_t1_loop.trips) : Fin 1 → Nat :=
  let c2_i32 : BitVec 32 := 2#32
  let c0_i32 : BitVec 32 := 0#32
  let c1_i32 : BitVec 32 := 1#32
  let arg37 : BitVec 32 := Scf.iv c0_i32 c1_i32 k0_t1
  let v133 : BitVec 32 := Scalar.muli c2_i32 arg37
  let c1_i32_96 : BitVec 32 := 1#32
  let v167 : BitVec 32 := Scalar.addi v133 c1_i32_96
  let v168 : Index := Scalar.indexCast v167
  ![v168.toNat]
def k0_mult9 (v169 : BitVec 32) : BitVec 32 :=
  let c512_i32_97 : BitVec 32 := 512#32
  let v170 : BitVec 32 := Scalar.muli v169 c512_i32_97
  v170
def k0_cond2 (v135 : BitVec 32) (v137 : BitVec 32) (v141 : BitVec 32) (v144 : BitVec 32) : BitVec 1 :=
  let v138 : BitVec 1 := Scalar.cmpi .eq v135 v137
  let true_86 : BitVec 1 := 1#1
  let v153 : BitVec 1 := Scalar.xori v138 true_86
  let true_87 : BitVec 1 := 1#1
  let v154 : BitVec 1 := Scalar.xori v153 true_87
  let v145 : BitVec 1 := Scalar.cmpi .eq v141 v144
  let false_88 : BitVec 1 := 0#1
  let v155 : BitVec 1 := Scalar.xori v145 false_88
  let true_89 : BitVec 1 := 1#1
  let v156 : BitVec 1 := Scalar.xori v155 true_89
  let v157 : BitVec 1 := Scalar.andi v154 v156
  let v158 : BitVec 32 := Scalar.extui v157
  let c0_i32_90 : BitVec 32 := 0#32
  let v159 : BitVec 1 := Scalar.cmpi .ne v158 c0_i32_90
  v159

def k0_off45 (k0_t1 : Fin k0_t1_loop.trips) : Fin 1 → Nat :=
  let c2_i32 : BitVec 32 := 2#32
  let c0_i32 : BitVec 32 := 0#32
  let c1_i32 : BitVec 32 := 1#32
  let arg37 : BitVec 32 := Scf.iv c0_i32 c1_i32 k0_t1
  let v133 : BitVec 32 := Scalar.muli c2_i32 arg37
  let c1_i32_96 : BitVec 32 := 1#32
  let v167 : BitVec 32 := Scalar.addi v133 c1_i32_96
  let v172 : Index := Scalar.indexCast v167
  ![v172.toNat]
def k0_mult10 (v173 : BitVec 32) : BitVec 32 :=
  let c512_i32_98 : BitVec 32 := 512#32
  let v174 : BitVec 32 := Scalar.muli v173 c512_i32_98
  v174

def k0_off46 (v169 : BitVec 32) : Fin 3 → Nat :=
  let c0_99 : Index := 0#32
  let c512_i32_97 : BitVec 32 := 512#32
  let v170 : BitVec 32 := Scalar.muli v169 c512_i32_97
  let v171 : BitVec 32 := v170
  let v176 : Index := Scalar.indexCast v171
  let c0_100 : Index := 0#32
  ![0, v176.toNat, 0]
def k0_off47 (v169 : BitVec 32) : Fin 3 → Nat :=
  let c0_101 : Index := 0#32
  let c512_i32_97 : BitVec 32 := 512#32
  let v170 : BitVec 32 := Scalar.muli v169 c512_i32_97
  let v171 : BitVec 32 := v170
  let v179 : Index := Scalar.indexCast v171
  let c0_102 : Index := 0#32
  ![0, v179.toNat, 0]
def k0_off48 (v173 : BitVec 32) : Fin 3 → Nat :=
  let c0_103 : Index := 0#32
  let c512_i32_98 : BitVec 32 := 512#32
  let v174 : BitVec 32 := Scalar.muli v173 c512_i32_98
  let v175 : BitVec 32 := v174
  let v183 : Index := Scalar.indexCast v175
  let c0_104 : Index := 0#32
  ![0, v183.toNat, 0]
def k0_off49 (v169 : BitVec 32) : Fin 3 → Nat :=
  let c0_111 : Index := 0#32
  let c512_i32_97 : BitVec 32 := 512#32
  let v170 : BitVec 32 := Scalar.muli v169 c512_i32_97
  let v171 : BitVec 32 := v170
  let v195 : Index := Scalar.indexCast v171
  let c128_112 : Index := 128#32
  ![0, v195.toNat, 128]
def k0_off50 (v173 : BitVec 32) : Fin 3 → Nat :=
  let c0_115 : Index := 0#32
  let c512_i32_98 : BitVec 32 := 512#32
  let v174 : BitVec 32 := Scalar.muli v173 c512_i32_98
  let v175 : BitVec 32 := v174
  let v202 : Index := Scalar.indexCast v175
  let c256_116 : Index := 256#32
  ![0, v202.toNat, 256]
def k0_off51 (v169 : BitVec 32) : Fin 3 → Nat :=
  let c0_123 : Index := 0#32
  let c512_i32_97 : BitVec 32 := 512#32
  let v170 : BitVec 32 := Scalar.muli v169 c512_i32_97
  let v171 : BitVec 32 := v170
  let v214 : Index := Scalar.indexCast v171
  let c256_124 : Index := 256#32
  ![0, v214.toNat, 256]
def k0_off52 (v173 : BitVec 32) : Fin 3 → Nat :=
  let c0_127 : Index := 0#32
  let c512_i32_98 : BitVec 32 := 512#32
  let v174 : BitVec 32 := Scalar.muli v173 c512_i32_98
  let v175 : BitVec 32 := v174
  let v221 : Index := Scalar.indexCast v175
  let c512_128 : Index := 512#32
  ![0, v221.toNat, 512]
def k0_off53 (v169 : BitVec 32) : Fin 3 → Nat :=
  let c0_135 : Index := 0#32
  let c512_i32_97 : BitVec 32 := 512#32
  let v170 : BitVec 32 := Scalar.muli v169 c512_i32_97
  let v171 : BitVec 32 := v170
  let v233 : Index := Scalar.indexCast v171
  let c384_136 : Index := 384#32
  ![0, v233.toNat, 384]

def k0_chk9 (v135 : BitVec 32) (v137 : BitVec 32) (v141 : BitVec 32) (v144 : BitVec 32) (v169 : BitVec 32) : Prop :=
  (∀ (k0_h2 : k0_cond2 v135 v137 v141 v144 = 1#1), 512 ∣ (k0_mult9 v169).toNat) ∧
  (∀ (k0_h2 : k0_cond2 v135 v137 v141 v144 = 1#1), ∀ a, (k0_off46 v169) a + S1x512x128.size a ≤ S1x4096x512.size a) ∧
  (∀ (k0_h2 : k0_cond2 v135 v137 v141 v144 = 1#1), ∀ a, (k0_off47 v169) a + S1x512x128.size a ≤ S1x4096x128.size a) ∧
  (∀ (k0_h2 : k0_cond2 v135 v137 v141 v144 = 1#1), ∀ a, (k0_off49 v169) a + S1x512x128.size a ≤ S1x4096x512.size a) ∧
  (∀ (k0_h2 : k0_cond2 v135 v137 v141 v144 = 1#1), ∀ a, (k0_off51 v169) a + S1x512x128.size a ≤ S1x4096x512.size a) ∧
  (∀ (k0_h2 : k0_cond2 v135 v137 v141 v144 = 1#1), ∀ a, (k0_off53 v169) a + S1x512x128.size a ≤ S1x4096x512.size a)
theorem k0_mult9_dvd : ∀ (v135 : BitVec 32) (v137 : BitVec 32) (v141 : BitVec 32) (v144 : BitVec 32) (v169 : BitVec 32) (k0_hw9 : k0_chk9 v135 v137 v141 v144 v169), ∀ (k0_h2 : k0_cond2 v135 v137 v141 v144 = 1#1), 512 ∣ (k0_mult9 v169).toNat := fun v135 v137 v141 v144 v169 k0_hw9 k0_h2 => k0_hw9.1 k0_h2
theorem k0_off46_inb : ∀ (v135 : BitVec 32) (v137 : BitVec 32) (v141 : BitVec 32) (v144 : BitVec 32) (v169 : BitVec 32) (k0_hw9 : k0_chk9 v135 v137 v141 v144 v169), ∀ (k0_h2 : k0_cond2 v135 v137 v141 v144 = 1#1), ∀ a, (k0_off46 v169) a + S1x512x128.size a ≤ S1x4096x512.size a := fun v135 v137 v141 v144 v169 k0_hw9 k0_h2 => k0_hw9.2.1 k0_h2
theorem k0_off47_inb : ∀ (v135 : BitVec 32) (v137 : BitVec 32) (v141 : BitVec 32) (v144 : BitVec 32) (v169 : BitVec 32) (k0_hw9 : k0_chk9 v135 v137 v141 v144 v169), ∀ (k0_h2 : k0_cond2 v135 v137 v141 v144 = 1#1), ∀ a, (k0_off47 v169) a + S1x512x128.size a ≤ S1x4096x128.size a := fun v135 v137 v141 v144 v169 k0_hw9 k0_h2 => k0_hw9.2.2.1 k0_h2
theorem k0_off49_inb : ∀ (v135 : BitVec 32) (v137 : BitVec 32) (v141 : BitVec 32) (v144 : BitVec 32) (v169 : BitVec 32) (k0_hw9 : k0_chk9 v135 v137 v141 v144 v169), ∀ (k0_h2 : k0_cond2 v135 v137 v141 v144 = 1#1), ∀ a, (k0_off49 v169) a + S1x512x128.size a ≤ S1x4096x512.size a := fun v135 v137 v141 v144 v169 k0_hw9 k0_h2 => k0_hw9.2.2.2.1 k0_h2
theorem k0_off51_inb : ∀ (v135 : BitVec 32) (v137 : BitVec 32) (v141 : BitVec 32) (v144 : BitVec 32) (v169 : BitVec 32) (k0_hw9 : k0_chk9 v135 v137 v141 v144 v169), ∀ (k0_h2 : k0_cond2 v135 v137 v141 v144 = 1#1), ∀ a, (k0_off51 v169) a + S1x512x128.size a ≤ S1x4096x512.size a := fun v135 v137 v141 v144 v169 k0_hw9 k0_h2 => k0_hw9.2.2.2.2.1 k0_h2
theorem k0_off53_inb : ∀ (v135 : BitVec 32) (v137 : BitVec 32) (v141 : BitVec 32) (v144 : BitVec 32) (v169 : BitVec 32) (k0_hw9 : k0_chk9 v135 v137 v141 v144 v169), ∀ (k0_h2 : k0_cond2 v135 v137 v141 v144 = 1#1), ∀ a, (k0_off53 v169) a + S1x512x128.size a ≤ S1x4096x512.size a := fun v135 v137 v141 v144 v169 k0_hw9 k0_h2 => k0_hw9.2.2.2.2.2 k0_h2

def k0_off54 (v173 : BitVec 32) : Fin 3 → Nat :=
  let c0_139 : Index := 0#32
  let c512_i32_98 : BitVec 32 := 512#32
  let v174 : BitVec 32 := Scalar.muli v173 c512_i32_98
  let v175 : BitVec 32 := v174
  let v240 : Index := Scalar.indexCast v175
  let c768_140 : Index := 768#32
  ![0, v240.toNat, 768]

def k0_chk10 (v135 : BitVec 32) (v137 : BitVec 32) (v141 : BitVec 32) (v144 : BitVec 32) (v173 : BitVec 32) : Prop :=
  (∀ (k0_h2 : k0_cond2 v135 v137 v141 v144 = 1#1), 512 ∣ (k0_mult10 v173).toNat) ∧
  (∀ (k0_h2 : k0_cond2 v135 v137 v141 v144 = 1#1), ∀ a, (k0_off48 v173) a + S1x512x256.size a ≤ S1x4096x1024.size a) ∧
  (∀ (k0_h2 : k0_cond2 v135 v137 v141 v144 = 1#1), ∀ a, (k0_off50 v173) a + S1x512x256.size a ≤ S1x4096x1024.size a) ∧
  (∀ (k0_h2 : k0_cond2 v135 v137 v141 v144 = 1#1), ∀ a, (k0_off52 v173) a + S1x512x256.size a ≤ S1x4096x1024.size a) ∧
  (∀ (k0_h2 : k0_cond2 v135 v137 v141 v144 = 1#1), ∀ a, (k0_off54 v173) a + S1x512x256.size a ≤ S1x4096x1024.size a)
theorem k0_mult10_dvd : ∀ (v135 : BitVec 32) (v137 : BitVec 32) (v141 : BitVec 32) (v144 : BitVec 32) (v173 : BitVec 32) (k0_hw10 : k0_chk10 v135 v137 v141 v144 v173), ∀ (k0_h2 : k0_cond2 v135 v137 v141 v144 = 1#1), 512 ∣ (k0_mult10 v173).toNat := fun v135 v137 v141 v144 v173 k0_hw10 k0_h2 => k0_hw10.1 k0_h2
theorem k0_off48_inb : ∀ (v135 : BitVec 32) (v137 : BitVec 32) (v141 : BitVec 32) (v144 : BitVec 32) (v173 : BitVec 32) (k0_hw10 : k0_chk10 v135 v137 v141 v144 v173), ∀ (k0_h2 : k0_cond2 v135 v137 v141 v144 = 1#1), ∀ a, (k0_off48 v173) a + S1x512x256.size a ≤ S1x4096x1024.size a := fun v135 v137 v141 v144 v173 k0_hw10 k0_h2 => k0_hw10.2.1 k0_h2
theorem k0_off50_inb : ∀ (v135 : BitVec 32) (v137 : BitVec 32) (v141 : BitVec 32) (v144 : BitVec 32) (v173 : BitVec 32) (k0_hw10 : k0_chk10 v135 v137 v141 v144 v173), ∀ (k0_h2 : k0_cond2 v135 v137 v141 v144 = 1#1), ∀ a, (k0_off50 v173) a + S1x512x256.size a ≤ S1x4096x1024.size a := fun v135 v137 v141 v144 v173 k0_hw10 k0_h2 => k0_hw10.2.2.1 k0_h2
theorem k0_off52_inb : ∀ (v135 : BitVec 32) (v137 : BitVec 32) (v141 : BitVec 32) (v144 : BitVec 32) (v173 : BitVec 32) (k0_hw10 : k0_chk10 v135 v137 v141 v144 v173), ∀ (k0_h2 : k0_cond2 v135 v137 v141 v144 = 1#1), ∀ a, (k0_off52 v173) a + S1x512x256.size a ≤ S1x4096x1024.size a := fun v135 v137 v141 v144 v173 k0_hw10 k0_h2 => k0_hw10.2.2.2.1 k0_h2
theorem k0_off54_inb : ∀ (v135 : BitVec 32) (v137 : BitVec 32) (v141 : BitVec 32) (v144 : BitVec 32) (v173 : BitVec 32) (k0_hw10 : k0_chk10 v135 v137 v141 v144 v173), ∀ (k0_h2 : k0_cond2 v135 v137 v141 v144 = 1#1), ∀ a, (k0_off54 v173) a + S1x512x256.size a ≤ S1x4096x1024.size a := fun v135 v137 v141 v144 v173 k0_hw10 k0_h2 => k0_hw10.2.2.2.2 k0_h2

def k0_off55 (k0_t1 : Fin k0_t1_loop.trips) : Fin 1 → Nat :=
  let c2_i32 : BitVec 32 := 2#32
  let c0_i32 : BitVec 32 := 0#32
  let c1_i32 : BitVec 32 := 1#32
  let arg37 : BitVec 32 := Scf.iv c0_i32 c1_i32 k0_t1
  let v133 : BitVec 32 := Scalar.muli c2_i32 arg37
  let v252 : Index := Scalar.indexCast v133
  ![v252.toNat]
def k0_mult11 (v253 : BitVec 32) : BitVec 32 :=
  let c512_i32_147 : BitVec 32 := 512#32
  let v254 : BitVec 32 := Scalar.muli v253 c512_i32_147
  v254

def k0_off56 (v253 : BitVec 32) : Fin 2 → Nat :=
  let c0_151 : Index := 0#32
  let c512_i32_147 : BitVec 32 := 512#32
  let v254 : BitVec 32 := Scalar.muli v253 c512_i32_147
  let v255 : BitVec 32 := v254
  let v260 : Index := Scalar.indexCast v255
  ![0, v260.toNat]
def k0_off57 (k0_t1 : Fin k0_t1_loop.trips) : Fin 1 → Nat :=
  let c2_i32 : BitVec 32 := 2#32
  let c0_i32 : BitVec 32 := 0#32
  let c1_i32 : BitVec 32 := 1#32
  let arg37 : BitVec 32 := Scf.iv c0_i32 c1_i32 k0_t1
  let v133 : BitVec 32 := Scalar.muli c2_i32 arg37
  let v301 : Index := Scalar.indexCast v133
  ![v301.toNat]
def k0_mult12 (v302 : BitVec 32) : BitVec 32 :=
  let c512_i32_173 : BitVec 32 := 512#32
  let v303 : BitVec 32 := Scalar.muli v302 c512_i32_173
  v303

def k0_off58 (v302 : BitVec 32) : Fin 3 → Nat :=
  let c0_174 : Index := 0#32
  let c512_i32_173 : BitVec 32 := 512#32
  let v303 : BitVec 32 := Scalar.muli v302 c512_i32_173
  let v304 : BitVec 32 := v303
  let v305 : Index := Scalar.indexCast v304
  let c0_175 : Index := 0#32
  ![0, v305.toNat, 0]

def k0_chk12 (v135 : BitVec 32) (v137 : BitVec 32) (v141 : BitVec 32) (v144 : BitVec 32) (v302 : BitVec 32) : Prop :=
  (∀ (k0_h2 : k0_cond2 v135 v137 v141 v144 = 1#1), 512 ∣ (k0_mult12 v302).toNat) ∧
  (∀ (k0_h2 : k0_cond2 v135 v137 v141 v144 = 1#1), ∀ a, (k0_off58 v302) a + S1x512x128.size a ≤ S1x4096x512.size a) ∧
  (∀ (k0_h2 : k0_cond2 v135 v137 v141 v144 = 1#1), ∀ (hinb : ∀ a, (k0_off58 v302) a + S1x512x128.size a ≤ S1x4096x512.size a), (Rect.unit (s := S1x4096x512) (k0_off58 v302) S1x512x128.size hinb).PackedRows (EltTy.packing .bf16))
theorem k0_mult12_dvd : ∀ (v135 : BitVec 32) (v137 : BitVec 32) (v141 : BitVec 32) (v144 : BitVec 32) (v302 : BitVec 32) (k0_hw12 : k0_chk12 v135 v137 v141 v144 v302), ∀ (k0_h2 : k0_cond2 v135 v137 v141 v144 = 1#1), 512 ∣ (k0_mult12 v302).toNat := fun v135 v137 v141 v144 v302 k0_hw12 k0_h2 => k0_hw12.1 k0_h2
theorem k0_off58_inb : ∀ (v135 : BitVec 32) (v137 : BitVec 32) (v141 : BitVec 32) (v144 : BitVec 32) (v302 : BitVec 32) (k0_hw12 : k0_chk12 v135 v137 v141 v144 v302), ∀ (k0_h2 : k0_cond2 v135 v137 v141 v144 = 1#1), ∀ a, (k0_off58 v302) a + S1x512x128.size a ≤ S1x4096x512.size a := fun v135 v137 v141 v144 v302 k0_hw12 k0_h2 => k0_hw12.2.1 k0_h2
theorem k0_off58_packedbf16 : ∀ (v135 : BitVec 32) (v137 : BitVec 32) (v141 : BitVec 32) (v144 : BitVec 32) (v302 : BitVec 32) (k0_hw12 : k0_chk12 v135 v137 v141 v144 v302), ∀ (k0_h2 : k0_cond2 v135 v137 v141 v144 = 1#1), (Rect.unit (s := S1x4096x512) (k0_off58 v302) S1x512x128.size (k0_off58_inb v135 v137 v141 v144 v302 k0_hw12 k0_h2)).PackedRows (EltTy.packing .bf16) := fun v135 v137 v141 v144 v302 k0_hw12 k0_h2 => k0_hw12.2.2 k0_h2 (k0_off58_inb v135 v137 v141 v144 v302 k0_hw12 k0_h2)

def k0_off59 (v253 : BitVec 32) : Fin 2 → Nat :=
  let c128_188 : Index := 128#32
  let c512_i32_147 : BitVec 32 := 512#32
  let v254 : BitVec 32 := Scalar.muli v253 c512_i32_147
  let v255 : BitVec 32 := v254
  let v325 : Index := Scalar.indexCast v255
  ![128, v325.toNat]
def k0_off60 (k0_t1 : Fin k0_t1_loop.trips) : Fin 1 → Nat :=
  let c2_i32 : BitVec 32 := 2#32
  let c0_i32 : BitVec 32 := 0#32
  let c1_i32 : BitVec 32 := 1#32
  let arg37 : BitVec 32 := Scf.iv c0_i32 c1_i32 k0_t1
  let v133 : BitVec 32 := Scalar.muli c2_i32 arg37
  let v366 : Index := Scalar.indexCast v133
  ![v366.toNat]
def k0_mult13 (v367 : BitVec 32) : BitVec 32 :=
  let c512_i32_210 : BitVec 32 := 512#32
  let v368 : BitVec 32 := Scalar.muli v367 c512_i32_210
  v368

def k0_off61 (v367 : BitVec 32) : Fin 3 → Nat :=
  let c0_211 : Index := 0#32
  let c512_i32_210 : BitVec 32 := 512#32
  let v368 : BitVec 32 := Scalar.muli v367 c512_i32_210
  let v369 : BitVec 32 := v368
  let v370 : Index := Scalar.indexCast v369
  let c128_212 : Index := 128#32
  ![0, v370.toNat, 128]

def k0_chk13 (v135 : BitVec 32) (v137 : BitVec 32) (v141 : BitVec 32) (v144 : BitVec 32) (v367 : BitVec 32) : Prop :=
  (∀ (k0_h2 : k0_cond2 v135 v137 v141 v144 = 1#1), 512 ∣ (k0_mult13 v367).toNat) ∧
  (∀ (k0_h2 : k0_cond2 v135 v137 v141 v144 = 1#1), ∀ a, (k0_off61 v367) a + S1x512x128.size a ≤ S1x4096x512.size a) ∧
  (∀ (k0_h2 : k0_cond2 v135 v137 v141 v144 = 1#1), ∀ (hinb : ∀ a, (k0_off61 v367) a + S1x512x128.size a ≤ S1x4096x512.size a), (Rect.unit (s := S1x4096x512) (k0_off61 v367) S1x512x128.size hinb).PackedRows (EltTy.packing .bf16))
theorem k0_mult13_dvd : ∀ (v135 : BitVec 32) (v137 : BitVec 32) (v141 : BitVec 32) (v144 : BitVec 32) (v367 : BitVec 32) (k0_hw13 : k0_chk13 v135 v137 v141 v144 v367), ∀ (k0_h2 : k0_cond2 v135 v137 v141 v144 = 1#1), 512 ∣ (k0_mult13 v367).toNat := fun v135 v137 v141 v144 v367 k0_hw13 k0_h2 => k0_hw13.1 k0_h2
theorem k0_off61_inb : ∀ (v135 : BitVec 32) (v137 : BitVec 32) (v141 : BitVec 32) (v144 : BitVec 32) (v367 : BitVec 32) (k0_hw13 : k0_chk13 v135 v137 v141 v144 v367), ∀ (k0_h2 : k0_cond2 v135 v137 v141 v144 = 1#1), ∀ a, (k0_off61 v367) a + S1x512x128.size a ≤ S1x4096x512.size a := fun v135 v137 v141 v144 v367 k0_hw13 k0_h2 => k0_hw13.2.1 k0_h2
theorem k0_off61_packedbf16 : ∀ (v135 : BitVec 32) (v137 : BitVec 32) (v141 : BitVec 32) (v144 : BitVec 32) (v367 : BitVec 32) (k0_hw13 : k0_chk13 v135 v137 v141 v144 v367), ∀ (k0_h2 : k0_cond2 v135 v137 v141 v144 = 1#1), (Rect.unit (s := S1x4096x512) (k0_off61 v367) S1x512x128.size (k0_off61_inb v135 v137 v141 v144 v367 k0_hw13 k0_h2)).PackedRows (EltTy.packing .bf16) := fun v135 v137 v141 v144 v367 k0_hw13 k0_h2 => k0_hw13.2.2 k0_h2 (k0_off61_inb v135 v137 v141 v144 v367 k0_hw13 k0_h2)

def k0_off62 (v253 : BitVec 32) : Fin 2 → Nat :=
  let c256_225 : Index := 256#32
  let c512_i32_147 : BitVec 32 := 512#32
  let v254 : BitVec 32 := Scalar.muli v253 c512_i32_147
  let v255 : BitVec 32 := v254
  let v390 : Index := Scalar.indexCast v255
  ![256, v390.toNat]
def k0_off63 (k0_t1 : Fin k0_t1_loop.trips) : Fin 1 → Nat :=
  let c2_i32 : BitVec 32 := 2#32
  let c0_i32 : BitVec 32 := 0#32
  let c1_i32 : BitVec 32 := 1#32
  let arg37 : BitVec 32 := Scf.iv c0_i32 c1_i32 k0_t1
  let v133 : BitVec 32 := Scalar.muli c2_i32 arg37
  let v431 : Index := Scalar.indexCast v133
  ![v431.toNat]
def k0_mult14 (v432 : BitVec 32) : BitVec 32 :=
  let c512_i32_247 : BitVec 32 := 512#32
  let v433 : BitVec 32 := Scalar.muli v432 c512_i32_247
  v433

def k0_off64 (v432 : BitVec 32) : Fin 3 → Nat :=
  let c0_248 : Index := 0#32
  let c512_i32_247 : BitVec 32 := 512#32
  let v433 : BitVec 32 := Scalar.muli v432 c512_i32_247
  let v434 : BitVec 32 := v433
  let v435 : Index := Scalar.indexCast v434
  let c256_249 : Index := 256#32
  ![0, v435.toNat, 256]

def k0_chk14 (v135 : BitVec 32) (v137 : BitVec 32) (v141 : BitVec 32) (v144 : BitVec 32) (v432 : BitVec 32) : Prop :=
  (∀ (k0_h2 : k0_cond2 v135 v137 v141 v144 = 1#1), 512 ∣ (k0_mult14 v432).toNat) ∧
  (∀ (k0_h2 : k0_cond2 v135 v137 v141 v144 = 1#1), ∀ a, (k0_off64 v432) a + S1x512x128.size a ≤ S1x4096x512.size a) ∧
  (∀ (k0_h2 : k0_cond2 v135 v137 v141 v144 = 1#1), ∀ (hinb : ∀ a, (k0_off64 v432) a + S1x512x128.size a ≤ S1x4096x512.size a), (Rect.unit (s := S1x4096x512) (k0_off64 v432) S1x512x128.size hinb).PackedRows (EltTy.packing .bf16))
theorem k0_mult14_dvd : ∀ (v135 : BitVec 32) (v137 : BitVec 32) (v141 : BitVec 32) (v144 : BitVec 32) (v432 : BitVec 32) (k0_hw14 : k0_chk14 v135 v137 v141 v144 v432), ∀ (k0_h2 : k0_cond2 v135 v137 v141 v144 = 1#1), 512 ∣ (k0_mult14 v432).toNat := fun v135 v137 v141 v144 v432 k0_hw14 k0_h2 => k0_hw14.1 k0_h2
theorem k0_off64_inb : ∀ (v135 : BitVec 32) (v137 : BitVec 32) (v141 : BitVec 32) (v144 : BitVec 32) (v432 : BitVec 32) (k0_hw14 : k0_chk14 v135 v137 v141 v144 v432), ∀ (k0_h2 : k0_cond2 v135 v137 v141 v144 = 1#1), ∀ a, (k0_off64 v432) a + S1x512x128.size a ≤ S1x4096x512.size a := fun v135 v137 v141 v144 v432 k0_hw14 k0_h2 => k0_hw14.2.1 k0_h2
theorem k0_off64_packedbf16 : ∀ (v135 : BitVec 32) (v137 : BitVec 32) (v141 : BitVec 32) (v144 : BitVec 32) (v432 : BitVec 32) (k0_hw14 : k0_chk14 v135 v137 v141 v144 v432), ∀ (k0_h2 : k0_cond2 v135 v137 v141 v144 = 1#1), (Rect.unit (s := S1x4096x512) (k0_off64 v432) S1x512x128.size (k0_off64_inb v135 v137 v141 v144 v432 k0_hw14 k0_h2)).PackedRows (EltTy.packing .bf16) := fun v135 v137 v141 v144 v432 k0_hw14 k0_h2 => k0_hw14.2.2 k0_h2 (k0_off64_inb v135 v137 v141 v144 v432 k0_hw14 k0_h2)

def k0_off65 (v253 : BitVec 32) : Fin 2 → Nat :=
  let c384_262 : Index := 384#32
  let c512_i32_147 : BitVec 32 := 512#32
  let v254 : BitVec 32 := Scalar.muli v253 c512_i32_147
  let v255 : BitVec 32 := v254
  let v455 : Index := Scalar.indexCast v255
  ![384, v455.toNat]

def k0_chk11 (v135 : BitVec 32) (v137 : BitVec 32) (v141 : BitVec 32) (v144 : BitVec 32) (v253 : BitVec 32) : Prop :=
  (∀ (k0_h2 : k0_cond2 v135 v137 v141 v144 = 1#1), 512 ∣ (k0_mult11 v253).toNat) ∧
  (∀ (k0_h2 : k0_cond2 v135 v137 v141 v144 = 1#1), ∀ a, (k0_off56 v253) a + S128x512.size a ≤ S512x4096.size a) ∧
  (∀ (k0_h2 : k0_cond2 v135 v137 v141 v144 = 1#1), ∀ a, (k0_off59 v253) a + S128x512.size a ≤ S512x4096.size a) ∧
  (∀ (k0_h2 : k0_cond2 v135 v137 v141 v144 = 1#1), ∀ a, (k0_off62 v253) a + S128x512.size a ≤ S512x4096.size a) ∧
  (∀ (k0_h2 : k0_cond2 v135 v137 v141 v144 = 1#1), ∀ a, (k0_off65 v253) a + S128x512.size a ≤ S512x4096.size a)
theorem k0_mult11_dvd : ∀ (v135 : BitVec 32) (v137 : BitVec 32) (v141 : BitVec 32) (v144 : BitVec 32) (v253 : BitVec 32) (k0_hw11 : k0_chk11 v135 v137 v141 v144 v253), ∀ (k0_h2 : k0_cond2 v135 v137 v141 v144 = 1#1), 512 ∣ (k0_mult11 v253).toNat := fun v135 v137 v141 v144 v253 k0_hw11 k0_h2 => k0_hw11.1 k0_h2
theorem k0_off56_inb : ∀ (v135 : BitVec 32) (v137 : BitVec 32) (v141 : BitVec 32) (v144 : BitVec 32) (v253 : BitVec 32) (k0_hw11 : k0_chk11 v135 v137 v141 v144 v253), ∀ (k0_h2 : k0_cond2 v135 v137 v141 v144 = 1#1), ∀ a, (k0_off56 v253) a + S128x512.size a ≤ S512x4096.size a := fun v135 v137 v141 v144 v253 k0_hw11 k0_h2 => k0_hw11.2.1 k0_h2
theorem k0_off59_inb : ∀ (v135 : BitVec 32) (v137 : BitVec 32) (v141 : BitVec 32) (v144 : BitVec 32) (v253 : BitVec 32) (k0_hw11 : k0_chk11 v135 v137 v141 v144 v253), ∀ (k0_h2 : k0_cond2 v135 v137 v141 v144 = 1#1), ∀ a, (k0_off59 v253) a + S128x512.size a ≤ S512x4096.size a := fun v135 v137 v141 v144 v253 k0_hw11 k0_h2 => k0_hw11.2.2.1 k0_h2
theorem k0_off62_inb : ∀ (v135 : BitVec 32) (v137 : BitVec 32) (v141 : BitVec 32) (v144 : BitVec 32) (v253 : BitVec 32) (k0_hw11 : k0_chk11 v135 v137 v141 v144 v253), ∀ (k0_h2 : k0_cond2 v135 v137 v141 v144 = 1#1), ∀ a, (k0_off62 v253) a + S128x512.size a ≤ S512x4096.size a := fun v135 v137 v141 v144 v253 k0_hw11 k0_h2 => k0_hw11.2.2.2.1 k0_h2
theorem k0_off65_inb : ∀ (v135 : BitVec 32) (v137 : BitVec 32) (v141 : BitVec 32) (v144 : BitVec 32) (v253 : BitVec 32) (k0_hw11 : k0_chk11 v135 v137 v141 v144 v253), ∀ (k0_h2 : k0_cond2 v135 v137 v141 v144 = 1#1), ∀ a, (k0_off65 v253) a + S128x512.size a ≤ S512x4096.size a := fun v135 v137 v141 v144 v253 k0_hw11 k0_h2 => k0_hw11.2.2.2.2 k0_h2

def k0_off66 (k0_t1 : Fin k0_t1_loop.trips) : Fin 1 → Nat :=
  let c2_i32 : BitVec 32 := 2#32
  let c0_i32 : BitVec 32 := 0#32
  let c1_i32 : BitVec 32 := 1#32
  let arg37 : BitVec 32 := Scf.iv c0_i32 c1_i32 k0_t1
  let v133 : BitVec 32 := Scalar.muli c2_i32 arg37
  let v496 : Index := Scalar.indexCast v133
  ![v496.toNat]
def k0_mult15 (v497 : BitVec 32) : BitVec 32 :=
  let c512_i32_284 : BitVec 32 := 512#32
  let v498 : BitVec 32 := Scalar.muli v497 c512_i32_284
  v498

def k0_off67 (v497 : BitVec 32) : Fin 3 → Nat :=
  let c0_285 : Index := 0#32
  let c512_i32_284 : BitVec 32 := 512#32
  let v498 : BitVec 32 := Scalar.muli v497 c512_i32_284
  let v499 : BitVec 32 := v498
  let v500 : Index := Scalar.indexCast v499
  let c384_286 : Index := 384#32
  ![0, v500.toNat, 384]

def k0_chk15 (v135 : BitVec 32) (v137 : BitVec 32) (v141 : BitVec 32) (v144 : BitVec 32) (v497 : BitVec 32) : Prop :=
  (∀ (k0_h2 : k0_cond2 v135 v137 v141 v144 = 1#1), 512 ∣ (k0_mult15 v497).toNat) ∧
  (∀ (k0_h2 : k0_cond2 v135 v137 v141 v144 = 1#1), ∀ a, (k0_off67 v497) a + S1x512x128.size a ≤ S1x4096x512.size a) ∧
  (∀ (k0_h2 : k0_cond2 v135 v137 v141 v144 = 1#1), ∀ (hinb : ∀ a, (k0_off67 v497) a + S1x512x128.size a ≤ S1x4096x512.size a), (Rect.unit (s := S1x4096x512) (k0_off67 v497) S1x512x128.size hinb).PackedRows (EltTy.packing .bf16))
theorem k0_mult15_dvd : ∀ (v135 : BitVec 32) (v137 : BitVec 32) (v141 : BitVec 32) (v144 : BitVec 32) (v497 : BitVec 32) (k0_hw15 : k0_chk15 v135 v137 v141 v144 v497), ∀ (k0_h2 : k0_cond2 v135 v137 v141 v144 = 1#1), 512 ∣ (k0_mult15 v497).toNat := fun v135 v137 v141 v144 v497 k0_hw15 k0_h2 => k0_hw15.1 k0_h2
theorem k0_off67_inb : ∀ (v135 : BitVec 32) (v137 : BitVec 32) (v141 : BitVec 32) (v144 : BitVec 32) (v497 : BitVec 32) (k0_hw15 : k0_chk15 v135 v137 v141 v144 v497), ∀ (k0_h2 : k0_cond2 v135 v137 v141 v144 = 1#1), ∀ a, (k0_off67 v497) a + S1x512x128.size a ≤ S1x4096x512.size a := fun v135 v137 v141 v144 v497 k0_hw15 k0_h2 => k0_hw15.2.1 k0_h2
theorem k0_off67_packedbf16 : ∀ (v135 : BitVec 32) (v137 : BitVec 32) (v141 : BitVec 32) (v144 : BitVec 32) (v497 : BitVec 32) (k0_hw15 : k0_chk15 v135 v137 v141 v144 v497), ∀ (k0_h2 : k0_cond2 v135 v137 v141 v144 = 1#1), (Rect.unit (s := S1x4096x512) (k0_off67 v497) S1x512x128.size (k0_off67_inb v135 v137 v141 v144 v497 k0_hw15 k0_h2)).PackedRows (EltTy.packing .bf16) := fun v135 v137 v141 v144 v497 k0_hw15 k0_h2 => k0_hw15.2.2 k0_h2 (k0_off67_inb v135 v137 v141 v144 v497 k0_hw15 k0_h2)

def k0_off68 (k0_t1 : Fin k0_t1_loop.trips) : Fin 1 → Nat :=
  let c2_i32 : BitVec 32 := 2#32
  let c0_i32 : BitVec 32 := 0#32
  let c1_i32 : BitVec 32 := 1#32
  let arg37 : BitVec 32 := Scf.iv c0_i32 c1_i32 k0_t1
  let v133 : BitVec 32 := Scalar.muli c2_i32 arg37
  let c2_i32_296 : BitVec 32 := 2#32
  let v516 : BitVec 32 := Scalar.addi v133 c2_i32_296
  let v517 : Index := Scalar.indexCast v516
  ![v517.toNat]
def k0_mult16 (v518 : BitVec 32) : BitVec 32 :=
  let c512_i32_297 : BitVec 32 := 512#32
  let v519 : BitVec 32 := Scalar.muli v518 c512_i32_297
  v519

def k0_off69 (k0_t1 : Fin k0_t1_loop.trips) : Fin 1 → Nat :=
  let c2_i32 : BitVec 32 := 2#32
  let c0_i32 : BitVec 32 := 0#32
  let c1_i32 : BitVec 32 := 1#32
  let arg37 : BitVec 32 := Scf.iv c0_i32 c1_i32 k0_t1
  let v133 : BitVec 32 := Scalar.muli c2_i32 arg37
  let c2_i32_296 : BitVec 32 := 2#32
  let v516 : BitVec 32 := Scalar.addi v133 c2_i32_296
  let v521 : Index := Scalar.indexCast v516
  ![v521.toNat]
def k0_mult17 (v522 : BitVec 32) : BitVec 32 :=
  let c512_i32_298 : BitVec 32 := 512#32
  let v523 : BitVec 32 := Scalar.muli v522 c512_i32_298
  v523

def k0_off70 (v518 : BitVec 32) : Fin 3 → Nat :=
  let c0_299 : Index := 0#32
  let c512_i32_297 : BitVec 32 := 512#32
  let v519 : BitVec 32 := Scalar.muli v518 c512_i32_297
  let v520 : BitVec 32 := v519
  let v525 : Index := Scalar.indexCast v520
  let c0_300 : Index := 0#32
  ![0, v525.toNat, 0]
def k0_off71 (v518 : BitVec 32) : Fin 3 → Nat :=
  let c0_301 : Index := 0#32
  let c512_i32_297 : BitVec 32 := 512#32
  let v519 : BitVec 32 := Scalar.muli v518 c512_i32_297
  let v520 : BitVec 32 := v519
  let v528 : Index := Scalar.indexCast v520
  let c0_302 : Index := 0#32
  ![0, v528.toNat, 0]
def k0_off72 (v522 : BitVec 32) : Fin 3 → Nat :=
  let c0_303 : Index := 0#32
  let c512_i32_298 : BitVec 32 := 512#32
  let v523 : BitVec 32 := Scalar.muli v522 c512_i32_298
  let v524 : BitVec 32 := v523
  let v532 : Index := Scalar.indexCast v524
  let c0_304 : Index := 0#32
  ![0, v532.toNat, 0]
def k0_off73 (v518 : BitVec 32) : Fin 3 → Nat :=
  let c0_311 : Index := 0#32
  let c512_i32_297 : BitVec 32 := 512#32
  let v519 : BitVec 32 := Scalar.muli v518 c512_i32_297
  let v520 : BitVec 32 := v519
  let v544 : Index := Scalar.indexCast v520
  let c128_312 : Index := 128#32
  ![0, v544.toNat, 128]
def k0_off74 (v522 : BitVec 32) : Fin 3 → Nat :=
  let c0_315 : Index := 0#32
  let c512_i32_298 : BitVec 32 := 512#32
  let v523 : BitVec 32 := Scalar.muli v522 c512_i32_298
  let v524 : BitVec 32 := v523
  let v551 : Index := Scalar.indexCast v524
  let c256_316 : Index := 256#32
  ![0, v551.toNat, 256]
def k0_off75 (v518 : BitVec 32) : Fin 3 → Nat :=
  let c0_323 : Index := 0#32
  let c512_i32_297 : BitVec 32 := 512#32
  let v519 : BitVec 32 := Scalar.muli v518 c512_i32_297
  let v520 : BitVec 32 := v519
  let v563 : Index := Scalar.indexCast v520
  let c256_324 : Index := 256#32
  ![0, v563.toNat, 256]
def k0_off76 (v522 : BitVec 32) : Fin 3 → Nat :=
  let c0_327 : Index := 0#32
  let c512_i32_298 : BitVec 32 := 512#32
  let v523 : BitVec 32 := Scalar.muli v522 c512_i32_298
  let v524 : BitVec 32 := v523
  let v570 : Index := Scalar.indexCast v524
  let c512_328 : Index := 512#32
  ![0, v570.toNat, 512]
def k0_off77 (v518 : BitVec 32) : Fin 3 → Nat :=
  let c0_335 : Index := 0#32
  let c512_i32_297 : BitVec 32 := 512#32
  let v519 : BitVec 32 := Scalar.muli v518 c512_i32_297
  let v520 : BitVec 32 := v519
  let v582 : Index := Scalar.indexCast v520
  let c384_336 : Index := 384#32
  ![0, v582.toNat, 384]

def k0_chk16 (v135 : BitVec 32) (v137 : BitVec 32) (v141 : BitVec 32) (v144 : BitVec 32) (v518 : BitVec 32) : Prop :=
  (∀ (k0_h2 : k0_cond2 v135 v137 v141 v144 = 1#1), 512 ∣ (k0_mult16 v518).toNat) ∧
  (∀ (k0_h2 : k0_cond2 v135 v137 v141 v144 = 1#1), ∀ a, (k0_off70 v518) a + S1x512x128.size a ≤ S1x4096x512.size a) ∧
  (∀ (k0_h2 : k0_cond2 v135 v137 v141 v144 = 1#1), ∀ a, (k0_off71 v518) a + S1x512x128.size a ≤ S1x4096x128.size a) ∧
  (∀ (k0_h2 : k0_cond2 v135 v137 v141 v144 = 1#1), ∀ a, (k0_off73 v518) a + S1x512x128.size a ≤ S1x4096x512.size a) ∧
  (∀ (k0_h2 : k0_cond2 v135 v137 v141 v144 = 1#1), ∀ a, (k0_off75 v518) a + S1x512x128.size a ≤ S1x4096x512.size a) ∧
  (∀ (k0_h2 : k0_cond2 v135 v137 v141 v144 = 1#1), ∀ a, (k0_off77 v518) a + S1x512x128.size a ≤ S1x4096x512.size a)
theorem k0_mult16_dvd : ∀ (v135 : BitVec 32) (v137 : BitVec 32) (v141 : BitVec 32) (v144 : BitVec 32) (v518 : BitVec 32) (k0_hw16 : k0_chk16 v135 v137 v141 v144 v518), ∀ (k0_h2 : k0_cond2 v135 v137 v141 v144 = 1#1), 512 ∣ (k0_mult16 v518).toNat := fun v135 v137 v141 v144 v518 k0_hw16 k0_h2 => k0_hw16.1 k0_h2
theorem k0_off70_inb : ∀ (v135 : BitVec 32) (v137 : BitVec 32) (v141 : BitVec 32) (v144 : BitVec 32) (v518 : BitVec 32) (k0_hw16 : k0_chk16 v135 v137 v141 v144 v518), ∀ (k0_h2 : k0_cond2 v135 v137 v141 v144 = 1#1), ∀ a, (k0_off70 v518) a + S1x512x128.size a ≤ S1x4096x512.size a := fun v135 v137 v141 v144 v518 k0_hw16 k0_h2 => k0_hw16.2.1 k0_h2
theorem k0_off71_inb : ∀ (v135 : BitVec 32) (v137 : BitVec 32) (v141 : BitVec 32) (v144 : BitVec 32) (v518 : BitVec 32) (k0_hw16 : k0_chk16 v135 v137 v141 v144 v518), ∀ (k0_h2 : k0_cond2 v135 v137 v141 v144 = 1#1), ∀ a, (k0_off71 v518) a + S1x512x128.size a ≤ S1x4096x128.size a := fun v135 v137 v141 v144 v518 k0_hw16 k0_h2 => k0_hw16.2.2.1 k0_h2
theorem k0_off73_inb : ∀ (v135 : BitVec 32) (v137 : BitVec 32) (v141 : BitVec 32) (v144 : BitVec 32) (v518 : BitVec 32) (k0_hw16 : k0_chk16 v135 v137 v141 v144 v518), ∀ (k0_h2 : k0_cond2 v135 v137 v141 v144 = 1#1), ∀ a, (k0_off73 v518) a + S1x512x128.size a ≤ S1x4096x512.size a := fun v135 v137 v141 v144 v518 k0_hw16 k0_h2 => k0_hw16.2.2.2.1 k0_h2
theorem k0_off75_inb : ∀ (v135 : BitVec 32) (v137 : BitVec 32) (v141 : BitVec 32) (v144 : BitVec 32) (v518 : BitVec 32) (k0_hw16 : k0_chk16 v135 v137 v141 v144 v518), ∀ (k0_h2 : k0_cond2 v135 v137 v141 v144 = 1#1), ∀ a, (k0_off75 v518) a + S1x512x128.size a ≤ S1x4096x512.size a := fun v135 v137 v141 v144 v518 k0_hw16 k0_h2 => k0_hw16.2.2.2.2.1 k0_h2
theorem k0_off77_inb : ∀ (v135 : BitVec 32) (v137 : BitVec 32) (v141 : BitVec 32) (v144 : BitVec 32) (v518 : BitVec 32) (k0_hw16 : k0_chk16 v135 v137 v141 v144 v518), ∀ (k0_h2 : k0_cond2 v135 v137 v141 v144 = 1#1), ∀ a, (k0_off77 v518) a + S1x512x128.size a ≤ S1x4096x512.size a := fun v135 v137 v141 v144 v518 k0_hw16 k0_h2 => k0_hw16.2.2.2.2.2 k0_h2

def k0_off78 (v522 : BitVec 32) : Fin 3 → Nat :=
  let c0_339 : Index := 0#32
  let c512_i32_298 : BitVec 32 := 512#32
  let v523 : BitVec 32 := Scalar.muli v522 c512_i32_298
  let v524 : BitVec 32 := v523
  let v589 : Index := Scalar.indexCast v524
  let c768_340 : Index := 768#32
  ![0, v589.toNat, 768]

def k0_chk17 (v135 : BitVec 32) (v137 : BitVec 32) (v141 : BitVec 32) (v144 : BitVec 32) (v522 : BitVec 32) : Prop :=
  (∀ (k0_h2 : k0_cond2 v135 v137 v141 v144 = 1#1), 512 ∣ (k0_mult17 v522).toNat) ∧
  (∀ (k0_h2 : k0_cond2 v135 v137 v141 v144 = 1#1), ∀ a, (k0_off72 v522) a + S1x512x256.size a ≤ S1x4096x1024.size a) ∧
  (∀ (k0_h2 : k0_cond2 v135 v137 v141 v144 = 1#1), ∀ a, (k0_off74 v522) a + S1x512x256.size a ≤ S1x4096x1024.size a) ∧
  (∀ (k0_h2 : k0_cond2 v135 v137 v141 v144 = 1#1), ∀ a, (k0_off76 v522) a + S1x512x256.size a ≤ S1x4096x1024.size a) ∧
  (∀ (k0_h2 : k0_cond2 v135 v137 v141 v144 = 1#1), ∀ a, (k0_off78 v522) a + S1x512x256.size a ≤ S1x4096x1024.size a)
theorem k0_mult17_dvd : ∀ (v135 : BitVec 32) (v137 : BitVec 32) (v141 : BitVec 32) (v144 : BitVec 32) (v522 : BitVec 32) (k0_hw17 : k0_chk17 v135 v137 v141 v144 v522), ∀ (k0_h2 : k0_cond2 v135 v137 v141 v144 = 1#1), 512 ∣ (k0_mult17 v522).toNat := fun v135 v137 v141 v144 v522 k0_hw17 k0_h2 => k0_hw17.1 k0_h2
theorem k0_off72_inb : ∀ (v135 : BitVec 32) (v137 : BitVec 32) (v141 : BitVec 32) (v144 : BitVec 32) (v522 : BitVec 32) (k0_hw17 : k0_chk17 v135 v137 v141 v144 v522), ∀ (k0_h2 : k0_cond2 v135 v137 v141 v144 = 1#1), ∀ a, (k0_off72 v522) a + S1x512x256.size a ≤ S1x4096x1024.size a := fun v135 v137 v141 v144 v522 k0_hw17 k0_h2 => k0_hw17.2.1 k0_h2
theorem k0_off74_inb : ∀ (v135 : BitVec 32) (v137 : BitVec 32) (v141 : BitVec 32) (v144 : BitVec 32) (v522 : BitVec 32) (k0_hw17 : k0_chk17 v135 v137 v141 v144 v522), ∀ (k0_h2 : k0_cond2 v135 v137 v141 v144 = 1#1), ∀ a, (k0_off74 v522) a + S1x512x256.size a ≤ S1x4096x1024.size a := fun v135 v137 v141 v144 v522 k0_hw17 k0_h2 => k0_hw17.2.2.1 k0_h2
theorem k0_off76_inb : ∀ (v135 : BitVec 32) (v137 : BitVec 32) (v141 : BitVec 32) (v144 : BitVec 32) (v522 : BitVec 32) (k0_hw17 : k0_chk17 v135 v137 v141 v144 v522), ∀ (k0_h2 : k0_cond2 v135 v137 v141 v144 = 1#1), ∀ a, (k0_off76 v522) a + S1x512x256.size a ≤ S1x4096x1024.size a := fun v135 v137 v141 v144 v522 k0_hw17 k0_h2 => k0_hw17.2.2.2.1 k0_h2
theorem k0_off78_inb : ∀ (v135 : BitVec 32) (v137 : BitVec 32) (v141 : BitVec 32) (v144 : BitVec 32) (v522 : BitVec 32) (k0_hw17 : k0_chk17 v135 v137 v141 v144 v522), ∀ (k0_h2 : k0_cond2 v135 v137 v141 v144 = 1#1), ∀ a, (k0_off78 v522) a + S1x512x256.size a ≤ S1x4096x1024.size a := fun v135 v137 v141 v144 v522 k0_hw17 k0_h2 => k0_hw17.2.2.2.2 k0_h2

def k0_off79 (k0_t1 : Fin k0_t1_loop.trips) : Fin 1 → Nat :=
  let c2_i32 : BitVec 32 := 2#32
  let c0_i32 : BitVec 32 := 0#32
  let c1_i32 : BitVec 32 := 1#32
  let arg37 : BitVec 32 := Scf.iv c0_i32 c1_i32 k0_t1
  let v133 : BitVec 32 := Scalar.muli c2_i32 arg37
  let c1_i32_347 : BitVec 32 := 1#32
  let v601 : BitVec 32 := Scalar.addi v133 c1_i32_347
  let v602 : Index := Scalar.indexCast v601
  ![v602.toNat]
def k0_mult18 (v603 : BitVec 32) : BitVec 32 :=
  let c512_i32_348 : BitVec 32 := 512#32
  let v604 : BitVec 32 := Scalar.muli v603 c512_i32_348
  v604

def k0_off80 (v603 : BitVec 32) : Fin 2 → Nat :=
  let c0_353 : Index := 0#32
  let c512_i32_348 : BitVec 32 := 512#32
  let v604 : BitVec 32 := Scalar.muli v603 c512_i32_348
  let v605 : BitVec 32 := v604
  let v608 : Index := Scalar.indexCast v605
  ![0, v608.toNat]
def k0_off81 (v603 : BitVec 32) : Fin 2 → Nat :=
  let c128_374 : Index := 128#32
  let c512_i32_348 : BitVec 32 := 512#32
  let v604 : BitVec 32 := Scalar.muli v603 c512_i32_348
  let v605 : BitVec 32 := v604
  let v643 : Index := Scalar.indexCast v605
  ![128, v643.toNat]
def k0_off82 (v603 : BitVec 32) : Fin 2 → Nat :=
  let c256_395 : Index := 256#32
  let c512_i32_348 : BitVec 32 := 512#32
  let v604 : BitVec 32 := Scalar.muli v603 c512_i32_348
  let v605 : BitVec 32 := v604
  let v678 : Index := Scalar.indexCast v605
  ![256, v678.toNat]
def k0_off83 (v603 : BitVec 32) : Fin 2 → Nat :=
  let c384_416 : Index := 384#32
  let c512_i32_348 : BitVec 32 := 512#32
  let v604 : BitVec 32 := Scalar.muli v603 c512_i32_348
  let v605 : BitVec 32 := v604
  let v713 : Index := Scalar.indexCast v605
  ![384, v713.toNat]

def k0_chk18 (v135 : BitVec 32) (v137 : BitVec 32) (v141 : BitVec 32) (v144 : BitVec 32) (v603 : BitVec 32) : Prop :=
  (∀ (k0_h2 : k0_cond2 v135 v137 v141 v144 = 1#1), 512 ∣ (k0_mult18 v603).toNat) ∧
  (∀ (k0_h2 : k0_cond2 v135 v137 v141 v144 = 1#1), ∀ a, (k0_off80 v603) a + S128x512.size a ≤ S512x4096.size a) ∧
  (∀ (k0_h2 : k0_cond2 v135 v137 v141 v144 = 1#1), ∀ a, (k0_off81 v603) a + S128x512.size a ≤ S512x4096.size a) ∧
  (∀ (k0_h2 : k0_cond2 v135 v137 v141 v144 = 1#1), ∀ a, (k0_off82 v603) a + S128x512.size a ≤ S512x4096.size a) ∧
  (∀ (k0_h2 : k0_cond2 v135 v137 v141 v144 = 1#1), ∀ a, (k0_off83 v603) a + S128x512.size a ≤ S512x4096.size a)
theorem k0_mult18_dvd : ∀ (v135 : BitVec 32) (v137 : BitVec 32) (v141 : BitVec 32) (v144 : BitVec 32) (v603 : BitVec 32) (k0_hw18 : k0_chk18 v135 v137 v141 v144 v603), ∀ (k0_h2 : k0_cond2 v135 v137 v141 v144 = 1#1), 512 ∣ (k0_mult18 v603).toNat := fun v135 v137 v141 v144 v603 k0_hw18 k0_h2 => k0_hw18.1 k0_h2
theorem k0_off80_inb : ∀ (v135 : BitVec 32) (v137 : BitVec 32) (v141 : BitVec 32) (v144 : BitVec 32) (v603 : BitVec 32) (k0_hw18 : k0_chk18 v135 v137 v141 v144 v603), ∀ (k0_h2 : k0_cond2 v135 v137 v141 v144 = 1#1), ∀ a, (k0_off80 v603) a + S128x512.size a ≤ S512x4096.size a := fun v135 v137 v141 v144 v603 k0_hw18 k0_h2 => k0_hw18.2.1 k0_h2
theorem k0_off81_inb : ∀ (v135 : BitVec 32) (v137 : BitVec 32) (v141 : BitVec 32) (v144 : BitVec 32) (v603 : BitVec 32) (k0_hw18 : k0_chk18 v135 v137 v141 v144 v603), ∀ (k0_h2 : k0_cond2 v135 v137 v141 v144 = 1#1), ∀ a, (k0_off81 v603) a + S128x512.size a ≤ S512x4096.size a := fun v135 v137 v141 v144 v603 k0_hw18 k0_h2 => k0_hw18.2.2.1 k0_h2
theorem k0_off82_inb : ∀ (v135 : BitVec 32) (v137 : BitVec 32) (v141 : BitVec 32) (v144 : BitVec 32) (v603 : BitVec 32) (k0_hw18 : k0_chk18 v135 v137 v141 v144 v603), ∀ (k0_h2 : k0_cond2 v135 v137 v141 v144 = 1#1), ∀ a, (k0_off82 v603) a + S128x512.size a ≤ S512x4096.size a := fun v135 v137 v141 v144 v603 k0_hw18 k0_h2 => k0_hw18.2.2.2.1 k0_h2
theorem k0_off83_inb : ∀ (v135 : BitVec 32) (v137 : BitVec 32) (v141 : BitVec 32) (v144 : BitVec 32) (v603 : BitVec 32) (k0_hw18 : k0_chk18 v135 v137 v141 v144 v603), ∀ (k0_h2 : k0_cond2 v135 v137 v141 v144 = 1#1), ∀ a, (k0_off83 v603) a + S128x512.size a ≤ S512x4096.size a := fun v135 v137 v141 v144 v603 k0_hw18 k0_h2 => k0_hw18.2.2.2.2 k0_h2

def k0_off84 (k0_t1 : Fin k0_t1_loop.trips) : Fin 1 → Nat :=
  let c2_i32 : BitVec 32 := 2#32
  let c0_i32 : BitVec 32 := 0#32
  let c1_i32 : BitVec 32 := 1#32
  let arg37 : BitVec 32 := Scf.iv c0_i32 c1_i32 k0_t1
  let v133 : BitVec 32 := Scalar.muli c2_i32 arg37
  let c1_i32_96 : BitVec 32 := 1#32
  let v167 : BitVec 32 := Scalar.addi v133 c1_i32_96
  let v168 : Index := Scalar.indexCast v167
  ![v168.toNat]
def k0_mult19 (v169 : BitVec 32) : BitVec 32 :=
  let c512_i32_97 : BitVec 32 := 512#32
  let v170 : BitVec 32 := Scalar.muli v169 c512_i32_97
  v170
def k0_cond3 (v135 : BitVec 32) (v137 : BitVec 32) (v141 : BitVec 32) (v144 : BitVec 32) : BitVec 1 :=
  let v138 : BitVec 1 := Scalar.cmpi .eq v135 v137
  let false_91 : BitVec 1 := 0#1
  let v160 : BitVec 1 := Scalar.xori v138 false_91
  let true_92 : BitVec 1 := 1#1
  let v161 : BitVec 1 := Scalar.xori v160 true_92
  let v145 : BitVec 1 := Scalar.cmpi .eq v141 v144
  let true_93 : BitVec 1 := 1#1
  let v162 : BitVec 1 := Scalar.xori v145 true_93
  let true_94 : BitVec 1 := 1#1
  let v163 : BitVec 1 := Scalar.xori v162 true_94
  let v164 : BitVec 1 := Scalar.andi v161 v163
  let v165 : BitVec 32 := Scalar.extui v164
  let c0_i32_95 : BitVec 32 := 0#32
  let v166 : BitVec 1 := Scalar.cmpi .ne v165 c0_i32_95
  v166

def k0_off85 (k0_t1 : Fin k0_t1_loop.trips) : Fin 1 → Nat :=
  let c2_i32 : BitVec 32 := 2#32
  let c0_i32 : BitVec 32 := 0#32
  let c1_i32 : BitVec 32 := 1#32
  let arg37 : BitVec 32 := Scf.iv c0_i32 c1_i32 k0_t1
  let v133 : BitVec 32 := Scalar.muli c2_i32 arg37
  let c1_i32_96 : BitVec 32 := 1#32
  let v167 : BitVec 32 := Scalar.addi v133 c1_i32_96
  let v172 : Index := Scalar.indexCast v167
  ![v172.toNat]
def k0_mult20 (v173 : BitVec 32) : BitVec 32 :=
  let c512_i32_98 : BitVec 32 := 512#32
  let v174 : BitVec 32 := Scalar.muli v173 c512_i32_98
  v174

def k0_off86 (v169 : BitVec 32) : Fin 3 → Nat :=
  let c0_99 : Index := 0#32
  let c512_i32_97 : BitVec 32 := 512#32
  let v170 : BitVec 32 := Scalar.muli v169 c512_i32_97
  let v171 : BitVec 32 := v170
  let v176 : Index := Scalar.indexCast v171
  let c0_100 : Index := 0#32
  ![0, v176.toNat, 0]
def k0_off87 (v169 : BitVec 32) : Fin 3 → Nat :=
  let c0_101 : Index := 0#32
  let c512_i32_97 : BitVec 32 := 512#32
  let v170 : BitVec 32 := Scalar.muli v169 c512_i32_97
  let v171 : BitVec 32 := v170
  let v179 : Index := Scalar.indexCast v171
  let c0_102 : Index := 0#32
  ![0, v179.toNat, 0]
def k0_off88 (v173 : BitVec 32) : Fin 3 → Nat :=
  let c0_103 : Index := 0#32
  let c512_i32_98 : BitVec 32 := 512#32
  let v174 : BitVec 32 := Scalar.muli v173 c512_i32_98
  let v175 : BitVec 32 := v174
  let v183 : Index := Scalar.indexCast v175
  let c0_104 : Index := 0#32
  ![0, v183.toNat, 0]
def k0_off89 (v169 : BitVec 32) : Fin 3 → Nat :=
  let c0_111 : Index := 0#32
  let c512_i32_97 : BitVec 32 := 512#32
  let v170 : BitVec 32 := Scalar.muli v169 c512_i32_97
  let v171 : BitVec 32 := v170
  let v195 : Index := Scalar.indexCast v171
  let c128_112 : Index := 128#32
  ![0, v195.toNat, 128]
def k0_off90 (v173 : BitVec 32) : Fin 3 → Nat :=
  let c0_115 : Index := 0#32
  let c512_i32_98 : BitVec 32 := 512#32
  let v174 : BitVec 32 := Scalar.muli v173 c512_i32_98
  let v175 : BitVec 32 := v174
  let v202 : Index := Scalar.indexCast v175
  let c256_116 : Index := 256#32
  ![0, v202.toNat, 256]
def k0_off91 (v169 : BitVec 32) : Fin 3 → Nat :=
  let c0_123 : Index := 0#32
  let c512_i32_97 : BitVec 32 := 512#32
  let v170 : BitVec 32 := Scalar.muli v169 c512_i32_97
  let v171 : BitVec 32 := v170
  let v214 : Index := Scalar.indexCast v171
  let c256_124 : Index := 256#32
  ![0, v214.toNat, 256]
def k0_off92 (v173 : BitVec 32) : Fin 3 → Nat :=
  let c0_127 : Index := 0#32
  let c512_i32_98 : BitVec 32 := 512#32
  let v174 : BitVec 32 := Scalar.muli v173 c512_i32_98
  let v175 : BitVec 32 := v174
  let v221 : Index := Scalar.indexCast v175
  let c512_128 : Index := 512#32
  ![0, v221.toNat, 512]
def k0_off93 (v169 : BitVec 32) : Fin 3 → Nat :=
  let c0_135 : Index := 0#32
  let c512_i32_97 : BitVec 32 := 512#32
  let v170 : BitVec 32 := Scalar.muli v169 c512_i32_97
  let v171 : BitVec 32 := v170
  let v233 : Index := Scalar.indexCast v171
  let c384_136 : Index := 384#32
  ![0, v233.toNat, 384]

def k0_chk19 (v135 : BitVec 32) (v137 : BitVec 32) (v141 : BitVec 32) (v144 : BitVec 32) (v169 : BitVec 32) : Prop :=
  (∀ (k0_h3 : k0_cond3 v135 v137 v141 v144 = 1#1), 512 ∣ (k0_mult19 v169).toNat) ∧
  (∀ (k0_h3 : k0_cond3 v135 v137 v141 v144 = 1#1), ∀ a, (k0_off86 v169) a + S1x512x128.size a ≤ S1x4096x512.size a) ∧
  (∀ (k0_h3 : k0_cond3 v135 v137 v141 v144 = 1#1), ∀ a, (k0_off87 v169) a + S1x512x128.size a ≤ S1x4096x128.size a) ∧
  (∀ (k0_h3 : k0_cond3 v135 v137 v141 v144 = 1#1), ∀ a, (k0_off89 v169) a + S1x512x128.size a ≤ S1x4096x512.size a) ∧
  (∀ (k0_h3 : k0_cond3 v135 v137 v141 v144 = 1#1), ∀ a, (k0_off91 v169) a + S1x512x128.size a ≤ S1x4096x512.size a) ∧
  (∀ (k0_h3 : k0_cond3 v135 v137 v141 v144 = 1#1), ∀ a, (k0_off93 v169) a + S1x512x128.size a ≤ S1x4096x512.size a)
theorem k0_mult19_dvd : ∀ (v135 : BitVec 32) (v137 : BitVec 32) (v141 : BitVec 32) (v144 : BitVec 32) (v169 : BitVec 32) (k0_hw19 : k0_chk19 v135 v137 v141 v144 v169), ∀ (k0_h3 : k0_cond3 v135 v137 v141 v144 = 1#1), 512 ∣ (k0_mult19 v169).toNat := fun v135 v137 v141 v144 v169 k0_hw19 k0_h3 => k0_hw19.1 k0_h3
theorem k0_off86_inb : ∀ (v135 : BitVec 32) (v137 : BitVec 32) (v141 : BitVec 32) (v144 : BitVec 32) (v169 : BitVec 32) (k0_hw19 : k0_chk19 v135 v137 v141 v144 v169), ∀ (k0_h3 : k0_cond3 v135 v137 v141 v144 = 1#1), ∀ a, (k0_off86 v169) a + S1x512x128.size a ≤ S1x4096x512.size a := fun v135 v137 v141 v144 v169 k0_hw19 k0_h3 => k0_hw19.2.1 k0_h3
theorem k0_off87_inb : ∀ (v135 : BitVec 32) (v137 : BitVec 32) (v141 : BitVec 32) (v144 : BitVec 32) (v169 : BitVec 32) (k0_hw19 : k0_chk19 v135 v137 v141 v144 v169), ∀ (k0_h3 : k0_cond3 v135 v137 v141 v144 = 1#1), ∀ a, (k0_off87 v169) a + S1x512x128.size a ≤ S1x4096x128.size a := fun v135 v137 v141 v144 v169 k0_hw19 k0_h3 => k0_hw19.2.2.1 k0_h3
theorem k0_off89_inb : ∀ (v135 : BitVec 32) (v137 : BitVec 32) (v141 : BitVec 32) (v144 : BitVec 32) (v169 : BitVec 32) (k0_hw19 : k0_chk19 v135 v137 v141 v144 v169), ∀ (k0_h3 : k0_cond3 v135 v137 v141 v144 = 1#1), ∀ a, (k0_off89 v169) a + S1x512x128.size a ≤ S1x4096x512.size a := fun v135 v137 v141 v144 v169 k0_hw19 k0_h3 => k0_hw19.2.2.2.1 k0_h3
theorem k0_off91_inb : ∀ (v135 : BitVec 32) (v137 : BitVec 32) (v141 : BitVec 32) (v144 : BitVec 32) (v169 : BitVec 32) (k0_hw19 : k0_chk19 v135 v137 v141 v144 v169), ∀ (k0_h3 : k0_cond3 v135 v137 v141 v144 = 1#1), ∀ a, (k0_off91 v169) a + S1x512x128.size a ≤ S1x4096x512.size a := fun v135 v137 v141 v144 v169 k0_hw19 k0_h3 => k0_hw19.2.2.2.2.1 k0_h3
theorem k0_off93_inb : ∀ (v135 : BitVec 32) (v137 : BitVec 32) (v141 : BitVec 32) (v144 : BitVec 32) (v169 : BitVec 32) (k0_hw19 : k0_chk19 v135 v137 v141 v144 v169), ∀ (k0_h3 : k0_cond3 v135 v137 v141 v144 = 1#1), ∀ a, (k0_off93 v169) a + S1x512x128.size a ≤ S1x4096x512.size a := fun v135 v137 v141 v144 v169 k0_hw19 k0_h3 => k0_hw19.2.2.2.2.2 k0_h3

def k0_off94 (v173 : BitVec 32) : Fin 3 → Nat :=
  let c0_139 : Index := 0#32
  let c512_i32_98 : BitVec 32 := 512#32
  let v174 : BitVec 32 := Scalar.muli v173 c512_i32_98
  let v175 : BitVec 32 := v174
  let v240 : Index := Scalar.indexCast v175
  let c768_140 : Index := 768#32
  ![0, v240.toNat, 768]

def k0_chk20 (v135 : BitVec 32) (v137 : BitVec 32) (v141 : BitVec 32) (v144 : BitVec 32) (v173 : BitVec 32) : Prop :=
  (∀ (k0_h3 : k0_cond3 v135 v137 v141 v144 = 1#1), 512 ∣ (k0_mult20 v173).toNat) ∧
  (∀ (k0_h3 : k0_cond3 v135 v137 v141 v144 = 1#1), ∀ a, (k0_off88 v173) a + S1x512x256.size a ≤ S1x4096x1024.size a) ∧
  (∀ (k0_h3 : k0_cond3 v135 v137 v141 v144 = 1#1), ∀ a, (k0_off90 v173) a + S1x512x256.size a ≤ S1x4096x1024.size a) ∧
  (∀ (k0_h3 : k0_cond3 v135 v137 v141 v144 = 1#1), ∀ a, (k0_off92 v173) a + S1x512x256.size a ≤ S1x4096x1024.size a) ∧
  (∀ (k0_h3 : k0_cond3 v135 v137 v141 v144 = 1#1), ∀ a, (k0_off94 v173) a + S1x512x256.size a ≤ S1x4096x1024.size a)
theorem k0_mult20_dvd : ∀ (v135 : BitVec 32) (v137 : BitVec 32) (v141 : BitVec 32) (v144 : BitVec 32) (v173 : BitVec 32) (k0_hw20 : k0_chk20 v135 v137 v141 v144 v173), ∀ (k0_h3 : k0_cond3 v135 v137 v141 v144 = 1#1), 512 ∣ (k0_mult20 v173).toNat := fun v135 v137 v141 v144 v173 k0_hw20 k0_h3 => k0_hw20.1 k0_h3
theorem k0_off88_inb : ∀ (v135 : BitVec 32) (v137 : BitVec 32) (v141 : BitVec 32) (v144 : BitVec 32) (v173 : BitVec 32) (k0_hw20 : k0_chk20 v135 v137 v141 v144 v173), ∀ (k0_h3 : k0_cond3 v135 v137 v141 v144 = 1#1), ∀ a, (k0_off88 v173) a + S1x512x256.size a ≤ S1x4096x1024.size a := fun v135 v137 v141 v144 v173 k0_hw20 k0_h3 => k0_hw20.2.1 k0_h3
theorem k0_off90_inb : ∀ (v135 : BitVec 32) (v137 : BitVec 32) (v141 : BitVec 32) (v144 : BitVec 32) (v173 : BitVec 32) (k0_hw20 : k0_chk20 v135 v137 v141 v144 v173), ∀ (k0_h3 : k0_cond3 v135 v137 v141 v144 = 1#1), ∀ a, (k0_off90 v173) a + S1x512x256.size a ≤ S1x4096x1024.size a := fun v135 v137 v141 v144 v173 k0_hw20 k0_h3 => k0_hw20.2.2.1 k0_h3
theorem k0_off92_inb : ∀ (v135 : BitVec 32) (v137 : BitVec 32) (v141 : BitVec 32) (v144 : BitVec 32) (v173 : BitVec 32) (k0_hw20 : k0_chk20 v135 v137 v141 v144 v173), ∀ (k0_h3 : k0_cond3 v135 v137 v141 v144 = 1#1), ∀ a, (k0_off92 v173) a + S1x512x256.size a ≤ S1x4096x1024.size a := fun v135 v137 v141 v144 v173 k0_hw20 k0_h3 => k0_hw20.2.2.2.1 k0_h3
theorem k0_off94_inb : ∀ (v135 : BitVec 32) (v137 : BitVec 32) (v141 : BitVec 32) (v144 : BitVec 32) (v173 : BitVec 32) (k0_hw20 : k0_chk20 v135 v137 v141 v144 v173), ∀ (k0_h3 : k0_cond3 v135 v137 v141 v144 = 1#1), ∀ a, (k0_off94 v173) a + S1x512x256.size a ≤ S1x4096x1024.size a := fun v135 v137 v141 v144 v173 k0_hw20 k0_h3 => k0_hw20.2.2.2.2 k0_h3

def k0_off95 (k0_t1 : Fin k0_t1_loop.trips) : Fin 1 → Nat :=
  let c2_i32 : BitVec 32 := 2#32
  let c0_i32 : BitVec 32 := 0#32
  let c1_i32 : BitVec 32 := 1#32
  let arg37 : BitVec 32 := Scf.iv c0_i32 c1_i32 k0_t1
  let v133 : BitVec 32 := Scalar.muli c2_i32 arg37
  let v252 : Index := Scalar.indexCast v133
  ![v252.toNat]
def k0_mult21 (v253 : BitVec 32) : BitVec 32 :=
  let c512_i32_147 : BitVec 32 := 512#32
  let v254 : BitVec 32 := Scalar.muli v253 c512_i32_147
  v254

def k0_off96 (v253 : BitVec 32) : Fin 2 → Nat :=
  let c0_152 : Index := 0#32
  let c512_i32_147 : BitVec 32 := 512#32
  let v254 : BitVec 32 := Scalar.muli v253 c512_i32_147
  let v255 : BitVec 32 := v254
  let v258 : Index := Scalar.indexCast v255
  ![0, v258.toNat]
def k0_off97 (v253 : BitVec 32) : Fin 2 → Nat :=
  let c128_173 : Index := 128#32
  let c512_i32_147 : BitVec 32 := 512#32
  let v254 : BitVec 32 := Scalar.muli v253 c512_i32_147
  let v255 : BitVec 32 := v254
  let v293 : Index := Scalar.indexCast v255
  ![128, v293.toNat]
def k0_off98 (v253 : BitVec 32) : Fin 2 → Nat :=
  let c256_194 : Index := 256#32
  let c512_i32_147 : BitVec 32 := 512#32
  let v254 : BitVec 32 := Scalar.muli v253 c512_i32_147
  let v255 : BitVec 32 := v254
  let v328 : Index := Scalar.indexCast v255
  ![256, v328.toNat]
def k0_off99 (v253 : BitVec 32) : Fin 2 → Nat :=
  let c384_215 : Index := 384#32
  let c512_i32_147 : BitVec 32 := 512#32
  let v254 : BitVec 32 := Scalar.muli v253 c512_i32_147
  let v255 : BitVec 32 := v254
  let v363 : Index := Scalar.indexCast v255
  ![384, v363.toNat]

def k0_chk21 (v135 : BitVec 32) (v137 : BitVec 32) (v141 : BitVec 32) (v144 : BitVec 32) (v253 : BitVec 32) : Prop :=
  (∀ (k0_h3 : k0_cond3 v135 v137 v141 v144 = 1#1), 512 ∣ (k0_mult21 v253).toNat) ∧
  (∀ (k0_h3 : k0_cond3 v135 v137 v141 v144 = 1#1), ∀ a, (k0_off96 v253) a + S128x512.size a ≤ S512x4096.size a) ∧
  (∀ (k0_h3 : k0_cond3 v135 v137 v141 v144 = 1#1), ∀ a, (k0_off97 v253) a + S128x512.size a ≤ S512x4096.size a) ∧
  (∀ (k0_h3 : k0_cond3 v135 v137 v141 v144 = 1#1), ∀ a, (k0_off98 v253) a + S128x512.size a ≤ S512x4096.size a) ∧
  (∀ (k0_h3 : k0_cond3 v135 v137 v141 v144 = 1#1), ∀ a, (k0_off99 v253) a + S128x512.size a ≤ S512x4096.size a)
theorem k0_mult21_dvd : ∀ (v135 : BitVec 32) (v137 : BitVec 32) (v141 : BitVec 32) (v144 : BitVec 32) (v253 : BitVec 32) (k0_hw21 : k0_chk21 v135 v137 v141 v144 v253), ∀ (k0_h3 : k0_cond3 v135 v137 v141 v144 = 1#1), 512 ∣ (k0_mult21 v253).toNat := fun v135 v137 v141 v144 v253 k0_hw21 k0_h3 => k0_hw21.1 k0_h3
theorem k0_off96_inb : ∀ (v135 : BitVec 32) (v137 : BitVec 32) (v141 : BitVec 32) (v144 : BitVec 32) (v253 : BitVec 32) (k0_hw21 : k0_chk21 v135 v137 v141 v144 v253), ∀ (k0_h3 : k0_cond3 v135 v137 v141 v144 = 1#1), ∀ a, (k0_off96 v253) a + S128x512.size a ≤ S512x4096.size a := fun v135 v137 v141 v144 v253 k0_hw21 k0_h3 => k0_hw21.2.1 k0_h3
theorem k0_off97_inb : ∀ (v135 : BitVec 32) (v137 : BitVec 32) (v141 : BitVec 32) (v144 : BitVec 32) (v253 : BitVec 32) (k0_hw21 : k0_chk21 v135 v137 v141 v144 v253), ∀ (k0_h3 : k0_cond3 v135 v137 v141 v144 = 1#1), ∀ a, (k0_off97 v253) a + S128x512.size a ≤ S512x4096.size a := fun v135 v137 v141 v144 v253 k0_hw21 k0_h3 => k0_hw21.2.2.1 k0_h3
theorem k0_off98_inb : ∀ (v135 : BitVec 32) (v137 : BitVec 32) (v141 : BitVec 32) (v144 : BitVec 32) (v253 : BitVec 32) (k0_hw21 : k0_chk21 v135 v137 v141 v144 v253), ∀ (k0_h3 : k0_cond3 v135 v137 v141 v144 = 1#1), ∀ a, (k0_off98 v253) a + S128x512.size a ≤ S512x4096.size a := fun v135 v137 v141 v144 v253 k0_hw21 k0_h3 => k0_hw21.2.2.2.1 k0_h3
theorem k0_off99_inb : ∀ (v135 : BitVec 32) (v137 : BitVec 32) (v141 : BitVec 32) (v144 : BitVec 32) (v253 : BitVec 32) (k0_hw21 : k0_chk21 v135 v137 v141 v144 v253), ∀ (k0_h3 : k0_cond3 v135 v137 v141 v144 = 1#1), ∀ a, (k0_off99 v253) a + S128x512.size a ≤ S512x4096.size a := fun v135 v137 v141 v144 v253 k0_hw21 k0_h3 => k0_hw21.2.2.2.2 k0_h3

def k0_off100 (k0_t1 : Fin k0_t1_loop.trips) : Fin 1 → Nat :=
  let c2_i32 : BitVec 32 := 2#32
  let c0_i32 : BitVec 32 := 0#32
  let c1_i32 : BitVec 32 := 1#32
  let arg37 : BitVec 32 := Scf.iv c0_i32 c1_i32 k0_t1
  let v133 : BitVec 32 := Scalar.muli c2_i32 arg37
  let c2_i32_232 : BitVec 32 := 2#32
  let v396 : BitVec 32 := Scalar.addi v133 c2_i32_232
  let v397 : Index := Scalar.indexCast v396
  ![v397.toNat]
def k0_mult22 (v398 : BitVec 32) : BitVec 32 :=
  let c512_i32_233 : BitVec 32 := 512#32
  let v399 : BitVec 32 := Scalar.muli v398 c512_i32_233
  v399

def k0_off101 (k0_t1 : Fin k0_t1_loop.trips) : Fin 1 → Nat :=
  let c2_i32 : BitVec 32 := 2#32
  let c0_i32 : BitVec 32 := 0#32
  let c1_i32 : BitVec 32 := 1#32
  let arg37 : BitVec 32 := Scf.iv c0_i32 c1_i32 k0_t1
  let v133 : BitVec 32 := Scalar.muli c2_i32 arg37
  let c2_i32_232 : BitVec 32 := 2#32
  let v396 : BitVec 32 := Scalar.addi v133 c2_i32_232
  let v401 : Index := Scalar.indexCast v396
  ![v401.toNat]
def k0_mult23 (v402 : BitVec 32) : BitVec 32 :=
  let c512_i32_234 : BitVec 32 := 512#32
  let v403 : BitVec 32 := Scalar.muli v402 c512_i32_234
  v403

def k0_off102 (v398 : BitVec 32) : Fin 3 → Nat :=
  let c0_235 : Index := 0#32
  let c512_i32_233 : BitVec 32 := 512#32
  let v399 : BitVec 32 := Scalar.muli v398 c512_i32_233
  let v400 : BitVec 32 := v399
  let v405 : Index := Scalar.indexCast v400
  let c0_236 : Index := 0#32
  ![0, v405.toNat, 0]
def k0_off103 (v398 : BitVec 32) : Fin 3 → Nat :=
  let c0_237 : Index := 0#32
  let c512_i32_233 : BitVec 32 := 512#32
  let v399 : BitVec 32 := Scalar.muli v398 c512_i32_233
  let v400 : BitVec 32 := v399
  let v408 : Index := Scalar.indexCast v400
  let c0_238 : Index := 0#32
  ![0, v408.toNat, 0]
def k0_off104 (v402 : BitVec 32) : Fin 3 → Nat :=
  let c0_239 : Index := 0#32
  let c512_i32_234 : BitVec 32 := 512#32
  let v403 : BitVec 32 := Scalar.muli v402 c512_i32_234
  let v404 : BitVec 32 := v403
  let v412 : Index := Scalar.indexCast v404
  let c0_240 : Index := 0#32
  ![0, v412.toNat, 0]
def k0_off105 (v398 : BitVec 32) : Fin 3 → Nat :=
  let c0_247 : Index := 0#32
  let c512_i32_233 : BitVec 32 := 512#32
  let v399 : BitVec 32 := Scalar.muli v398 c512_i32_233
  let v400 : BitVec 32 := v399
  let v424 : Index := Scalar.indexCast v400
  let c128_248 : Index := 128#32
  ![0, v424.toNat, 128]
def k0_off106 (v402 : BitVec 32) : Fin 3 → Nat :=
  let c0_251 : Index := 0#32
  let c512_i32_234 : BitVec 32 := 512#32
  let v403 : BitVec 32 := Scalar.muli v402 c512_i32_234
  let v404 : BitVec 32 := v403
  let v431 : Index := Scalar.indexCast v404
  let c256_252 : Index := 256#32
  ![0, v431.toNat, 256]
def k0_off107 (v398 : BitVec 32) : Fin 3 → Nat :=
  let c0_259 : Index := 0#32
  let c512_i32_233 : BitVec 32 := 512#32
  let v399 : BitVec 32 := Scalar.muli v398 c512_i32_233
  let v400 : BitVec 32 := v399
  let v443 : Index := Scalar.indexCast v400
  let c256_260 : Index := 256#32
  ![0, v443.toNat, 256]
def k0_off108 (v402 : BitVec 32) : Fin 3 → Nat :=
  let c0_263 : Index := 0#32
  let c512_i32_234 : BitVec 32 := 512#32
  let v403 : BitVec 32 := Scalar.muli v402 c512_i32_234
  let v404 : BitVec 32 := v403
  let v450 : Index := Scalar.indexCast v404
  let c512_264 : Index := 512#32
  ![0, v450.toNat, 512]
def k0_off109 (v398 : BitVec 32) : Fin 3 → Nat :=
  let c0_271 : Index := 0#32
  let c512_i32_233 : BitVec 32 := 512#32
  let v399 : BitVec 32 := Scalar.muli v398 c512_i32_233
  let v400 : BitVec 32 := v399
  let v462 : Index := Scalar.indexCast v400
  let c384_272 : Index := 384#32
  ![0, v462.toNat, 384]

def k0_chk22 (v135 : BitVec 32) (v137 : BitVec 32) (v141 : BitVec 32) (v144 : BitVec 32) (v398 : BitVec 32) : Prop :=
  (∀ (k0_h3 : k0_cond3 v135 v137 v141 v144 = 1#1), 512 ∣ (k0_mult22 v398).toNat) ∧
  (∀ (k0_h3 : k0_cond3 v135 v137 v141 v144 = 1#1), ∀ a, (k0_off102 v398) a + S1x512x128.size a ≤ S1x4096x512.size a) ∧
  (∀ (k0_h3 : k0_cond3 v135 v137 v141 v144 = 1#1), ∀ a, (k0_off103 v398) a + S1x512x128.size a ≤ S1x4096x128.size a) ∧
  (∀ (k0_h3 : k0_cond3 v135 v137 v141 v144 = 1#1), ∀ a, (k0_off105 v398) a + S1x512x128.size a ≤ S1x4096x512.size a) ∧
  (∀ (k0_h3 : k0_cond3 v135 v137 v141 v144 = 1#1), ∀ a, (k0_off107 v398) a + S1x512x128.size a ≤ S1x4096x512.size a) ∧
  (∀ (k0_h3 : k0_cond3 v135 v137 v141 v144 = 1#1), ∀ a, (k0_off109 v398) a + S1x512x128.size a ≤ S1x4096x512.size a)
theorem k0_mult22_dvd : ∀ (v135 : BitVec 32) (v137 : BitVec 32) (v141 : BitVec 32) (v144 : BitVec 32) (v398 : BitVec 32) (k0_hw22 : k0_chk22 v135 v137 v141 v144 v398), ∀ (k0_h3 : k0_cond3 v135 v137 v141 v144 = 1#1), 512 ∣ (k0_mult22 v398).toNat := fun v135 v137 v141 v144 v398 k0_hw22 k0_h3 => k0_hw22.1 k0_h3
theorem k0_off102_inb : ∀ (v135 : BitVec 32) (v137 : BitVec 32) (v141 : BitVec 32) (v144 : BitVec 32) (v398 : BitVec 32) (k0_hw22 : k0_chk22 v135 v137 v141 v144 v398), ∀ (k0_h3 : k0_cond3 v135 v137 v141 v144 = 1#1), ∀ a, (k0_off102 v398) a + S1x512x128.size a ≤ S1x4096x512.size a := fun v135 v137 v141 v144 v398 k0_hw22 k0_h3 => k0_hw22.2.1 k0_h3
theorem k0_off103_inb : ∀ (v135 : BitVec 32) (v137 : BitVec 32) (v141 : BitVec 32) (v144 : BitVec 32) (v398 : BitVec 32) (k0_hw22 : k0_chk22 v135 v137 v141 v144 v398), ∀ (k0_h3 : k0_cond3 v135 v137 v141 v144 = 1#1), ∀ a, (k0_off103 v398) a + S1x512x128.size a ≤ S1x4096x128.size a := fun v135 v137 v141 v144 v398 k0_hw22 k0_h3 => k0_hw22.2.2.1 k0_h3
theorem k0_off105_inb : ∀ (v135 : BitVec 32) (v137 : BitVec 32) (v141 : BitVec 32) (v144 : BitVec 32) (v398 : BitVec 32) (k0_hw22 : k0_chk22 v135 v137 v141 v144 v398), ∀ (k0_h3 : k0_cond3 v135 v137 v141 v144 = 1#1), ∀ a, (k0_off105 v398) a + S1x512x128.size a ≤ S1x4096x512.size a := fun v135 v137 v141 v144 v398 k0_hw22 k0_h3 => k0_hw22.2.2.2.1 k0_h3
theorem k0_off107_inb : ∀ (v135 : BitVec 32) (v137 : BitVec 32) (v141 : BitVec 32) (v144 : BitVec 32) (v398 : BitVec 32) (k0_hw22 : k0_chk22 v135 v137 v141 v144 v398), ∀ (k0_h3 : k0_cond3 v135 v137 v141 v144 = 1#1), ∀ a, (k0_off107 v398) a + S1x512x128.size a ≤ S1x4096x512.size a := fun v135 v137 v141 v144 v398 k0_hw22 k0_h3 => k0_hw22.2.2.2.2.1 k0_h3
theorem k0_off109_inb : ∀ (v135 : BitVec 32) (v137 : BitVec 32) (v141 : BitVec 32) (v144 : BitVec 32) (v398 : BitVec 32) (k0_hw22 : k0_chk22 v135 v137 v141 v144 v398), ∀ (k0_h3 : k0_cond3 v135 v137 v141 v144 = 1#1), ∀ a, (k0_off109 v398) a + S1x512x128.size a ≤ S1x4096x512.size a := fun v135 v137 v141 v144 v398 k0_hw22 k0_h3 => k0_hw22.2.2.2.2.2 k0_h3

def k0_off110 (v402 : BitVec 32) : Fin 3 → Nat :=
  let c0_275 : Index := 0#32
  let c512_i32_234 : BitVec 32 := 512#32
  let v403 : BitVec 32 := Scalar.muli v402 c512_i32_234
  let v404 : BitVec 32 := v403
  let v469 : Index := Scalar.indexCast v404
  let c768_276 : Index := 768#32
  ![0, v469.toNat, 768]

def k0_chk23 (v135 : BitVec 32) (v137 : BitVec 32) (v141 : BitVec 32) (v144 : BitVec 32) (v402 : BitVec 32) : Prop :=
  (∀ (k0_h3 : k0_cond3 v135 v137 v141 v144 = 1#1), 512 ∣ (k0_mult23 v402).toNat) ∧
  (∀ (k0_h3 : k0_cond3 v135 v137 v141 v144 = 1#1), ∀ a, (k0_off104 v402) a + S1x512x256.size a ≤ S1x4096x1024.size a) ∧
  (∀ (k0_h3 : k0_cond3 v135 v137 v141 v144 = 1#1), ∀ a, (k0_off106 v402) a + S1x512x256.size a ≤ S1x4096x1024.size a) ∧
  (∀ (k0_h3 : k0_cond3 v135 v137 v141 v144 = 1#1), ∀ a, (k0_off108 v402) a + S1x512x256.size a ≤ S1x4096x1024.size a) ∧
  (∀ (k0_h3 : k0_cond3 v135 v137 v141 v144 = 1#1), ∀ a, (k0_off110 v402) a + S1x512x256.size a ≤ S1x4096x1024.size a)
theorem k0_mult23_dvd : ∀ (v135 : BitVec 32) (v137 : BitVec 32) (v141 : BitVec 32) (v144 : BitVec 32) (v402 : BitVec 32) (k0_hw23 : k0_chk23 v135 v137 v141 v144 v402), ∀ (k0_h3 : k0_cond3 v135 v137 v141 v144 = 1#1), 512 ∣ (k0_mult23 v402).toNat := fun v135 v137 v141 v144 v402 k0_hw23 k0_h3 => k0_hw23.1 k0_h3
theorem k0_off104_inb : ∀ (v135 : BitVec 32) (v137 : BitVec 32) (v141 : BitVec 32) (v144 : BitVec 32) (v402 : BitVec 32) (k0_hw23 : k0_chk23 v135 v137 v141 v144 v402), ∀ (k0_h3 : k0_cond3 v135 v137 v141 v144 = 1#1), ∀ a, (k0_off104 v402) a + S1x512x256.size a ≤ S1x4096x1024.size a := fun v135 v137 v141 v144 v402 k0_hw23 k0_h3 => k0_hw23.2.1 k0_h3
theorem k0_off106_inb : ∀ (v135 : BitVec 32) (v137 : BitVec 32) (v141 : BitVec 32) (v144 : BitVec 32) (v402 : BitVec 32) (k0_hw23 : k0_chk23 v135 v137 v141 v144 v402), ∀ (k0_h3 : k0_cond3 v135 v137 v141 v144 = 1#1), ∀ a, (k0_off106 v402) a + S1x512x256.size a ≤ S1x4096x1024.size a := fun v135 v137 v141 v144 v402 k0_hw23 k0_h3 => k0_hw23.2.2.1 k0_h3
theorem k0_off108_inb : ∀ (v135 : BitVec 32) (v137 : BitVec 32) (v141 : BitVec 32) (v144 : BitVec 32) (v402 : BitVec 32) (k0_hw23 : k0_chk23 v135 v137 v141 v144 v402), ∀ (k0_h3 : k0_cond3 v135 v137 v141 v144 = 1#1), ∀ a, (k0_off108 v402) a + S1x512x256.size a ≤ S1x4096x1024.size a := fun v135 v137 v141 v144 v402 k0_hw23 k0_h3 => k0_hw23.2.2.2.1 k0_h3
theorem k0_off110_inb : ∀ (v135 : BitVec 32) (v137 : BitVec 32) (v141 : BitVec 32) (v144 : BitVec 32) (v402 : BitVec 32) (k0_hw23 : k0_chk23 v135 v137 v141 v144 v402), ∀ (k0_h3 : k0_cond3 v135 v137 v141 v144 = 1#1), ∀ a, (k0_off110 v402) a + S1x512x256.size a ≤ S1x4096x1024.size a := fun v135 v137 v141 v144 v402 k0_hw23 k0_h3 => k0_hw23.2.2.2.2 k0_h3

def k0_off111 (k0_t1 : Fin k0_t1_loop.trips) : Fin 1 → Nat :=
  let c2_i32 : BitVec 32 := 2#32
  let c0_i32 : BitVec 32 := 0#32
  let c1_i32 : BitVec 32 := 1#32
  let arg37 : BitVec 32 := Scf.iv c0_i32 c1_i32 k0_t1
  let v133 : BitVec 32 := Scalar.muli c2_i32 arg37
  let c1_i32_283 : BitVec 32 := 1#32
  let v481 : BitVec 32 := Scalar.addi v133 c1_i32_283
  let v482 : Index := Scalar.indexCast v481
  ![v482.toNat]
def k0_mult24 (v483 : BitVec 32) : BitVec 32 :=
  let c512_i32_284 : BitVec 32 := 512#32
  let v484 : BitVec 32 := Scalar.muli v483 c512_i32_284
  v484

def k0_off112 (v483 : BitVec 32) : Fin 2 → Nat :=
  let c0_288 : Index := 0#32
  let c512_i32_284 : BitVec 32 := 512#32
  let v484 : BitVec 32 := Scalar.muli v483 c512_i32_284
  let v485 : BitVec 32 := v484
  let v490 : Index := Scalar.indexCast v485
  ![0, v490.toNat]
def k0_off113 (k0_t1 : Fin k0_t1_loop.trips) : Fin 1 → Nat :=
  let c2_i32 : BitVec 32 := 2#32
  let c0_i32 : BitVec 32 := 0#32
  let c1_i32 : BitVec 32 := 1#32
  let arg37 : BitVec 32 := Scf.iv c0_i32 c1_i32 k0_t1
  let v133 : BitVec 32 := Scalar.muli c2_i32 arg37
  let c1_i32_283 : BitVec 32 := 1#32
  let v481 : BitVec 32 := Scalar.addi v133 c1_i32_283
  let v531 : Index := Scalar.indexCast v481
  ![v531.toNat]
def k0_mult25 (v532 : BitVec 32) : BitVec 32 :=
  let c512_i32_310 : BitVec 32 := 512#32
  let v533 : BitVec 32 := Scalar.muli v532 c512_i32_310
  v533

def k0_off114 (v532 : BitVec 32) : Fin 3 → Nat :=
  let c0_311 : Index := 0#32
  let c512_i32_310 : BitVec 32 := 512#32
  let v533 : BitVec 32 := Scalar.muli v532 c512_i32_310
  let v534 : BitVec 32 := v533
  let v535 : Index := Scalar.indexCast v534
  let c0_312 : Index := 0#32
  ![0, v535.toNat, 0]

def k0_chk25 (v135 : BitVec 32) (v137 : BitVec 32) (v141 : BitVec 32) (v144 : BitVec 32) (v532 : BitVec 32) : Prop :=
  (∀ (k0_h3 : k0_cond3 v135 v137 v141 v144 = 1#1), 512 ∣ (k0_mult25 v532).toNat) ∧
  (∀ (k0_h3 : k0_cond3 v135 v137 v141 v144 = 1#1), ∀ a, (k0_off114 v532) a + S1x512x128.size a ≤ S1x4096x512.size a) ∧
  (∀ (k0_h3 : k0_cond3 v135 v137 v141 v144 = 1#1), ∀ (hinb : ∀ a, (k0_off114 v532) a + S1x512x128.size a ≤ S1x4096x512.size a), (Rect.unit (s := S1x4096x512) (k0_off114 v532) S1x512x128.size hinb).PackedRows (EltTy.packing .bf16))
theorem k0_mult25_dvd : ∀ (v135 : BitVec 32) (v137 : BitVec 32) (v141 : BitVec 32) (v144 : BitVec 32) (v532 : BitVec 32) (k0_hw25 : k0_chk25 v135 v137 v141 v144 v532), ∀ (k0_h3 : k0_cond3 v135 v137 v141 v144 = 1#1), 512 ∣ (k0_mult25 v532).toNat := fun v135 v137 v141 v144 v532 k0_hw25 k0_h3 => k0_hw25.1 k0_h3
theorem k0_off114_inb : ∀ (v135 : BitVec 32) (v137 : BitVec 32) (v141 : BitVec 32) (v144 : BitVec 32) (v532 : BitVec 32) (k0_hw25 : k0_chk25 v135 v137 v141 v144 v532), ∀ (k0_h3 : k0_cond3 v135 v137 v141 v144 = 1#1), ∀ a, (k0_off114 v532) a + S1x512x128.size a ≤ S1x4096x512.size a := fun v135 v137 v141 v144 v532 k0_hw25 k0_h3 => k0_hw25.2.1 k0_h3
theorem k0_off114_packedbf16 : ∀ (v135 : BitVec 32) (v137 : BitVec 32) (v141 : BitVec 32) (v144 : BitVec 32) (v532 : BitVec 32) (k0_hw25 : k0_chk25 v135 v137 v141 v144 v532), ∀ (k0_h3 : k0_cond3 v135 v137 v141 v144 = 1#1), (Rect.unit (s := S1x4096x512) (k0_off114 v532) S1x512x128.size (k0_off114_inb v135 v137 v141 v144 v532 k0_hw25 k0_h3)).PackedRows (EltTy.packing .bf16) := fun v135 v137 v141 v144 v532 k0_hw25 k0_h3 => k0_hw25.2.2 k0_h3 (k0_off114_inb v135 v137 v141 v144 v532 k0_hw25 k0_h3)

def k0_off115 (v483 : BitVec 32) : Fin 2 → Nat :=
  let c128_325 : Index := 128#32
  let c512_i32_284 : BitVec 32 := 512#32
  let v484 : BitVec 32 := Scalar.muli v483 c512_i32_284
  let v485 : BitVec 32 := v484
  let v555 : Index := Scalar.indexCast v485
  ![128, v555.toNat]
def k0_off116 (k0_t1 : Fin k0_t1_loop.trips) : Fin 1 → Nat :=
  let c2_i32 : BitVec 32 := 2#32
  let c0_i32 : BitVec 32 := 0#32
  let c1_i32 : BitVec 32 := 1#32
  let arg37 : BitVec 32 := Scf.iv c0_i32 c1_i32 k0_t1
  let v133 : BitVec 32 := Scalar.muli c2_i32 arg37
  let c1_i32_283 : BitVec 32 := 1#32
  let v481 : BitVec 32 := Scalar.addi v133 c1_i32_283
  let v596 : Index := Scalar.indexCast v481
  ![v596.toNat]
def k0_mult26 (v597 : BitVec 32) : BitVec 32 :=
  let c512_i32_347 : BitVec 32 := 512#32
  let v598 : BitVec 32 := Scalar.muli v597 c512_i32_347
  v598

def k0_off117 (v597 : BitVec 32) : Fin 3 → Nat :=
  let c0_348 : Index := 0#32
  let c512_i32_347 : BitVec 32 := 512#32
  let v598 : BitVec 32 := Scalar.muli v597 c512_i32_347
  let v599 : BitVec 32 := v598
  let v600 : Index := Scalar.indexCast v599
  let c128_349 : Index := 128#32
  ![0, v600.toNat, 128]

def k0_chk26 (v135 : BitVec 32) (v137 : BitVec 32) (v141 : BitVec 32) (v144 : BitVec 32) (v597 : BitVec 32) : Prop :=
  (∀ (k0_h3 : k0_cond3 v135 v137 v141 v144 = 1#1), 512 ∣ (k0_mult26 v597).toNat) ∧
  (∀ (k0_h3 : k0_cond3 v135 v137 v141 v144 = 1#1), ∀ a, (k0_off117 v597) a + S1x512x128.size a ≤ S1x4096x512.size a) ∧
  (∀ (k0_h3 : k0_cond3 v135 v137 v141 v144 = 1#1), ∀ (hinb : ∀ a, (k0_off117 v597) a + S1x512x128.size a ≤ S1x4096x512.size a), (Rect.unit (s := S1x4096x512) (k0_off117 v597) S1x512x128.size hinb).PackedRows (EltTy.packing .bf16))
theorem k0_mult26_dvd : ∀ (v135 : BitVec 32) (v137 : BitVec 32) (v141 : BitVec 32) (v144 : BitVec 32) (v597 : BitVec 32) (k0_hw26 : k0_chk26 v135 v137 v141 v144 v597), ∀ (k0_h3 : k0_cond3 v135 v137 v141 v144 = 1#1), 512 ∣ (k0_mult26 v597).toNat := fun v135 v137 v141 v144 v597 k0_hw26 k0_h3 => k0_hw26.1 k0_h3
theorem k0_off117_inb : ∀ (v135 : BitVec 32) (v137 : BitVec 32) (v141 : BitVec 32) (v144 : BitVec 32) (v597 : BitVec 32) (k0_hw26 : k0_chk26 v135 v137 v141 v144 v597), ∀ (k0_h3 : k0_cond3 v135 v137 v141 v144 = 1#1), ∀ a, (k0_off117 v597) a + S1x512x128.size a ≤ S1x4096x512.size a := fun v135 v137 v141 v144 v597 k0_hw26 k0_h3 => k0_hw26.2.1 k0_h3
theorem k0_off117_packedbf16 : ∀ (v135 : BitVec 32) (v137 : BitVec 32) (v141 : BitVec 32) (v144 : BitVec 32) (v597 : BitVec 32) (k0_hw26 : k0_chk26 v135 v137 v141 v144 v597), ∀ (k0_h3 : k0_cond3 v135 v137 v141 v144 = 1#1), (Rect.unit (s := S1x4096x512) (k0_off117 v597) S1x512x128.size (k0_off117_inb v135 v137 v141 v144 v597 k0_hw26 k0_h3)).PackedRows (EltTy.packing .bf16) := fun v135 v137 v141 v144 v597 k0_hw26 k0_h3 => k0_hw26.2.2 k0_h3 (k0_off117_inb v135 v137 v141 v144 v597 k0_hw26 k0_h3)

def k0_off118 (v483 : BitVec 32) : Fin 2 → Nat :=
  let c256_362 : Index := 256#32
  let c512_i32_284 : BitVec 32 := 512#32
  let v484 : BitVec 32 := Scalar.muli v483 c512_i32_284
  let v485 : BitVec 32 := v484
  let v620 : Index := Scalar.indexCast v485
  ![256, v620.toNat]
def k0_off119 (k0_t1 : Fin k0_t1_loop.trips) : Fin 1 → Nat :=
  let c2_i32 : BitVec 32 := 2#32
  let c0_i32 : BitVec 32 := 0#32
  let c1_i32 : BitVec 32 := 1#32
  let arg37 : BitVec 32 := Scf.iv c0_i32 c1_i32 k0_t1
  let v133 : BitVec 32 := Scalar.muli c2_i32 arg37
  let c1_i32_283 : BitVec 32 := 1#32
  let v481 : BitVec 32 := Scalar.addi v133 c1_i32_283
  let v661 : Index := Scalar.indexCast v481
  ![v661.toNat]
def k0_mult27 (v662 : BitVec 32) : BitVec 32 :=
  let c512_i32_384 : BitVec 32 := 512#32
  let v663 : BitVec 32 := Scalar.muli v662 c512_i32_384
  v663

def k0_off120 (v662 : BitVec 32) : Fin 3 → Nat :=
  let c0_385 : Index := 0#32
  let c512_i32_384 : BitVec 32 := 512#32
  let v663 : BitVec 32 := Scalar.muli v662 c512_i32_384
  let v664 : BitVec 32 := v663
  let v665 : Index := Scalar.indexCast v664
  let c256_386 : Index := 256#32
  ![0, v665.toNat, 256]

def k0_chk27 (v135 : BitVec 32) (v137 : BitVec 32) (v141 : BitVec 32) (v144 : BitVec 32) (v662 : BitVec 32) : Prop :=
  (∀ (k0_h3 : k0_cond3 v135 v137 v141 v144 = 1#1), 512 ∣ (k0_mult27 v662).toNat) ∧
  (∀ (k0_h3 : k0_cond3 v135 v137 v141 v144 = 1#1), ∀ a, (k0_off120 v662) a + S1x512x128.size a ≤ S1x4096x512.size a) ∧
  (∀ (k0_h3 : k0_cond3 v135 v137 v141 v144 = 1#1), ∀ (hinb : ∀ a, (k0_off120 v662) a + S1x512x128.size a ≤ S1x4096x512.size a), (Rect.unit (s := S1x4096x512) (k0_off120 v662) S1x512x128.size hinb).PackedRows (EltTy.packing .bf16))
theorem k0_mult27_dvd : ∀ (v135 : BitVec 32) (v137 : BitVec 32) (v141 : BitVec 32) (v144 : BitVec 32) (v662 : BitVec 32) (k0_hw27 : k0_chk27 v135 v137 v141 v144 v662), ∀ (k0_h3 : k0_cond3 v135 v137 v141 v144 = 1#1), 512 ∣ (k0_mult27 v662).toNat := fun v135 v137 v141 v144 v662 k0_hw27 k0_h3 => k0_hw27.1 k0_h3
theorem k0_off120_inb : ∀ (v135 : BitVec 32) (v137 : BitVec 32) (v141 : BitVec 32) (v144 : BitVec 32) (v662 : BitVec 32) (k0_hw27 : k0_chk27 v135 v137 v141 v144 v662), ∀ (k0_h3 : k0_cond3 v135 v137 v141 v144 = 1#1), ∀ a, (k0_off120 v662) a + S1x512x128.size a ≤ S1x4096x512.size a := fun v135 v137 v141 v144 v662 k0_hw27 k0_h3 => k0_hw27.2.1 k0_h3
theorem k0_off120_packedbf16 : ∀ (v135 : BitVec 32) (v137 : BitVec 32) (v141 : BitVec 32) (v144 : BitVec 32) (v662 : BitVec 32) (k0_hw27 : k0_chk27 v135 v137 v141 v144 v662), ∀ (k0_h3 : k0_cond3 v135 v137 v141 v144 = 1#1), (Rect.unit (s := S1x4096x512) (k0_off120 v662) S1x512x128.size (k0_off120_inb v135 v137 v141 v144 v662 k0_hw27 k0_h3)).PackedRows (EltTy.packing .bf16) := fun v135 v137 v141 v144 v662 k0_hw27 k0_h3 => k0_hw27.2.2 k0_h3 (k0_off120_inb v135 v137 v141 v144 v662 k0_hw27 k0_h3)

def k0_off121 (v483 : BitVec 32) : Fin 2 → Nat :=
  let c384_399 : Index := 384#32
  let c512_i32_284 : BitVec 32 := 512#32
  let v484 : BitVec 32 := Scalar.muli v483 c512_i32_284
  let v485 : BitVec 32 := v484
  let v685 : Index := Scalar.indexCast v485
  ![384, v685.toNat]

def k0_chk24 (v135 : BitVec 32) (v137 : BitVec 32) (v141 : BitVec 32) (v144 : BitVec 32) (v483 : BitVec 32) : Prop :=
  (∀ (k0_h3 : k0_cond3 v135 v137 v141 v144 = 1#1), 512 ∣ (k0_mult24 v483).toNat) ∧
  (∀ (k0_h3 : k0_cond3 v135 v137 v141 v144 = 1#1), ∀ a, (k0_off112 v483) a + S128x512.size a ≤ S512x4096.size a) ∧
  (∀ (k0_h3 : k0_cond3 v135 v137 v141 v144 = 1#1), ∀ a, (k0_off115 v483) a + S128x512.size a ≤ S512x4096.size a) ∧
  (∀ (k0_h3 : k0_cond3 v135 v137 v141 v144 = 1#1), ∀ a, (k0_off118 v483) a + S128x512.size a ≤ S512x4096.size a) ∧
  (∀ (k0_h3 : k0_cond3 v135 v137 v141 v144 = 1#1), ∀ a, (k0_off121 v483) a + S128x512.size a ≤ S512x4096.size a)
theorem k0_mult24_dvd : ∀ (v135 : BitVec 32) (v137 : BitVec 32) (v141 : BitVec 32) (v144 : BitVec 32) (v483 : BitVec 32) (k0_hw24 : k0_chk24 v135 v137 v141 v144 v483), ∀ (k0_h3 : k0_cond3 v135 v137 v141 v144 = 1#1), 512 ∣ (k0_mult24 v483).toNat := fun v135 v137 v141 v144 v483 k0_hw24 k0_h3 => k0_hw24.1 k0_h3
theorem k0_off112_inb : ∀ (v135 : BitVec 32) (v137 : BitVec 32) (v141 : BitVec 32) (v144 : BitVec 32) (v483 : BitVec 32) (k0_hw24 : k0_chk24 v135 v137 v141 v144 v483), ∀ (k0_h3 : k0_cond3 v135 v137 v141 v144 = 1#1), ∀ a, (k0_off112 v483) a + S128x512.size a ≤ S512x4096.size a := fun v135 v137 v141 v144 v483 k0_hw24 k0_h3 => k0_hw24.2.1 k0_h3
theorem k0_off115_inb : ∀ (v135 : BitVec 32) (v137 : BitVec 32) (v141 : BitVec 32) (v144 : BitVec 32) (v483 : BitVec 32) (k0_hw24 : k0_chk24 v135 v137 v141 v144 v483), ∀ (k0_h3 : k0_cond3 v135 v137 v141 v144 = 1#1), ∀ a, (k0_off115 v483) a + S128x512.size a ≤ S512x4096.size a := fun v135 v137 v141 v144 v483 k0_hw24 k0_h3 => k0_hw24.2.2.1 k0_h3
theorem k0_off118_inb : ∀ (v135 : BitVec 32) (v137 : BitVec 32) (v141 : BitVec 32) (v144 : BitVec 32) (v483 : BitVec 32) (k0_hw24 : k0_chk24 v135 v137 v141 v144 v483), ∀ (k0_h3 : k0_cond3 v135 v137 v141 v144 = 1#1), ∀ a, (k0_off118 v483) a + S128x512.size a ≤ S512x4096.size a := fun v135 v137 v141 v144 v483 k0_hw24 k0_h3 => k0_hw24.2.2.2.1 k0_h3
theorem k0_off121_inb : ∀ (v135 : BitVec 32) (v137 : BitVec 32) (v141 : BitVec 32) (v144 : BitVec 32) (v483 : BitVec 32) (k0_hw24 : k0_chk24 v135 v137 v141 v144 v483), ∀ (k0_h3 : k0_cond3 v135 v137 v141 v144 = 1#1), ∀ a, (k0_off121 v483) a + S128x512.size a ≤ S512x4096.size a := fun v135 v137 v141 v144 v483 k0_hw24 k0_h3 => k0_hw24.2.2.2.2 k0_h3

def k0_off122 (k0_t1 : Fin k0_t1_loop.trips) : Fin 1 → Nat :=
  let c2_i32 : BitVec 32 := 2#32
  let c0_i32 : BitVec 32 := 0#32
  let c1_i32 : BitVec 32 := 1#32
  let arg37 : BitVec 32 := Scf.iv c0_i32 c1_i32 k0_t1
  let v133 : BitVec 32 := Scalar.muli c2_i32 arg37
  let c1_i32_283 : BitVec 32 := 1#32
  let v481 : BitVec 32 := Scalar.addi v133 c1_i32_283
  let v726 : Index := Scalar.indexCast v481
  ![v726.toNat]
def k0_mult28 (v727 : BitVec 32) : BitVec 32 :=
  let c512_i32_421 : BitVec 32 := 512#32
  let v728 : BitVec 32 := Scalar.muli v727 c512_i32_421
  v728

def k0_off123 (v727 : BitVec 32) : Fin 3 → Nat :=
  let c0_422 : Index := 0#32
  let c512_i32_421 : BitVec 32 := 512#32
  let v728 : BitVec 32 := Scalar.muli v727 c512_i32_421
  let v729 : BitVec 32 := v728
  let v730 : Index := Scalar.indexCast v729
  let c384_423 : Index := 384#32
  ![0, v730.toNat, 384]

def k0_chk28 (v135 : BitVec 32) (v137 : BitVec 32) (v141 : BitVec 32) (v144 : BitVec 32) (v727 : BitVec 32) : Prop :=
  (∀ (k0_h3 : k0_cond3 v135 v137 v141 v144 = 1#1), 512 ∣ (k0_mult28 v727).toNat) ∧
  (∀ (k0_h3 : k0_cond3 v135 v137 v141 v144 = 1#1), ∀ a, (k0_off123 v727) a + S1x512x128.size a ≤ S1x4096x512.size a) ∧
  (∀ (k0_h3 : k0_cond3 v135 v137 v141 v144 = 1#1), ∀ (hinb : ∀ a, (k0_off123 v727) a + S1x512x128.size a ≤ S1x4096x512.size a), (Rect.unit (s := S1x4096x512) (k0_off123 v727) S1x512x128.size hinb).PackedRows (EltTy.packing .bf16))
theorem k0_mult28_dvd : ∀ (v135 : BitVec 32) (v137 : BitVec 32) (v141 : BitVec 32) (v144 : BitVec 32) (v727 : BitVec 32) (k0_hw28 : k0_chk28 v135 v137 v141 v144 v727), ∀ (k0_h3 : k0_cond3 v135 v137 v141 v144 = 1#1), 512 ∣ (k0_mult28 v727).toNat := fun v135 v137 v141 v144 v727 k0_hw28 k0_h3 => k0_hw28.1 k0_h3
theorem k0_off123_inb : ∀ (v135 : BitVec 32) (v137 : BitVec 32) (v141 : BitVec 32) (v144 : BitVec 32) (v727 : BitVec 32) (k0_hw28 : k0_chk28 v135 v137 v141 v144 v727), ∀ (k0_h3 : k0_cond3 v135 v137 v141 v144 = 1#1), ∀ a, (k0_off123 v727) a + S1x512x128.size a ≤ S1x4096x512.size a := fun v135 v137 v141 v144 v727 k0_hw28 k0_h3 => k0_hw28.2.1 k0_h3
theorem k0_off123_packedbf16 : ∀ (v135 : BitVec 32) (v137 : BitVec 32) (v141 : BitVec 32) (v144 : BitVec 32) (v727 : BitVec 32) (k0_hw28 : k0_chk28 v135 v137 v141 v144 v727), ∀ (k0_h3 : k0_cond3 v135 v137 v141 v144 = 1#1), (Rect.unit (s := S1x4096x512) (k0_off123 v727) S1x512x128.size (k0_off123_inb v135 v137 v141 v144 v727 k0_hw28 k0_h3)).PackedRows (EltTy.packing .bf16) := fun v135 v137 v141 v144 v727 k0_hw28 k0_h3 => k0_hw28.2.2 k0_h3 (k0_off123_inb v135 v137 v141 v144 v727 k0_hw28 k0_h3)

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .smem S37 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .smem S37 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x4096x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x4096x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x4096x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x4096x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== KernelIdeal.lean ====
variable {F : FTy → Type} [FloatOps F] [Named F]
def κ : String → Option EReal := fun
  | "mask" => some ⊥
  | "scale_log2e" => some (((Real.sqrt 192)⁻¹ * (Real.log 2)⁻¹ : ℝ) : EReal)
  | _ => none
-- ==== ReferenceIdeal.lean ====
abbrev S8x4096x4096 : Shape := ⟨3, ![8, 4096, 4096]⟩
abbrev S8x4096x2048 : Shape := ⟨3, ![8, 4096, 2048]⟩
abbrev S8x4096x128 : Shape := ⟨3, ![8, 4096, 128]⟩
abbrev S2048x32768 : Shape := ⟨2, ![2048, 32768]⟩
abbrev S4096 : Shape := ⟨1, ![4096]⟩
abbrev S8x4096x16x256 : Shape := ⟨4, ![8, 4096, 16, 256]⟩
abbrev S8x4096x16x128 : Shape := ⟨4, ![8, 4096, 16, 128]⟩
abbrev S16x128x8x4096 : Shape := ⟨4, ![16, 128, 8, 4096]⟩
abbrev S8x16x4096x4096 : Shape := ⟨4, ![8, 16, 4096, 4096]⟩
abbrev S8x4096x4096x16 : Shape := ⟨4, ![8, 4096, 4096, 16]⟩
abbrev S_ : Shape := ⟨0, ![]⟩
abbrev S1x4096 : Shape := ⟨2, ![1, 4096]⟩
abbrev S4096x1 : Shape := ⟨2, ![4096, 1]⟩
abbrev S4096x4096 : Shape := ⟨2, ![4096, 4096]⟩
abbrev S8x16x4096 : Shape := ⟨3, ![8, 16, 4096]⟩
abbrev S8x16x4096x1 : Shape := ⟨4, ![8, 16, 4096, 1]⟩
abbrev S8x16x128x4096 : Shape := ⟨4, ![8, 16, 128, 4096]⟩

abbrev nBuf : Space → Nat
  | .hbm => 52
  | .vmem => 0
  | .smem => 0
  | _ => 0

abbrev bufTy : (tb : Table) → Fin (tcTables nBuf tb) → BufTy
  | .hbm, ⟨0, _⟩ => ⟨S8x4096x4096, .bf16⟩
  | .hbm, ⟨1, _⟩ => ⟨S8x4096x2048, .bf16⟩
  | .hbm, ⟨2, _⟩ => ⟨S8x4096x128, .bf16⟩
  | .hbm, ⟨3, _⟩ => ⟨S2048x32768, .bf16⟩
  | .hbm, ⟨4, _⟩ => ⟨S4096, .i32⟩
  | .hbm, ⟨5, _⟩ => ⟨S8x4096x16x256, .bf16⟩
  | .hbm, ⟨6, _⟩ => ⟨S8x4096x16x128, .bf16⟩
  | .hbm, ⟨7, _⟩ => ⟨S8x4096x16x128, .bf16⟩
  | .hbm, ⟨8, _⟩ => ⟨S8x4096x16x128, .bf16⟩
  | .hbm, ⟨9, _⟩ => ⟨S16x128x8x4096, .bf16⟩
  | .hbm, ⟨10, _⟩ => ⟨S8x16x4096x4096, .f32⟩
  | .hbm, ⟨11, _⟩ => ⟨S8x4096x4096x16, .f32⟩
  | .hbm, ⟨12, _⟩ => ⟨S8x16x4096x4096, .f32⟩
  | .hbm, ⟨13, _⟩ => ⟨S8x16x4096x4096, .f32⟩
  | .hbm, ⟨14, _⟩ => ⟨S_, .f32⟩
  | .hbm, ⟨15, _⟩ => ⟨S_, .f32⟩
  | .hbm, ⟨16, _⟩ => ⟨S8x16x4096x4096, .f32⟩
  | .hbm, ⟨17, _⟩ => ⟨S8x16x4096x4096, .f32⟩
  | .hbm, ⟨18, _⟩ => ⟨S1x4096, .i32⟩
  | .hbm, ⟨19, _⟩ => ⟨S4096x1, .i32⟩
  | .hbm, ⟨20, _⟩ => ⟨S4096x4096, .i32⟩
  | .hbm, ⟨21, _⟩ => ⟨S4096x4096, .i32⟩
  | .hbm, ⟨22, _⟩ => ⟨S4096x4096, .i1⟩
  | .hbm, ⟨23, _⟩ => ⟨S_, .f32⟩
  | .hbm, ⟨24, _⟩ => ⟨S_, .f32⟩
  | .hbm, ⟨25, _⟩ => ⟨S8x16x4096x4096, .i1⟩
  | .hbm, ⟨26, _⟩ => ⟨S8x16x4096x4096, .f32⟩
  | .hbm, ⟨27, _⟩ => ⟨S8x16x4096x4096, .f32⟩
  | .hbm, ⟨28, _⟩ => ⟨S_, .f32⟩
  | .hbm, ⟨29, _⟩ => ⟨S8x16x4096, .f32⟩
  | .hbm, ⟨30, _⟩ => ⟨S_, .f32⟩
  | .hbm, ⟨31, _⟩ => ⟨S8x16x4096, .f32⟩
  | .hbm, ⟨32, _⟩ => ⟨S8x16x4096, .f32⟩
  | .hbm, ⟨33, _⟩ => ⟨S8x16x4096x1, .f32⟩
  | .hbm, ⟨34, _⟩ => ⟨S8x16x4096x4096, .f32⟩
  | .hbm, ⟨35, _⟩ => ⟨S8x16x4096x4096, .f32⟩
  | .hbm, ⟨36, _⟩ => ⟨S8x16x4096x4096, .f32⟩
  | .hbm, ⟨37, _⟩ => ⟨S_, .f32⟩
  | .hbm, ⟨38, _⟩ => ⟨S8x16x4096, .f32⟩
  | .hbm, ⟨39, _⟩ => ⟨S8x16x4096x1, .f32⟩
  | .hbm, ⟨40, _⟩ => ⟨S8x16x4096x4096, .f32⟩
  | .hbm, ⟨41, _⟩ => ⟨S8x16x4096x4096, .f32⟩
  | .hbm, ⟨42, _⟩ => ⟨S_, .f32⟩
  | .hbm, ⟨43, _⟩ => ⟨S_, .f32⟩
  | .hbm, ⟨44, _⟩ => ⟨S8x16x4096x4096, .i1⟩
  | .hbm, ⟨45, _⟩ => ⟨S8x16x4096x4096, .f32⟩
  | .hbm, ⟨46, _⟩ => ⟨S8x16x4096x4096, .f32⟩
  | .hbm, ⟨47, _⟩ => ⟨S8x16x4096x4096, .bf16⟩
  | .hbm, ⟨48, _⟩ => ⟨S8x16x128x4096, .f32⟩
  | .hbm, ⟨49, _⟩ => ⟨S8x4096x16x128, .f32⟩
  | .hbm, ⟨50, _⟩ => ⟨S8x4096x16x128, .bf16⟩
  | .hbm, ⟨51, _⟩ => ⟨S8x4096x2048, .bf16⟩
  | _, _ => ⟨S8x4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst_0 : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_v18 : Ref sig .tc := ⟨.hbm, 27, rfl⟩
abbrev main_cst_1 : Ref sig .tc := ⟨.hbm, 28, rfl⟩
abbrev main_v19 : Ref sig .tc := ⟨.hbm, 29, rfl⟩
abbrev main_cst_2 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_3 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_4 : Ref sig .tc := ⟨.hbm, 42, rfl⟩
abbrev main_call1_v0 : Ref sig .tc := ⟨.hbm, 43, rfl⟩
abbrev main_call1_v1 : Ref sig .tc := ⟨.hbm, 44, rfl⟩
abbrev main_call1_v2 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩

abbrev nD : Nat := 1
abbrev τ : Topo := Topo.v7x

variable {F : FTy → Type} [FloatOps F]
-- ==== Kernel2.lean ====
abbrev S32768x2048 : Shape := ⟨2, ![32768, 2048]⟩
abbrev S32768x4096 : Shape := ⟨2, ![32768, 4096]⟩
abbrev S2048x2048 : Shape := ⟨2, ![2048, 2048]⟩
abbrev S2048 : Shape := ⟨1, ![2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 7
  | .vmem => 10
  | .smem => 0
  | _ => 0

abbrev bufTy : (tb : Table) → Fin (tcTables nBuf tb) → BufTy
  | .hbm, ⟨0, _⟩ => ⟨S32768x2048, .f32⟩
  | .hbm, ⟨1, _⟩ => ⟨S32768x2048, .bf16⟩
  | .hbm, ⟨2, _⟩ => ⟨S32768x4096, .f32⟩
  | .hbm, ⟨3, _⟩ => ⟨S2048x2048, .bf16⟩
  | .hbm, ⟨4, _⟩ => ⟨S2048, .f32⟩
  | .hbm, ⟨5, _⟩ => ⟨S1x2048, .f32⟩
  | .hbm, ⟨6, _⟩ => ⟨S32768x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .bf16⟩
  | .local _ .vmem, ⟨3, _⟩ => ⟨S512x2048, .bf16⟩
  | .local _ .vmem, ⟨4, _⟩ => ⟨S512x2048, .f32⟩
  | .local _ .vmem, ⟨5, _⟩ => ⟨S512x2048, .f32⟩
  | .local _ .vmem, ⟨6, _⟩ => ⟨S2048x2048, .bf16⟩
  | .local _ .vmem, ⟨7, _⟩ => ⟨S1x2048, .f32⟩
  | .local _ .vmem, ⟨8, _⟩ => ⟨S512x2048, .f32⟩
  | .local _ .vmem, ⟨9, _⟩ => ⟨S512x2048, .f32⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference2Ideal.lean ====
abbrev S32768x2048 : Shape := ⟨2, ![32768, 2048]⟩
abbrev S32768x4096 : Shape := ⟨2, ![32768, 4096]⟩
abbrev S2048x2048 : Shape := ⟨2, ![2048, 2048]⟩
abbrev S2048 : Shape := ⟨1, ![2048]⟩
abbrev S_ : Shape := ⟨0, ![]⟩
abbrev S32768 : Shape := ⟨1, ![32768]⟩
abbrev S32768x1 : Shape := ⟨2, ![32768, 1]⟩
abbrev S1x2048 : Shape := ⟨2, ![1, 2048]⟩

abbrev nBuf : Space → Nat
  | .hbm => 36
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S32768x2048, .bf16⟩
  | .hbm, ⟨2, _⟩ => ⟨S32768x4096, .f32⟩
  | .hbm, ⟨3, _⟩ => ⟨S2048x2048, .bf16⟩
  | .hbm, ⟨4, _⟩ => ⟨S2048, .f32⟩
  | .hbm, ⟨5, _⟩ => ⟨S32768x2048, .f32⟩
  | .hbm, ⟨6, _⟩ => ⟨S32768x2048, .f32⟩
  | .hbm, ⟨7, _⟩ => ⟨S32768x2048, .f32⟩
  | .hbm, ⟨8, _⟩ => ⟨S_, .f32⟩
  | .hbm, ⟨9, _⟩ => ⟨S32768x2048, .f32⟩
  | .hbm, ⟨10, _⟩ => ⟨S32768x2048, .f32⟩
  | .hbm, ⟨11, _⟩ => ⟨S_, .f32⟩
  | .hbm, ⟨12, _⟩ => ⟨S32768x2048, .f32⟩
  | .hbm, ⟨13, _⟩ => ⟨S32768x2048, .f32⟩
  | .hbm, ⟨14, _⟩ => ⟨S32768x2048, .f32⟩
  | .hbm, ⟨15, _⟩ => ⟨S32768x2048, .f32⟩
  | .hbm, ⟨16, _⟩ => ⟨S32768x2048, .f32⟩
  | .hbm, ⟨17, _⟩ => ⟨S32768x2048, .bf16⟩
  | .hbm, ⟨18, _⟩ => ⟨S32768x2048, .f32⟩
  | .hbm, ⟨19, _⟩ => ⟨S32768x2048, .f32⟩
  | .hbm, ⟨20, _⟩ => ⟨S32768x2048, .f32⟩
  | .hbm, ⟨21, _⟩ => ⟨S_, .f32⟩
  | .hbm, ⟨22, _⟩ => ⟨S32768, .f32⟩
  | .hbm, ⟨23, _⟩ => ⟨S32768x1, .f32⟩
  | .hbm, ⟨24, _⟩ => ⟨S_, .f32⟩
  | .hbm, ⟨25, _⟩ => ⟨S32768x1, .f32⟩
  | .hbm, ⟨26, _⟩ => ⟨S32768x1, .f32⟩
  | .hbm, ⟨27, _⟩ => ⟨S_, .f32⟩
  | .hbm, ⟨28, _⟩ => ⟨S32768x1, .f32⟩
  | .hbm, ⟨29, _⟩ => ⟨S32768x1, .f32⟩
  | .hbm, ⟨30, _⟩ => ⟨S32768x1, .f32⟩
  | .hbm, ⟨31, _⟩ => ⟨S32768x2048, .f32⟩
  | .hbm, ⟨32, _⟩ => ⟨S32768x2048, .f32⟩
  | .hbm, ⟨33, _⟩ => ⟨S1x2048, .f32⟩
  | .hbm, ⟨34, _⟩ => ⟨S32768x2048, .f32⟩
  | .hbm, ⟨35, _⟩ => ⟨S32768x2048, .f32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst : Ref sig .tc := ⟨.hbm, 21, rfl⟩
abbrev main_v8 : Ref sig .tc := ⟨.hbm, 22, rfl⟩
abbrev main_v9 : Ref sig .tc := ⟨.hbm, 23, rfl⟩
abbrev main_cst_0 : Ref sig .tc := ⟨.hbm, 24, rfl⟩
abbrev main_v10 : Ref sig .tc := ⟨.hbm, 25, rfl⟩
abbrev main_v11 : Ref sig .tc := ⟨.hbm, 26, rfl⟩
abbrev main_cst_1 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩

abbrev nD : Nat := 1
abbrev τ : Topo := Topo.v7x

variable {F : FTy → Type} [FloatOps F]
-- ==== Kernel3.lean ====
abbrev S32768x2048 : Shape := ⟨2, ![32768, 2048]⟩
abbrev S2048x4608 : Shape := ⟨2, ![2048, 4608]⟩
abbrev S32768x4608 : Shape := ⟨2, ![32768, 4608]⟩
abbrev S1024x2048 : Shape := ⟨2, ![1024, 2048]⟩
abbrev S2048x1536 : Shape := ⟨2, ![2048, 1536]⟩
abbrev S1024x1536 : Shape := ⟨2, ![1024, 1536]⟩

abbrev nBuf : Space → Nat
  | .hbm => 3
  | .vmem => 6
  | .smem => 0
  | _ => 0

abbrev bufTy : (tb : Table) → Fin (tcTables nBuf tb) → BufTy
  | .hbm, ⟨0, _⟩ => ⟨S32768x2048, .bf16⟩
  | .hbm, ⟨1, _⟩ => ⟨S2048x4608, .bf16⟩
  | .hbm, ⟨2, _⟩ => ⟨S32768x4608, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1536, .bf16⟩
  | .local _ .vmem, ⟨3, _⟩ => ⟨S2048x1536, .bf16⟩
  | .local _ .vmem, ⟨4, _⟩ => ⟨S1024x1536, .bf16⟩
  | .local _ .vmem, ⟨5, _⟩ => ⟨S1024x1536, .bf16⟩
  | _, _ => ⟨S32768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![32, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference3Ideal.lean ====
abbrev S32768x2048 : Shape := ⟨2, ![32768, 2048]⟩
abbrev S2048x4608 : Shape := ⟨2, ![2048, 4608]⟩
abbrev S32768x4608 : Shape := ⟨2, ![32768, 4608]⟩

abbrev nBuf : Space → Nat
  | .hbm => 4
  | .vmem => 0
  | .smem => 0
  | _ => 0

abbrev bufTy : (tb : Table) → Fin (tcTables nBuf tb) → BufTy
  | .hbm, ⟨0, _⟩ => ⟨S32768x2048, .bf16⟩
  | .hbm, ⟨1, _⟩ => ⟨S2048x4608, .bf16⟩
  | .hbm, ⟨2, _⟩ => ⟨S32768x4608, .f32⟩
  | .hbm, ⟨3, _⟩ => ⟨S32768x4608, .bf16⟩
  | _, _ => ⟨S32768x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel4.lean ====
abbrev S32768x2048 : Shape := ⟨2, ![32768, 2048]⟩
abbrev S2048x4096 : Shape := ⟨2, ![2048, 4096]⟩
abbrev S32768x4096 : Shape := ⟨2, ![32768, 4096]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S32768x2048, .bf16⟩
  | .hbm, ⟨1, _⟩ => ⟨S2048x4096, .bf16⟩
  | .hbm, ⟨2, _⟩ => ⟨S32768x4096, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S32768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![32, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference4Ideal.lean ====
abbrev S32768x2048 : Shape := ⟨2, ![32768, 2048]⟩
abbrev S2048x4096 : Shape := ⟨2, ![2048, 4096]⟩
abbrev S32768x4096 : Shape := ⟨2, ![32768, 4096]⟩

abbrev nBuf : Space → Nat
  | .hbm => 3
  | .vmem => 0
  | .smem => 0
  | _ => 0

abbrev bufTy : (tb : Table) → Fin (tcTables nBuf tb) → BufTy
  | .hbm, ⟨0, _⟩ => ⟨S32768x2048, .bf16⟩
  | .hbm, ⟨1, _⟩ => ⟨S2048x4096, .bf16⟩
  | .hbm, ⟨2, _⟩ => ⟨S32768x4096, .f32⟩
  | _, _ => ⟨S32768x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel5.lean ====
abbrev S32768x2048 : Shape := ⟨2, ![32768, 2048]⟩
abbrev S2048x2304 : Shape := ⟨2, ![2048, 2304]⟩
abbrev S32768x2304 : Shape := ⟨2, ![32768, 2304]⟩
abbrev S1024x2048 : Shape := ⟨2, ![1024, 2048]⟩
abbrev S2048x768 : Shape := ⟨2, ![2048, 768]⟩
abbrev S1024x768 : Shape := ⟨2, ![1024, 768]⟩

abbrev nBuf : Space → Nat
  | .hbm => 3
  | .vmem => 6
  | .smem => 0
  | _ => 0

abbrev bufTy : (tb : Table) → Fin (tcTables nBuf tb) → BufTy
  | .hbm, ⟨0, _⟩ => ⟨S32768x2048, .bf16⟩
  | .hbm, ⟨1, _⟩ => ⟨S2048x2304, .bf16⟩
  | .hbm, ⟨2, _⟩ => ⟨S32768x2304, .f32⟩
  | .local _ .vmem, ⟨0, _⟩ => ⟨S1024x2048, .bf16⟩
  | .local _ .vmem, ⟨1, _⟩ => ⟨S1024x2048, .bf16⟩
  | .local _ .vmem, ⟨2, _⟩ => ⟨S2048x768, .bf16⟩
  | .local _ .vmem, ⟨3, _⟩ => ⟨S2048x768, .bf16⟩
  | .local _ .vmem, ⟨4, _⟩ => ⟨S1024x768, .f32⟩
  | .local _ .vmem, ⟨5, _⟩ => ⟨S1024x768, .f32⟩
  | _, _ => ⟨S32768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![32, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference5Ideal.lean ====
abbrev S32768x2048 : Shape := ⟨2, ![32768, 2048]⟩
abbrev S2048x2304 : Shape := ⟨2, ![2048, 2304]⟩
abbrev S32768x2304 : Shape := ⟨2, ![32768, 2304]⟩

abbrev nBuf : Space → Nat
  | .hbm => 3
  | .vmem => 0
  | .smem => 0
  | _ => 0

abbrev bufTy : (tb : Table) → Fin (tcTables nBuf tb) → BufTy
  | .hbm, ⟨0, _⟩ => ⟨S32768x2048, .bf16⟩
  | .hbm, ⟨1, _⟩ => ⟨S2048x2304, .bf16⟩
  | .hbm, ⟨2, _⟩ => ⟨S32768x2304, .f32⟩
  | _, _ => ⟨S32768x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel6.lean ====
abbrev S32768x2048 : Shape := ⟨2, ![32768, 2048]⟩
abbrev S2048x1536 : Shape := ⟨2, ![2048, 1536]⟩
abbrev S32768x1536 : Shape := ⟨2, ![32768, 1536]⟩
abbrev S1024x2048 : Shape := ⟨2, ![1024, 2048]⟩
abbrev S1024x1536 : Shape := ⟨2, ![1024, 1536]⟩

abbrev nBuf : Space → Nat
  | .hbm => 3
  | .vmem => 5
  | .smem => 0
  | _ => 0

abbrev bufTy : (tb : Table) → Fin (tcTables nBuf tb) → BufTy
  | .hbm, ⟨0, _⟩ => ⟨S32768x2048, .bf16⟩
  | .hbm, ⟨1, _⟩ => ⟨S2048x1536, .bf16⟩
  | .hbm, ⟨2, _⟩ => ⟨S32768x1536, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1536, .bf16⟩
  | .local _ .vmem, ⟨3, _⟩ => ⟨S1024x1536, .bf16⟩
  | .local _ .vmem, ⟨4, _⟩ => ⟨S1024x1536, .bf16⟩
  | _, _ => ⟨S32768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![32, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference6Ideal.lean ====
abbrev S32768x2048 : Shape := ⟨2, ![32768, 2048]⟩
abbrev S2048x1536 : Shape := ⟨2, ![2048, 1536]⟩
abbrev S32768x1536 : Shape := ⟨2, ![32768, 1536]⟩

abbrev nBuf : Space → Nat
  | .hbm => 4
  | .vmem => 0
  | .smem => 0
  | _ => 0

abbrev bufTy : (tb : Table) → Fin (tcTables nBuf tb) → BufTy
  | .hbm, ⟨0, _⟩ => ⟨S32768x2048, .bf16⟩
  | .hbm, ⟨1, _⟩ => ⟨S2048x1536, .bf16⟩
  | .hbm, ⟨2, _⟩ => ⟨S32768x1536, .f32⟩
  | .hbm, ⟨3, _⟩ => ⟨S32768x1536, .bf16⟩
  | _, _ => ⟨S32768x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel7.lean ====
abbrev S512x2048 : Shape := ⟨2, ![512, 2048]⟩
abbrev S32768x2048 : Shape := ⟨2, ![32768, 2048]⟩
abbrev S512x32768 : Shape := ⟨2, ![512, 32768]⟩
abbrev S1024x2048 : Shape := ⟨2, ![1024, 2048]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S512x2048, .bf16⟩
  | .hbm, ⟨1, _⟩ => ⟨S32768x2048, .bf16⟩
  | .hbm, ⟨2, _⟩ => ⟨S512x32768, .bf16⟩
  | .local _ .vmem, ⟨0, _⟩ => ⟨S512x2048, .bf16⟩
  | .local _ .vmem, ⟨1, _⟩ => ⟨S1024x2048, .bf16⟩
  | .local _ .vmem, ⟨2, _⟩ => ⟨S1024x2048, .bf16⟩
  | .local _ .vmem, ⟨3, _⟩ => ⟨S512x1024, .bf16⟩
  | .local _ .vmem, ⟨4, _⟩ => ⟨S512x1024, .bf16⟩
  | _, _ => ⟨S512x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![32, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .vmem S512x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference7Ideal.lean ====
abbrev S512x2048 : Shape := ⟨2, ![512, 2048]⟩
abbrev S32768x2048 : Shape := ⟨2, ![32768, 2048]⟩
abbrev S512x32768 : Shape := ⟨2, ![512, 32768]⟩

abbrev nBuf : Space → Nat
  | .hbm => 4
  | .vmem => 0
  | .smem => 0
  | _ => 0

abbrev bufTy : (tb : Table) → Fin (tcTables nBuf tb) → BufTy
  | .hbm, ⟨0, _⟩ => ⟨S512x2048, .bf16⟩
  | .hbm, ⟨1, _⟩ => ⟨S32768x2048, .bf16⟩
  | .hbm, ⟨2, _⟩ => ⟨S512x32768, .f32⟩
  | .hbm, ⟨3, _⟩ => ⟨S512x32768, .bf16⟩
  | _, _ => ⟨S512x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel8.lean ====
abbrev S32768x2048 : Shape := ⟨2, ![32768, 2048]⟩
abbrev S32768x1024 : Shape := ⟨2, ![32768, 1024]⟩
abbrev S32768x512 : Shape := ⟨2, ![32768, 512]⟩
abbrev S32768x2304 : Shape := ⟨2, ![32768, 2304]⟩
abbrev S1536x2048 : Shape := ⟨2, ![1536, 2048]⟩
abbrev S2048 : Shape := ⟨1, ![2048]⟩
abbrev S1024x2048 : Shape := ⟨2, ![1024, 2048]⟩
abbrev S512x2048 : Shape := ⟨2, ![512, 2048]⟩
abbrev S1x2048 : Shape := ⟨2, ![1, 2048]⟩
abbrev S512x1024 : Shape := ⟨2, ![512, 1024]⟩
abbrev S512x512 : Shape := ⟨2, ![512, 512]⟩
abbrev S512 : Shape := ⟨1, ![512]⟩
abbrev S512x1 : Shape := ⟨2, ![512, 1]⟩

abbrev nBuf : Space → Nat
  | .hbm => 11
  | .vmem => 17
  | .smem => 0
  | _ => 0

abbrev bufTy : (tb : Table) → Fin (tcTables nBuf tb) → BufTy
  | .hbm, ⟨0, _⟩ => ⟨S32768x2048, .f32⟩
  | .hbm, ⟨1, _⟩ => ⟨S32768x1024, .bf16⟩
  | .hbm, ⟨2, _⟩ => ⟨S32768x512, .bf16⟩
  | .hbm, ⟨3, _⟩ => ⟨S32768x2304, .f32⟩
  | .hbm, ⟨4, _⟩ => ⟨S1536x2048, .bf16⟩
  | .hbm, ⟨5, _⟩ => ⟨S2048, .f32⟩
  | .hbm, ⟨6, _⟩ => ⟨S1024x2048, .bf16⟩
  | .hbm, ⟨7, _⟩ => ⟨S512x2048, .bf16⟩
  | .hbm, ⟨8, _⟩ => ⟨S1x2048, .f32⟩
  | .hbm, ⟨9, _⟩ => ⟨S32768x2048, .f32⟩
  | .hbm, ⟨10, _⟩ => ⟨S32768x2048, .bf16⟩
  | .local _ .vmem, ⟨0, _⟩ => ⟨S512x2048, .f32⟩
  | .local _ .vmem, ⟨1, _⟩ => ⟨S512x2048, .f32⟩
  | .local _ .vmem, ⟨2, _⟩ => ⟨S512x1024, .bf16⟩
  | .local _ .vmem, ⟨3, _⟩ => ⟨S512x1024, .bf16⟩
  | .local _ .vmem, ⟨4, _⟩ => ⟨S512x1024, .f32⟩
  | .local _ .vmem, ⟨5, _⟩ => ⟨S512x1024, .f32⟩
  | .local _ .vmem, ⟨6, _⟩ => ⟨S512x512, .bf16⟩
  | .local _ .vmem, ⟨7, _⟩ => ⟨S512x512, .bf16⟩
  | .local _ .vmem, ⟨8, _⟩ => ⟨S512x512, .f32⟩
  | .local _ .vmem, ⟨9, _⟩ => ⟨S512x512, .f32⟩
  | .local _ .vmem, ⟨10, _⟩ => ⟨S1024x2048, .bf16⟩
  | .local _ .vmem, ⟨11, _⟩ => ⟨S512x2048, .bf16⟩
  | .local _ .vmem, ⟨12, _⟩ => ⟨S1x2048, .f32⟩
  | .local _ .vmem, ⟨13, _⟩ => ⟨S512x2048, .f32⟩
  | .local _ .vmem, ⟨14, _⟩ => ⟨S512x2048, .f32⟩
  | .local _ .vmem, ⟨15, _⟩ => ⟨S512x2048, .bf16⟩
  | .local _ .vmem, ⟨16, _⟩ => ⟨S512x2048, .bf16⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference8Ideal.lean ====
abbrev S32768x2048 : Shape := ⟨2, ![32768, 2048]⟩
abbrev S32768x1024 : Shape := ⟨2, ![32768, 1024]⟩
abbrev S32768x512 : Shape := ⟨2, ![32768, 512]⟩
abbrev S32768x2304 : Shape := ⟨2, ![32768, 2304]⟩
abbrev S1536x2048 : Shape := ⟨2, ![1536, 2048]⟩
abbrev S2048 : Shape := ⟨1, ![2048]⟩
abbrev S_ : Shape := ⟨0, ![]⟩
abbrev S32768x1536 : Shape := ⟨2, ![32768, 1536]⟩
abbrev S32768 : Shape := ⟨1, ![32768]⟩
abbrev S32768x1 : Shape := ⟨2, ![32768, 1]⟩
abbrev S1x2048 : Shape := ⟨2, ![1, 2048]⟩

abbrev nBuf : Space → Nat
  | .hbm => 51
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S32768x1024, .bf16⟩
  | .hbm, ⟨2, _⟩ => ⟨S32768x512, .bf16⟩
  | .hbm, ⟨3, _⟩ => ⟨S32768x2304, .f32⟩
  | .hbm, ⟨4, _⟩ => ⟨S1536x2048, .bf16⟩
  | .hbm, ⟨5, _⟩ => ⟨S2048, .f32⟩
  | .hbm, ⟨6, _⟩ => ⟨S32768x1024, .f32⟩
  | .hbm, ⟨7, _⟩ => ⟨S32768x512, .f32⟩
  | .hbm, ⟨8, _⟩ => ⟨S32768x1024, .f32⟩
  | .hbm, ⟨9, _⟩ => ⟨S32768x1024, .f32⟩
  | .hbm, ⟨10, _⟩ => ⟨S_, .f32⟩
  | .hbm, ⟨11, _⟩ => ⟨S32768x1024, .f32⟩
  | .hbm, ⟨12, _⟩ => ⟨S32768x1024, .f32⟩
  | .hbm, ⟨13, _⟩ => ⟨S_, .f32⟩
  | .hbm, ⟨14, _⟩ => ⟨S32768x1024, .f32⟩
  | .hbm, ⟨15, _⟩ => ⟨S32768x1024, .f32⟩
  | .hbm, ⟨16, _⟩ => ⟨S32768x1024, .f32⟩
  | .hbm, ⟨17, _⟩ => ⟨S32768x1024, .f32⟩
  | .hbm, ⟨18, _⟩ => ⟨S32768x1024, .f32⟩
  | .hbm, ⟨19, _⟩ => ⟨S32768x512, .f32⟩
  | .hbm, ⟨20, _⟩ => ⟨S32768x512, .f32⟩
  | .hbm, ⟨21, _⟩ => ⟨S_, .f32⟩
  | .hbm, ⟨22, _⟩ => ⟨S32768x512, .f32⟩
  | .hbm, ⟨23, _⟩ => ⟨S32768x512, .f32⟩
  | .hbm, ⟨24, _⟩ => ⟨S_, .f32⟩
  | .hbm, ⟨25, _⟩ => ⟨S32768x512, .f32⟩
  | .hbm, ⟨26, _⟩ => ⟨S32768x512, .f32⟩
  | .hbm, ⟨27, _⟩ => ⟨S32768x512, .f32⟩
  | .hbm, ⟨28, _⟩ => ⟨S32768x512, .f32⟩
  | .hbm, ⟨29, _⟩ => ⟨S32768x512, .f32⟩
  | .hbm, ⟨30, _⟩ => ⟨S32768x1536, .f32⟩
  | .hbm, ⟨31, _⟩ => ⟨S32768x1536, .bf16⟩
  | .hbm, ⟨32, _⟩ => ⟨S32768x2048, .f32⟩
  | .hbm, ⟨33, _⟩ => ⟨S32768x2048, .f32⟩
  | .hbm, ⟨34, _⟩ => ⟨S32768x2048, .f32⟩
  | .hbm, ⟨35, _⟩ => ⟨S_, .f32⟩
  | .hbm, ⟨36, _⟩ => ⟨S32768, .f32⟩
  | .hbm, ⟨37, _⟩ => ⟨S32768x1, .f32⟩
  | .hbm, ⟨38, _⟩ => ⟨S_, .f32⟩
  | .hbm, ⟨39, _⟩ => ⟨S32768x1, .f32⟩
  | .hbm, ⟨40, _⟩ => ⟨S32768x1, .f32⟩
  | .hbm, ⟨41, _⟩ => ⟨S_, .f32⟩
  | .hbm, ⟨42, _⟩ => ⟨S32768x1, .f32⟩
  | .hbm, ⟨43, _⟩ => ⟨S32768x1, .f32⟩
  | .hbm, ⟨44, _⟩ => ⟨S32768x1, .f32⟩
  | .hbm, ⟨45, _⟩ => ⟨S32768x2048, .f32⟩
  | .hbm, ⟨46, _⟩ => ⟨S32768x2048, .f32⟩
  | .hbm, ⟨47, _⟩ => ⟨S1x2048, .f32⟩
  | .hbm, ⟨48, _⟩ => ⟨S32768x2048, .f32⟩
  | .hbm, ⟨49, _⟩ => ⟨S32768x2048, .f32⟩
  | .hbm, ⟨50, _⟩ => ⟨S32768x2048, .bf16⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_call1_v0 : Ref sig .tc := ⟨.hbm, 19, rfl⟩
abbrev main_call1_v1 : Ref sig .tc := ⟨.hbm, 20, rfl⟩
abbrev main_call1_cst : Ref sig .tc := ⟨.hbm, 21, rfl⟩
abbrev main_call1_v2 : Ref sig .tc := ⟨.hbm, 22, rfl⟩
abbrev main_call1_v3 : Ref sig .tc := ⟨.hbm, 23, rfl⟩
abbrev main_call1_cst_0 : Ref sig .tc := ⟨.hbm, 24, rfl⟩
abbrev main_call1_v4 : Ref sig .tc := ⟨.hbm, 25, rfl⟩
abbrev main_call1_v5 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_cst : Ref sig .tc := ⟨.hbm, 35, rfl⟩
abbrev main_v13 : Ref sig .tc := ⟨.hbm, 36, rfl⟩
abbrev main_v14 : Ref sig .tc := ⟨.hbm, 37, rfl⟩
abbrev main_cst_0 : Ref sig .tc := ⟨.hbm, 38, rfl⟩
abbrev main_v15 : Ref sig .tc := ⟨.hbm, 39, rfl⟩
abbrev main_v16 : Ref sig .tc := ⟨.hbm, 40, rfl⟩
abbrev main_cst_1 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩

abbrev nD : Nat := 1
abbrev τ : Topo := Topo.v7x

variable {F : FTy → Type} [FloatOps F]
-- ==== Kernel9.lean ====
abbrev S32768x4096 : Shape := ⟨2, ![32768, 4096]⟩
abbrev S1536 : Shape := ⟨1, ![1536]⟩
abbrev S1536x4096 : Shape := ⟨2, ![1536, 4096]⟩
abbrev S4096x128 : Shape := ⟨2, ![4096, 128]⟩
abbrev S1x1536 : Shape := ⟨2, ![1, 1536]⟩
abbrev S1024x1536 : Shape := ⟨2, ![1024, 1536]⟩
abbrev S1536x2048 : Shape := ⟨2, ![1536, 2048]⟩
abbrev S1024x128 : Shape := ⟨2, ![1024, 128]⟩
abbrev S1024x2048 : Shape := ⟨2, ![1024, 2048]⟩
abbrev S1024 : Shape := ⟨1, ![1024]⟩
abbrev S1024x1 : Shape := ⟨2, ![1024, 1]⟩

abbrev nBuf : Space → Nat
  | .hbm => 7
  | .vmem => 12
  | .smem => 0
  | _ => 0

abbrev bufTy : (tb : Table) → Fin (tcTables nBuf tb) → BufTy
  | .hbm, ⟨0, _⟩ => ⟨S32768x4096, .f32⟩
  | .hbm, ⟨1, _⟩ => ⟨S1536, .f32⟩
  | .hbm, ⟨2, _⟩ => ⟨S1536x4096, .bf16⟩
  | .hbm, ⟨3, _⟩ => ⟨S4096x128, .f32⟩
  | .hbm, ⟨4, _⟩ => ⟨S4096x128, .f32⟩
  | .hbm, ⟨5, _⟩ => ⟨S1x1536, .f32⟩
  | .hbm, ⟨6, _⟩ => ⟨S32768x4096, .bf16⟩
  | .local _ .vmem, ⟨0, _⟩ => ⟨S1024x1536, .f32⟩
  | .local _ .vmem, ⟨1, _⟩ => ⟨S1024x1536, .f32⟩
  | .local _ .vmem, ⟨2, _⟩ => ⟨S1x1536, .f32⟩
  | .local _ .vmem, ⟨3, _⟩ => ⟨S1536x2048, .bf16⟩
  | .local _ .vmem, ⟨4, _⟩ => ⟨S1536x2048, .bf16⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x2048, .bf16⟩
  | .local _ .vmem, ⟨10, _⟩ => ⟨S1024x2048, .bf16⟩
  | .local _ .vmem, ⟨11, _⟩ => ⟨S1024x1536, .bf16⟩
  | _, _ => ⟨S32768x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![32, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1536 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1536x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference9Ideal.lean ====
abbrev S32768x4096 : Shape := ⟨2, ![32768, 4096]⟩
abbrev S1536 : Shape := ⟨1, ![1536]⟩
abbrev S1536x4096 : Shape := ⟨2, ![1536, 4096]⟩
abbrev S4096x128 : Shape := ⟨2, ![4096, 128]⟩
abbrev S32768x1536 : Shape := ⟨2, ![32768, 1536]⟩
abbrev S_ : Shape := ⟨0, ![]⟩
abbrev S32768 : Shape := ⟨1, ![32768]⟩
abbrev S32768x1 : Shape := ⟨2, ![32768, 1]⟩
abbrev S1x1536 : Shape := ⟨2, ![1, 1536]⟩
abbrev S8x4096x16x256 : Shape := ⟨4, ![8, 4096, 16, 256]⟩
abbrev S8x4096x16x128 : Shape := ⟨4, ![8, 4096, 16, 128]⟩
abbrev S8x4096x16x64 : Shape := ⟨4, ![8, 4096, 16, 64]⟩
abbrev S4096x1x128 : Shape := ⟨3, ![4096, 1, 128]⟩
abbrev S1x4096x1x128 : Shape := ⟨4, ![1, 4096, 1, 128]⟩

abbrev nBuf : Space → Nat
  | .hbm => 42
  | .vmem => 0
  | .smem => 0
  | _ => 0

abbrev bufTy : (tb : Table) → Fin (tcTables nBuf tb) → BufTy
  | .hbm, ⟨0, _⟩ => ⟨S32768x4096, .f32⟩
  | .hbm, ⟨1, _⟩ => ⟨S1536, .f32⟩
  | .hbm, ⟨2, _⟩ => ⟨S1536x4096, .bf16⟩
  | .hbm, ⟨3, _⟩ => ⟨S4096x128, .f32⟩
  | .hbm, ⟨4, _⟩ => ⟨S4096x128, .f32⟩
  | .hbm, ⟨5, _⟩ => ⟨S32768x1536, .f32⟩
  | .hbm, ⟨6, _⟩ => ⟨S32768x1536, .f32⟩
  | .hbm, ⟨7, _⟩ => ⟨S_, .f32⟩
  | .hbm, ⟨8, _⟩ => ⟨S32768, .f32⟩
  | .hbm, ⟨9, _⟩ => ⟨S32768x1, .f32⟩
  | .hbm, ⟨10, _⟩ => ⟨S_, .f32⟩
  | .hbm, ⟨11, _⟩ => ⟨S32768x1, .f32⟩
  | .hbm, ⟨12, _⟩ => ⟨S32768x1, .f32⟩
  | .hbm, ⟨13, _⟩ => ⟨S_, .f32⟩
  | .hbm, ⟨14, _⟩ => ⟨S32768x1, .f32⟩
  | .hbm, ⟨15, _⟩ => ⟨S32768x1, .f32⟩
  | .hbm, ⟨16, _⟩ => ⟨S32768x1, .f32⟩
  | .hbm, ⟨17, _⟩ => ⟨S32768x1536, .f32⟩
  | .hbm, ⟨18, _⟩ => ⟨S32768x1536, .f32⟩
  | .hbm, ⟨19, _⟩ => ⟨S1x1536, .f32⟩
  | .hbm, ⟨20, _⟩ => ⟨S32768x1536, .f32⟩
  | .hbm, ⟨21, _⟩ => ⟨S32768x1536, .f32⟩
  | .hbm, ⟨22, _⟩ => ⟨S32768x1536, .bf16⟩
  | .hbm, ⟨23, _⟩ => ⟨S32768x4096, .f32⟩
  | .hbm, ⟨24, _⟩ => ⟨S8x4096x16x256, .f32⟩
  | .hbm, ⟨25, _⟩ => ⟨S8x4096x16x128, .f32⟩
  | .hbm, ⟨26, _⟩ => ⟨S8x4096x16x128, .f32⟩
  | .hbm, ⟨27, _⟩ => ⟨S8x4096x16x64, .f32⟩
  | .hbm, ⟨28, _⟩ => ⟨S8x4096x16x64, .f32⟩
  | .hbm, ⟨29, _⟩ => ⟨S8x4096x16x128, .f32⟩
  | .hbm, ⟨30, _⟩ => ⟨S4096x1x128, .f32⟩
  | .hbm, ⟨31, _⟩ => ⟨S1x4096x1x128, .f32⟩
  | .hbm, ⟨32, _⟩ => ⟨S8x4096x16x128, .f32⟩
  | .hbm, ⟨33, _⟩ => ⟨S8x4096x16x128, .f32⟩
  | .hbm, ⟨34, _⟩ => ⟨S4096x1x128, .f32⟩
  | .hbm, ⟨35, _⟩ => ⟨S1x4096x1x128, .f32⟩
  | .hbm, ⟨36, _⟩ => ⟨S8x4096x16x128, .f32⟩
  | .hbm, ⟨37, _⟩ => ⟨S8x4096x16x128, .f32⟩
  | .hbm, ⟨38, _⟩ => ⟨S8x4096x16x128, .f32⟩
  | .hbm, ⟨39, _⟩ => ⟨S8x4096x16x256, .f32⟩
  | .hbm, ⟨40, _⟩ => ⟨S8x4096x16x256, .bf16⟩
  | .hbm, ⟨41, _⟩ => ⟨S32768x4096, .bf16⟩
  | _, _ => ⟨S32768x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩

abbrev nD : Nat := 1
abbrev τ : Topo := Topo.v7x

variable {F : FTy → Type} [FloatOps F]
-- ==== Kernel10.lean ====
abbrev S32768x4096 : Shape := ⟨2, ![32768, 4096]⟩
abbrev S512 : Shape := ⟨1, ![512]⟩
abbrev S512x2048 : Shape := ⟨2, ![512, 2048]⟩
abbrev S1x512 : Shape := ⟨2, ![1, 512]⟩
abbrev S32768x2048 : Shape := ⟨2, ![32768, 2048]⟩
abbrev S1024x512 : Shape := ⟨2, ![1024, 512]⟩
abbrev S1024x2048 : Shape := ⟨2, ![1024, 2048]⟩
abbrev S1024 : Shape := ⟨1, ![1024]⟩
abbrev S1024x1 : Shape := ⟨2, ![1024, 1]⟩

abbrev nBuf : Space → Nat
  | .hbm => 5
  | .vmem => 7
  | .smem => 0
  | _ => 0

abbrev bufTy : (tb : Table) → Fin (tcTables nBuf tb) → BufTy
  | .hbm, ⟨0, _⟩ => ⟨S32768x4096, .f32⟩
  | .hbm, ⟨1, _⟩ => ⟨S512, .f32⟩
  | .hbm, ⟨2, _⟩ => ⟨S512x2048, .bf16⟩
  | .hbm, ⟨3, _⟩ => ⟨S1x512, .f32⟩
  | .hbm, ⟨4, _⟩ => ⟨S32768x2048, .bf16⟩
  | .local _ .vmem, ⟨0, _⟩ => ⟨S1024x512, .f32⟩
  | .local _ .vmem, ⟨1, _⟩ => ⟨S1024x512, .f32⟩
  | .local _ .vmem, ⟨2, _⟩ => ⟨S1x512, .f32⟩
  | .local _ .vmem, ⟨3, _⟩ => ⟨S512x2048, .bf16⟩
  | .local _ .vmem, ⟨4, _⟩ => ⟨S1024x2048, .bf16⟩
  | .local _ .vmem, ⟨5, _⟩ => ⟨S1024x2048, .bf16⟩
  | .local _ .vmem, ⟨6, _⟩ => ⟨S1024x512, .bf16⟩
  | _, _ => ⟨S32768x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![32, 1], ![false, false]⟩

def cc0_transform_0 (i : grid0.Coords) : Fin 2 → Nat :=
  let arg0 : BitVec 32 := BitVec.ofNat 32 (i 0).val
  let arg1 : BitVec 32 := BitVec.ofNat 32 (i 1).val
  let c3_i32 : BitVec 32 := 3#32
  let c0_i32 : BitVec 32 := 0#32
  ![arg0.toNat, c3_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S512x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference10Ideal.lean ====
abbrev S32768x4096 : Shape := ⟨2, ![32768, 4096]⟩
abbrev S512 : Shape := ⟨1, ![512]⟩
abbrev S512x2048 : Shape := ⟨2, ![512, 2048]⟩
abbrev S32768x512 : Shape := ⟨2, ![32768, 512]⟩
abbrev S_ : Shape := ⟨0, ![]⟩
abbrev S32768 : Shape := ⟨1, ![32768]⟩
abbrev S32768x1 : Shape := ⟨2, ![32768, 1]⟩
abbrev S1x512 : Shape := ⟨2, ![1, 512]⟩
abbrev S32768x2048 : Shape := ⟨2, ![32768, 2048]⟩

abbrev nBuf : Space → Nat
  | .hbm => 23
  | .vmem => 0
  | .smem => 0
  | _ => 0

abbrev bufTy : (tb : Table) → Fin (tcTables nBuf tb) → BufTy
  | .hbm, ⟨0, _⟩ => ⟨S32768x4096, .f32⟩
  | .hbm, ⟨1, _⟩ => ⟨S512, .f32⟩
  | .hbm, ⟨2, _⟩ => ⟨S512x2048, .bf16⟩
  | .hbm, ⟨3, _⟩ => ⟨S32768x512, .f32⟩
  | .hbm, ⟨4, _⟩ => ⟨S32768x512, .f32⟩
  | .hbm, ⟨5, _⟩ => ⟨S_, .f32⟩
  | .hbm, ⟨6, _⟩ => ⟨S32768, .f32⟩
  | .hbm, ⟨7, _⟩ => ⟨S32768x1, .f32⟩
  | .hbm, ⟨8, _⟩ => ⟨S_, .f32⟩
  | .hbm, ⟨9, _⟩ => ⟨S32768x1, .f32⟩
  | .hbm, ⟨10, _⟩ => ⟨S32768x1, .f32⟩
  | .hbm, ⟨11, _⟩ => ⟨S_, .f32⟩
  | .hbm, ⟨12, _⟩ => ⟨S32768x1, .f32⟩
  | .hbm, ⟨13, _⟩ => ⟨S32768x1, .f32⟩
  | .hbm, ⟨14, _⟩ => ⟨S32768x1, .f32⟩
  | .hbm, ⟨15, _⟩ => ⟨S32768x512, .f32⟩
  | .hbm, ⟨16, _⟩ => ⟨S32768x512, .f32⟩
  | .hbm, ⟨17, _⟩ => ⟨S1x512, .f32⟩
  | .hbm, ⟨18, _⟩ => ⟨S32768x512, .f32⟩
  | .hbm, ⟨19, _⟩ => ⟨S32768x512, .f32⟩
  | .hbm, ⟨20, _⟩ => ⟨S32768x512, .bf16⟩
  | .hbm, ⟨21, _⟩ => ⟨S32768x2048, .f32⟩
  | .hbm, ⟨22, _⟩ => ⟨S32768x2048, .bf16⟩
  | _, _ => ⟨S32768x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== Kernel11.lean ====
abbrev S2048x512 : Shape := ⟨2, ![2048, 512]⟩
abbrev S32768x4096 : Shape := ⟨2, ![32768, 4096]⟩
abbrev S512 : Shape := ⟨1, ![512]⟩
abbrev S1x512 : Shape := ⟨2, ![1, 512]⟩
abbrev S2048x32768 : Shape := ⟨2, ![2048, 32768]⟩
abbrev S1024x512 : Shape := ⟨2, ![1024, 512]⟩
abbrev S2048x1024 : Shape := ⟨2, ![2048, 1024]⟩
abbrev S1024 : Shape := ⟨1, ![1024]⟩
abbrev S1024x1 : Shape := ⟨2, ![1024, 1]⟩

abbrev nBuf : Space → Nat
  | .hbm => 5
  | .vmem => 7
  | .smem => 0
  | _ => 0

abbrev bufTy : (tb : Table) → Fin (tcTables nBuf tb) → BufTy
  | .hbm, ⟨0, _⟩ => ⟨S2048x512, .bf16⟩
  | .hbm, ⟨1, _⟩ => ⟨S32768x4096, .f32⟩
  | .hbm, ⟨2, _⟩ => ⟨S512, .f32⟩
  | .hbm, ⟨3, _⟩ => ⟨S1x512, .f32⟩
  | .hbm, ⟨4, _⟩ => ⟨S2048x32768, .bf16⟩
  | .local _ .vmem, ⟨0, _⟩ => ⟨S2048x512, .bf16⟩
  | .local _ .vmem, ⟨1, _⟩ => ⟨S1024x512, .f32⟩
  | .local _ .vmem, ⟨2, _⟩ => ⟨S1024x512, .f32⟩
  | .local _ .vmem, ⟨3, _⟩ => ⟨S1x512, .f32⟩
  | .local _ .vmem, ⟨4, _⟩ => ⟨S2048x1024, .bf16⟩
  | .local _ .vmem, ⟨5, _⟩ => ⟨S2048x1024, .bf16⟩
  | .local _ .vmem, ⟨6, _⟩ => ⟨S1024x512, .bf16⟩
  | _, _ => ⟨S2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![32, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c3_i32 : BitVec 32 := 3#32
  let c0_i32 : BitVec 32 := 0#32
  ![arg0.toNat, c3_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .vmem S2048x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference11Ideal.lean ====
abbrev S2048x512 : Shape := ⟨2, ![2048, 512]⟩
abbrev S32768x4096 : Shape := ⟨2, ![32768, 4096]⟩
abbrev S512 : Shape := ⟨1, ![512]⟩
abbrev S32768x512 : Shape := ⟨2, ![32768, 512]⟩
abbrev S_ : Shape := ⟨0, ![]⟩
abbrev S32768 : Shape := ⟨1, ![32768]⟩
abbrev S32768x1 : Shape := ⟨2, ![32768, 1]⟩
abbrev S1x512 : Shape := ⟨2, ![1, 512]⟩
abbrev S2048x32768 : Shape := ⟨2, ![2048, 32768]⟩

abbrev nBuf : Space → Nat
  | .hbm => 23
  | .vmem => 0
  | .smem => 0
  | _ => 0

abbrev bufTy : (tb : Table) → Fin (tcTables nBuf tb) → BufTy
  | .hbm, ⟨0, _⟩ => ⟨S2048x512, .bf16⟩
  | .hbm, ⟨1, _⟩ => ⟨S32768x4096, .f32⟩
  | .hbm, ⟨2, _⟩ => ⟨S512, .f32⟩
  | .hbm, ⟨3, _⟩ => ⟨S32768x512, .f32⟩
  | .hbm, ⟨4, _⟩ => ⟨S32768x512, .f32⟩
  | .hbm, ⟨5, _⟩ => ⟨S_, .f32⟩
  | .hbm, ⟨6, _⟩ => ⟨S32768, .f32⟩
  | .hbm, ⟨7, _⟩ => ⟨S32768x1, .f32⟩
  | .hbm, ⟨8, _⟩ => ⟨S_, .f32⟩
  | .hbm, ⟨9, _⟩ => ⟨S32768x1, .f32⟩
  | .hbm, ⟨10, _⟩ => ⟨S32768x1, .f32⟩
  | .hbm, ⟨11, _⟩ => ⟨S_, .f32⟩
  | .hbm, ⟨12, _⟩ => ⟨S32768x1, .f32⟩
  | .hbm, ⟨13, _⟩ => ⟨S32768x1, .f32⟩
  | .hbm, ⟨14, _⟩ => ⟨S32768x1, .f32⟩
  | .hbm, ⟨15, _⟩ => ⟨S32768x512, .f32⟩
  | .hbm, ⟨16, _⟩ => ⟨S32768x512, .f32⟩
  | .hbm, ⟨17, _⟩ => ⟨S1x512, .f32⟩
  | .hbm, ⟨18, _⟩ => ⟨S32768x512, .f32⟩
  | .hbm, ⟨19, _⟩ => ⟨S32768x512, .f32⟩
  | .hbm, ⟨20, _⟩ => ⟨S32768x512, .bf16⟩
  | .hbm, ⟨21, _⟩ => ⟨S2048x32768, .f32⟩
  | .hbm, ⟨22, _⟩ => ⟨S2048x32768, .bf16⟩
  | _, _ => ⟨S2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== Kernel12.lean ====
abbrev S32768x2048 : Shape := ⟨2, ![32768, 2048]⟩
abbrev S32768x4096 : Shape := ⟨2, ![32768, 4096]⟩
abbrev S2048x2048 : Shape := ⟨2, ![2048, 2048]⟩
abbrev S2048 : Shape := ⟨1, ![2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 8
  | .vmem => 12
  | .smem => 0
  | _ => 0

abbrev bufTy : (tb : Table) → Fin (tcTables nBuf tb) → BufTy
  | .hbm, ⟨0, _⟩ => ⟨S32768x2048, .f32⟩
  | .hbm, ⟨1, _⟩ => ⟨S32768x2048, .bf16⟩
  | .hbm, ⟨2, _⟩ => ⟨S32768x4096, .f32⟩
  | .hbm, ⟨3, _⟩ => ⟨S2048x2048, .bf16⟩
  | .hbm, ⟨4, _⟩ => ⟨S2048, .f32⟩
  | .hbm, ⟨5, _⟩ => ⟨S1x2048, .f32⟩
  | .hbm, ⟨6, _⟩ => ⟨S32768x2048, .f32⟩
  | .hbm, ⟨7, _⟩ => ⟨S32768x2048, .bf16⟩
  | .local _ .vmem, ⟨0, _⟩ => ⟨S512x2048, .f32⟩
  | .local _ .vmem, ⟨1, _⟩ => ⟨S512x2048, .f32⟩
  | .local _ .vmem, ⟨2, _⟩ => ⟨S512x2048, .bf16⟩
  | .local _ .vmem, ⟨3, _⟩ => ⟨S512x2048, .bf16⟩
  | .local _ .vmem, ⟨4, _⟩ => ⟨S512x2048, .f32⟩
  | .local _ .vmem, ⟨5, _⟩ => ⟨S512x2048, .f32⟩
  | .local _ .vmem, ⟨6, _⟩ => ⟨S2048x2048, .bf16⟩
  | .local _ .vmem, ⟨7, _⟩ => ⟨S1x2048, .f32⟩
  | .local _ .vmem, ⟨8, _⟩ => ⟨S512x2048, .f32⟩
  | .local _ .vmem, ⟨9, _⟩ => ⟨S512x2048, .f32⟩
  | .local _ .vmem, ⟨10, _⟩ => ⟨S512x2048, .bf16⟩
  | .local _ .vmem, ⟨11, _⟩ => ⟨S512x2048, .bf16⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference12Ideal.lean ====
abbrev S32768x2048 : Shape := ⟨2, ![32768, 2048]⟩
abbrev S32768x4096 : Shape := ⟨2, ![32768, 4096]⟩
abbrev S2048x2048 : Shape := ⟨2, ![2048, 2048]⟩
abbrev S2048 : Shape := ⟨1, ![2048]⟩
abbrev S_ : Shape := ⟨0, ![]⟩
abbrev S32768 : Shape := ⟨1, ![32768]⟩
abbrev S32768x1 : Shape := ⟨2, ![32768, 1]⟩
abbrev S1x2048 : Shape := ⟨2, ![1, 2048]⟩

abbrev nBuf : Space → Nat
  | .hbm => 37
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S32768x2048, .bf16⟩
  | .hbm, ⟨2, _⟩ => ⟨S32768x4096, .f32⟩
  | .hbm, ⟨3, _⟩ => ⟨S2048x2048, .bf16⟩
  | .hbm, ⟨4, _⟩ => ⟨S2048, .f32⟩
  | .hbm, ⟨5, _⟩ => ⟨S32768x2048, .f32⟩
  | .hbm, ⟨6, _⟩ => ⟨S32768x2048, .f32⟩
  | .hbm, ⟨7, _⟩ => ⟨S32768x2048, .f32⟩
  | .hbm, ⟨8, _⟩ => ⟨S_, .f32⟩
  | .hbm, ⟨9, _⟩ => ⟨S32768x2048, .f32⟩
  | .hbm, ⟨10, _⟩ => ⟨S32768x2048, .f32⟩
  | .hbm, ⟨11, _⟩ => ⟨S_, .f32⟩
  | .hbm, ⟨12, _⟩ => ⟨S32768x2048, .f32⟩
  | .hbm, ⟨13, _⟩ => ⟨S32768x2048, .f32⟩
  | .hbm, ⟨14, _⟩ => ⟨S32768x2048, .f32⟩
  | .hbm, ⟨15, _⟩ => ⟨S32768x2048, .f32⟩
  | .hbm, ⟨16, _⟩ => ⟨S32768x2048, .f32⟩
  | .hbm, ⟨17, _⟩ => ⟨S32768x2048, .bf16⟩
  | .hbm, ⟨18, _⟩ => ⟨S32768x2048, .f32⟩
  | .hbm, ⟨19, _⟩ => ⟨S32768x2048, .f32⟩
  | .hbm, ⟨20, _⟩ => ⟨S32768x2048, .f32⟩
  | .hbm, ⟨21, _⟩ => ⟨S_, .f32⟩
  | .hbm, ⟨22, _⟩ => ⟨S32768, .f32⟩
  | .hbm, ⟨23, _⟩ => ⟨S32768x1, .f32⟩
  | .hbm, ⟨24, _⟩ => ⟨S_, .f32⟩
  | .hbm, ⟨25, _⟩ => ⟨S32768x1, .f32⟩
  | .hbm, ⟨26, _⟩ => ⟨S32768x1, .f32⟩
  | .hbm, ⟨27, _⟩ => ⟨S_, .f32⟩
  | .hbm, ⟨28, _⟩ => ⟨S32768x1, .f32⟩
  | .hbm, ⟨29, _⟩ => ⟨S32768x1, .f32⟩
  | .hbm, ⟨30, _⟩ => ⟨S32768x1, .f32⟩
  | .hbm, ⟨31, _⟩ => ⟨S32768x2048, .f32⟩
  | .hbm, ⟨32, _⟩ => ⟨S32768x2048, .f32⟩
  | .hbm, ⟨33, _⟩ => ⟨S1x2048, .f32⟩
  | .hbm, ⟨34, _⟩ => ⟨S32768x2048, .f32⟩
  | .hbm, ⟨35, _⟩ => ⟨S32768x2048, .f32⟩
  | .hbm, ⟨36, _⟩ => ⟨S32768x2048, .bf16⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst : Ref sig .tc := ⟨.hbm, 21, rfl⟩
abbrev main_v8 : Ref sig .tc := ⟨.hbm, 22, rfl⟩
abbrev main_v9 : Ref sig .tc := ⟨.hbm, 23, rfl⟩
abbrev main_cst_0 : Ref sig .tc := ⟨.hbm, 24, rfl⟩
abbrev main_v10 : Ref sig .tc := ⟨.hbm, 25, rfl⟩
abbrev main_v11 : Ref sig .tc := ⟨.hbm, 26, rfl⟩
abbrev main_cst_1 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩

abbrev nD : Nat := 1
abbrev τ : Topo := Topo.v7x

variable {F : FTy → Type} [FloatOps F]
-- ==== Proof.Values.lean ====
module

public import proofs.«01_k».proof.Proof.Gen.KernelIdeal.Frame
public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import Idealize.ShloMosaic.Lib.Pipeline.KitQuiescent
public import Idealize.ShloMosaic.Lib.Tactic
public import Idealize.ShloMosaic.Lib.ValueIdx
public import Idealize.ShloMosaic.Lib.Pipeline.Value
public import Idealize.ShloMosaic.Lib.WritesUnit

@[expose] public section

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

open Idealize.ShloMosaic.ValueIdx

/-! What the kernel's stages compute, as functions of the blocks they read. One head of one query tile keeps a
running column maximum `m`, a running column sum `l` and a running weighted sum `acc` of value columns. -/

/-- The running state of one head. -/
structure St (F : FTy → Type) [FloatOps F] [Named F] where
  m : Vec F S1x512 .f32
  l : Vec F S1x512 .f32
  acc : Vec F S128x512 .f32

/-- The word of the table at position `n`. -/
def rdT (T : S37.Idx → BitVec 32) (n : ℕ) : BitVec 32 := T (ix1 ⟨n % 37, Nat.mod_lt _ (by decide)⟩)

/-- A tile of the query window: 512 rows from row `o`, 256 columns from column `c`. -/
def qTile (Q : Vec F S1x4096x1024 .bf16) (o c : ℕ) : Vec F S1x512x256 .bf16 := fun x =>
  Q (ix3 0 ⟨(o + (x 1).val) % 4096, Nat.mod_lt _ (by decide)⟩ ⟨(c + (x 2).val) % 1024, Nat.mod_lt _ (by decide)⟩)

/-- A tile of the content-key window: 512 rows from row `o`, 128 columns from column `c`. -/
def knTile (K : Vec F S1x4096x512 .bf16) (o c : ℕ) : Vec F S1x512x128 .bf16 := fun x =>
  K (ix3 0 ⟨(o + (x 1).val) % 4096, Nat.mod_lt _ (by decide)⟩ ⟨(c + (x 2).val) % 512, Nat.mod_lt _ (by decide)⟩)

/-- A tile of the positional-key window: 512 rows from row `o`. -/
def kpTile (K : Vec F S1x4096x128 .bf16) (o c : ℕ) : Vec F S1x512x128 .bf16 := fun x =>
  K (ix3 0 ⟨(o + (x 1).val) % 4096, Nat.mod_lt _ (by decide)⟩ ⟨(c + (x 2).val) % 128, Nat.mod_lt _ (by decide)⟩)

/-- A tile of the transposed values: 128 rows from row `c`, 512 columns from column `o`. -/
def vtTile (W : Vec F S512x4096 .bf16) (c o : ℕ) : Vec F S128x512 .bf16 := fun x =>
  W (ix2 ⟨(c + (x 0).val) % 512, Nat.mod_lt _ (by decide)⟩ ⟨(o + (x 1).val) % 4096, Nat.mod_lt _ (by decide)⟩)

/-- The scores of key tile `ko` against query tile `qo` of head `h` of the block, keys down and queries across. -/
def scoreT (Q : Vec F S1x4096x1024 .bf16) (KN : Vec F S1x4096x512 .bf16) (KP : Vec F S1x4096x128 .bf16)
    (h : ℕ) (ko qo : BitVec 32) : Vec F S512x512 .f32 :=
  k0_pay10 (knTile KN (ko * 512#32).toNat (128 * h)) (kpTile KP (ko * 512#32).toNat 0) (qTile Q (qo * 512#32).toNat (256 * h))

theorem score_of {Q : Vec F S1x4096x1024 .bf16} {KN : Vec F S1x4096x512 .bf16} {KP : Vec F S1x4096x128 .bf16} {h : ℕ} {ko qo : BitVec 32}
    {a b : Vec F S1x512x128 .bf16} {d : Vec F S1x512x256 .bf16} (ha : a = knTile KN (ko * 512#32).toNat (128 * h))
    (hb : b = kpTile KP (ko * 512#32).toNat 0) (hd : d = qTile Q (qo * 512#32).toNat (256 * h)) :
    k0_pay10 a b d = scoreT Q KN KP h ko qo := by
  rw [ha, hb, hd]; rfl

/-- The column maxima of a score tile. -/
def cmaxT (s : Vec F S512x512 .f32) : Vec F S1x512 .f32 :=
  shapeCast S1x512 (multiReduction .maximumf [0] S512 s 0xFF800000#32 reduces_S512x512_S512 (.inl rfl) rfl) shapeCasts_S512_S1x512

/-- One update of the running state by a score tile, its column maxima and a tile of values. -/
def updT (s : Vec F S512x512 .f32) (mx : Vec F S1x512 .f32) (vt : Vec F S128x512 .bf16) (x : St F) : St F where
  m := k0_pay71 mx x.m
  l := k0_pay69 s mx x.m x.l
  acc := k0_pay70 s mx vt x.m x.acc

/-- The state a query tile starts from. -/
def resetT : St F where
  m := k0_pay112 k0_pay111
  l := k0_pay113
  acc := k0_pay114

/-- The result tile: the weighted sum over the sum, transposed. -/
def outT (x : St F) : Vec F S1x512x128 .bf16 := k0_pay110 x.acc x.l

/-- The diagonal update, of the masked scores. -/
def diagT (jj ii : IVec S512x512 32) (s : Vec F S512x512 .f32) (vt : Vec F S128x512 .bf16) (x : St F) : St F :=
  updT (k0_pay103 jj ii s) (cmaxT (k0_pay103 jj ii s)) vt x

/-! The parts of an updated state, from parts spelled some other way. -/

section
variable {s s' : Vec F S512x512 .f32} {mx mx' : Vec F S1x512 .f32} {vt vt' : Vec F S128x512 .bf16} {x : St F}
  {m' l' : Vec F S1x512 .f32} {acc' : Vec F S128x512 .f32} {jj ii : IVec S512x512 32}

theorem updm_of (h1 : mx' = mx) (h2 : m' = x.m) : k0_pay71 mx' m' = (updT s mx vt x).m := by rw [h1, h2]; rfl

theorem updl_of (h1 : s' = s) (h2 : mx' = mx) (h3 : m' = x.m) (h4 : l' = x.l) : k0_pay69 s' mx' m' l' = (updT s mx vt x).l := by
  rw [h1, h2, h3, h4]; rfl

theorem upda_of (h1 : s' = s) (h2 : mx' = mx) (h3 : vt' = vt) (h4 : m' = x.m) (h5 : acc' = x.acc) :
    k0_pay70 s' mx' vt' m' acc' = (updT s mx vt x).acc := by
  rw [h1, h2, h3, h4, h5]; rfl

theorem diagl_of (h1 : s' = s) (h3 : m' = x.m) (h4 : l' = x.l) :
    k0_pay107 (k0_pay105 jj ii s' m') (k0_pay106 jj ii s' m') l' = (diagT jj ii s vt x).l := by
  rw [h1, h3, h4]; rfl

theorem diaga_of (h1 : s' = s) (h2 : vt' = vt) (h3 : m' = x.m) (h5 : acc' = x.acc) :
    k0_pay108 vt' (k0_pay105 jj ii s' m') (k0_pay106 jj ii s' m') acc' = (diagT jj ii s vt x).acc := by
  rw [h1, h2, h3, h5]; rfl

theorem outT_of (h1 : acc' = x.acc) (h2 : l' = x.l) : k0_pay110 acc' l' = outT x := by rw [h1, h2]; rfl
end

/-! Reading a block or a whole buffer at a load of the run. -/

theorem hz2 : (![0, 0] : Fin 2 → Nat) = fun _ => 0 := by decide

section
variable {sp : Space}

theorem rd_table (v : View sig .tc sp S37 .i32) (f : v.ty.Contents (Elt F)) (off : Fin 1 → Nat)
    (inb : ∀ a, off a + S1.size a ≤ S37.size a) (x : S1.Idx) :
    v.readAt (Elt F) (Rect.unit (s := S37) off S1.size inb).toLoadRect f x = rdT (v.read (Elt F) f) (off 0) := by
  have h0 : off 0 + 1 ≤ 37 := inb 0
  have hx : (x 0).val = 0 := by have := (x 0).isLt; change (x 0).val < 1 at this; omega
  show v.read (Elt F) f _ = v.read (Elt F) f _
  congr 1
  funext a
  apply Fin.ext
  fin_cases a
  show off 0 + 1 * (x 0).val = off 0 % 37
  rw [hx, Nat.mod_eq_of_lt (by omega)]; omega

theorem rd_q (v : View sig .tc sp S1x4096x1024 .bf16) (f : v.ty.Contents (Elt F)) (off : Fin 3 → Nat)
    (inb : ∀ a, off a + S1x512x256.size a ≤ S1x4096x1024.size a) :
    v.readAt (Elt F) (Rect.unit (s := S1x4096x1024) off S1x512x256.size inb).toLoadRect f = qTile (v.read (Elt F) f) (off 1) (off 2) := by
  funext x
  have h0 : off 0 + 1 ≤ 1 := inb 0
  have h1 : off 1 + 512 ≤ 4096 := inb 1
  have h2 : off 2 + 256 ≤ 1024 := inb 2
  have x0 : (x 0).val < 1 := (x 0).isLt
  have x1 : (x 1).val < 512 := (x 1).isLt
  have x2 : (x 2).val < 256 := (x 2).isLt
  show v.read (Elt F) f _ = v.read (Elt F) f _
  congr 1
  funext a
  apply Fin.ext
  fin_cases a
  · show off 0 + 1 * (x 0).val = 0
    omega
  · show off 1 + 1 * (x 1).val = (off 1 + (x 1).val) % 4096
    rw [Nat.mod_eq_of_lt (by omega)]; omega
  · show off 2 + 1 * (x 2).val = (off 2 + (x 2).val) % 1024
    rw [Nat.mod_eq_of_lt (by omega)]; omega

theorem rd_kn (v : View sig .tc sp S1x4096x512 .bf16) (f : v.ty.Contents (Elt F)) (off : Fin 3 → Nat)
    (inb : ∀ a, off a + S1x512x128.size a ≤ S1x4096x512.size a) :
    v.readAt (Elt F) (Rect.unit (s := S1x4096x512) off S1x512x128.size inb).toLoadRect f = knTile (v.read (Elt F) f) (off 1) (off 2) := by
  funext x
  have h0 : off 0 + 1 ≤ 1 := inb 0
  have h1 : off 1 + 512 ≤ 4096 := inb 1
  have h2 : off 2 + 128 ≤ 512 := inb 2
  have x0 : (x 0).val < 1 := (x 0).isLt
  have x1 : (x 1).val < 512 := (x 1).isLt
  have x2 : (x 2).val < 128 := (x 2).isLt
  show v.read (Elt F) f _ = v.read (Elt F) f _
  congr 1
  funext a
  apply Fin.ext
  fin_cases a
  · show off 0 + 1 * (x 0).val = 0
    omega
  · show off 1 + 1 * (x 1).val = (off 1 + (x 1).val) % 4096
    rw [Nat.mod_eq_of_lt (by omega)]; omega
  · show off 2 + 1 * (x 2).val = (off 2 + (x 2).val) % 512
    rw [Nat.mod_eq_of_lt (by omega)]; omega

theorem rd_kp (v : View sig .tc sp S1x4096x128 .bf16) (f : v.ty.Contents (Elt F)) (off : Fin 3 → Nat)
    (inb : ∀ a, off a + S1x512x128.size a ≤ S1x4096x128.size a) :
    v.readAt (Elt F) (Rect.unit (s := S1x4096x128) off S1x512x128.size inb).toLoadRect f = kpTile (v.read (Elt F) f) (off 1) (off 2) := by
  funext x
  have h0 : off 0 + 1 ≤ 1 := inb 0
  have h1 : off 1 + 512 ≤ 4096 := inb 1
  have h2 : off 2 + 128 ≤ 128 := inb 2
  have x0 : (x 0).val < 1 := (x 0).isLt
  have x1 : (x 1).val < 512 := (x 1).isLt
  have x2 : (x 2).val < 128 := (x 2).isLt
  show v.read (Elt F) f _ = v.read (Elt F) f _
  congr 1
  funext a
  apply Fin.ext
  fin_cases a
  · show off 0 + 1 * (x 0).val = 0
    omega
  · show off 1 + 1 * (x 1).val = (off 1 + (x 1).val) % 4096
    rw [Nat.mod_eq_of_lt (by omega)]; omega
  · show off 2 + 1 * (x 2).val = (off 2 + (x 2).val) % 128
    rw [Nat.mod_eq_of_lt (by omega)]; omega

theorem rd_vt (v : View sig .tc sp S512x4096 .bf16) (f : v.ty.Contents (Elt F)) (off : Fin 2 → Nat)
    (inb : ∀ a, off a + S128x512.size a ≤ S512x4096.size a) :
    v.readAt (Elt F) (Rect.unit (s := S512x4096) off S128x512.size inb).toLoadRect f = vtTile (v.read (Elt F) f) (off 0) (off 1) := by
  funext x
  have h0 : off 0 + 128 ≤ 512 := inb 0
  have h1 : off 1 + 512 ≤ 4096 := inb 1
  have x0 : (x 0).val < 128 := (x 0).isLt
  have x1 : (x 1).val < 512 := (x 1).isLt
  show v.read (Elt F) f _ = v.read (Elt F) f _
  congr 1
  funext a
  apply Fin.ext
  fin_cases a
  · show off 0 + 1 * (x 0).val = (off 0 + (x 0).val) % 512
    rw [Nat.mod_eq_of_lt (by omega)]; omega
  · show off 1 + 1 * (x 1).val = (off 1 + (x 1).val) % 4096
    rw [Nat.mod_eq_of_lt (by omega)]; omega

variable {S : Shape} {e : EltTy}

/-- A whole-buffer load reads the buffer. -/
theorem rd_whole (v : View sig .tc sp S e) (f : v.ty.Contents (Elt F)) {off : Fin S.rank → Nat} (h : off = fun _ => 0)
    (inb : ∀ a, off a + S.size a ≤ S.size a) :
    v.readAt (Elt F) (Rect.unit off S.size inb).toLoadRect f = v.read (Elt F) f :=
  View.ld_unit_zero (Val := Elt F) h inb (v.read (Elt F) f)

/-- After a whole-buffer store the buffer reads what was stored. -/
theorem rd_stored (v : View sig .tc sp S e) (f : v.ty.Contents (Elt F)) {off : Fin S.rank → Nat} (h : off = fun _ => 0)
    (inb : ∀ a, off a + S.size a ≤ S.size a) (w : S.Idx → Elt F e) (L : List (View.Piece (Elt F) S e)) :
    v.read (Elt F) (v.writes (Elt F) f ((⟨Rect.unit off S.size inb, w⟩ : View.Piece (Elt F) S e) :: L)) = w := by
  subst h
  funext y
  exact View.read_writes_cons_unit_of_mem v f inb w L y y rfl (fun a => by simp)

/-- A whole-buffer load after a whole-buffer store reads what was stored. -/
theorem rd_covered [∀ e, Nonempty (Elt F e)] (v : View sig .tc sp S e) {off : Fin S.rank → Nat} (h : off = fun _ => 0)
    (inb : ∀ a, off a + S.size a ≤ S.size a) (w : S.Idx → Elt F e) (L : List (View.Piece (Elt F) S e)) :
    v.readCov ((⟨Rect.unit off S.size inb, w⟩ : View.Piece (Elt F) S e) :: L) (Rect.unit off S.size inb).toLoadRect = (w : S.Idx → Elt F e) := by
  unfold View.readCov
  rw [rd_whole _ _ h inb, rd_stored _ _ h inb]

/-! The same reads with the sizes as literals. -/

theorem rd_table' (v : View sig .tc sp S37 .i32) (f : v.ty.Contents (Elt F)) (off : Fin 1 → Nat)
    (inb : ∀ a : Fin 1, off a + (![1] : Fin 1 → Nat) a ≤ S37.size a) (x : S1.Idx) :
    v.readAt (Elt F) (Rect.unit (s := S37) off ![1] inb).toLoadRect f x = rdT (v.read (Elt F) f) (off 0) := rd_table v f off inb x

theorem rd_q' (v : View sig .tc sp S1x4096x1024 .bf16) (f : v.ty.Contents (Elt F)) (off : Fin 3 → Nat)
    (inb : ∀ a : Fin 3, off a + (![1, 512, 256] : Fin 3 → Nat) a ≤ S1x4096x1024.size a) :
    v.readAt (Elt F) (Rect.unit (s := S1x4096x1024) off ![1, 512, 256] inb).toLoadRect f = qTile (v.read (Elt F) f) (off 1) (off 2) :=
  rd_q v f off inb

theorem rd_kn' (v : View sig .tc sp S1x4096x512 .bf16) (f : v.ty.Contents (Elt F)) (off : Fin 3 → Nat)
    (inb : ∀ a : Fin 3, off a + (![1, 512, 128] : Fin 3 → Nat) a ≤ S1x4096x512.size a) :
    v.readAt (Elt F) (Rect.unit (s := S1x4096x512) off ![1, 512, 128] inb).toLoadRect f = knTile (v.read (Elt F) f) (off 1) (off 2) :=
  rd_kn v f off inb

theorem rd_kp' (v : View sig .tc sp S1x4096x128 .bf16) (f : v.ty.Contents (Elt F)) (off : Fin 3 → Nat)
    (inb : ∀ a : Fin 3, off a + (![1, 512, 128] : Fin 3 → Nat) a ≤ S1x4096x128.size a) :
    v.readAt (Elt F) (Rect.unit (s := S1x4096x128) off ![1, 512, 128] inb).toLoadRect f = kpTile (v.read (Elt F) f) (off 1) (off 2) :=
  rd_kp v f off inb

theorem rd_vt' (v : View sig .tc sp S512x4096 .bf16) (f : v.ty.Contents (Elt F)) (off : Fin 2 → Nat)
    (inb : ∀ a : Fin 2, off a + (![128, 512] : Fin 2 → Nat) a ≤ S512x4096.size a) :
    v.readAt (Elt F) (Rect.unit (s := S512x4096) off ![128, 512] inb).toLoadRect f = vtTile (v.read (Elt F) f) (off 0) (off 1) :=
  rd_vt v f off inb

theorem rd_whole_a (v : View sig .tc sp S512x512 e) (f : v.ty.Contents (Elt F)) (inb : ∀ a : Fin 2, (![0, 0] : Fin 2 → Nat) a + (![512, 512] : Fin 2 → Nat) a ≤ S512x512.size a) :
    v.readAt (Elt F) (Rect.unit (s := S512x512) ![0, 0] ![512, 512] inb).toLoadRect f = v.read (Elt F) f := rd_whole v f hz2 inb

theorem rd_stored_a (v : View sig .tc sp S512x512 e) (f : v.ty.Contents (Elt F)) (inb : ∀ a : Fin 2, (![0, 0] : Fin 2 → Nat) a + (![512, 512] : Fin 2 → Nat) a ≤ S512x512.size a)
    (w : S512x512.Idx → Elt F e) (L : List (View.Piece (Elt F) S512x512 e)) :
    v.read (Elt F) (v.writes (Elt F) f ((⟨Rect.unit (s := S512x512) ![0, 0] ![512, 512] inb, w⟩ : View.Piece (Elt F) S512x512 e) :: L)) = w :=
  rd_stored v f hz2 inb w L

theorem rd_covered_a [∀ e, Nonempty (Elt F e)] (v : View sig .tc sp S512x512 e) (inb : ∀ a : Fin 2, (![0, 0] : Fin 2 → Nat) a + (![512, 512] : Fin 2 → Nat) a ≤ S512x512.size a)
    (w : S512x512.Idx → Elt F e) (L : List (View.Piece (Elt F) S512x512 e)) :
    v.readCov ((⟨Rect.unit (s := S512x512) ![0, 0] ![512, 512] inb, w⟩ : View.Piece (Elt F) S512x512 e) :: L) (Rect.unit (s := S512x512) ![0, 0] ![512, 512] inb).toLoadRect = (w : S512x512.Idx → Elt F e) :=
  rd_covered v hz2 inb w L

theorem rd_whole_b (v : View sig .tc sp S1x512 e) (f : v.ty.Contents (Elt F)) (inb : ∀ a : Fin 2, (![0, 0] : Fin 2 → Nat) a + (![1, 512] : Fin 2 → Nat) a ≤ S1x512.size a) :
    v.readAt (Elt F) (Rect.unit (s := S1x512) ![0, 0] ![1, 512] inb).toLoadRect f = v.read (Elt F) f := rd_whole v f hz2 inb

theorem rd_stored_b (v : View sig .tc sp S1x512 e) (f : v.ty.Contents (Elt F)) (inb : ∀ a : Fin 2, (![0, 0] : Fin 2 → Nat) a + (![1, 512] : Fin 2 → Nat) a ≤ S1x512.size a)
    (w : S1x512.Idx → Elt F e) (L : List (View.Piece (Elt F) S1x512 e)) :
    v.read (Elt F) (v.writes (Elt F) f ((⟨Rect.unit (s := S1x512) ![0, 0] ![1, 512] inb, w⟩ : View.Piece (Elt F) S1x512 e) :: L)) = w :=
  rd_stored v f hz2 inb w L

theorem rd_covered_b [∀ e, Nonempty (Elt F e)] (v : View sig .tc sp S1x512 e) (inb : ∀ a : Fin 2, (![0, 0] : Fin 2 → Nat) a + (![1, 512] : Fin 2 → Nat) a ≤ S1x512.size a)
    (w : S1x512.Idx → Elt F e) (L : List (View.Piece (Elt F) S1x512 e)) :
    v.readCov ((⟨Rect.unit (s := S1x512) ![0, 0] ![1, 512] inb, w⟩ : View.Piece (Elt F) S1x512 e) :: L) (Rect.unit (s := S1x512) ![0, 0] ![1, 512] inb).toLoadRect = (w : S1x512.Idx → Elt F e) :=
  rd_covered v hz2 inb w L

theorem rd_whole_c (v : View sig .tc sp S128x512 e) (f : v.ty.Contents (Elt F)) (inb : ∀ a : Fin 2, (![0, 0] : Fin 2 → Nat) a + (![128, 512] : Fin 2 → Nat) a ≤ S128x512.size a) :
    v.readAt (Elt F) (Rect.unit (s := S128x512) ![0, 0] ![128, 512] inb).toLoadRect f = v.read (Elt F) f := rd_whole v f hz2 inb

theorem rd_stored_c (v : View sig .tc sp S128x512 e) (f : v.ty.Contents (Elt F)) (inb : ∀ a : Fin 2, (![0, 0] : Fin 2 → Nat) a + (![128, 512] : Fin 2 → Nat) a ≤ S128x512.size a)
    (w : S128x512.Idx → Elt F e) (L : List (View.Piece (Elt F) S128x512 e)) :
    v.read (Elt F) (v.writes (Elt F) f ((⟨Rect.unit (s := S128x512) ![0, 0] ![128, 512] inb, w⟩ : View.Piece (Elt F) S128x512 e) :: L)) = w :=
  rd_stored v f hz2 inb w L

theorem rd_covered_c [∀ e, Nonempty (Elt F e)] (v : View sig .tc sp S128x512 e) (inb : ∀ a : Fin 2, (![0, 0] : Fin 2 → Nat) a + (![128, 512] : Fin 2 → Nat) a ≤ S128x512.size a)
    (w : S128x512.Idx → Elt F e) (L : List (View.Piece (Elt F) S128x512 e)) :
    v.readCov ((⟨Rect.unit (s := S128x512) ![0, 0] ![128, 512] inb, w⟩ : View.Piece (Elt F) S128x512 e) :: L) (Rect.unit (s := S128x512) ![0, 0] ![128, 512] inb).toLoadRect = (w : S128x512.Idx → Elt F e) :=
  rd_covered v hz2 inb w L
end

end Cert.KernelIdeal.Hand
end
-- ==== Proof.Resources.lean ====
module

public import proofs.«01_k».proof.Proof.Gen.KernelIdeal.Frame
public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import Idealize.ShloMosaic.Lib.Pipeline.KitQuiescent
public import Idealize.ShloMosaic.Lib.Tactic
public import proofs.«01_k».proof.Proof.Values

@[expose] public section

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

open Idealize.ShloMosaic.ValueIdx

/-! The resources of a trip: buffers at contents that read as a named array, or at any contents. -/

variable (c : Dev nD)

section
variable {sp : Space} {S : Shape} {e : EltTy}

/-- The buffer holds contents that read as `X`. -/
def Holds (m : Memref sig .tc sp S e) (X : S.Idx → Elt F e) : sProp 𝕄 :=
  iprop(∃ f, (m.view.loc (c : Thread nD τ) ↦[m.view.set]{fullShare} f) ∗ ⌜m.view.read (Elt F) f = X⌝)

/-- The buffer holds some contents. -/
def AnyC (m : Memref sig .tc sp S e) : sProp 𝕄 :=
  iprop(∃ f, (m.view.loc (c : Thread nD τ) ↦[m.view.set]{fullShare} f))

theorem holds_intro (m : Memref sig .tc sp S e) (X : S.Idx → Elt F e) (f : Buf (Elt F) (m.view.loc (c : Thread nD τ)))
    (h : m.view.read (Elt F) f = X) :
    ((m.view.loc (c : Thread nD τ) ↦[m.view.set]{fullShare} f : sProp 𝕄)) ⊢ Holds c m X := by
  iintro H
  unfold Holds
  iexists f
  isplitl [H]
  · iexact H
  · ipureintro; exact h

theorem any_intro (m : Memref sig .tc sp S e) (f : Buf (Elt F) (m.view.loc (c : Thread nD τ))) :
    ((m.view.loc (c : Thread nD τ) ↦[m.view.set]{fullShare} f : sProp 𝕄)) ⊢ AnyC c m := by
  iintro H
  unfold AnyC
  iexists f
  iexact H
end

/-- One head's scratch: slot 0 at a score tile and its column maxima, slot 1 at anything, the running state. -/
def HeadR (sa sb : Memref sig .tc .vmem S512x512 .f32) (ma mb m l : Memref sig .tc .vmem S1x512 .f32)
    (acc : Memref sig .tc .vmem S128x512 .f32) (s : Vec F S512x512 .f32) (mx : Vec F S1x512 .f32) (x : St F) : sProp 𝕄 :=
  iprop(Holds c sa s ∗ AnyC c sb ∗ Holds c ma mx ∗ AnyC c mb ∗ Holds c m x.m ∗ Holds c l x.l ∗ Holds c acc x.acc)

/-- The column maxima as the kernel stores them beside a score tile. -/
def mxScoreT (Q : Vec F S1x4096x1024 .bf16) (KN : Vec F S1x4096x512 .bf16) (KP : Vec F S1x4096x128 .bf16)
    (h : ℕ) (ko qo : BitVec 32) : Vec F S1x512 .f32 :=
  k0_pay11 (knTile KN (ko * 512#32).toNat (128 * h)) (kpTile KP (ko * 512#32).toNat 0) (qTile Q (qo * 512#32).toNat (256 * h))

/-- The output block after one query tile's rows were written: four heads side by side. -/
def outPut (O : Vec F S1x4096x512 .bf16) (o : ℕ) (T0 T1 T2 T3 : Vec F S1x512x128 .bf16) : Vec F S1x4096x512 .bf16 := fun y =>
  if o ≤ (y 1).val ∧ (y 1).val < o + 512 then
    (if (y 2).val < 128 then T0 else if (y 2).val < 256 then T1 else if (y 2).val < 384 then T2 else T3)
      (ix3 0 ⟨((y 1).val - o) % 512, Nat.mod_lt _ (by decide)⟩ ⟨(y 2).val % 128, Nat.mod_lt _ (by decide)⟩)
  else O y

theorem mx_of {Q : Vec F S1x4096x1024 .bf16} {KN : Vec F S1x4096x512 .bf16} {KP : Vec F S1x4096x128 .bf16} {h : ℕ} {ko qo : BitVec 32}
    {a b : Vec F S1x512x128 .bf16} {d : Vec F S1x512x256 .bf16} (ha : a = knTile KN (ko * 512#32).toNat (128 * h))
    (hb : b = kpTile KP (ko * 512#32).toNat 0) (hd : d = qTile Q (qo * 512#32).toNat (256 * h)) :
    k0_pay11 a b d = mxScoreT Q KN KP h ko qo := by
  rw [ha, hb, hd]; rfl

theorem rd_out {sp : Space} (v : View sig .tc sp S1x4096x512 .bf16) (f : v.ty.Contents (Elt F)) (o : ℕ) (off0 off1 off2 off3 : Fin 3 → Nat)
    (i0 : ∀ a, off0 a + S1x512x128.size a ≤ S1x4096x512.size a) (i1 : ∀ a, off1 a + S1x512x128.size a ≤ S1x4096x512.size a)
    (i2 : ∀ a, off2 a + S1x512x128.size a ≤ S1x4096x512.size a) (i3 : ∀ a, off3 a + S1x512x128.size a ≤ S1x4096x512.size a)
    (h0 : off0 = ![0, o, 0]) (h1 : off1 = ![0, o, 128]) (h2 : off2 = ![0, o, 256]) (h3 : off3 = ![0, o, 384])
    (T0 T1 T2 T3 : Vec F S1x512x128 .bf16) :
    v.read (Elt F) (v.writes (Elt F) f [(⟨Rect.unit (s := S1x4096x512) off3 S1x512x128.size i3, T3⟩ : View.Piece (Elt F) S1x4096x512 .bf16),
      ⟨Rect.unit (s := S1x4096x512) off2 S1x512x128.size i2, T2⟩, ⟨Rect.unit (s := S1x4096x512) off1 S1x512x128.size i1, T1⟩,
      ⟨Rect.unit (s := S1x4096x512) off0 S1x512x128.size i0, T0⟩]) = outPut (v.read (Elt F) f) o T0 T1 T2 T3 := by
  funext y
  have y0 : (y 0).val < 1 := (y 0).isLt
  have y1 : (y 1).val < 4096 := (y 1).isLt
  have y2 : (y 2).val < 512 := (y 2).isLt
  unfold outPut
  by_cases hr : o ≤ (y 1).val ∧ (y 1).val < o + 512
  · rw [if_pos hr]
    have hloc : ∀ (cc : ℕ), cc ≤ (y 2).val → (y 2).val < cc + 128 → cc % 128 = 0 → ∀ a : Fin 3, (y a).val = (![0, o, cc] : Fin 3 → ℕ) a
        + ((ix3 0 ⟨((y 1).val - o) % 512, Nat.mod_lt _ (by decide)⟩ ⟨(y 2).val % 128, Nat.mod_lt _ (by decide)⟩ : S1x512x128.Idx) a).val := by
      intro cc hc hc' hm a
      fin_cases a
      · show (y 0).val = 0 + 0; omega
      · show (y 1).val = o + ((y 1).val - o) % 512
        rw [Nat.mod_eq_of_lt (by omega)]; omega
      · show (y 2).val = cc + (y 2).val % 128
        omega
    by_cases c0 : (y 2).val < 128
    · rw [if_pos c0, View.read_writes_cons_unit_of_not_mem v f i3 _ _ y h3 2 (by left; show (y 2).val < 384; omega),
        View.read_writes_cons_unit_of_not_mem v f i2 _ _ y h2 2 (by left; show (y 2).val < 256; omega),
        View.read_writes_cons_unit_of_not_mem v f i1 _ _ y h1 2 (by left; show (y 2).val < 128; omega)]
      exact View.read_writes_cons_unit_of_mem v f i0 T0 [] y _ h0 (hloc 0 (by omega) (by omega) (by omega))
    · rw [if_neg c0]
      by_cases c1 : (y 2).val < 256
      · rw [if_pos c1, View.read_writes_cons_unit_of_not_mem v f i3 _ _ y h3 2 (by left; show (y 2).val < 384; omega),
          View.read_writes_cons_unit_of_not_mem v f i2 _ _ y h2 2 (by left; show (y 2).val < 256; omega)]
        exact View.read_writes_cons_unit_of_mem v f i1 T1 _ y _ h1 (hloc 128 (by omega) (by omega) (by omega))
      · rw [if_neg c1]
        by_cases c2 : (y 2).val < 384
        · rw [if_pos c2, View.read_writes_cons_unit_of_not_mem v f i3 _ _ y h3 2 (by left; show (y 2).val < 384; omega)]
          exact View.read_writes_cons_unit_of_mem v f i2 T2 _ y _ h2 (hloc 256 (by omega) (by omega) (by omega))
        · rw [if_neg c2]
          exact View.read_writes_cons_unit_of_mem v f i3 T3 _ y _ h3 (hloc 384 (by omega) (by omega) (by omega))
  · rw [if_neg hr]
    have hn : (y 1).val < o ∨ o + 512 ≤ (y 1).val := by omega
    rw [View.read_writes_cons_unit_of_not_mem v f i3 _ _ y h3 1 hn,
      View.read_writes_cons_unit_of_not_mem v f i2 _ _ y h2 1 hn,
      View.read_writes_cons_unit_of_not_mem v f i1 _ _ y h1 1 hn,
      View.read_writes_cons_unit_of_not_mem v f i0 _ _ y h0 1 hn]
    rfl

theorem rd_out' {sp : Space} (v : View sig .tc sp S1x4096x512 .bf16) (f : v.ty.Contents (Elt F)) (o : ℕ) (off0 off1 off2 off3 : Fin 3 → Nat)
    (i0 : ∀ a : Fin 3, off0 a + (![1, 512, 128] : Fin 3 → Nat) a ≤ S1x4096x512.size a) (i1 : ∀ a : Fin 3, off1 a + (![1, 512, 128] : Fin 3 → Nat) a ≤ S1x4096x512.size a)
    (i2 : ∀ a : Fin 3, off2 a + (![1, 512, 128] : Fin 3 → Nat) a ≤ S1x4096x512.size a) (i3 : ∀ a : Fin 3, off3 a + (![1, 512, 128] : Fin 3 → Nat) a ≤ S1x4096x512.size a)
    (h0 : off0 = ![0, o, 0]) (h1 : off1 = ![0, o, 128]) (h2 : off2 = ![0, o, 256]) (h3 : off3 = ![0, o, 384])
    {T0 T1 T2 T3 T0' T1' T2' T3' : Vec F S1x512x128 .bf16} (e0 : T0' = T0) (e1 : T1' = T1) (e2 : T2' = T2) (e3 : T3' = T3) :
    v.read (Elt F) (v.writes (Elt F) f [(⟨Rect.unit (s := S1x4096x512) off3 (![1, 512, 128] : Fin 3 → Nat) i3, T3'⟩ : View.Piece (Elt F) S1x4096x512 .bf16),
      ⟨Rect.unit (s := S1x4096x512) off2 (![1, 512, 128] : Fin 3 → Nat) i2, T2'⟩, ⟨Rect.unit (s := S1x4096x512) off1 (![1, 512, 128] : Fin 3 → Nat) i1, T1'⟩,
      ⟨Rect.unit (s := S1x4096x512) off0 (![1, 512, 128] : Fin 3 → Nat) i0, T0'⟩]) = outPut (v.read (Elt F) f) o T0 T1 T2 T3 := by
  rw [e0, e1, e2, e3]
  exact rd_out v f o off0 off1 off2 off3 i0 i1 i2 i3 h0 h1 h2 h3 T0 T1 T2 T3

end Cert.KernelIdeal.Hand
end
-- ==== Proof.Checks.lean ====
module

public import proofs.«01_k».proof.Proof.Gen.KernelIdeal.Frame
public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import Idealize.ShloMosaic.Lib.Pipeline.KitQuiescent
public import Idealize.ShloMosaic.Lib.Tactic

@[expose] public section

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ
abbrev 𝒱₀ : Variants := Variants.none

/-- A word below eight, as the eight literals it can be. -/
theorem word_lt (w : BitVec 32) (h : w.toNat < 8) : ∃ n : Fin 8, w = BitVec.ofNat 32 n.val :=
  ⟨⟨w.toNat, h⟩, by simp⟩

/-- Every tile number the tables can hold addresses a tile inside its window: the run-time checks of a trip. -/
theorem checks_of (a b c d w : BitVec 32) (h : w.toNat < 8) :
    k0_chk3 a b c d w ∧ k0_chk4 a b c d w ∧ k0_chk5 a b c d w ∧ k0_chk6 a b c d w ∧ k0_chk7 a b c d w ∧ k0_chk8 a b c d w ∧ k0_chk9 a b c d w ∧ k0_chk10 a b c d w ∧ k0_chk11 a b c d w ∧ k0_chk12 a b c d w ∧ k0_chk13 a b c d w ∧ k0_chk14 a b c d w ∧ k0_chk15 a b c d w ∧ k0_chk16 a b c d w ∧ k0_chk17 a b c d w ∧ k0_chk18 a b c d w ∧ k0_chk19 a b c d w ∧ k0_chk20 a b c d w ∧ k0_chk21 a b c d w ∧ k0_chk22 a b c d w ∧ k0_chk23 a b c d w ∧ k0_chk24 a b c d w ∧ k0_chk25 a b c d w ∧ k0_chk26 a b c d w ∧ k0_chk27 a b c d w ∧ k0_chk28 a b c d w := by
  obtain ⟨n, rfl⟩ := word_lt w h
  clear h
  refine ⟨?_, ?_, ?_, ?_, ?_, ?_, ?_, ?_, ?_, ?_, ?_, ?_, ?_, ?_, ?_, ?_, ?_, ?_, ?_, ?_, ?_, ?_, ?_, ?_, ?_, ?_⟩
  all_goals
    simp only [k0_chk3, k0_chk4, k0_chk5, k0_chk6, k0_chk7, k0_chk8, k0_chk9, k0_chk10, k0_chk11, k0_chk12, k0_chk13, k0_chk14, k0_chk15, k0_chk16, k0_chk17, k0_chk18, k0_chk19, k0_chk20, k0_chk21, k0_chk22, k0_chk23, k0_chk24, k0_chk25, k0_chk26, k0_chk27, k0_chk28]
    repeat' apply And.intro
  all_goals
    intro _
    clear * -
    revert n
    decide +kernel

theorem chk3_of {a b c d w : BitVec 32} (h : w.toNat < 8) : k0_chk3 a b c d w := (checks_of a b c d w h).1
theorem chk4_of {a b c d w : BitVec 32} (h : w.toNat < 8) : k0_chk4 a b c d w := (checks_of a b c d w h).2.1
theorem chk5_of {a b c d w : BitVec 32} (h : w.toNat < 8) : k0_chk5 a b c d w := (checks_of a b c d w h).2.2.1
theorem chk6_of {a b c d w : BitVec 32} (h : w.toNat < 8) : k0_chk6 a b c d w := (checks_of a b c d w h).2.2.2.1
theorem chk7_of {a b c d w : BitVec 32} (h : w.toNat < 8) : k0_chk7 a b c d w := (checks_of a b c d w h).2.2.2.2.1
theorem chk8_of {a b c d w : BitVec 32} (h : w.toNat < 8) : k0_chk8 a b c d w := (checks_of a b c d w h).2.2.2.2.2.1
theorem chk9_of {a b c d w : BitVec 32} (h : w.toNat < 8) : k0_chk9 a b c d w := (checks_of a b c d w h).2.2.2.2.2.2.1
theorem chk10_of {a b c d w : BitVec 32} (h : w.toNat < 8) : k0_chk10 a b c d w := (checks_of a b c d w h).2.2.2.2.2.2.2.1
theorem chk11_of {a b c d w : BitVec 32} (h : w.toNat < 8) : k0_chk11 a b c d w := (checks_of a b c d w h).2.2.2.2.2.2.2.2.1
theorem chk12_of {a b c d w : BitVec 32} (h : w.toNat < 8) : k0_chk12 a b c d w := (checks_of a b c d w h).2.2.2.2.2.2.2.2.2.1
theorem chk13_of {a b c d w : BitVec 32} (h : w.toNat < 8) : k0_chk13 a b c d w := (checks_of a b c d w h).2.2.2.2.2.2.2.2.2.2.1
theorem chk14_of {a b c d w : BitVec 32} (h : w.toNat < 8) : k0_chk14 a b c d w := (checks_of a b c d w h).2.2.2.2.2.2.2.2.2.2.2.1
theorem chk15_of {a b c d w : BitVec 32} (h : w.toNat < 8) : k0_chk15 a b c d w := (checks_of a b c d w h).2.2.2.2.2.2.2.2.2.2.2.2.1
theorem chk16_of {a b c d w : BitVec 32} (h : w.toNat < 8) : k0_chk16 a b c d w := (checks_of a b c d w h).2.2.2.2.2.2.2.2.2.2.2.2.2.1
theorem chk17_of {a b c d w : BitVec 32} (h : w.toNat < 8) : k0_chk17 a b c d w := (checks_of a b c d w h).2.2.2.2.2.2.2.2.2.2.2.2.2.2.1
theorem chk18_of {a b c d w : BitVec 32} (h : w.toNat < 8) : k0_chk18 a b c d w := (checks_of a b c d w h).2.2.2.2.2.2.2.2.2.2.2.2.2.2.2.1
theorem chk19_of {a b c d w : BitVec 32} (h : w.toNat < 8) : k0_chk19 a b c d w := (checks_of a b c d w h).2.2.2.2.2.2.2.2.2.2.2.2.2.2.2.2.1
theorem chk20_of {a b c d w : BitVec 32} (h : w.toNat < 8) : k0_chk20 a b c d w := (checks_of a b c d w h).2.2.2.2.2.2.2.2.2.2.2.2.2.2.2.2.2.1
theorem chk21_of {a b c d w : BitVec 32} (h : w.toNat < 8) : k0_chk21 a b c d w := (checks_of a b c d w h).2.2.2.2.2.2.2.2.2.2.2.2.2.2.2.2.2.2.1
theorem chk22_of {a b c d w : BitVec 32} (h : w.toNat < 8) : k0_chk22 a b c d w := (checks_of a b c d w h).2.2.2.2.2.2.2.2.2.2.2.2.2.2.2.2.2.2.2.1
theorem chk23_of {a b c d w : BitVec 32} (h : w.toNat < 8) : k0_chk23 a b c d w := (checks_of a b c d w h).2.2.2.2.2.2.2.2.2.2.2.2.2.2.2.2.2.2.2.2.1
theorem chk24_of {a b c d w : BitVec 32} (h : w.toNat < 8) : k0_chk24 a b c d w := (checks_of a b c d w h).2.2.2.2.2.2.2.2.2.2.2.2.2.2.2.2.2.2.2.2.2.1
theorem chk25_of {a b c d w : BitVec 32} (h : w.toNat < 8) : k0_chk25 a b c d w := (checks_of a b c d w h).2.2.2.2.2.2.2.2.2.2.2.2.2.2.2.2.2.2.2.2.2.2.1
theorem chk26_of {a b c d w : BitVec 32} (h : w.toNat < 8) : k0_chk26 a b c d w := (checks_of a b c d w h).2.2.2.2.2.2.2.2.2.2.2.2.2.2.2.2.2.2.2.2.2.2.2.1
theorem chk27_of {a b c d w : BitVec 32} (h : w.toNat < 8) : k0_chk27 a b c d w := (checks_of a b c d w h).2.2.2.2.2.2.2.2.2.2.2.2.2.2.2.2.2.2.2.2.2.2.2.2.1
theorem chk28_of {a b c d w : BitVec 32} (h : w.toNat < 8) : k0_chk28 a b c d w := (checks_of a b c d w h).2.2.2.2.2.2.2.2.2.2.2.2.2.2.2.2.2.2.2.2.2.2.2.2.2

/-- The checks before the loop, of the first pair of the tables. -/
theorem chk1_of {w : BitVec 32} (h : w.toNat < 8) : k0_chk1 w := by
  obtain ⟨n, rfl⟩ := word_lt w h
  clear h
  revert n
  decide +kernel

theorem chk2_of {w : BitVec 32} (h : w.toNat < 8) : k0_chk2 w := by
  obtain ⟨n, rfl⟩ := word_lt w h
  clear h
  revert n
  decide +kernel

end Cert.KernelIdeal.Hand
end
-- ==== Proof.State.lean ====
module

public import proofs.«01_k».proof.Proof.Gen.KernelIdeal.Frame
public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import Idealize.ShloMosaic.Lib.Pipeline.KitQuiescent
public import Idealize.ShloMosaic.Lib.Tactic
public import proofs.«01_k».proof.Proof.Resources

@[expose] public section

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

open Idealize.ShloMosaic.ValueIdx

/-! The kernel's loop as a function of what it reads: one trip takes the scratch and the output block to the next. -/

/-- What one grid point reads: the two tables of tile numbers and the four blocks. -/
structure Env (F : FTy → Type) [FloatOps F] [Named F] where
  T2 : S37.Idx → BitVec 32
  T3 : S37.Idx → BitVec 32
  Q : Vec F S1x4096x1024 .bf16
  KN : Vec F S1x4096x512 .bf16
  KP : Vec F S1x4096x128 .bf16
  VT : Vec F S512x4096 .bf16

/-- What the trips carry: per head a score tile, its column maxima and the running state; and the output block. -/
structure Big (F : FTy → Type) [FloatOps F] [Named F] where
  s : Fin 4 → Vec F S512x512 .f32
  mx : Fin 4 → Vec F S1x512 .f32
  st : Fin 4 → St F
  O : Vec F S1x4096x512 .bf16

namespace Env
variable (E : Env F)

/-- The key tile and the query tile of position `t`. -/
def kt (t : ℕ) : BitVec 32 := rdT E.T3 t
def qt (t : ℕ) : BitVec 32 := rdT E.T2 t
/-- The scores at position `t`, their column maxima, and its tile of values. -/
def sc (h t : ℕ) : Vec F S512x512 .f32 := scoreT E.Q E.KN E.KP h (E.kt t) (E.qt t)
def mxs (h t : ℕ) : Vec F S1x512 .f32 := mxScoreT E.Q E.KN E.KP h (E.kt t) (E.qt t)
def vt (h t : ℕ) : Vec F S128x512 .bf16 := vtTile E.VT (128 * h) (E.kt t * 512#32).toNat
end Env

/-- One trip of the loop, on positions `2 k` and `2 k + 1`. -/
def stepB (E : Env F) (jj ii : IVec S512x512 32) (k : ℕ) (B : Big F) : Big F where
  s h := E.sc h.val (2 * k + 2)
  mx h := E.mxs h.val (2 * k + 2)
  st h :=
    if E.kt (2 * k) = E.qt (2 * k) then updT (E.sc h.val (2 * k + 1)) (E.mxs h.val (2 * k + 1)) (E.vt h.val (2 * k + 1)) resetT
    else if E.kt (2 * k + 1) = E.qt (2 * k + 1) then resetT
    else updT (E.sc h.val (2 * k + 1)) (E.mxs h.val (2 * k + 1)) (E.vt h.val (2 * k + 1)) (updT (B.s h) (B.mx h) (E.vt h.val (2 * k)) (B.st h))
  O :=
    if E.kt (2 * k) = E.qt (2 * k) then
      outPut B.O (E.qt (2 * k) * 512#32).toNat (outT (diagT jj ii (B.s 0) (E.vt 0 (2 * k)) (B.st 0))) (outT (diagT jj ii (B.s 1) (E.vt 1 (2 * k)) (B.st 1)))
        (outT (diagT jj ii (B.s 2) (E.vt 2 (2 * k)) (B.st 2))) (outT (diagT jj ii (B.s 3) (E.vt 3 (2 * k)) (B.st 3)))
    else if E.kt (2 * k + 1) = E.qt (2 * k + 1) then
      outPut B.O (E.qt (2 * k + 1) * 512#32).toNat
        (outT (diagT jj ii (E.sc 0 (2 * k + 1)) (E.vt 0 (2 * k + 1)) (updT (B.s 0) (B.mx 0) (E.vt 0 (2 * k)) (B.st 0))))
        (outT (diagT jj ii (E.sc 1 (2 * k + 1)) (E.vt 1 (2 * k + 1)) (updT (B.s 1) (B.mx 1) (E.vt 1 (2 * k)) (B.st 1))))
        (outT (diagT jj ii (E.sc 2 (2 * k + 1)) (E.vt 2 (2 * k + 1)) (updT (B.s 2) (B.mx 2) (E.vt 2 (2 * k)) (B.st 2))))
        (outT (diagT jj ii (E.sc 3 (2 * k + 1)) (E.vt 3 (2 * k + 1)) (updT (B.s 3) (B.mx 3) (E.vt 3 (2 * k)) (B.st 3))))
    else B.O

theorem stepB_mx (E : Env F) (jj ii : IVec S512x512 32) (k : ℕ) (B : Big F) (h : Fin 4) :
    (stepB E jj ii k B).mx h = mxScoreT E.Q E.KN E.KP h.val (rdT E.T3 (2 * k + 2)) (rdT E.T2 (2 * k + 2)) := by
  simp only [stepB, Env.mxs, Env.kt, Env.qt]

theorem stepB_s (E : Env F) (jj ii : IVec S512x512 32) (k : ℕ) (B : Big F) (h : Fin 4) :
    (stepB E jj ii k B).s h = scoreT E.Q E.KN E.KP h.val (rdT E.T3 (2 * k + 2)) (rdT E.T2 (2 * k + 2)) := rfl

/-- Before the first trip: the scores of position 0, the starting states, an output block at anything. -/
def initB (E : Env F) (O : Vec F S1x4096x512 .bf16) : Big F where
  s h := E.sc h.val 0
  mx h := E.mxs h.val 0
  st _ := resetT
  O := O

theorem initB_mx (E : Env F) (O : Vec F S1x4096x512 .bf16) (h : Fin 4) :
    (initB E O).mx h = mxScoreT E.Q E.KN E.KP h.val (rdT E.T3 0) (rdT E.T2 0) := by
  simp only [initB, Env.mxs, Env.kt, Env.qt]

/-- The key offset of each entry of a score tile, and its query offset. -/
def jjK : IVec S512x512 32 := iota .tc S512x512 32 [0] iota_S512x512_d0_w32
def iiK : IVec S512x512 32 := iota .tc S512x512 32 [1] iota_S512x512_d1_w32

/-- Before trip `n`. -/
def runB (E : Env F) (jj ii : IVec S512x512 32) (B : Big F) : ℕ → Big F
  | 0 => B
  | n + 1 => stepB E jj ii n (runB E jj ii B n)

theorem runB_zero (E : Env F) (jj ii : IVec S512x512 32) (B : Big F) : runB E jj ii B 0 = B := rfl

/-- The tables are fit: every word below 8, and of two neighbouring positions at most one on the diagonal. -/
structure Fit (E : Env F) : Prop where
  w2 : ∀ x, (E.T2 x).toNat < 8
  w3 : ∀ x, (E.T3 x).toNat < 8
  d : ∀ k < 18, ¬ (E.kt (2 * k) = E.qt (2 * k) ∧ E.kt (2 * k + 1) = E.qt (2 * k + 1))

theorem off10_0 : ∀ k : Fin k0_t1_loop.trips, k0_off10 k 0 = 2 * k.val := by decide +kernel
theorem off11_0 : ∀ k : Fin k0_t1_loop.trips, k0_off11 k 0 = 2 * k.val + 1 := by decide +kernel
theorem off28_0 : ∀ k : Fin k0_t1_loop.trips, k0_off28 k 0 = 2 * k.val + 2 := by decide +kernel

theorem cmp_eq (a b : BitVec 32) : Scalar.cmpi .eq a b = BitVec.ofBool (decide (a = b)) := by
  rw [← beq_eq_decide]; rfl

theorem cond1_iff (a b c d : BitVec 32) : k0_cond1 a b c d = 1#1 ↔ (a ≠ b ∧ c ≠ d) := by
  unfold k0_cond1
  simp only [cmp_eq]
  by_cases hp : a = b <;> by_cases hq : c = d <;> simp only [hp, hq, decide_true, decide_false, ne_eq, not_true_eq_false, not_false_eq_true, and_self, and_true, and_false, true_and, false_and, iff_true, iff_false] <;> decide

theorem cond2_iff (a b c d : BitVec 32) : k0_cond2 a b c d = 1#1 ↔ (a = b ∧ c ≠ d) := by
  unfold k0_cond2
  simp only [cmp_eq]
  by_cases hp : a = b <;> by_cases hq : c = d <;> simp only [hp, hq, decide_true, decide_false, ne_eq, not_true_eq_false, not_false_eq_true, and_self, and_true, and_false, true_and, false_and, iff_true, iff_false] <;> decide

theorem cond3_iff (a b c d : BitVec 32) : k0_cond3 a b c d = 1#1 ↔ (a ≠ b ∧ c = d) := by
  unfold k0_cond3
  simp only [cmp_eq]
  by_cases hp : a = b <;> by_cases hq : c = d <;> simp only [hp, hq, decide_true, decide_false, ne_eq, not_true_eq_false, not_false_eq_true, and_self, and_true, and_false, true_and, false_and, iff_true, iff_false] <;> decide

end Cert.KernelIdeal.Hand
end
-- ==== Proof.Trip.lean ====
module

public import proofs.«01_k».proof.Proof.Gen.KernelIdeal.Frame
public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import Idealize.ShloMosaic.Lib.Pipeline.KitQuiescent
public import Idealize.ShloMosaic.Lib.Tactic
public import proofs.«01_k».proof.Proof.Resources
public import proofs.«01_k».proof.Proof.Checks

@[expose] public section

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The word a trip's condition reads from a table: the pair's first position. -/
abbrev wdA (c : Dev nD) (m : Memref sig .tc .smem S37 .i32) (k : Fin k0_t1_loop.trips) (f : Buf (Elt F) (m.view.loc (c : Thread nD τ))) : BitVec 32 :=
  View.readAt (Elt F) m.view (Rect.unit (s := S37) (k0_off10 k) S1.size (k0_off10_inb k)).toLoadRect f (Shape.Idx.first (numel1_S1.symm ▸ Nat.one_pos))

/-- The word a trip's condition reads from a table: the pair's second position. -/
abbrev wdB (c : Dev nD) (m : Memref sig .tc .smem S37 .i32) (k : Fin k0_t1_loop.trips) (f : Buf (Elt F) (m.view.loc (c : Thread nD τ))) : BitVec 32 :=
  View.readAt (Elt F) m.view (Rect.unit (s := S37) (k0_off11 k) S1.size (k0_off11_inb k)).toLoadRect f (Shape.Idx.first (numel1_S1.symm ▸ Nat.one_pos))

variable (c : Dev nD) (i : grid0.Coords) (arg2 : Memref sig .tc .smem S37 .i32) (harg2 : arg2.IsWhole) (arg3 : Memref sig .tc .smem S37 .i32) (harg3 : arg3.IsWhole) (arg4 : Memref sig .tc .vmem S1x4096x1024 .bf16) (harg4 : arg4.IsWhole) (arg5 : Memref sig .tc .vmem S1x4096x512 .bf16) (harg5 : arg5.IsWhole) (arg6 : Memref sig .tc .vmem S1x4096x128 .bf16) (harg6 : arg6.IsWhole) (arg7 : Memref sig .tc .vmem S512x4096 .bf16) (harg7 : arg7.IsWhole) (arg8 : Memref sig .tc .vmem S1x4096x512 .bf16) (harg8 : arg8.IsWhole) (arg9 : Memref sig .tc .vmem S512x512 .f32) (harg9 : arg9.IsWhole) (arg10 : Memref sig .tc .vmem S512x512 .f32) (harg10 : arg10.IsWhole) (arg11 : Memref sig .tc .vmem S1x512 .f32) (harg11 : arg11.IsWhole) (arg12 : Memref sig .tc .vmem S1x512 .f32) (harg12 : arg12.IsWhole) (arg13 : Memref sig .tc .vmem S1x512 .f32) (harg13 : arg13.IsWhole) (arg14 : Memref sig .tc .vmem S1x512 .f32) (harg14 : arg14.IsWhole) (arg15 : Memref sig .tc .vmem S128x512 .f32) (harg15 : arg15.IsWhole) (arg16 : Memref sig .tc .vmem S512x512 .f32) (harg16 : arg16.IsWhole) (arg17 : Memref sig .tc .vmem S512x512 .f32) (harg17 : arg17.IsWhole) (arg18 : Memref sig .tc .vmem S1x512 .f32) (harg18 : arg18.IsWhole) (arg19 : Memref sig .tc .vmem S1x512 .f32) (harg19 : arg19.IsWhole) (arg20 : Memref sig .tc .vmem S1x512 .f32) (harg20 : arg20.IsWhole) (arg21 : Memref sig .tc .vmem S1x512 .f32) (harg21 : arg21.IsWhole) (arg22 : Memref sig .tc .vmem S128x512 .f32) (harg22 : arg22.IsWhole) (arg23 : Memref sig .tc .vmem S512x512 .f32) (harg23 : arg23.IsWhole) (arg24 : Memref sig .tc .vmem S512x512 .f32) (harg24 : arg24.IsWhole) (arg25 : Memref sig .tc .vmem S1x512 .f32) (harg25 : arg25.IsWhole) (arg26 : Memref sig .tc .vmem S1x512 .f32) (harg26 : arg26.IsWhole) (arg27 : Memref sig .tc .vmem S1x512 .f32) (harg27 : arg27.IsWhole) (arg28 : Memref sig .tc .vmem S1x512 .f32) (harg28 : arg28.IsWhole) (arg29 : Memref sig .tc .vmem S128x512 .f32) (harg29 : arg29.IsWhole) (arg30 : Memref sig .tc .vmem S512x512 .f32) (harg30 : arg30.IsWhole) (arg31 : Memref sig .tc .vmem S512x512 .f32) (harg31 : arg31.IsWhole) (arg32 : Memref sig .tc .vmem S1x512 .f32) (harg32 : arg32.IsWhole) (arg33 : Memref sig .tc .vmem S1x512 .f32) (harg33 : arg33.IsWhole) (arg34 : Memref sig .tc .vmem S1x512 .f32) (harg34 : arg34.IsWhole) (arg35 : Memref sig .tc .vmem S1x512 .f32) (harg35 : arg35.IsWhole) (arg36 : Memref sig .tc .vmem S128x512 .f32) (harg36 : arg36.IsWhole) (v48 v49 : IVec S512x512 32)

abbrev tripG (k : Fin k0_t1_loop.trips) : Prog (TpuEff nD τ sig (Elt F) Λ₀ .tc) Unit :=
  k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 v48 v49 k ()

end Cert.KernelIdeal.Hand
end
-- ==== Proof.TripFF.lean ====
module

public import proofs.«01_k».proof.Proof.Gen.KernelIdeal.Frame
public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import Idealize.ShloMosaic.Lib.Pipeline.KitQuiescent
public import Idealize.ShloMosaic.Lib.Tactic
public import proofs.«01_k».proof.Proof.Resources
public import proofs.«01_k».proof.Proof.Checks
public import proofs.«01_k».proof.Proof.Trip

@[expose] public section

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

open Idealize.ShloMosaic.ValueIdx

variable (c : Dev nD) (i : grid0.Coords) (arg2 : Memref sig .tc .smem S37 .i32) (harg2 : arg2.IsWhole) (arg3 : Memref sig .tc .smem S37 .i32) (harg3 : arg3.IsWhole) (arg4 : Memref sig .tc .vmem S1x4096x1024 .bf16) (harg4 : arg4.IsWhole) (arg5 : Memref sig .tc .vmem S1x4096x512 .bf16) (harg5 : arg5.IsWhole) (arg6 : Memref sig .tc .vmem S1x4096x128 .bf16) (harg6 : arg6.IsWhole) (arg7 : Memref sig .tc .vmem S512x4096 .bf16) (harg7 : arg7.IsWhole) (arg8 : Memref sig .tc .vmem S1x4096x512 .bf16) (harg8 : arg8.IsWhole) (arg9 : Memref sig .tc .vmem S512x512 .f32) (harg9 : arg9.IsWhole) (arg10 : Memref sig .tc .vmem S512x512 .f32) (harg10 : arg10.IsWhole) (arg11 : Memref sig .tc .vmem S1x512 .f32) (harg11 : arg11.IsWhole) (arg12 : Memref sig .tc .vmem S1x512 .f32) (harg12 : arg12.IsWhole) (arg13 : Memref sig .tc .vmem S1x512 .f32) (harg13 : arg13.IsWhole) (arg14 : Memref sig .tc .vmem S1x512 .f32) (harg14 : arg14.IsWhole) (arg15 : Memref sig .tc .vmem S128x512 .f32) (harg15 : arg15.IsWhole) (arg16 : Memref sig .tc .vmem S512x512 .f32) (harg16 : arg16.IsWhole) (arg17 : Memref sig .tc .vmem S512x512 .f32) (harg17 : arg17.IsWhole) (arg18 : Memref sig .tc .vmem S1x512 .f32) (harg18 : arg18.IsWhole) (arg19 : Memref sig .tc .vmem S1x512 .f32) (harg19 : arg19.IsWhole) (arg20 : Memref sig .tc .vmem S1x512 .f32) (harg20 : arg20.IsWhole) (arg21 : Memref sig .tc .vmem S1x512 .f32) (harg21 : arg21.IsWhole) (arg22 : Memref sig .tc .vmem S128x512 .f32) (harg22 : arg22.IsWhole) (arg23 : Memref sig .tc .vmem S512x512 .f32) (harg23 : arg23.IsWhole) (arg24 : Memref sig .tc .vmem S512x512 .f32) (harg24 : arg24.IsWhole) (arg25 : Memref sig .tc .vmem S1x512 .f32) (harg25 : arg25.IsWhole) (arg26 : Memref sig .tc .vmem S1x512 .f32) (harg26 : arg26.IsWhole) (arg27 : Memref sig .tc .vmem S1x512 .f32) (harg27 : arg27.IsWhole) (arg28 : Memref sig .tc .vmem S1x512 .f32) (harg28 : arg28.IsWhole) (arg29 : Memref sig .tc .vmem S128x512 .f32) (harg29 : arg29.IsWhole) (arg30 : Memref sig .tc .vmem S512x512 .f32) (harg30 : arg30.IsWhole) (arg31 : Memref sig .tc .vmem S512x512 .f32) (harg31 : arg31.IsWhole) (arg32 : Memref sig .tc .vmem S1x512 .f32) (harg32 : arg32.IsWhole) (arg33 : Memref sig .tc .vmem S1x512 .f32) (harg33 : arg33.IsWhole) (arg34 : Memref sig .tc .vmem S1x512 .f32) (harg34 : arg34.IsWhole) (arg35 : Memref sig .tc .vmem S1x512 .f32) (harg35 : arg35.IsWhole) (arg36 : Memref sig .tc .vmem S128x512 .f32) (harg36 : arg36.IsWhole) (v48 v49 : IVec S512x512 32)

set_option maxHeartbeats 8000000 in
set_option maxRecDepth 20000 in
theorem tripFF (k : Fin k0_t1_loop.trips) (f2 : Buf (Elt F) (arg2.view.loc (c : Thread nD τ))) (f3 : Buf (Elt F) (arg3.view.loc (c : Thread nD τ))) (f4 : Buf (Elt F) (arg4.view.loc (c : Thread nD τ))) (f5 : Buf (Elt F) (arg5.view.loc (c : Thread nD τ))) (f6 : Buf (Elt F) (arg6.view.loc (c : Thread nD τ))) (f7 : Buf (Elt F) (arg7.view.loc (c : Thread nD τ))) (f8 : Buf (Elt F) (arg8.view.loc (c : Thread nD τ))) (f9 : Buf (Elt F) (arg9.view.loc (c : Thread nD τ))) (f10 : Buf (Elt F) (arg10.view.loc (c : Thread nD τ))) (f11 : Buf (Elt F) (arg11.view.loc (c : Thread nD τ))) (f12 : Buf (Elt F) (arg12.view.loc (c : Thread nD τ))) (f13 : Buf (Elt F) (arg13.view.loc (c : Thread nD τ))) (f14 : Buf (Elt F) (arg14.view.loc (c : Thread nD τ))) (f15 : Buf (Elt F) (arg15.view.loc (c : Thread nD τ))) (f16 : Buf (Elt F) (arg16.view.loc (c : Thread nD τ))) (f17 : Buf (Elt F) (arg17.view.loc (c : Thread nD τ))) (f18 : Buf (Elt F) (arg18.view.loc (c : Thread nD τ))) (f19 : Buf (Elt F) (arg19.view.loc (c : Thread nD τ))) (f20 : Buf (Elt F) (arg20.view.loc (c : Thread nD τ))) (f21 : Buf (Elt F) (arg21.view.loc (c : Thread nD τ))) (f22 : Buf (Elt F) (arg22.view.loc (c : Thread nD τ))) (f23 : Buf (Elt F) (arg23.view.loc (c : Thread nD τ))) (f24 : Buf (Elt F) (arg24.view.loc (c : Thread nD τ))) (f25 : Buf (Elt F) (arg25.view.loc (c : Thread nD τ))) (f26 : Buf (Elt F) (arg26.view.loc (c : Thread nD τ))) (f27 : Buf (Elt F) (arg27.view.loc (c : Thread nD τ))) (f28 : Buf (Elt F) (arg28.view.loc (c : Thread nD τ))) (f29 : Buf (Elt F) (arg29.view.loc (c : Thread nD τ))) (f30 : Buf (Elt F) (arg30.view.loc (c : Thread nD τ))) (f31 : Buf (Elt F) (arg31.view.loc (c : Thread nD τ))) (f32 : Buf (Elt F) (arg32.view.loc (c : Thread nD τ))) (f33 : Buf (Elt F) (arg33.view.loc (c : Thread nD τ))) (f34 : Buf (Elt F) (arg34.view.loc (c : Thread nD τ))) (f35 : Buf (Elt F) (arg35.view.loc (c : Thread nD τ))) (f36 : Buf (Elt F) (arg36.view.loc (c : Thread nD τ)))
    (hw2 : ∀ (B : LoadRect S37) (x : B.shape.Idx), BitVec.toNat (w := 32) (View.readAt (Elt F) arg2.view B f2 x) < 8)
    (hw3 : ∀ (B : LoadRect S37) (x : B.shape.Idx), BitVec.toNat (w := 32) (View.readAt (Elt F) arg3.view B f3 x) < 8)
    (hc1 : k0_cond1 (wdA c arg3 k f3) (wdA c arg2 k f2) (wdB c arg3 k f3) (wdB c arg2 k f2) = 1#1) (hc2 : ¬ k0_cond2 (wdA c arg3 k f3) (wdA c arg2 k f2) (wdB c arg3 k f3) (wdB c arg2 k f2) = 1#1) (hc3 : ¬ k0_cond3 (wdA c arg3 k f3) (wdA c arg2 k f2) (wdB c arg3 k f3) (wdB c arg2 k f2) = 1#1) :
    (iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ (arg17.view.loc (c : Thread nD τ) ↦[arg17.view.set]{fullShare} f17) ∗ (arg18.view.loc (c : Thread nD τ) ↦[arg18.view.set]{fullShare} f18) ∗ (arg19.view.loc (c : Thread nD τ) ↦[arg19.view.set]{fullShare} f19) ∗ (arg20.view.loc (c : Thread nD τ) ↦[arg20.view.set]{fullShare} f20) ∗ (arg21.view.loc (c : Thread nD τ) ↦[arg21.view.set]{fullShare} f21) ∗ (arg22.view.loc (c : Thread nD τ) ↦[arg22.view.set]{fullShare} f22) ∗ (arg23.view.loc (c : Thread nD τ) ↦[arg23.view.set]{fullShare} f23) ∗ (arg24.view.loc (c : Thread nD τ) ↦[arg24.view.set]{fullShare} f24) ∗ (arg25.view.loc (c : Thread nD τ) ↦[arg25.view.set]{fullShare} f25) ∗ (arg26.view.loc (c : Thread nD τ) ↦[arg26.view.set]{fullShare} f26) ∗ (arg27.view.loc (c : Thread nD τ) ↦[arg27.view.set]{fullShare} f27) ∗ (arg28.view.loc (c : Thread nD τ) ↦[arg28.view.set]{fullShare} f28) ∗ (arg29.view.loc (c : Thread nD τ) ↦[arg29.view.set]{fullShare} f29) ∗ (arg30.view.loc (c : Thread nD τ) ↦[arg30.view.set]{fullShare} f30) ∗ (arg31.view.loc (c : Thread nD τ) ↦[arg31.view.set]{fullShare} f31) ∗ (arg32.view.loc (c : Thread nD τ) ↦[arg32.view.set]{fullShare} f32) ∗ (arg33.view.loc (c : Thread nD τ) ↦[arg33.view.set]{fullShare} f33) ∗ (arg34.view.loc (c : Thread nD τ) ↦[arg34.view.set]{fullShare} f34) ∗ (arg35.view.loc (c : Thread nD τ) ↦[arg35.view.set]{fullShare} f35) ∗ (arg36.view.loc (c : Thread nD τ) ↦[arg36.view.set]{fullShare} f36)) : sProp 𝕄)
      ⊢ wp frame (wpE (defs₀ (F := F)) Variants.none (c : Thread nD τ) none) Set.univ (tripG i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 v48 v49 k)
        (fun _ => iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ Holds c arg8 (arg8.view.read (Elt F) f8) ∗ HeadR c arg9 arg10 arg11 arg12 arg13 arg14 arg15 (scoreT (arg4.view.read (Elt F) f4) (arg5.view.read (Elt F) f5) (arg6.view.read (Elt F) f6) 0 (rdT (arg3.view.read (Elt F) f3) (k0_off28 k 0)) (rdT (arg2.view.read (Elt F) f2) (k0_off28 k 0))) (mxScoreT (arg4.view.read (Elt F) f4) (arg5.view.read (Elt F) f5) (arg6.view.read (Elt F) f6) 0 (rdT (arg3.view.read (Elt F) f3) (k0_off28 k 0)) (rdT (arg2.view.read (Elt F) f2) (k0_off28 k 0))) (updT (scoreT (arg4.view.read (Elt F) f4) (arg5.view.read (Elt F) f5) (arg6.view.read (Elt F) f6) 0 (rdT (arg3.view.read (Elt F) f3) (k0_off11 k 0)) (rdT (arg2.view.read (Elt F) f2) (k0_off11 k 0))) (mxScoreT (arg4.view.read (Elt F) f4) (arg5.view.read (Elt F) f5) (arg6.view.read (Elt F) f6) 0 (rdT (arg3.view.read (Elt F) f3) (k0_off11 k 0)) (rdT (arg2.view.read (Elt F) f2) (k0_off11 k 0))) (vtTile (arg7.view.read (Elt F) f7) (128 * 0) ((rdT (arg3.view.read (Elt F) f3) (k0_off11 k 0)) * 512#32).toNat) (updT (arg9.view.read (Elt F) f9) (arg11.view.read (Elt F) f11) (vtTile (arg7.view.read (Elt F) f7) (128 * 0) ((rdT (arg3.view.read (Elt F) f3) (k0_off10 k 0)) * 512#32).toNat) (⟨(arg13.view.read (Elt F) f13), (arg14.view.read (Elt F) f14), (arg15.view.read (Elt F) f15)⟩ : St F))) ∗ HeadR c arg16 arg17 arg18 arg19 arg20 arg21 arg22 (scoreT (arg4.view.read (Elt F) f4) (arg5.view.read (Elt F) f5) (arg6.view.read (Elt F) f6) 1 (rdT (arg3.view.read (Elt F) f3) (k0_off28 k 0)) (rdT (arg2.view.read (Elt F) f2) (k0_off28 k 0))) (mxScoreT (arg4.view.read (Elt F) f4) (arg5.view.read (Elt F) f5) (arg6.view.read (Elt F) f6) 1 (rdT (arg3.view.read (Elt F) f3) (k0_off28 k 0)) (rdT (arg2.view.read (Elt F) f2) (k0_off28 k 0))) (updT (scoreT (arg4.view.read (Elt F) f4) (arg5.view.read (Elt F) f5) (arg6.view.read (Elt F) f6) 1 (rdT (arg3.view.read (Elt F) f3) (k0_off11 k 0)) (rdT (arg2.view.read (Elt F) f2) (k0_off11 k 0))) (mxScoreT (arg4.view.read (Elt F) f4) (arg5.view.read (Elt F) f5) (arg6.view.read (Elt F) f6) 1 (rdT (arg3.view.read (Elt F) f3) (k0_off11 k 0)) (rdT (arg2.view.read (Elt F) f2) (k0_off11 k 0))) (vtTile (arg7.view.read (Elt F) f7) (128 * 1) ((rdT (arg3.view.read (Elt F) f3) (k0_off11 k 0)) * 512#32).toNat) (updT (arg16.view.read (Elt F) f16) (arg18.view.read (Elt F) f18) (vtTile (arg7.view.read (Elt F) f7) (128 * 1) ((rdT (arg3.view.read (Elt F) f3) (k0_off10 k 0)) * 512#32).toNat) (⟨(arg20.view.read (Elt F) f20), (arg21.view.read (Elt F) f21), (arg22.view.read (Elt F) f22)⟩ : St F))) ∗ HeadR c arg23 arg24 arg25 arg26 arg27 arg28 arg29 (scoreT (arg4.view.read (Elt F) f4) (arg5.view.read (Elt F) f5) (arg6.view.read (Elt F) f6) 2 (rdT (arg3.view.read (Elt F) f3) (k0_off28 k 0)) (rdT (arg2.view.read (Elt F) f2) (k0_off28 k 0))) (mxScoreT (arg4.view.read (Elt F) f4) (arg5.view.read (Elt F) f5) (arg6.view.read (Elt F) f6) 2 (rdT (arg3.view.read (Elt F) f3) (k0_off28 k 0)) (rdT (arg2.view.read (Elt F) f2) (k0_off28 k 0))) (updT (scoreT (arg4.view.read (Elt F) f4) (arg5.view.read (Elt F) f5) (arg6.view.read (Elt F) f6) 2 (rdT (arg3.view.read (Elt F) f3) (k0_off11 k 0)) (rdT (arg2.view.read (Elt F) f2) (k0_off11 k 0))) (mxScoreT (arg4.view.read (Elt F) f4) (arg5.view.read (Elt F) f5) (arg6.view.read (Elt F) f6) 2 (rdT (arg3.view.read (Elt F) f3) (k0_off11 k 0)) (rdT (arg2.view.read (Elt F) f2) (k0_off11 k 0))) (vtTile (arg7.view.read (Elt F) f7) (128 * 2) ((rdT (arg3.view.read (Elt F) f3) (k0_off11 k 0)) * 512#32).toNat) (updT (arg23.view.read (Elt F) f23) (arg25.view.read (Elt F) f25) (vtTile (arg7.view.read (Elt F) f7) (128 * 2) ((rdT (arg3.view.read (Elt F) f3) (k0_off10 k 0)) * 512#32).toNat) (⟨(arg27.view.read (Elt F) f27), (arg28.view.read (Elt F) f28), (arg29.view.read (Elt F) f29)⟩ : St F))) ∗ HeadR c arg30 arg31 arg32 arg33 arg34 arg35 arg36 (scoreT (arg4.view.read (Elt F) f4) (arg5.view.read (Elt F) f5) (arg6.view.read (Elt F) f6) 3 (rdT (arg3.view.read (Elt F) f3) (k0_off28 k 0)) (rdT (arg2.view.read (Elt F) f2) (k0_off28 k 0))) (mxScoreT (arg4.view.read (Elt F) f4) (arg5.view.read (Elt F) f5) (arg6.view.read (Elt F) f6) 3 (rdT (arg3.view.read (Elt F) f3) (k0_off28 k 0)) (rdT (arg2.view.read (Elt F) f2) (k0_off28 k 0))) (updT (scoreT (arg4.view.read (Elt F) f4) (arg5.view.read (Elt F) f5) (arg6.view.read (Elt F) f6) 3 (rdT (arg3.view.read (Elt F) f3) (k0_off11 k 0)) (rdT (arg2.view.read (Elt F) f2) (k0_off11 k 0))) (mxScoreT (arg4.view.read (Elt F) f4) (arg5.view.read (Elt F) f5) (arg6.view.read (Elt F) f6) 3 (rdT (arg3.view.read (Elt F) f3) (k0_off11 k 0)) (rdT (arg2.view.read (Elt F) f2) (k0_off11 k 0))) (vtTile (arg7.view.read (Elt F) f7) (128 * 3) ((rdT (arg3.view.read (Elt F) f3) (k0_off11 k 0)) * 512#32).toNat) (updT (arg30.view.read (Elt F) f30) (arg32.view.read (Elt F) f32) (vtTile (arg7.view.read (Elt F) f7) (128 * 3) ((rdT (arg3.view.read (Elt F) f3) (k0_off10 k 0)) * 512#32).toNat) (⟨(arg34.view.read (Elt F) f34), (arg35.view.read (Elt F) f35), (arg36.view.read (Elt F) f36)⟩ : St F))))) := by
  iintro ⟨H2, H3, H4, H5, H6, H7, H8, H9, H10, H11, H12, H13, H14, H15, H16, H17, H18, H19, H20, H21, H22, H23, H24, H25, H26, H27, H28, H29, H30, H31, H32, H33, H34, H35, H36⟩
  dsimp only [tripG]
  sl_unfold [k0_t1_body]
  sl_exec_parts (disch := first | (with_reducible exact hc1) | (with_reducible exact hc2) | (with_reducible exact hc3) | sl_exact hc1 | sl_exact hc2 | sl_exact hc3 | ((first | with_reducible refine chk3_of ?_ | with_reducible refine chk4_of ?_ | with_reducible refine chk5_of ?_ | with_reducible refine chk6_of ?_ | with_reducible refine chk7_of ?_ | with_reducible refine chk8_of ?_ | with_reducible refine chk9_of ?_ | with_reducible refine chk10_of ?_ | with_reducible refine chk11_of ?_ | with_reducible refine chk12_of ?_ | with_reducible refine chk13_of ?_ | with_reducible refine chk14_of ?_ | with_reducible refine chk15_of ?_ | with_reducible refine chk16_of ?_ | with_reducible refine chk17_of ?_ | with_reducible refine chk18_of ?_ | with_reducible refine chk19_of ?_ | with_reducible refine chk20_of ?_ | with_reducible refine chk21_of ?_ | with_reducible refine chk22_of ?_ | with_reducible refine chk23_of ?_ | with_reducible refine chk24_of ?_ | with_reducible refine chk25_of ?_ | with_reducible refine chk26_of ?_ | with_reducible refine chk27_of ?_ | with_reducible refine chk28_of ?_) <;> (sl_unfold_run_names; first | with_reducible exact hw3 _ _ | with_reducible exact hw2 _ _)))
  sl_step
  isplitl [H2]
  · iexact H2
  isplitl [H3]
  · iexact H3
  isplitl [H4]
  · iexact H4
  isplitl [H5]
  · iexact H5
  isplitl [H6]
  · iexact H6
  isplitl [H7]
  · iexact H7
  isplitl [H8]
  · iapply (holds_intro c arg8 _ _ ?_) $$ H8
    rfl
  unfold HeadR
  isplitl [H9 H10 H11 H12 H13 H14 H15]
  · isplitl [H9]
    · iapply (holds_intro c arg9 _ _ ?_) $$ H9
      sl_unfold_run_names
      simp only [rd_whole_a, rd_stored_a, rd_covered_a, rd_whole_b, rd_stored_b, rd_covered_b, rd_whole_c, rd_stored_c, rd_covered_c]
      refine (score_of ?_ ?_ ?_) <;> first | with_reducible rfl | (simp only [rd_table', rd_q', rd_kn', rd_kp', rd_vt', rd_whole_a, rd_stored_a, rd_covered_a, rd_whole_b, rd_stored_b, rd_covered_b, rd_whole_c, rd_stored_c, rd_covered_c]; rfl) | rfl
    isplitl [H10]
    · iapply (any_intro c arg10 _) $$ H10
    isplitl [H11]
    · iapply (holds_intro c arg11 _ _ ?_) $$ H11
      sl_unfold_run_names
      simp only [rd_whole_a, rd_stored_a, rd_covered_a, rd_whole_b, rd_stored_b, rd_covered_b, rd_whole_c, rd_stored_c, rd_covered_c]
      refine (mx_of ?_ ?_ ?_) <;> first | with_reducible rfl | (simp only [rd_table', rd_q', rd_kn', rd_kp', rd_vt', rd_whole_a, rd_stored_a, rd_covered_a, rd_whole_b, rd_stored_b, rd_covered_b, rd_whole_c, rd_stored_c, rd_covered_c]; rfl) | rfl
    isplitl [H12]
    · iapply (any_intro c arg12 _) $$ H12
    isplitl [H13]
    · iapply (holds_intro c arg13 _ _ ?_) $$ H13
      sl_unfold_run_names
      simp only [rd_whole_a, rd_stored_a, rd_covered_a, rd_whole_b, rd_stored_b, rd_covered_b, rd_whole_c, rd_stored_c, rd_covered_c]
      refine updm_of (mx_of ?_ ?_ ?_) (updm_of ?_ ?_) <;> first | with_reducible rfl | (simp only [rd_table', rd_q', rd_kn', rd_kp', rd_vt', rd_whole_a, rd_stored_a, rd_covered_a, rd_whole_b, rd_stored_b, rd_covered_b, rd_whole_c, rd_stored_c, rd_covered_c]; rfl) | rfl
    isplitl [H14]
    · iapply (holds_intro c arg14 _ _ ?_) $$ H14
      sl_unfold_run_names
      simp only [rd_whole_a, rd_stored_a, rd_covered_a, rd_whole_b, rd_stored_b, rd_covered_b, rd_whole_c, rd_stored_c, rd_covered_c]
      refine updl_of (score_of ?_ ?_ ?_) (mx_of ?_ ?_ ?_) (updm_of ?_ ?_) (updl_of ?_ ?_ ?_ ?_) <;> first | with_reducible rfl | (simp only [rd_table', rd_q', rd_kn', rd_kp', rd_vt', rd_whole_a, rd_stored_a, rd_covered_a, rd_whole_b, rd_stored_b, rd_covered_b, rd_whole_c, rd_stored_c, rd_covered_c]; rfl) | rfl
    iapply (holds_intro c arg15 _ _ ?_) $$ H15
    sl_unfold_run_names
    simp only [rd_whole_a, rd_stored_a, rd_covered_a, rd_whole_b, rd_stored_b, rd_covered_b, rd_whole_c, rd_stored_c, rd_covered_c]
    refine upda_of (score_of ?_ ?_ ?_) (mx_of ?_ ?_ ?_) ?_ (updm_of ?_ ?_) (upda_of ?_ ?_ ?_ ?_ ?_) <;> first | with_reducible rfl | (simp only [rd_table', rd_q', rd_kn', rd_kp', rd_vt', rd_whole_a, rd_stored_a, rd_covered_a, rd_whole_b, rd_stored_b, rd_covered_b, rd_whole_c, rd_stored_c, rd_covered_c]; rfl) | rfl
  isplitl [H16 H17 H18 H19 H20 H21 H22]
  · isplitl [H16]
    · iapply (holds_intro c arg16 _ _ ?_) $$ H16
      sl_unfold_run_names
      simp only [rd_whole_a, rd_stored_a, rd_covered_a, rd_whole_b, rd_stored_b, rd_covered_b, rd_whole_c, rd_stored_c, rd_covered_c]
      refine (score_of ?_ ?_ ?_) <;> first | with_reducible rfl | (simp only [rd_table', rd_q', rd_kn', rd_kp', rd_vt', rd_whole_a, rd_stored_a, rd_covered_a, rd_whole_b, rd_stored_b, rd_covered_b, rd_whole_c, rd_stored_c, rd_covered_c]; rfl) | rfl
    isplitl [H17]
    · iapply (any_intro c arg17 _) $$ H17
    isplitl [H18]
    · iapply (holds_intro c arg18 _ _ ?_) $$ H18
      sl_unfold_run_names
      simp only [rd_whole_a, rd_stored_a, rd_covered_a, rd_whole_b, rd_stored_b, rd_covered_b, rd_whole_c, rd_stored_c, rd_covered_c]
      refine (mx_of ?_ ?_ ?_) <;> first | with_reducible rfl | (simp only [rd_table', rd_q', rd_kn', rd_kp', rd_vt', rd_whole_a, rd_stored_a, rd_covered_a, rd_whole_b, rd_stored_b, rd_covered_b, rd_whole_c, rd_stored_c, rd_covered_c]; rfl) | rfl
    isplitl [H19]
    · iapply (any_intro c arg19 _) $$ H19
    isplitl [H20]
    · iapply (holds_intro c arg20 _ _ ?_) $$ H20
      sl_unfold_run_names
      simp only [rd_whole_a, rd_stored_a, rd_covered_a, rd_whole_b, rd_stored_b, rd_covered_b, rd_whole_c, rd_stored_c, rd_covered_c]
      refine updm_of (mx_of ?_ ?_ ?_) (updm_of ?_ ?_) <;> first | with_reducible rfl | (simp only [rd_table', rd_q', rd_kn', rd_kp', rd_vt', rd_whole_a, rd_stored_a, rd_covered_a, rd_whole_b, rd_stored_b, rd_covered_b, rd_whole_c, rd_stored_c, rd_covered_c]; rfl) | rfl
    isplitl [H21]
    · iapply (holds_intro c arg21 _ _ ?_) $$ H21
      sl_unfold_run_names
      simp only [rd_whole_a, rd_stored_a, rd_covered_a, rd_whole_b, rd_stored_b, rd_covered_b, rd_whole_c, rd_stored_c, rd_covered_c]
      refine updl_of (score_of ?_ ?_ ?_) (mx_of ?_ ?_ ?_) (updm_of ?_ ?_) (updl_of ?_ ?_ ?_ ?_) <;> first | with_reducible rfl | (simp only [rd_table', rd_q', rd_kn', rd_kp', rd_vt', rd_whole_a, rd_stored_a, rd_covered_a, rd_whole_b, rd_stored_b, rd_covered_b, rd_whole_c, rd_stored_c, rd_covered_c]; rfl) | rfl
    iapply (holds_intro c arg22 _ _ ?_) $$ H22
    sl_unfold_run_names
    simp only [rd_whole_a, rd_stored_a, rd_covered_a, rd_whole_b, rd_stored_b, rd_covered_b, rd_whole_c, rd_stored_c, rd_covered_c]
    refine upda_of (score_of ?_ ?_ ?_) (mx_of ?_ ?_ ?_) ?_ (updm_of ?_ ?_) (upda_of ?_ ?_ ?_ ?_ ?_) <;> first | with_reducible rfl | (simp only [rd_table', rd_q', rd_kn', rd_kp', rd_vt', rd_whole_a, rd_stored_a, rd_covered_a, rd_whole_b, rd_stored_b, rd_covered_b, rd_whole_c, rd_stored_c, rd_covered_c]; rfl) | rfl
  isplitl [H23 H24 H25 H26 H27 H28 H29]
  · isplitl [H23]
    · iapply (holds_intro c arg23 _ _ ?_) $$ H23
      sl_unfold_run_names
      simp only [rd_whole_a, rd_stored_a, rd_covered_a, rd_whole_b, rd_stored_b, rd_covered_b, rd_whole_c, rd_stored_c, rd_covered_c]
      refine (score_of ?_ ?_ ?_) <;> first | with_reducible rfl | (simp only [rd_table', rd_q', rd_kn', rd_kp', rd_vt', rd_whole_a, rd_stored_a, rd_covered_a, rd_whole_b, rd_stored_b, rd_covered_b, rd_whole_c, rd_stored_c, rd_covered_c]; rfl) | rfl
    isplitl [H24]
    · iapply (any_intro c arg24 _) $$ H24
    isplitl [H25]
    · iapply (holds_intro c arg25 _ _ ?_) $$ H25
      sl_unfold_run_names
      simp only [rd_whole_a, rd_stored_a, rd_covered_a, rd_whole_b, rd_stored_b, rd_covered_b, rd_whole_c, rd_stored_c, rd_covered_c]
      refine (mx_of ?_ ?_ ?_) <;> first | with_reducible rfl | (simp only [rd_table', rd_q', rd_kn', rd_kp', rd_vt', rd_whole_a, rd_stored_a, rd_covered_a, rd_whole_b, rd_stored_b, rd_covered_b, rd_whole_c, rd_stored_c, rd_covered_c]; rfl) | rfl
    isplitl [H26]
    · iapply (any_intro c arg26 _) $$ H26
    isplitl [H27]
    · iapply (holds_intro c arg27 _ _ ?_) $$ H27
      sl_unfold_run_names
      simp only [rd_whole_a, rd_stored_a, rd_covered_a, rd_whole_b, rd_stored_b, rd_covered_b, rd_whole_c, rd_stored_c, rd_covered_c]
      refine updm_of (mx_of ?_ ?_ ?_) (updm_of ?_ ?_) <;> first | with_reducible rfl | (simp only [rd_table', rd_q', rd_kn', rd_kp', rd_vt', rd_whole_a, rd_stored_a, rd_covered_a, rd_whole_b, rd_stored_b, rd_covered_b, rd_whole_c, rd_stored_c, rd_covered_c]; rfl) | rfl
    isplitl [H28]
    · iapply (holds_intro c arg28 _ _ ?_) $$ H28
      sl_unfold_run_names
      simp only [rd_whole_a, rd_stored_a, rd_covered_a, rd_whole_b, rd_stored_b, rd_covered_b, rd_whole_c, rd_stored_c, rd_covered_c]
      refine updl_of (score_of ?_ ?_ ?_) (mx_of ?_ ?_ ?_) (updm_of ?_ ?_) (updl_of ?_ ?_ ?_ ?_) <;> first | with_reducible rfl | (simp only [rd_table', rd_q', rd_kn', rd_kp', rd_vt', rd_whole_a, rd_stored_a, rd_covered_a, rd_whole_b, rd_stored_b, rd_covered_b, rd_whole_c, rd_stored_c, rd_covered_c]; rfl) | rfl
    iapply (holds_intro c arg29 _ _ ?_) $$ H29
    sl_unfold_run_names
    simp only [rd_whole_a, rd_stored_a, rd_covered_a, rd_whole_b, rd_stored_b, rd_covered_b, rd_whole_c, rd_stored_c, rd_covered_c]
    refine upda_of (score_of ?_ ?_ ?_) (mx_of ?_ ?_ ?_) ?_ (updm_of ?_ ?_) (upda_of ?_ ?_ ?_ ?_ ?_) <;> first | with_reducible rfl | (simp only [rd_table', rd_q', rd_kn', rd_kp', rd_vt', rd_whole_a, rd_stored_a, rd_covered_a, rd_whole_b, rd_stored_b, rd_covered_b, rd_whole_c, rd_stored_c, rd_covered_c]; rfl) | rfl
  · isplitl [H30]
    · iapply (holds_intro c arg30 _ _ ?_) $$ H30
      sl_unfold_run_names
      simp only [rd_whole_a, rd_stored_a, rd_covered_a, rd_whole_b, rd_stored_b, rd_covered_b, rd_whole_c, rd_stored_c, rd_covered_c]
      refine (score_of ?_ ?_ ?_) <;> first | with_reducible rfl | (simp only [rd_table', rd_q', rd_kn', rd_kp', rd_vt', rd_whole_a, rd_stored_a, rd_covered_a, rd_whole_b, rd_stored_b, rd_covered_b, rd_whole_c, rd_stored_c, rd_covered_c]; rfl) | rfl
    isplitl [H31]
    · iapply (any_intro c arg31 _) $$ H31
    isplitl [H32]
    · iapply (holds_intro c arg32 _ _ ?_) $$ H32
      sl_unfold_run_names
      simp only [rd_whole_a, rd_stored_a, rd_covered_a, rd_whole_b, rd_stored_b, rd_covered_b, rd_whole_c, rd_stored_c, rd_covered_c]
      refine (mx_of ?_ ?_ ?_) <;> first | with_reducible rfl | (simp only [rd_table', rd_q', rd_kn', rd_kp', rd_vt', rd_whole_a, rd_stored_a, rd_covered_a, rd_whole_b, rd_stored_b, rd_covered_b, rd_whole_c, rd_stored_c, rd_covered_c]; rfl) | rfl
    isplitl [H33]
    · iapply (any_intro c arg33 _) $$ H33
    isplitl [H34]
    · iapply (holds_intro c arg34 _ _ ?_) $$ H34
      sl_unfold_run_names
      simp only [rd_whole_a, rd_stored_a, rd_covered_a, rd_whole_b, rd_stored_b, rd_covered_b, rd_whole_c, rd_stored_c, rd_covered_c]
      refine updm_of (mx_of ?_ ?_ ?_) (updm_of ?_ ?_) <;> first | with_reducible rfl | (simp only [rd_table', rd_q', rd_kn', rd_kp', rd_vt', rd_whole_a, rd_stored_a, rd_covered_a, rd_whole_b, rd_stored_b, rd_covered_b, rd_whole_c, rd_stored_c, rd_covered_c]; rfl) | rfl
    isplitl [H35]
    · iapply (holds_intro c arg35 _ _ ?_) $$ H35
      sl_unfold_run_names
      simp only [rd_whole_a, rd_stored_a, rd_covered_a, rd_whole_b, rd_stored_b, rd_covered_b, rd_whole_c, rd_stored_c, rd_covered_c]
      refine updl_of (score_of ?_ ?_ ?_) (mx_of ?_ ?_ ?_) (updm_of ?_ ?_) (updl_of ?_ ?_ ?_ ?_) <;> first | with_reducible rfl | (simp only [rd_table', rd_q', rd_kn', rd_kp', rd_vt', rd_whole_a, rd_stored_a, rd_covered_a, rd_whole_b, rd_stored_b, rd_covered_b, rd_whole_c, rd_stored_c, rd_covered_c]; rfl) | rfl
    iapply (holds_intro c arg36 _ _ ?_) $$ H36
    sl_unfold_run_names
    simp only [rd_whole_a, rd_stored_a, rd_covered_a, rd_whole_b, rd_stored_b, rd_covered_b, rd_whole_c, rd_stored_c, rd_covered_c]
    refine upda_of (score_of ?_ ?_ ?_) (mx_of ?_ ?_ ?_) ?_ (updm_of ?_ ?_) (upda_of ?_ ?_ ?_ ?_ ?_) <;> first | with_reducible rfl | (simp only [rd_table', rd_q', rd_kn', rd_kp', rd_vt', rd_whole_a, rd_stored_a, rd_covered_a, rd_whole_b, rd_stored_b, rd_covered_b, rd_whole_c, rd_stored_c, rd_covered_c]; rfl) | rfl

end Cert.KernelIdeal.Hand
end
-- ==== Proof.TripTF.lean ====
module

public import proofs.«01_k».proof.Proof.Gen.KernelIdeal.Frame
public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import Idealize.ShloMosaic.Lib.Pipeline.KitQuiescent
public import Idealize.ShloMosaic.Lib.Tactic
public import proofs.«01_k».proof.Proof.Resources
public import proofs.«01_k».proof.Proof.Checks
public import proofs.«01_k».proof.Proof.Trip

@[expose] public section

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

open Idealize.ShloMosaic.ValueIdx

variable (c : Dev nD) (i : grid0.Coords) (arg2 : Memref sig .tc .smem S37 .i32) (harg2 : arg2.IsWhole) (arg3 : Memref sig .tc .smem S37 .i32) (harg3 : arg3.IsWhole) (arg4 : Memref sig .tc .vmem S1x4096x1024 .bf16) (harg4 : arg4.IsWhole) (arg5 : Memref sig .tc .vmem S1x4096x512 .bf16) (harg5 : arg5.IsWhole) (arg6 : Memref sig .tc .vmem S1x4096x128 .bf16) (harg6 : arg6.IsWhole) (arg7 : Memref sig .tc .vmem S512x4096 .bf16) (harg7 : arg7.IsWhole) (arg8 : Memref sig .tc .vmem S1x4096x512 .bf16) (harg8 : arg8.IsWhole) (arg9 : Memref sig .tc .vmem S512x512 .f32) (harg9 : arg9.IsWhole) (arg10 : Memref sig .tc .vmem S512x512 .f32) (harg10 : arg10.IsWhole) (arg11 : Memref sig .tc .vmem S1x512 .f32) (harg11 : arg11.IsWhole) (arg12 : Memref sig .tc .vmem S1x512 .f32) (harg12 : arg12.IsWhole) (arg13 : Memref sig .tc .vmem S1x512 .f32) (harg13 : arg13.IsWhole) (arg14 : Memref sig .tc .vmem S1x512 .f32) (harg14 : arg14.IsWhole) (arg15 : Memref sig .tc .vmem S128x512 .f32) (harg15 : arg15.IsWhole) (arg16 : Memref sig .tc .vmem S512x512 .f32) (harg16 : arg16.IsWhole) (arg17 : Memref sig .tc .vmem S512x512 .f32) (harg17 : arg17.IsWhole) (arg18 : Memref sig .tc .vmem S1x512 .f32) (harg18 : arg18.IsWhole) (arg19 : Memref sig .tc .vmem S1x512 .f32) (harg19 : arg19.IsWhole) (arg20 : Memref sig .tc .vmem S1x512 .f32) (harg20 : arg20.IsWhole) (arg21 : Memref sig .tc .vmem S1x512 .f32) (harg21 : arg21.IsWhole) (arg22 : Memref sig .tc .vmem S128x512 .f32) (harg22 : arg22.IsWhole) (arg23 : Memref sig .tc .vmem S512x512 .f32) (harg23 : arg23.IsWhole) (arg24 : Memref sig .tc .vmem S512x512 .f32) (harg24 : arg24.IsWhole) (arg25 : Memref sig .tc .vmem S1x512 .f32) (harg25 : arg25.IsWhole) (arg26 : Memref sig .tc .vmem S1x512 .f32) (harg26 : arg26.IsWhole) (arg27 : Memref sig .tc .vmem S1x512 .f32) (harg27 : arg27.IsWhole) (arg28 : Memref sig .tc .vmem S1x512 .f32) (harg28 : arg28.IsWhole) (arg29 : Memref sig .tc .vmem S128x512 .f32) (harg29 : arg29.IsWhole) (arg30 : Memref sig .tc .vmem S512x512 .f32) (harg30 : arg30.IsWhole) (arg31 : Memref sig .tc .vmem S512x512 .f32) (harg31 : arg31.IsWhole) (arg32 : Memref sig .tc .vmem S1x512 .f32) (harg32 : arg32.IsWhole) (arg33 : Memref sig .tc .vmem S1x512 .f32) (harg33 : arg33.IsWhole) (arg34 : Memref sig .tc .vmem S1x512 .f32) (harg34 : arg34.IsWhole) (arg35 : Memref sig .tc .vmem S1x512 .f32) (harg35 : arg35.IsWhole) (arg36 : Memref sig .tc .vmem S128x512 .f32) (harg36 : arg36.IsWhole) (v48 v49 : IVec S512x512 32)

set_option maxHeartbeats 8000000 in
set_option maxRecDepth 20000 in
theorem tripTF (k : Fin k0_t1_loop.trips) (f2 : Buf (Elt F) (arg2.view.loc (c : Thread nD τ))) (f3 : Buf (Elt F) (arg3.view.loc (c : Thread nD τ))) (f4 : Buf (Elt F) (arg4.view.loc (c : Thread nD τ))) (f5 : Buf (Elt F) (arg5.view.loc (c : Thread nD τ))) (f6 : Buf (Elt F) (arg6.view.loc (c : Thread nD τ))) (f7 : Buf (Elt F) (arg7.view.loc (c : Thread nD τ))) (f8 : Buf (Elt F) (arg8.view.loc (c : Thread nD τ))) (f9 : Buf (Elt F) (arg9.view.loc (c : Thread nD τ))) (f10 : Buf (Elt F) (arg10.view.loc (c : Thread nD τ))) (f11 : Buf (Elt F) (arg11.view.loc (c : Thread nD τ))) (f12 : Buf (Elt F) (arg12.view.loc (c : Thread nD τ))) (f13 : Buf (Elt F) (arg13.view.loc (c : Thread nD τ))) (f14 : Buf (Elt F) (arg14.view.loc (c : Thread nD τ))) (f15 : Buf (Elt F) (arg15.view.loc (c : Thread nD τ))) (f16 : Buf (Elt F) (arg16.view.loc (c : Thread nD τ))) (f17 : Buf (Elt F) (arg17.view.loc (c : Thread nD τ))) (f18 : Buf (Elt F) (arg18.view.loc (c : Thread nD τ))) (f19 : Buf (Elt F) (arg19.view.loc (c : Thread nD τ))) (f20 : Buf (Elt F) (arg20.view.loc (c : Thread nD τ))) (f21 : Buf (Elt F) (arg21.view.loc (c : Thread nD τ))) (f22 : Buf (Elt F) (arg22.view.loc (c : Thread nD τ))) (f23 : Buf (Elt F) (arg23.view.loc (c : Thread nD τ))) (f24 : Buf (Elt F) (arg24.view.loc (c : Thread nD τ))) (f25 : Buf (Elt F) (arg25.view.loc (c : Thread nD τ))) (f26 : Buf (Elt F) (arg26.view.loc (c : Thread nD τ))) (f27 : Buf (Elt F) (arg27.view.loc (c : Thread nD τ))) (f28 : Buf (Elt F) (arg28.view.loc (c : Thread nD τ))) (f29 : Buf (Elt F) (arg29.view.loc (c : Thread nD τ))) (f30 : Buf (Elt F) (arg30.view.loc (c : Thread nD τ))) (f31 : Buf (Elt F) (arg31.view.loc (c : Thread nD τ))) (f32 : Buf (Elt F) (arg32.view.loc (c : Thread nD τ))) (f33 : Buf (Elt F) (arg33.view.loc (c : Thread nD τ))) (f34 : Buf (Elt F) (arg34.view.loc (c : Thread nD τ))) (f35 : Buf (Elt F) (arg35.view.loc (c : Thread nD τ))) (f36 : Buf (Elt F) (arg36.view.loc (c : Thread nD τ)))
    (hw2 : ∀ (B : LoadRect S37) (x : B.shape.Idx), BitVec.toNat (w := 32) (View.readAt (Elt F) arg2.view B f2 x) < 8)
    (hw3 : ∀ (B : LoadRect S37) (x : B.shape.Idx), BitVec.toNat (w := 32) (View.readAt (Elt F) arg3.view B f3 x) < 8)
    (hc1 : ¬ k0_cond1 (wdA c arg3 k f3) (wdA c arg2 k f2) (wdB c arg3 k f3) (wdB c arg2 k f2) = 1#1) (hc2 : k0_cond2 (wdA c arg3 k f3) (wdA c arg2 k f2) (wdB c arg3 k f3) (wdB c arg2 k f2) = 1#1) (hc3 : ¬ k0_cond3 (wdA c arg3 k f3) (wdA c arg2 k f2) (wdB c arg3 k f3) (wdB c arg2 k f2) = 1#1) :
    (iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ (arg17.view.loc (c : Thread nD τ) ↦[arg17.view.set]{fullShare} f17) ∗ (arg18.view.loc (c : Thread nD τ) ↦[arg18.view.set]{fullShare} f18) ∗ (arg19.view.loc (c : Thread nD τ) ↦[arg19.view.set]{fullShare} f19) ∗ (arg20.view.loc (c : Thread nD τ) ↦[arg20.view.set]{fullShare} f20) ∗ (arg21.view.loc (c : Thread nD τ) ↦[arg21.view.set]{fullShare} f21) ∗ (arg22.view.loc (c : Thread nD τ) ↦[arg22.view.set]{fullShare} f22) ∗ (arg23.view.loc (c : Thread nD τ) ↦[arg23.view.set]{fullShare} f23) ∗ (arg24.view.loc (c : Thread nD τ) ↦[arg24.view.set]{fullShare} f24) ∗ (arg25.view.loc (c : Thread nD τ) ↦[arg25.view.set]{fullShare} f25) ∗ (arg26.view.loc (c : Thread nD τ) ↦[arg26.view.set]{fullShare} f26) ∗ (arg27.view.loc (c : Thread nD τ) ↦[arg27.view.set]{fullShare} f27) ∗ (arg28.view.loc (c : Thread nD τ) ↦[arg28.view.set]{fullShare} f28) ∗ (arg29.view.loc (c : Thread nD τ) ↦[arg29.view.set]{fullShare} f29) ∗ (arg30.view.loc (c : Thread nD τ) ↦[arg30.view.set]{fullShare} f30) ∗ (arg31.view.loc (c : Thread nD τ) ↦[arg31.view.set]{fullShare} f31) ∗ (arg32.view.loc (c : Thread nD τ) ↦[arg32.view.set]{fullShare} f32) ∗ (arg33.view.loc (c : Thread nD τ) ↦[arg33.view.set]{fullShare} f33) ∗ (arg34.view.loc (c : Thread nD τ) ↦[arg34.view.set]{fullShare} f34) ∗ (arg35.view.loc (c : Thread nD τ) ↦[arg35.view.set]{fullShare} f35) ∗ (arg36.view.loc (c : Thread nD τ) ↦[arg36.view.set]{fullShare} f36)) : sProp 𝕄)
      ⊢ wp frame (wpE (defs₀ (F := F)) Variants.none (c : Thread nD τ) none) Set.univ (tripG i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 v48 v49 k)
        (fun _ => iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ Holds c arg8 (outPut (arg8.view.read (Elt F) f8) ((rdT (arg2.view.read (Elt F) f2) (k0_off10 k 0)) * 512#32).toNat (outT (diagT v48 v49 (arg9.view.read (Elt F) f9) (vtTile (arg7.view.read (Elt F) f7) (128 * 0) ((rdT (arg3.view.read (Elt F) f3) (k0_off10 k 0)) * 512#32).toNat) (⟨(arg13.view.read (Elt F) f13), (arg14.view.read (Elt F) f14), (arg15.view.read (Elt F) f15)⟩ : St F))) (outT (diagT v48 v49 (arg16.view.read (Elt F) f16) (vtTile (arg7.view.read (Elt F) f7) (128 * 1) ((rdT (arg3.view.read (Elt F) f3) (k0_off10 k 0)) * 512#32).toNat) (⟨(arg20.view.read (Elt F) f20), (arg21.view.read (Elt F) f21), (arg22.view.read (Elt F) f22)⟩ : St F))) (outT (diagT v48 v49 (arg23.view.read (Elt F) f23) (vtTile (arg7.view.read (Elt F) f7) (128 * 2) ((rdT (arg3.view.read (Elt F) f3) (k0_off10 k 0)) * 512#32).toNat) (⟨(arg27.view.read (Elt F) f27), (arg28.view.read (Elt F) f28), (arg29.view.read (Elt F) f29)⟩ : St F))) (outT (diagT v48 v49 (arg30.view.read (Elt F) f30) (vtTile (arg7.view.read (Elt F) f7) (128 * 3) ((rdT (arg3.view.read (Elt F) f3) (k0_off10 k 0)) * 512#32).toNat) (⟨(arg34.view.read (Elt F) f34), (arg35.view.read (Elt F) f35), (arg36.view.read (Elt F) f36)⟩ : St F)))) ∗ HeadR c arg9 arg10 arg11 arg12 arg13 arg14 arg15 (scoreT (arg4.view.read (Elt F) f4) (arg5.view.read (Elt F) f5) (arg6.view.read (Elt F) f6) 0 (rdT (arg3.view.read (Elt F) f3) (k0_off28 k 0)) (rdT (arg2.view.read (Elt F) f2) (k0_off28 k 0))) (mxScoreT (arg4.view.read (Elt F) f4) (arg5.view.read (Elt F) f5) (arg6.view.read (Elt F) f6) 0 (rdT (arg3.view.read (Elt F) f3) (k0_off28 k 0)) (rdT (arg2.view.read (Elt F) f2) (k0_off28 k 0))) (updT (scoreT (arg4.view.read (Elt F) f4) (arg5.view.read (Elt F) f5) (arg6.view.read (Elt F) f6) 0 (rdT (arg3.view.read (Elt F) f3) (k0_off11 k 0)) (rdT (arg2.view.read (Elt F) f2) (k0_off11 k 0))) (mxScoreT (arg4.view.read (Elt F) f4) (arg5.view.read (Elt F) f5) (arg6.view.read (Elt F) f6) 0 (rdT (arg3.view.read (Elt F) f3) (k0_off11 k 0)) (rdT (arg2.view.read (Elt F) f2) (k0_off11 k 0))) (vtTile (arg7.view.read (Elt F) f7) (128 * 0) ((rdT (arg3.view.read (Elt F) f3) (k0_off11 k 0)) * 512#32).toNat) resetT) ∗ HeadR c arg16 arg17 arg18 arg19 arg20 arg21 arg22 (scoreT (arg4.view.read (Elt F) f4) (arg5.view.read (Elt F) f5) (arg6.view.read (Elt F) f6) 1 (rdT (arg3.view.read (Elt F) f3) (k0_off28 k 0)) (rdT (arg2.view.read (Elt F) f2) (k0_off28 k 0))) (mxScoreT (arg4.view.read (Elt F) f4) (arg5.view.read (Elt F) f5) (arg6.view.read (Elt F) f6) 1 (rdT (arg3.view.read (Elt F) f3) (k0_off28 k 0)) (rdT (arg2.view.read (Elt F) f2) (k0_off28 k 0))) (updT (scoreT (arg4.view.read (Elt F) f4) (arg5.view.read (Elt F) f5) (arg6.view.read (Elt F) f6) 1 (rdT (arg3.view.read (Elt F) f3) (k0_off11 k 0)) (rdT (arg2.view.read (Elt F) f2) (k0_off11 k 0))) (mxScoreT (arg4.view.read (Elt F) f4) (arg5.view.read (Elt F) f5) (arg6.view.read (Elt F) f6) 1 (rdT (arg3.view.read (Elt F) f3) (k0_off11 k 0)) (rdT (arg2.view.read (Elt F) f2) (k0_off11 k 0))) (vtTile (arg7.view.read (Elt F) f7) (128 * 1) ((rdT (arg3.view.read (Elt F) f3) (k0_off11 k 0)) * 512#32).toNat) resetT) ∗ HeadR c arg23 arg24 arg25 arg26 arg27 arg28 arg29 (scoreT (arg4.view.read (Elt F) f4) (arg5.view.read (Elt F) f5) (arg6.view.read (Elt F) f6) 2 (rdT (arg3.view.read (Elt F) f3) (k0_off28 k 0)) (rdT (arg2.view.read (Elt F) f2) (k0_off28 k 0))) (mxScoreT (arg4.view.read (Elt F) f4) (arg5.view.read (Elt F) f5) (arg6.view.read (Elt F) f6) 2 (rdT (arg3.view.read (Elt F) f3) (k0_off28 k 0)) (rdT (arg2.view.read (Elt F) f2) (k0_off28 k 0))) (updT (scoreT (arg4.view.read (Elt F) f4) (arg5.view.read (Elt F) f5) (arg6.view.read (Elt F) f6) 2 (rdT (arg3.view.read (Elt F) f3) (k0_off11 k 0)) (rdT (arg2.view.read (Elt F) f2) (k0_off11 k 0))) (mxScoreT (arg4.view.read (Elt F) f4) (arg5.view.read (Elt F) f5) (arg6.view.read (Elt F) f6) 2 (rdT (arg3.view.read (Elt F) f3) (k0_off11 k 0)) (rdT (arg2.view.read (Elt F) f2) (k0_off11 k 0))) (vtTile (arg7.view.read (Elt F) f7) (128 * 2) ((rdT (arg3.view.read (Elt F) f3) (k0_off11 k 0)) * 512#32).toNat) resetT) ∗ HeadR c arg30 arg31 arg32 arg33 arg34 arg35 arg36 (scoreT (arg4.view.read (Elt F) f4) (arg5.view.read (Elt F) f5) (arg6.view.read (Elt F) f6) 3 (rdT (arg3.view.read (Elt F) f3) (k0_off28 k 0)) (rdT (arg2.view.read (Elt F) f2) (k0_off28 k 0))) (mxScoreT (arg4.view.read (Elt F) f4) (arg5.view.read (Elt F) f5) (arg6.view.read (Elt F) f6) 3 (rdT (arg3.view.read (Elt F) f3) (k0_off28 k 0)) (rdT (arg2.view.read (Elt F) f2) (k0_off28 k 0))) (updT (scoreT (arg4.view.read (Elt F) f4) (arg5.view.read (Elt F) f5) (arg6.view.read (Elt F) f6) 3 (rdT (arg3.view.read (Elt F) f3) (k0_off11 k 0)) (rdT (arg2.view.read (Elt F) f2) (k0_off11 k 0))) (mxScoreT (arg4.view.read (Elt F) f4) (arg5.view.read (Elt F) f5) (arg6.view.read (Elt F) f6) 3 (rdT (arg3.view.read (Elt F) f3) (k0_off11 k 0)) (rdT (arg2.view.read (Elt F) f2) (k0_off11 k 0))) (vtTile (arg7.view.read (Elt F) f7) (128 * 3) ((rdT (arg3.view.read (Elt F) f3) (k0_off11 k 0)) * 512#32).toNat) resetT))) := by
  iintro ⟨H2, H3, H4, H5, H6, H7, H8, H9, H10, H11, H12, H13, H14, H15, H16, H17, H18, H19, H20, H21, H22, H23, H24, H25, H26, H27, H28, H29, H30, H31, H32, H33, H34, H35, H36⟩
  dsimp only [tripG]
  sl_unfold [k0_t1_body]
  sl_exec_parts (disch := first | (with_reducible exact hc1) | (with_reducible exact hc2) | (with_reducible exact hc3) | sl_exact hc1 | sl_exact hc2 | sl_exact hc3 | ((first | with_reducible refine chk3_of ?_ | with_reducible refine chk4_of ?_ | with_reducible refine chk5_of ?_ | with_reducible refine chk6_of ?_ | with_reducible refine chk7_of ?_ | with_reducible refine chk8_of ?_ | with_reducible refine chk9_of ?_ | with_reducible refine chk10_of ?_ | with_reducible refine chk11_of ?_ | with_reducible refine chk12_of ?_ | with_reducible refine chk13_of ?_ | with_reducible refine chk14_of ?_ | with_reducible refine chk15_of ?_ | with_reducible refine chk16_of ?_ | with_reducible refine chk17_of ?_ | with_reducible refine chk18_of ?_ | with_reducible refine chk19_of ?_ | with_reducible refine chk20_of ?_ | with_reducible refine chk21_of ?_ | with_reducible refine chk22_of ?_ | with_reducible refine chk23_of ?_ | with_reducible refine chk24_of ?_ | with_reducible refine chk25_of ?_ | with_reducible refine chk26_of ?_ | with_reducible refine chk27_of ?_ | with_reducible refine chk28_of ?_) <;> (sl_unfold_run_names; first | with_reducible exact hw3 _ _ | with_reducible exact hw2 _ _)))
  sl_step
  isplitl [H2]
  · iexact H2
  isplitl [H3]
  · iexact H3
  isplitl [H4]
  · iexact H4
  isplitl [H5]
  · iexact H5
  isplitl [H6]
  · iexact H6
  isplitl [H7]
  · iexact H7
  isplitl [H8]
  · iapply (holds_intro c arg8 _ _ ?_) $$ H8
    sl_unfold_run_names
    simp only [rd_whole_a, rd_stored_a, rd_covered_a, rd_whole_b, rd_stored_b, rd_covered_b, rd_whole_c, rd_stored_c, rd_covered_c]
    refine rd_out' _ _ _ _ _ _ _ _ _ _ _ ?_ ?_ ?_ ?_ (outT_of (diaga_of ?_ ?_ ?_ ?_) (diagl_of ?_ ?_ ?_)) (outT_of (diaga_of ?_ ?_ ?_ ?_) (diagl_of ?_ ?_ ?_)) (outT_of (diaga_of ?_ ?_ ?_ ?_) (diagl_of ?_ ?_ ?_)) (outT_of (diaga_of ?_ ?_ ?_ ?_) (diagl_of ?_ ?_ ?_)) <;> first | with_reducible rfl | (simp only [rd_table', rd_q', rd_kn', rd_kp', rd_vt', rd_whole_a, rd_stored_a, rd_covered_a, rd_whole_b, rd_stored_b, rd_covered_b, rd_whole_c, rd_stored_c, rd_covered_c]; rfl) | rfl
  unfold HeadR
  isplitl [H9 H10 H11 H12 H13 H14 H15]
  · isplitl [H9]
    · iapply (holds_intro c arg9 _ _ ?_) $$ H9
      sl_unfold_run_names
      simp only [rd_whole_a, rd_stored_a, rd_covered_a, rd_whole_b, rd_stored_b, rd_covered_b, rd_whole_c, rd_stored_c, rd_covered_c]
      refine (score_of ?_ ?_ ?_) <;> first | with_reducible rfl | (simp only [rd_table', rd_q', rd_kn', rd_kp', rd_vt', rd_whole_a, rd_stored_a, rd_covered_a, rd_whole_b, rd_stored_b, rd_covered_b, rd_whole_c, rd_stored_c, rd_covered_c]; rfl) | rfl
    isplitl [H10]
    · iapply (any_intro c arg10 _) $$ H10
    isplitl [H11]
    · iapply (holds_intro c arg11 _ _ ?_) $$ H11
      sl_unfold_run_names
      simp only [rd_whole_a, rd_stored_a, rd_covered_a, rd_whole_b, rd_stored_b, rd_covered_b, rd_whole_c, rd_stored_c, rd_covered_c]
      refine (mx_of ?_ ?_ ?_) <;> first | with_reducible rfl | (simp only [rd_table', rd_q', rd_kn', rd_kp', rd_vt', rd_whole_a, rd_stored_a, rd_covered_a, rd_whole_b, rd_stored_b, rd_covered_b, rd_whole_c, rd_stored_c, rd_covered_c]; rfl) | rfl
    isplitl [H12]
    · iapply (any_intro c arg12 _) $$ H12
    isplitl [H13]
    · iapply (holds_intro c arg13 _ _ ?_) $$ H13
      sl_unfold_run_names
      simp only [rd_whole_a, rd_stored_a, rd_covered_a, rd_whole_b, rd_stored_b, rd_covered_b, rd_whole_c, rd_stored_c, rd_covered_c]
      refine updm_of (mx_of ?_ ?_ ?_) ?_ <;> first | with_reducible rfl | (simp only [rd_table', rd_q', rd_kn', rd_kp', rd_vt', rd_whole_a, rd_stored_a, rd_covered_a, rd_whole_b, rd_stored_b, rd_covered_b, rd_whole_c, rd_stored_c, rd_covered_c]; rfl) | rfl
    isplitl [H14]
    · iapply (holds_intro c arg14 _ _ ?_) $$ H14
      sl_unfold_run_names
      simp only [rd_whole_a, rd_stored_a, rd_covered_a, rd_whole_b, rd_stored_b, rd_covered_b, rd_whole_c, rd_stored_c, rd_covered_c]
      refine updl_of (score_of ?_ ?_ ?_) (mx_of ?_ ?_ ?_) ?_ ?_ <;> first | with_reducible rfl | (simp only [rd_table', rd_q', rd_kn', rd_kp', rd_vt', rd_whole_a, rd_stored_a, rd_covered_a, rd_whole_b, rd_stored_b, rd_covered_b, rd_whole_c, rd_stored_c, rd_covered_c]; rfl) | rfl
    iapply (holds_intro c arg15 _ _ ?_) $$ H15
    sl_unfold_run_names
    simp only [rd_whole_a, rd_stored_a, rd_covered_a, rd_whole_b, rd_stored_b, rd_covered_b, rd_whole_c, rd_stored_c, rd_covered_c]
    refine upda_of (score_of ?_ ?_ ?_) (mx_of ?_ ?_ ?_) ?_ ?_ ?_ <;> first | with_reducible rfl | (simp only [rd_table', rd_q', rd_kn', rd_kp', rd_vt', rd_whole_a, rd_stored_a, rd_covered_a, rd_whole_b, rd_stored_b, rd_covered_b, rd_whole_c, rd_stored_c, rd_covered_c]; rfl) | rfl
  isplitl [H16 H17 H18 H19 H20 H21 H22]
  · isplitl [H16]
    · iapply (holds_intro c arg16 _ _ ?_) $$ H16
      sl_unfold_run_names
      simp only [rd_whole_a, rd_stored_a, rd_covered_a, rd_whole_b, rd_stored_b, rd_covered_b, rd_whole_c, rd_stored_c, rd_covered_c]
      refine (score_of ?_ ?_ ?_) <;> first | with_reducible rfl | (simp only [rd_table', rd_q', rd_kn', rd_kp', rd_vt', rd_whole_a, rd_stored_a, rd_covered_a, rd_whole_b, rd_stored_b, rd_covered_b, rd_whole_c, rd_stored_c, rd_covered_c]; rfl) | rfl
    isplitl [H17]
    · iapply (any_intro c arg17 _) $$ H17
    isplitl [H18]
    · iapply (holds_intro c arg18 _ _ ?_) $$ H18
      sl_unfold_run_names
      simp only [rd_whole_a, rd_stored_a, rd_covered_a, rd_whole_b, rd_stored_b, rd_covered_b, rd_whole_c, rd_stored_c, rd_covered_c]
      refine (mx_of ?_ ?_ ?_) <;> first | with_reducible rfl | (simp only [rd_table', rd_q', rd_kn', rd_kp', rd_vt', rd_whole_a, rd_stored_a, rd_covered_a, rd_whole_b, rd_stored_b, rd_covered_b, rd_whole_c, rd_stored_c, rd_covered_c]; rfl) | rfl
    isplitl [H19]
    · iapply (any_intro c arg19 _) $$ H19
    isplitl [H20]
    · iapply (holds_intro c arg20 _ _ ?_) $$ H20
      sl_unfold_run_names
      simp only [rd_whole_a, rd_stored_a, rd_covered_a, rd_whole_b, rd_stored_b, rd_covered_b, rd_whole_c, rd_stored_c, rd_covered_c]
      refine updm_of (mx_of ?_ ?_ ?_) ?_ <;> first | with_reducible rfl | (simp only [rd_table', rd_q', rd_kn', rd_kp', rd_vt', rd_whole_a, rd_stored_a, rd_covered_a, rd_whole_b, rd_stored_b, rd_covered_b, rd_whole_c, rd_stored_c, rd_covered_c]; rfl) | rfl
    isplitl [H21]
    · iapply (holds_intro c arg21 _ _ ?_) $$ H21
      sl_unfold_run_names
      simp only [rd_whole_a, rd_stored_a, rd_covered_a, rd_whole_b, rd_stored_b, rd_covered_b, rd_whole_c, rd_stored_c, rd_covered_c]
      refine updl_of (score_of ?_ ?_ ?_) (mx_of ?_ ?_ ?_) ?_ ?_ <;> first | with_reducible rfl | (simp only [rd_table', rd_q', rd_kn', rd_kp', rd_vt', rd_whole_a, rd_stored_a, rd_covered_a, rd_whole_b, rd_stored_b, rd_covered_b, rd_whole_c, rd_stored_c, rd_covered_c]; rfl) | rfl
    iapply (holds_intro c arg22 _ _ ?_) $$ H22
    sl_unfold_run_names
    simp only [rd_whole_a, rd_stored_a, rd_covered_a, rd_whole_b, rd_stored_b, rd_covered_b, rd_whole_c, rd_stored_c, rd_covered_c]
    refine upda_of (score_of ?_ ?_ ?_) (mx_of ?_ ?_ ?_) ?_ ?_ ?_ <;> first | with_reducible rfl | (simp only [rd_table', rd_q', rd_kn', rd_kp', rd_vt', rd_whole_a, rd_stored_a, rd_covered_a, rd_whole_b, rd_stored_b, rd_covered_b, rd_whole_c, rd_stored_c, rd_covered_c]; rfl) | rfl
  isplitl [H23 H24 H25 H26 H27 H28 H29]
  · isplitl [H23]
    · iapply (holds_intro c arg23 _ _ ?_) $$ H23
      sl_unfold_run_names
      simp only [rd_whole_a, rd_stored_a, rd_covered_a, rd_whole_b, rd_stored_b, rd_covered_b, rd_whole_c, rd_stored_c, rd_covered_c]
      refine (score_of ?_ ?_ ?_) <;> first | with_reducible rfl | (simp only [rd_table', rd_q', rd_kn', rd_kp', rd_vt', rd_whole_a, rd_stored_a, rd_covered_a, rd_whole_b, rd_stored_b, rd_covered_b, rd_whole_c, rd_stored_c, rd_covered_c]; rfl) | rfl
    isplitl [H24]
    · iapply (any_intro c arg24 _) $$ H24
    isplitl [H25]
    · iapply (holds_intro c arg25 _ _ ?_) $$ H25
      sl_unfold_run_names
      simp only [rd_whole_a, rd_stored_a, rd_covered_a, rd_whole_b, rd_stored_b, rd_covered_b, rd_whole_c, rd_stored_c, rd_covered_c]
      refine (mx_of ?_ ?_ ?_) <;> first | with_reducible rfl | (simp only [rd_table', rd_q', rd_kn', rd_kp', rd_vt', rd_whole_a, rd_stored_a, rd_covered_a, rd_whole_b, rd_stored_b, rd_covered_b, rd_whole_c, rd_stored_c, rd_covered_c]; rfl) | rfl
    isplitl [H26]
    · iapply (any_intro c arg26 _) $$ H26
    isplitl [H27]
    · iapply (holds_intro c arg27 _ _ ?_) $$ H27
      sl_unfold_run_names
      simp only [rd_whole_a, rd_stored_a, rd_covered_a, rd_whole_b, rd_stored_b, rd_covered_b, rd_whole_c, rd_stored_c, rd_covered_c]
      refine updm_of (mx_of ?_ ?_ ?_) ?_ <;> first | with_reducible rfl | (simp only [rd_table', rd_q', rd_kn', rd_kp', rd_vt', rd_whole_a, rd_stored_a, rd_covered_a, rd_whole_b, rd_stored_b, rd_covered_b, rd_whole_c, rd_stored_c, rd_covered_c]; rfl) | rfl
    isplitl [H28]
    · iapply (holds_intro c arg28 _ _ ?_) $$ H28
      sl_unfold_run_names
      simp only [rd_whole_a, rd_stored_a, rd_covered_a, rd_whole_b, rd_stored_b, rd_covered_b, rd_whole_c, rd_stored_c, rd_covered_c]
      refine updl_of (score_of ?_ ?_ ?_) (mx_of ?_ ?_ ?_) ?_ ?_ <;> first | with_reducible rfl | (simp only [rd_table', rd_q', rd_kn', rd_kp', rd_vt', rd_whole_a, rd_stored_a, rd_covered_a, rd_whole_b, rd_stored_b, rd_covered_b, rd_whole_c, rd_stored_c, rd_covered_c]; rfl) | rfl
    iapply (holds_intro c arg29 _ _ ?_) $$ H29
    sl_unfold_run_names
    simp only [rd_whole_a, rd_stored_a, rd_covered_a, rd_whole_b, rd_stored_b, rd_covered_b, rd_whole_c, rd_stored_c, rd_covered_c]
    refine upda_of (score_of ?_ ?_ ?_) (mx_of ?_ ?_ ?_) ?_ ?_ ?_ <;> first | with_reducible rfl | (simp only [rd_table', rd_q', rd_kn', rd_kp', rd_vt', rd_whole_a, rd_stored_a, rd_covered_a, rd_whole_b, rd_stored_b, rd_covered_b, rd_whole_c, rd_stored_c, rd_covered_c]; rfl) | rfl
  · isplitl [H30]
    · iapply (holds_intro c arg30 _ _ ?_) $$ H30
      sl_unfold_run_names
      simp only [rd_whole_a, rd_stored_a, rd_covered_a, rd_whole_b, rd_stored_b, rd_covered_b, rd_whole_c, rd_stored_c, rd_covered_c]
      refine (score_of ?_ ?_ ?_) <;> first | with_reducible rfl | (simp only [rd_table', rd_q', rd_kn', rd_kp', rd_vt', rd_whole_a, rd_stored_a, rd_covered_a, rd_whole_b, rd_stored_b, rd_covered_b, rd_whole_c, rd_stored_c, rd_covered_c]; rfl) | rfl
    isplitl [H31]
    · iapply (any_intro c arg31 _) $$ H31
    isplitl [H32]
    · iapply (holds_intro c arg32 _ _ ?_) $$ H32
      sl_unfold_run_names
      simp only [rd_whole_a, rd_stored_a, rd_covered_a, rd_whole_b, rd_stored_b, rd_covered_b, rd_whole_c, rd_stored_c, rd_covered_c]
      refine (mx_of ?_ ?_ ?_) <;> first | with_reducible rfl | (simp only [rd_table', rd_q', rd_kn', rd_kp', rd_vt', rd_whole_a, rd_stored_a, rd_covered_a, rd_whole_b, rd_stored_b, rd_covered_b, rd_whole_c, rd_stored_c, rd_covered_c]; rfl) | rfl
    isplitl [H33]
    · iapply (any_intro c arg33 _) $$ H33
    isplitl [H34]
    · iapply (holds_intro c arg34 _ _ ?_) $$ H34
      sl_unfold_run_names
      simp only [rd_whole_a, rd_stored_a, rd_covered_a, rd_whole_b, rd_stored_b, rd_covered_b, rd_whole_c, rd_stored_c, rd_covered_c]
      refine updm_of (mx_of ?_ ?_ ?_) ?_ <;> first | with_reducible rfl | (simp only [rd_table', rd_q', rd_kn', rd_kp', rd_vt', rd_whole_a, rd_stored_a, rd_covered_a, rd_whole_b, rd_stored_b, rd_covered_b, rd_whole_c, rd_stored_c, rd_covered_c]; rfl) | rfl
    isplitl [H35]
    · iapply (holds_intro c arg35 _ _ ?_) $$ H35
      sl_unfold_run_names
      simp only [rd_whole_a, rd_stored_a, rd_covered_a, rd_whole_b, rd_stored_b, rd_covered_b, rd_whole_c, rd_stored_c, rd_covered_c]
      refine updl_of (score_of ?_ ?_ ?_) (mx_of ?_ ?_ ?_) ?_ ?_ <;> first | with_reducible rfl | (simp only [rd_table', rd_q', rd_kn', rd_kp', rd_vt', rd_whole_a, rd_stored_a, rd_covered_a, rd_whole_b, rd_stored_b, rd_covered_b, rd_whole_c, rd_stored_c, rd_covered_c]; rfl) | rfl
    iapply (holds_intro c arg36 _ _ ?_) $$ H36
    sl_unfold_run_names
    simp only [rd_whole_a, rd_stored_a, rd_covered_a, rd_whole_b, rd_stored_b, rd_covered_b, rd_whole_c, rd_stored_c, rd_covered_c]
    refine upda_of (score_of ?_ ?_ ?_) (mx_of ?_ ?_ ?_) ?_ ?_ ?_ <;> first | with_reducible rfl | (simp only [rd_table', rd_q', rd_kn', rd_kp', rd_vt', rd_whole_a, rd_stored_a, rd_covered_a, rd_whole_b, rd_stored_b, rd_covered_b, rd_whole_c, rd_stored_c, rd_covered_c]; rfl) | rfl

end Cert.KernelIdeal.Hand
end
-- ==== Proof.TripFT.lean ====
module

public import proofs.«01_k».proof.Proof.Gen.KernelIdeal.Frame
public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import Idealize.ShloMosaic.Lib.Pipeline.KitQuiescent
public import Idealize.ShloMosaic.Lib.Tactic
public import proofs.«01_k».proof.Proof.Resources
public import proofs.«01_k».proof.Proof.Checks
public import proofs.«01_k».proof.Proof.Trip

@[expose] public section

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

open Idealize.ShloMosaic.ValueIdx

variable (c : Dev nD) (i : grid0.Coords) (arg2 : Memref sig .tc .smem S37 .i32) (harg2 : arg2.IsWhole) (arg3 : Memref sig .tc .smem S37 .i32) (harg3 : arg3.IsWhole) (arg4 : Memref sig .tc .vmem S1x4096x1024 .bf16) (harg4 : arg4.IsWhole) (arg5 : Memref sig .tc .vmem S1x4096x512 .bf16) (harg5 : arg5.IsWhole) (arg6 : Memref sig .tc .vmem S1x4096x128 .bf16) (harg6 : arg6.IsWhole) (arg7 : Memref sig .tc .vmem S512x4096 .bf16) (harg7 : arg7.IsWhole) (arg8 : Memref sig .tc .vmem S1x4096x512 .bf16) (harg8 : arg8.IsWhole) (arg9 : Memref sig .tc .vmem S512x512 .f32) (harg9 : arg9.IsWhole) (arg10 : Memref sig .tc .vmem S512x512 .f32) (harg10 : arg10.IsWhole) (arg11 : Memref sig .tc .vmem S1x512 .f32) (harg11 : arg11.IsWhole) (arg12 : Memref sig .tc .vmem S1x512 .f32) (harg12 : arg12.IsWhole) (arg13 : Memref sig .tc .vmem S1x512 .f32) (harg13 : arg13.IsWhole) (arg14 : Memref sig .tc .vmem S1x512 .f32) (harg14 : arg14.IsWhole) (arg15 : Memref sig .tc .vmem S128x512 .f32) (harg15 : arg15.IsWhole) (arg16 : Memref sig .tc .vmem S512x512 .f32) (harg16 : arg16.IsWhole) (arg17 : Memref sig .tc .vmem S512x512 .f32) (harg17 : arg17.IsWhole) (arg18 : Memref sig .tc .vmem S1x512 .f32) (harg18 : arg18.IsWhole) (arg19 : Memref sig .tc .vmem S1x512 .f32) (harg19 : arg19.IsWhole) (arg20 : Memref sig .tc .vmem S1x512 .f32) (harg20 : arg20.IsWhole) (arg21 : Memref sig .tc .vmem S1x512 .f32) (harg21 : arg21.IsWhole) (arg22 : Memref sig .tc .vmem S128x512 .f32) (harg22 : arg22.IsWhole) (arg23 : Memref sig .tc .vmem S512x512 .f32) (harg23 : arg23.IsWhole) (arg24 : Memref sig .tc .vmem S512x512 .f32) (harg24 : arg24.IsWhole) (arg25 : Memref sig .tc .vmem S1x512 .f32) (harg25 : arg25.IsWhole) (arg26 : Memref sig .tc .vmem S1x512 .f32) (harg26 : arg26.IsWhole) (arg27 : Memref sig .tc .vmem S1x512 .f32) (harg27 : arg27.IsWhole) (arg28 : Memref sig .tc .vmem S1x512 .f32) (harg28 : arg28.IsWhole) (arg29 : Memref sig .tc .vmem S128x512 .f32) (harg29 : arg29.IsWhole) (arg30 : Memref sig .tc .vmem S512x512 .f32) (harg30 : arg30.IsWhole) (arg31 : Memref sig .tc .vmem S512x512 .f32) (harg31 : arg31.IsWhole) (arg32 : Memref sig .tc .vmem S1x512 .f32) (harg32 : arg32.IsWhole) (arg33 : Memref sig .tc .vmem S1x512 .f32) (harg33 : arg33.IsWhole) (arg34 : Memref sig .tc .vmem S1x512 .f32) (harg34 : arg34.IsWhole) (arg35 : Memref sig .tc .vmem S1x512 .f32) (harg35 : arg35.IsWhole) (arg36 : Memref sig .tc .vmem S128x512 .f32) (harg36 : arg36.IsWhole) (v48 v49 : IVec S512x512 32)

set_option maxHeartbeats 8000000 in
set_option maxRecDepth 20000 in
theorem tripFT (k : Fin k0_t1_loop.trips) (f2 : Buf (Elt F) (arg2.view.loc (c : Thread nD τ))) (f3 : Buf (Elt F) (arg3.view.loc (c : Thread nD τ))) (f4 : Buf (Elt F) (arg4.view.loc (c : Thread nD τ))) (f5 : Buf (Elt F) (arg5.view.loc (c : Thread nD τ))) (f6 : Buf (Elt F) (arg6.view.loc (c : Thread nD τ))) (f7 : Buf (Elt F) (arg7.view.loc (c : Thread nD τ))) (f8 : Buf (Elt F) (arg8.view.loc (c : Thread nD τ))) (f9 : Buf (Elt F) (arg9.view.loc (c : Thread nD τ))) (f10 : Buf (Elt F) (arg10.view.loc (c : Thread nD τ))) (f11 : Buf (Elt F) (arg11.view.loc (c : Thread nD τ))) (f12 : Buf (Elt F) (arg12.view.loc (c : Thread nD τ))) (f13 : Buf (Elt F) (arg13.view.loc (c : Thread nD τ))) (f14 : Buf (Elt F) (arg14.view.loc (c : Thread nD τ))) (f15 : Buf (Elt F) (arg15.view.loc (c : Thread nD τ))) (f16 : Buf (Elt F) (arg16.view.loc (c : Thread nD τ))) (f17 : Buf (Elt F) (arg17.view.loc (c : Thread nD τ))) (f18 : Buf (Elt F) (arg18.view.loc (c : Thread nD τ))) (f19 : Buf (Elt F) (arg19.view.loc (c : Thread nD τ))) (f20 : Buf (Elt F) (arg20.view.loc (c : Thread nD τ))) (f21 : Buf (Elt F) (arg21.view.loc (c : Thread nD τ))) (f22 : Buf (Elt F) (arg22.view.loc (c : Thread nD τ))) (f23 : Buf (Elt F) (arg23.view.loc (c : Thread nD τ))) (f24 : Buf (Elt F) (arg24.view.loc (c : Thread nD τ))) (f25 : Buf (Elt F) (arg25.view.loc (c : Thread nD τ))) (f26 : Buf (Elt F) (arg26.view.loc (c : Thread nD τ))) (f27 : Buf (Elt F) (arg27.view.loc (c : Thread nD τ))) (f28 : Buf (Elt F) (arg28.view.loc (c : Thread nD τ))) (f29 : Buf (Elt F) (arg29.view.loc (c : Thread nD τ))) (f30 : Buf (Elt F) (arg30.view.loc (c : Thread nD τ))) (f31 : Buf (Elt F) (arg31.view.loc (c : Thread nD τ))) (f32 : Buf (Elt F) (arg32.view.loc (c : Thread nD τ))) (f33 : Buf (Elt F) (arg33.view.loc (c : Thread nD τ))) (f34 : Buf (Elt F) (arg34.view.loc (c : Thread nD τ))) (f35 : Buf (Elt F) (arg35.view.loc (c : Thread nD τ))) (f36 : Buf (Elt F) (arg36.view.loc (c : Thread nD τ)))
    (hw2 : ∀ (B : LoadRect S37) (x : B.shape.Idx), BitVec.toNat (w := 32) (View.readAt (Elt F) arg2.view B f2 x) < 8)
    (hw3 : ∀ (B : LoadRect S37) (x : B.shape.Idx), BitVec.toNat (w := 32) (View.readAt (Elt F) arg3.view B f3 x) < 8)
    (hc1 : ¬ k0_cond1 (wdA c arg3 k f3) (wdA c arg2 k f2) (wdB c arg3 k f3) (wdB c arg2 k f2) = 1#1) (hc2 : ¬ k0_cond2 (wdA c arg3 k f3) (wdA c arg2 k f2) (wdB c arg3 k f3) (wdB c arg2 k f2) = 1#1) (hc3 : k0_cond3 (wdA c arg3 k f3) (wdA c arg2 k f2) (wdB c arg3 k f3) (wdB c arg2 k f2) = 1#1) :
    (iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ (arg17.view.loc (c : Thread nD τ) ↦[arg17.view.set]{fullShare} f17) ∗ (arg18.view.loc (c : Thread nD τ) ↦[arg18.view.set]{fullShare} f18) ∗ (arg19.view.loc (c : Thread nD τ) ↦[arg19.view.set]{fullShare} f19) ∗ (arg20.view.loc (c : Thread nD τ) ↦[arg20.view.set]{fullShare} f20) ∗ (arg21.view.loc (c : Thread nD τ) ↦[arg21.view.set]{fullShare} f21) ∗ (arg22.view.loc (c : Thread nD τ) ↦[arg22.view.set]{fullShare} f22) ∗ (arg23.view.loc (c : Thread nD τ) ↦[arg23.view.set]{fullShare} f23) ∗ (arg24.view.loc (c : Thread nD τ) ↦[arg24.view.set]{fullShare} f24) ∗ (arg25.view.loc (c : Thread nD τ) ↦[arg25.view.set]{fullShare} f25) ∗ (arg26.view.loc (c : Thread nD τ) ↦[arg26.view.set]{fullShare} f26) ∗ (arg27.view.loc (c : Thread nD τ) ↦[arg27.view.set]{fullShare} f27) ∗ (arg28.view.loc (c : Thread nD τ) ↦[arg28.view.set]{fullShare} f28) ∗ (arg29.view.loc (c : Thread nD τ) ↦[arg29.view.set]{fullShare} f29) ∗ (arg30.view.loc (c : Thread nD τ) ↦[arg30.view.set]{fullShare} f30) ∗ (arg31.view.loc (c : Thread nD τ) ↦[arg31.view.set]{fullShare} f31) ∗ (arg32.view.loc (c : Thread nD τ) ↦[arg32.view.set]{fullShare} f32) ∗ (arg33.view.loc (c : Thread nD τ) ↦[arg33.view.set]{fullShare} f33) ∗ (arg34.view.loc (c : Thread nD τ) ↦[arg34.view.set]{fullShare} f34) ∗ (arg35.view.loc (c : Thread nD τ) ↦[arg35.view.set]{fullShare} f35) ∗ (arg36.view.loc (c : Thread nD τ) ↦[arg36.view.set]{fullShare} f36)) : sProp 𝕄)
      ⊢ wp frame (wpE (defs₀ (F := F)) Variants.none (c : Thread nD τ) none) Set.univ (tripG i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 v48 v49 k)
        (fun _ => iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ Holds c arg8 (outPut (arg8.view.read (Elt F) f8) ((rdT (arg2.view.read (Elt F) f2) (k0_off11 k 0)) * 512#32).toNat (outT (diagT v48 v49 (scoreT (arg4.view.read (Elt F) f4) (arg5.view.read (Elt F) f5) (arg6.view.read (Elt F) f6) 0 (rdT (arg3.view.read (Elt F) f3) (k0_off11 k 0)) (rdT (arg2.view.read (Elt F) f2) (k0_off11 k 0))) (vtTile (arg7.view.read (Elt F) f7) (128 * 0) ((rdT (arg3.view.read (Elt F) f3) (k0_off11 k 0)) * 512#32).toNat) (updT (arg9.view.read (Elt F) f9) (arg11.view.read (Elt F) f11) (vtTile (arg7.view.read (Elt F) f7) (128 * 0) ((rdT (arg3.view.read (Elt F) f3) (k0_off10 k 0)) * 512#32).toNat) (⟨(arg13.view.read (Elt F) f13), (arg14.view.read (Elt F) f14), (arg15.view.read (Elt F) f15)⟩ : St F)))) (outT (diagT v48 v49 (scoreT (arg4.view.read (Elt F) f4) (arg5.view.read (Elt F) f5) (arg6.view.read (Elt F) f6) 1 (rdT (arg3.view.read (Elt F) f3) (k0_off11 k 0)) (rdT (arg2.view.read (Elt F) f2) (k0_off11 k 0))) (vtTile (arg7.view.read (Elt F) f7) (128 * 1) ((rdT (arg3.view.read (Elt F) f3) (k0_off11 k 0)) * 512#32).toNat) (updT (arg16.view.read (Elt F) f16) (arg18.view.read (Elt F) f18) (vtTile (arg7.view.read (Elt F) f7) (128 * 1) ((rdT (arg3.view.read (Elt F) f3) (k0_off10 k 0)) * 512#32).toNat) (⟨(arg20.view.read (Elt F) f20), (arg21.view.read (Elt F) f21), (arg22.view.read (Elt F) f22)⟩ : St F)))) (outT (diagT v48 v49 (scoreT (arg4.view.read (Elt F) f4) (arg5.view.read (Elt F) f5) (arg6.view.read (Elt F) f6) 2 (rdT (arg3.view.read (Elt F) f3) (k0_off11 k 0)) (rdT (arg2.view.read (Elt F) f2) (k0_off11 k 0))) (vtTile (arg7.view.read (Elt F) f7) (128 * 2) ((rdT (arg3.view.read (Elt F) f3) (k0_off11 k 0)) * 512#32).toNat) (updT (arg23.view.read (Elt F) f23) (arg25.view.read (Elt F) f25) (vtTile (arg7.view.read (Elt F) f7) (128 * 2) ((rdT (arg3.view.read (Elt F) f3) (k0_off10 k 0)) * 512#32).toNat) (⟨(arg27.view.read (Elt F) f27), (arg28.view.read (Elt F) f28), (arg29.view.read (Elt F) f29)⟩ : St F)))) (outT (diagT v48 v49 (scoreT (arg4.view.read (Elt F) f4) (arg5.view.read (Elt F) f5) (arg6.view.read (Elt F) f6) 3 (rdT (arg3.view.read (Elt F) f3) (k0_off11 k 0)) (rdT (arg2.view.read (Elt F) f2) (k0_off11 k 0))) (vtTile (arg7.view.read (Elt F) f7) (128 * 3) ((rdT (arg3.view.read (Elt F) f3) (k0_off11 k 0)) * 512#32).toNat) (updT (arg30.view.read (Elt F) f30) (arg32.view.read (Elt F) f32) (vtTile (arg7.view.read (Elt F) f7) (128 * 3) ((rdT (arg3.view.read (Elt F) f3) (k0_off10 k 0)) * 512#32).toNat) (⟨(arg34.view.read (Elt F) f34), (arg35.view.read (Elt F) f35), (arg36.view.read (Elt F) f36)⟩ : St F))))) ∗ HeadR c arg9 arg10 arg11 arg12 arg13 arg14 arg15 (scoreT (arg4.view.read (Elt F) f4) (arg5.view.read (Elt F) f5) (arg6.view.read (Elt F) f6) 0 (rdT (arg3.view.read (Elt F) f3) (k0_off28 k 0)) (rdT (arg2.view.read (Elt F) f2) (k0_off28 k 0))) (mxScoreT (arg4.view.read (Elt F) f4) (arg5.view.read (Elt F) f5) (arg6.view.read (Elt F) f6) 0 (rdT (arg3.view.read (Elt F) f3) (k0_off28 k 0)) (rdT (arg2.view.read (Elt F) f2) (k0_off28 k 0))) resetT ∗ HeadR c arg16 arg17 arg18 arg19 arg20 arg21 arg22 (scoreT (arg4.view.read (Elt F) f4) (arg5.view.read (Elt F) f5) (arg6.view.read (Elt F) f6) 1 (rdT (arg3.view.read (Elt F) f3) (k0_off28 k 0)) (rdT (arg2.view.read (Elt F) f2) (k0_off28 k 0))) (mxScoreT (arg4.view.read (Elt F) f4) (arg5.view.read (Elt F) f5) (arg6.view.read (Elt F) f6) 1 (rdT (arg3.view.read (Elt F) f3) (k0_off28 k 0)) (rdT (arg2.view.read (Elt F) f2) (k0_off28 k 0))) resetT ∗ HeadR c arg23 arg24 arg25 arg26 arg27 arg28 arg29 (scoreT (arg4.view.read (Elt F) f4) (arg5.view.read (Elt F) f5) (arg6.view.read (Elt F) f6) 2 (rdT (arg3.view.read (Elt F) f3) (k0_off28 k 0)) (rdT (arg2.view.read (Elt F) f2) (k0_off28 k 0))) (mxScoreT (arg4.view.read (Elt F) f4) (arg5.view.read (Elt F) f5) (arg6.view.read (Elt F) f6) 2 (rdT (arg3.view.read (Elt F) f3) (k0_off28 k 0)) (rdT (arg2.view.read (Elt F) f2) (k0_off28 k 0))) resetT ∗ HeadR c arg30 arg31 arg32 arg33 arg34 arg35 arg36 (scoreT (arg4.view.read (Elt F) f4) (arg5.view.read (Elt F) f5) (arg6.view.read (Elt F) f6) 3 (rdT (arg3.view.read (Elt F) f3) (k0_off28 k 0)) (rdT (arg2.view.read (Elt F) f2) (k0_off28 k 0))) (mxScoreT (arg4.view.read (Elt F) f4) (arg5.view.read (Elt F) f5) (arg6.view.read (Elt F) f6) 3 (rdT (arg3.view.read (Elt F) f3) (k0_off28 k 0)) (rdT (arg2.view.read (Elt F) f2) (k0_off28 k 0))) resetT)) := by
  iintro ⟨H2, H3, H4, H5, H6, H7, H8, H9, H10, H11, H12, H13, H14, H15, H16, H17, H18, H19, H20, H21, H22, H23, H24, H25, H26, H27, H28, H29, H30, H31, H32, H33, H34, H35, H36⟩
  dsimp only [tripG]
  sl_unfold [k0_t1_body]
  sl_exec_parts (disch := first | (with_reducible exact hc1) | (with_reducible exact hc2) | (with_reducible exact hc3) | sl_exact hc1 | sl_exact hc2 | sl_exact hc3 | ((first | with_reducible refine chk3_of ?_ | with_reducible refine chk4_of ?_ | with_reducible refine chk5_of ?_ | with_reducible refine chk6_of ?_ | with_reducible refine chk7_of ?_ | with_reducible refine chk8_of ?_ | with_reducible refine chk9_of ?_ | with_reducible refine chk10_of ?_ | with_reducible refine chk11_of ?_ | with_reducible refine chk12_of ?_ | with_reducible refine chk13_of ?_ | with_reducible refine chk14_of ?_ | with_reducible refine chk15_of ?_ | with_reducible refine chk16_of ?_ | with_reducible refine chk17_of ?_ | with_reducible refine chk18_of ?_ | with_reducible refine chk19_of ?_ | with_reducible refine chk20_of ?_ | with_reducible refine chk21_of ?_ | with_reducible refine chk22_of ?_ | with_reducible refine chk23_of ?_ | with_reducible refine chk24_of ?_ | with_reducible refine chk25_of ?_ | with_reducible refine chk26_of ?_ | with_reducible refine chk27_of ?_ | with_reducible refine chk28_of ?_) <;> (sl_unfold_run_names; first | with_reducible exact hw3 _ _ | with_reducible exact hw2 _ _)))
  sl_step
  isplitl [H2]
  · iexact H2
  isplitl [H3]
  · iexact H3
  isplitl [H4]
  · iexact H4
  isplitl [H5]
  · iexact H5
  isplitl [H6]
  · iexact H6
  isplitl [H7]
  · iexact H7
  isplitl [H8]
  · iapply (holds_intro c arg8 _ _ ?_) $$ H8
    sl_unfold_run_names
    simp only [rd_whole_a, rd_stored_a, rd_covered_a, rd_whole_b, rd_stored_b, rd_covered_b, rd_whole_c, rd_stored_c, rd_covered_c]
    refine rd_out' _ _ _ _ _ _ _ _ _ _ _ ?_ ?_ ?_ ?_ (outT_of (diaga_of (score_of ?_ ?_ ?_) ?_ (updm_of ?_ ?_) (upda_of ?_ ?_ ?_ ?_ ?_)) (diagl_of (score_of ?_ ?_ ?_) (updm_of ?_ ?_) (updl_of ?_ ?_ ?_ ?_))) (outT_of (diaga_of (score_of ?_ ?_ ?_) ?_ (updm_of ?_ ?_) (upda_of ?_ ?_ ?_ ?_ ?_)) (diagl_of (score_of ?_ ?_ ?_) (updm_of ?_ ?_) (updl_of ?_ ?_ ?_ ?_))) (outT_of (diaga_of (score_of ?_ ?_ ?_) ?_ (updm_of ?_ ?_) (upda_of ?_ ?_ ?_ ?_ ?_)) (diagl_of (score_of ?_ ?_ ?_) (updm_of ?_ ?_) (updl_of ?_ ?_ ?_ ?_))) (outT_of (diaga_of (score_of ?_ ?_ ?_) ?_ (updm_of ?_ ?_) (upda_of ?_ ?_ ?_ ?_ ?_)) (diagl_of (score_of ?_ ?_ ?_) (updm_of ?_ ?_) (updl_of ?_ ?_ ?_ ?_))) <;> first | with_reducible rfl | (simp only [rd_table', rd_q', rd_kn', rd_kp', rd_vt', rd_whole_a, rd_stored_a, rd_covered_a, rd_whole_b, rd_stored_b, rd_covered_b, rd_whole_c, rd_stored_c, rd_covered_c]; rfl) | rfl
  unfold HeadR
  isplitl [H9 H10 H11 H12 H13 H14 H15]
  · isplitl [H9]
    · iapply (holds_intro c arg9 _ _ ?_) $$ H9
      sl_unfold_run_names
      simp only [rd_whole_a, rd_stored_a, rd_covered_a, rd_whole_b, rd_stored_b, rd_covered_b, rd_whole_c, rd_stored_c, rd_covered_c]
      refine (score_of ?_ ?_ ?_) <;> first | with_reducible rfl | (simp only [rd_table', rd_q', rd_kn', rd_kp', rd_vt', rd_whole_a, rd_stored_a, rd_covered_a, rd_whole_b, rd_stored_b, rd_covered_b, rd_whole_c, rd_stored_c, rd_covered_c]; rfl) | rfl
    isplitl [H10]
    · iapply (any_intro c arg10 _) $$ H10
    isplitl [H11]
    · iapply (holds_intro c arg11 _ _ ?_) $$ H11
      sl_unfold_run_names
      simp only [rd_whole_a, rd_stored_a, rd_covered_a, rd_whole_b, rd_stored_b, rd_covered_b, rd_whole_c, rd_stored_c, rd_covered_c]
      refine (mx_of ?_ ?_ ?_) <;> first | with_reducible rfl | (simp only [rd_table', rd_q', rd_kn', rd_kp', rd_vt', rd_whole_a, rd_stored_a, rd_covered_a, rd_whole_b, rd_stored_b, rd_covered_b, rd_whole_c, rd_stored_c, rd_covered_c]; rfl) | rfl
    isplitl [H12]
    · iapply (any_intro c arg12 _) $$ H12
    isplitl [H13]
    · iapply (holds_intro c arg13 _ _ ?_) $$ H13
      sl_unfold_run_names
      simp only [rd_whole_a, rd_stored_a, rd_covered_a, rd_whole_b, rd_stored_b, rd_covered_b, rd_whole_c, rd_stored_c, rd_covered_c]
      refine rfl <;> first | with_reducible rfl | (simp only [rd_table', rd_q', rd_kn', rd_kp', rd_vt', rd_whole_a, rd_stored_a, rd_covered_a, rd_whole_b, rd_stored_b, rd_covered_b, rd_whole_c, rd_stored_c, rd_covered_c]; rfl) | rfl
    isplitl [H14]
    · iapply (holds_intro c arg14 _ _ ?_) $$ H14
      sl_unfold_run_names
      simp only [rd_whole_a, rd_stored_a, rd_covered_a, rd_whole_b, rd_stored_b, rd_covered_b, rd_whole_c, rd_stored_c, rd_covered_c]
      refine rfl <;> first | with_reducible rfl | (simp only [rd_table', rd_q', rd_kn', rd_kp', rd_vt', rd_whole_a, rd_stored_a, rd_covered_a, rd_whole_b, rd_stored_b, rd_covered_b, rd_whole_c, rd_stored_c, rd_covered_c]; rfl) | rfl
    iapply (holds_intro c arg15 _ _ ?_) $$ H15
    sl_unfold_run_names
    simp only [rd_whole_a, rd_stored_a, rd_covered_a, rd_whole_b, rd_stored_b, rd_covered_b, rd_whole_c, rd_stored_c, rd_covered_c]
    refine rfl <;> first | with_reducible rfl | (simp only [rd_table', rd_q', rd_kn', rd_kp', rd_vt', rd_whole_a, rd_stored_a, rd_covered_a, rd_whole_b, rd_stored_b, rd_covered_b, rd_whole_c, rd_stored_c, rd_covered_c]; rfl) | rfl
  isplitl [H16 H17 H18 H19 H20 H21 H22]
  · isplitl [H16]
    · iapply (holds_intro c arg16 _ _ ?_) $$ H16
      sl_unfold_run_names
      simp only [rd_whole_a, rd_stored_a, rd_covered_a, rd_whole_b, rd_stored_b, rd_covered_b, rd_whole_c, rd_stored_c, rd_covered_c]
      refine (score_of ?_ ?_ ?_) <;> first | with_reducible rfl | (simp only [rd_table', rd_q', rd_kn', rd_kp', rd_vt', rd_whole_a, rd_stored_a, rd_covered_a, rd_whole_b, rd_stored_b, rd_covered_b, rd_whole_c, rd_stored_c, rd_covered_c]; rfl) | rfl
    isplitl [H17]
    · iapply (any_intro c arg17 _) $$ H17
    isplitl [H18]
    · iapply (holds_intro c arg18 _ _ ?_) $$ H18
      sl_unfold_run_names
      simp only [rd_whole_a, rd_stored_a, rd_covered_a, rd_whole_b, rd_stored_b, rd_covered_b, rd_whole_c, rd_stored_c, rd_covered_c]
      refine (mx_of ?_ ?_ ?_) <;> first | with_reducible rfl | (simp only [rd_table', rd_q', rd_kn', rd_kp', rd_vt', rd_whole_a, rd_stored_a, rd_covered_a, rd_whole_b, rd_stored_b, rd_covered_b, rd_whole_c, rd_stored_c, rd_covered_c]; rfl) | rfl
    isplitl [H19]
    · iapply (any_intro c arg19 _) $$ H19
    isplitl [H20]
    · iapply (holds_intro c arg20 _ _ ?_) $$ H20
      sl_unfold_run_names
      simp only [rd_whole_a, rd_stored_a, rd_covered_a, rd_whole_b, rd_stored_b, rd_covered_b, rd_whole_c, rd_stored_c, rd_covered_c]
      refine rfl <;> first | with_reducible rfl | (simp only [rd_table', rd_q', rd_kn', rd_kp', rd_vt', rd_whole_a, rd_stored_a, rd_covered_a, rd_whole_b, rd_stored_b, rd_covered_b, rd_whole_c, rd_stored_c, rd_covered_c]; rfl) | rfl
    isplitl [H21]
    · iapply (holds_intro c arg21 _ _ ?_) $$ H21
      sl_unfold_run_names
      simp only [rd_whole_a, rd_stored_a, rd_covered_a, rd_whole_b, rd_stored_b, rd_covered_b, rd_whole_c, rd_stored_c, rd_covered_c]
      refine rfl <;> first | with_reducible rfl | (simp only [rd_table', rd_q', rd_kn', rd_kp', rd_vt', rd_whole_a, rd_stored_a, rd_covered_a, rd_whole_b, rd_stored_b, rd_covered_b, rd_whole_c, rd_stored_c, rd_covered_c]; rfl) | rfl
    iapply (holds_intro c arg22 _ _ ?_) $$ H22
    sl_unfold_run_names
    simp only [rd_whole_a, rd_stored_a, rd_covered_a, rd_whole_b, rd_stored_b, rd_covered_b, rd_whole_c, rd_stored_c, rd_covered_c]
    refine rfl <;> first | with_reducible rfl | (simp only [rd_table', rd_q', rd_kn', rd_kp', rd_vt', rd_whole_a, rd_stored_a, rd_covered_a, rd_whole_b, rd_stored_b, rd_covered_b, rd_whole_c, rd_stored_c, rd_covered_c]; rfl) | rfl
  isplitl [H23 H24 H25 H26 H27 H28 H29]
  · isplitl [H23]
    · iapply (holds_intro c arg23 _ _ ?_) $$ H23
      sl_unfold_run_names
      simp only [rd_whole_a, rd_stored_a, rd_covered_a, rd_whole_b, rd_stored_b, rd_covered_b, rd_whole_c, rd_stored_c, rd_covered_c]
      refine (score_of ?_ ?_ ?_) <;> first | with_reducible rfl | (simp only [rd_table', rd_q', rd_kn', rd_kp', rd_vt', rd_whole_a, rd_stored_a, rd_covered_a, rd_whole_b, rd_stored_b, rd_covered_b, rd_whole_c, rd_stored_c, rd_covered_c]; rfl) | rfl
    isplitl [H24]
    · iapply (any_intro c arg24 _) $$ H24
    isplitl [H25]
    · iapply (holds_intro c arg25 _ _ ?_) $$ H25
      sl_unfold_run_names
      simp only [rd_whole_a, rd_stored_a, rd_covered_a, rd_whole_b, rd_stored_b, rd_covered_b, rd_whole_c, rd_stored_c, rd_covered_c]
      refine (mx_of ?_ ?_ ?_) <;> first | with_reducible rfl | (simp only [rd_table', rd_q', rd_kn', rd_kp', rd_vt', rd_whole_a, rd_stored_a, rd_covered_a, rd_whole_b, rd_stored_b, rd_covered_b, rd_whole_c, rd_stored_c, rd_covered_c]; rfl) | rfl
    isplitl [H26]
    · iapply (any_intro c arg26 _) $$ H26
    isplitl [H27]
    · iapply (holds_intro c arg27 _ _ ?_) $$ H27
      sl_unfold_run_names
      simp only [rd_whole_a, rd_stored_a, rd_covered_a, rd_whole_b, rd_stored_b, rd_covered_b, rd_whole_c, rd_stored_c, rd_covered_c]
      refine rfl <;> first | with_reducible rfl | (simp only [rd_table', rd_q', rd_kn', rd_kp', rd_vt', rd_whole_a, rd_stored_a, rd_covered_a, rd_whole_b, rd_stored_b, rd_covered_b, rd_whole_c, rd_stored_c, rd_covered_c]; rfl) | rfl
    isplitl [H28]
    · iapply (holds_intro c arg28 _ _ ?_) $$ H28
      sl_unfold_run_names
      simp only [rd_whole_a, rd_stored_a, rd_covered_a, rd_whole_b, rd_stored_b, rd_covered_b, rd_whole_c, rd_stored_c, rd_covered_c]
      refine rfl <;> first | with_reducible rfl | (simp only [rd_table', rd_q', rd_kn', rd_kp', rd_vt', rd_whole_a, rd_stored_a, rd_covered_a, rd_whole_b, rd_stored_b, rd_covered_b, rd_whole_c, rd_stored_c, rd_covered_c]; rfl) | rfl
    iapply (holds_intro c arg29 _ _ ?_) $$ H29
    sl_unfold_run_names
    simp only [rd_whole_a, rd_stored_a, rd_covered_a, rd_whole_b, rd_stored_b, rd_covered_b, rd_whole_c, rd_stored_c, rd_covered_c]
    refine rfl <;> first | with_reducible rfl | (simp only [rd_table', rd_q', rd_kn', rd_kp', rd_vt', rd_whole_a, rd_stored_a, rd_covered_a, rd_whole_b, rd_stored_b, rd_covered_b, rd_whole_c, rd_stored_c, rd_covered_c]; rfl) | rfl
  · isplitl [H30]
    · iapply (holds_intro c arg30 _ _ ?_) $$ H30
      sl_unfold_run_names
      simp only [rd_whole_a, rd_stored_a, rd_covered_a, rd_whole_b, rd_stored_b, rd_covered_b, rd_whole_c, rd_stored_c, rd_covered_c]
      refine (score_of ?_ ?_ ?_) <;> first | with_reducible rfl | (simp only [rd_table', rd_q', rd_kn', rd_kp', rd_vt', rd_whole_a, rd_stored_a, rd_covered_a, rd_whole_b, rd_stored_b, rd_covered_b, rd_whole_c, rd_stored_c, rd_covered_c]; rfl) | rfl
    isplitl [H31]
    · iapply (any_intro c arg31 _) $$ H31
    isplitl [H32]
    · iapply (holds_intro c arg32 _ _ ?_) $$ H32
      sl_unfold_run_names
      simp only [rd_whole_a, rd_stored_a, rd_covered_a, rd_whole_b, rd_stored_b, rd_covered_b, rd_whole_c, rd_stored_c, rd_covered_c]
      refine (mx_of ?_ ?_ ?_) <;> first | with_reducible rfl | (simp only [rd_table', rd_q', rd_kn', rd_kp', rd_vt', rd_whole_a, rd_stored_a, rd_covered_a, rd_whole_b, rd_stored_b, rd_covered_b, rd_whole_c, rd_stored_c, rd_covered_c]; rfl) | rfl
    isplitl [H33]
    · iapply (any_intro c arg33 _) $$ H33
    isplitl [H34]
    · iapply (holds_intro c arg34 _ _ ?_) $$ H34
      sl_unfold_run_names
      simp only [rd_whole_a, rd_stored_a, rd_covered_a, rd_whole_b, rd_stored_b, rd_covered_b, rd_whole_c, rd_stored_c, rd_covered_c]
      refine rfl <;> first | with_reducible rfl | (simp only [rd_table', rd_q', rd_kn', rd_kp', rd_vt', rd_whole_a, rd_stored_a, rd_covered_a, rd_whole_b, rd_stored_b, rd_covered_b, rd_whole_c, rd_stored_c, rd_covered_c]; rfl) | rfl
    isplitl [H35]
    · iapply (holds_intro c arg35 _ _ ?_) $$ H35
      sl_unfold_run_names
      simp only [rd_whole_a, rd_stored_a, rd_covered_a, rd_whole_b, rd_stored_b, rd_covered_b, rd_whole_c, rd_stored_c, rd_covered_c]
      refine rfl <;> first | with_reducible rfl | (simp only [rd_table', rd_q', rd_kn', rd_kp', rd_vt', rd_whole_a, rd_stored_a, rd_covered_a, rd_whole_b, rd_stored_b, rd_covered_b, rd_whole_c, rd_stored_c, rd_covered_c]; rfl) | rfl
    iapply (holds_intro c arg36 _ _ ?_) $$ H36
    sl_unfold_run_names
    simp only [rd_whole_a, rd_stored_a, rd_covered_a, rd_whole_b, rd_stored_b, rd_covered_b, rd_whole_c, rd_stored_c, rd_covered_c]
    refine rfl <;> first | with_reducible rfl | (simp only [rd_table', rd_q', rd_kn', rd_kp', rd_vt', rd_whole_a, rd_stored_a, rd_covered_a, rd_whole_b, rd_stored_b, rd_covered_b, rd_whole_c, rd_stored_c, rd_covered_c]; rfl) | rfl

end Cert.KernelIdeal.Hand
end
-- ==== Proof.Step.lean ====
module

public import proofs.«01_k».proof.Proof.Gen.KernelIdeal.Frame
public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import Idealize.ShloMosaic.Lib.Pipeline.KitQuiescent
public import Idealize.ShloMosaic.Lib.Tactic
public import proofs.«01_k».proof.Proof.Resources
public import proofs.«01_k».proof.Proof.Checks
public import proofs.«01_k».proof.Proof.State
public import proofs.«01_k».proof.Proof.TripFF
public import proofs.«01_k».proof.Proof.TripTF
public import proofs.«01_k».proof.Proof.TripFT

@[expose] public section

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

open Idealize.ShloMosaic.ValueIdx

/-! One trip of the loop takes the scratch and the output block to the next, `stepB`. -/

/-- What a grid point reads, off the contents of its staging buffers. -/
def envOf (c : Dev nD) (arg2 : Memref sig .tc .smem S37 .i32) (arg3 : Memref sig .tc .smem S37 .i32) (arg4 : Memref sig .tc .vmem S1x4096x1024 .bf16) (arg5 : Memref sig .tc .vmem S1x4096x512 .bf16) (arg6 : Memref sig .tc .vmem S1x4096x128 .bf16) (arg7 : Memref sig .tc .vmem S512x4096 .bf16) (f2 : Buf (Elt F) (arg2.view.loc (c : Thread nD τ))) (f3 : Buf (Elt F) (arg3.view.loc (c : Thread nD τ))) (f4 : Buf (Elt F) (arg4.view.loc (c : Thread nD τ))) (f5 : Buf (Elt F) (arg5.view.loc (c : Thread nD τ))) (f6 : Buf (Elt F) (arg6.view.loc (c : Thread nD τ))) (f7 : Buf (Elt F) (arg7.view.loc (c : Thread nD τ))) : Env F :=
  ⟨arg2.view.read (Elt F) f2, arg3.view.read (Elt F) f3, arg4.view.read (Elt F) f4, arg5.view.read (Elt F) f5, arg6.view.read (Elt F) f6, arg7.view.read (Elt F) f7⟩

/-- The resources of the loop: the blocks read, the output block, and the four heads' scratch. -/
def INV (c : Dev nD) (arg2 : Memref sig .tc .smem S37 .i32) (arg3 : Memref sig .tc .smem S37 .i32) (arg4 : Memref sig .tc .vmem S1x4096x1024 .bf16) (arg5 : Memref sig .tc .vmem S1x4096x512 .bf16) (arg6 : Memref sig .tc .vmem S1x4096x128 .bf16) (arg7 : Memref sig .tc .vmem S512x4096 .bf16) (arg8 : Memref sig .tc .vmem S1x4096x512 .bf16) (arg9 : Memref sig .tc .vmem S512x512 .f32) (arg10 : Memref sig .tc .vmem S512x512 .f32) (arg11 : Memref sig .tc .vmem S1x512 .f32) (arg12 : Memref sig .tc .vmem S1x512 .f32) (arg13 : Memref sig .tc .vmem S1x512 .f32) (arg14 : Memref sig .tc .vmem S1x512 .f32) (arg15 : Memref sig .tc .vmem S128x512 .f32) (arg16 : Memref sig .tc .vmem S512x512 .f32) (arg17 : Memref sig .tc .vmem S512x512 .f32) (arg18 : Memref sig .tc .vmem S1x512 .f32) (arg19 : Memref sig .tc .vmem S1x512 .f32) (arg20 : Memref sig .tc .vmem S1x512 .f32) (arg21 : Memref sig .tc .vmem S1x512 .f32) (arg22 : Memref sig .tc .vmem S128x512 .f32) (arg23 : Memref sig .tc .vmem S512x512 .f32) (arg24 : Memref sig .tc .vmem S512x512 .f32) (arg25 : Memref sig .tc .vmem S1x512 .f32) (arg26 : Memref sig .tc .vmem S1x512 .f32) (arg27 : Memref sig .tc .vmem S1x512 .f32) (arg28 : Memref sig .tc .vmem S1x512 .f32) (arg29 : Memref sig .tc .vmem S128x512 .f32) (arg30 : Memref sig .tc .vmem S512x512 .f32) (arg31 : Memref sig .tc .vmem S512x512 .f32) (arg32 : Memref sig .tc .vmem S1x512 .f32) (arg33 : Memref sig .tc .vmem S1x512 .f32) (arg34 : Memref sig .tc .vmem S1x512 .f32) (arg35 : Memref sig .tc .vmem S1x512 .f32) (arg36 : Memref sig .tc .vmem S128x512 .f32) (f2 : Buf (Elt F) (arg2.view.loc (c : Thread nD τ))) (f3 : Buf (Elt F) (arg3.view.loc (c : Thread nD τ))) (f4 : Buf (Elt F) (arg4.view.loc (c : Thread nD τ))) (f5 : Buf (Elt F) (arg5.view.loc (c : Thread nD τ))) (f6 : Buf (Elt F) (arg6.view.loc (c : Thread nD τ))) (f7 : Buf (Elt F) (arg7.view.loc (c : Thread nD τ))) (B : Big F) : sProp 𝕄 :=
  iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ Holds c arg8 B.O ∗ HeadR c arg9 arg10 arg11 arg12 arg13 arg14 arg15 (B.s 0) (B.mx 0) (B.st 0) ∗ HeadR c arg16 arg17 arg18 arg19 arg20 arg21 arg22 (B.s 1) (B.mx 1) (B.st 1) ∗ HeadR c arg23 arg24 arg25 arg26 arg27 arg28 arg29 (B.s 2) (B.mx 2) (B.st 2) ∗ HeadR c arg30 arg31 arg32 arg33 arg34 arg35 arg36 (B.s 3) (B.mx 3) (B.st 3))

theorem rd_lt {sp : Space} (v : View sig .tc sp S37 .i32) (f : v.ty.Contents (Elt F)) (h : ∀ x, (v.read (Elt F) f x : BitVec 32).toNat < 8) (B : LoadRect S37) (x : B.shape.Idx) :
    BitVec.toNat (w := 32) (View.readAt (Elt F) v B f x) < 8 := h _

variable (c : Dev nD) (i : grid0.Coords) (arg2 : Memref sig .tc .smem S37 .i32) (harg2 : arg2.IsWhole) (arg3 : Memref sig .tc .smem S37 .i32) (harg3 : arg3.IsWhole) (arg4 : Memref sig .tc .vmem S1x4096x1024 .bf16) (harg4 : arg4.IsWhole) (arg5 : Memref sig .tc .vmem S1x4096x512 .bf16) (harg5 : arg5.IsWhole) (arg6 : Memref sig .tc .vmem S1x4096x128 .bf16) (harg6 : arg6.IsWhole) (arg7 : Memref sig .tc .vmem S512x4096 .bf16) (harg7 : arg7.IsWhole) (arg8 : Memref sig .tc .vmem S1x4096x512 .bf16) (harg8 : arg8.IsWhole) (arg9 : Memref sig .tc .vmem S512x512 .f32) (harg9 : arg9.IsWhole) (arg10 : Memref sig .tc .vmem S512x512 .f32) (harg10 : arg10.IsWhole) (arg11 : Memref sig .tc .vmem S1x512 .f32) (harg11 : arg11.IsWhole) (arg12 : Memref sig .tc .vmem S1x512 .f32) (harg12 : arg12.IsWhole) (arg13 : Memref sig .tc .vmem S1x512 .f32) (harg13 : arg13.IsWhole) (arg14 : Memref sig .tc .vmem S1x512 .f32) (harg14 : arg14.IsWhole) (arg15 : Memref sig .tc .vmem S128x512 .f32) (harg15 : arg15.IsWhole) (arg16 : Memref sig .tc .vmem S512x512 .f32) (harg16 : arg16.IsWhole) (arg17 : Memref sig .tc .vmem S512x512 .f32) (harg17 : arg17.IsWhole) (arg18 : Memref sig .tc .vmem S1x512 .f32) (harg18 : arg18.IsWhole) (arg19 : Memref sig .tc .vmem S1x512 .f32) (harg19 : arg19.IsWhole) (arg20 : Memref sig .tc .vmem S1x512 .f32) (harg20 : arg20.IsWhole) (arg21 : Memref sig .tc .vmem S1x512 .f32) (harg21 : arg21.IsWhole) (arg22 : Memref sig .tc .vmem S128x512 .f32) (harg22 : arg22.IsWhole) (arg23 : Memref sig .tc .vmem S512x512 .f32) (harg23 : arg23.IsWhole) (arg24 : Memref sig .tc .vmem S512x512 .f32) (harg24 : arg24.IsWhole) (arg25 : Memref sig .tc .vmem S1x512 .f32) (harg25 : arg25.IsWhole) (arg26 : Memref sig .tc .vmem S1x512 .f32) (harg26 : arg26.IsWhole) (arg27 : Memref sig .tc .vmem S1x512 .f32) (harg27 : arg27.IsWhole) (arg28 : Memref sig .tc .vmem S1x512 .f32) (harg28 : arg28.IsWhole) (arg29 : Memref sig .tc .vmem S128x512 .f32) (harg29 : arg29.IsWhole) (arg30 : Memref sig .tc .vmem S512x512 .f32) (harg30 : arg30.IsWhole) (arg31 : Memref sig .tc .vmem S512x512 .f32) (harg31 : arg31.IsWhole) (arg32 : Memref sig .tc .vmem S1x512 .f32) (harg32 : arg32.IsWhole) (arg33 : Memref sig .tc .vmem S1x512 .f32) (harg33 : arg33.IsWhole) (arg34 : Memref sig .tc .vmem S1x512 .f32) (harg34 : arg34.IsWhole) (arg35 : Memref sig .tc .vmem S1x512 .f32) (harg35 : arg35.IsWhole) (arg36 : Memref sig .tc .vmem S128x512 .f32) (harg36 : arg36.IsWhole) (v48 v49 : IVec S512x512 32)

set_option maxHeartbeats 4000000 in
set_option maxRecDepth 20000 in
theorem step_run (k : Fin k0_t1_loop.trips) (f2 : Buf (Elt F) (arg2.view.loc (c : Thread nD τ))) (f3 : Buf (Elt F) (arg3.view.loc (c : Thread nD τ))) (f4 : Buf (Elt F) (arg4.view.loc (c : Thread nD τ))) (f5 : Buf (Elt F) (arg5.view.loc (c : Thread nD τ))) (f6 : Buf (Elt F) (arg6.view.loc (c : Thread nD τ))) (f7 : Buf (Elt F) (arg7.view.loc (c : Thread nD τ)))
    (hfit : Fit (envOf c arg2 arg3 arg4 arg5 arg6 arg7 f2 f3 f4 f5 f6 f7)) (B : Big F) :
    (INV c arg2 arg3 arg4 arg5 arg6 arg7 arg8 arg9 arg10 arg11 arg12 arg13 arg14 arg15 arg16 arg17 arg18 arg19 arg20 arg21 arg22 arg23 arg24 arg25 arg26 arg27 arg28 arg29 arg30 arg31 arg32 arg33 arg34 arg35 arg36 f2 f3 f4 f5 f6 f7 B : sProp 𝕄)
      ⊢ wp frame (wpE (defs₀ (F := F)) Variants.none (c : Thread nD τ) none) Set.univ (tripG i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 v48 v49 k)
        (fun _ => INV c arg2 arg3 arg4 arg5 arg6 arg7 arg8 arg9 arg10 arg11 arg12 arg13 arg14 arg15 arg16 arg17 arg18 arg19 arg20 arg21 arg22 arg23 arg24 arg25 arg26 arg27 arg28 arg29 arg30 arg31 arg32 arg33 arg34 arg35 arg36 f2 f3 f4 f5 f6 f7 (stepB (envOf c arg2 arg3 arg4 arg5 arg6 arg7 f2 f3 f4 f5 f6 f7) v48 v49 k.val B)) := by
  have hw2 := fun B x => rd_lt (F := F) arg2.view f2 hfit.w2 B x
  have hw3 := fun B x => rd_lt (F := F) arg3.view f3 hfit.w3 B x
  have hA : ∀ (m : Memref sig .tc .smem S37 .i32) (f : Buf (Elt F) (m.view.loc (c : Thread nD τ))), wdA c m k f = rdT (m.view.read (Elt F) f) (2 * k.val) := by
    intro m f; rw [← off10_0 k]; exact rd_table _ _ _ _ _
  have hB : ∀ (m : Memref sig .tc .smem S37 .i32) (f : Buf (Elt F) (m.view.loc (c : Thread nD τ))), wdB c m k f = rdT (m.view.read (Elt F) f) (2 * k.val + 1) := by
    intro m f; rw [← off11_0 k]; exact rd_table _ _ _ _ _
  have hd := hfit.d k.val (by have := k.isLt; exact this)
  generalize hPost : (fun _ : Unit => INV c arg2 arg3 arg4 arg5 arg6 arg7 arg8 arg9 arg10 arg11 arg12 arg13 arg14 arg15 arg16 arg17 arg18 arg19 arg20 arg21 arg22 arg23 arg24 arg25 arg26 arg27 arg28 arg29 arg30 arg31 arg32 arg33 arg34 arg35 arg36 f2 f3 f4 f5 f6 f7 (stepB (envOf c arg2 arg3 arg4 arg5 arg6 arg7 f2 f3 f4 f5 f6 f7) v48 v49 k.val B)) = Post
  unfold INV HeadR Holds AnyC
  iintro ⟨H2, H3, H4, H5, H6, H7, ⟨%f8, H8, %h8⟩, ⟨⟨%f9, H9, %h9⟩, ⟨%f10, H10⟩, ⟨%f11, H11, %h11⟩, ⟨%f12, H12⟩, ⟨%f13, H13, %h13⟩, ⟨%f14, H14, %h14⟩, ⟨%f15, H15, %h15⟩⟩, ⟨⟨%f16, H16, %h16⟩, ⟨%f17, H17⟩, ⟨%f18, H18, %h18⟩, ⟨%f19, H19⟩, ⟨%f20, H20, %h20⟩, ⟨%f21, H21, %h21⟩, ⟨%f22, H22, %h22⟩⟩, ⟨⟨%f23, H23, %h23⟩, ⟨%f24, H24⟩, ⟨%f25, H25, %h25⟩, ⟨%f26, H26⟩, ⟨%f27, H27, %h27⟩, ⟨%f28, H28, %h28⟩, ⟨%f29, H29, %h29⟩⟩, ⟨⟨%f30, H30, %h30⟩, ⟨%f31, H31⟩, ⟨%f32, H32, %h32⟩, ⟨%f33, H33⟩, ⟨%f34, H34, %h34⟩, ⟨%f35, H35, %h35⟩, ⟨%f36, H36, %h36⟩⟩⟩
  have a2 : wdA c arg2 k f2 = (envOf c arg2 arg3 arg4 arg5 arg6 arg7 f2 f3 f4 f5 f6 f7).qt (2 * k.val) := hA _ _
  have a3 : wdA c arg3 k f3 = (envOf c arg2 arg3 arg4 arg5 arg6 arg7 f2 f3 f4 f5 f6 f7).kt (2 * k.val) := hA _ _
  have b2 : wdB c arg2 k f2 = (envOf c arg2 arg3 arg4 arg5 arg6 arg7 f2 f3 f4 f5 f6 f7).qt (2 * k.val + 1) := hB _ _
  have b3 : wdB c arg3 k f3 = (envOf c arg2 arg3 arg4 arg5 arg6 arg7 f2 f3 f4 f5 f6 f7).kt (2 * k.val + 1) := hB _ _
  have c1 := cond1_iff (wdA c arg3 k f3) (wdA c arg2 k f2) (wdB c arg3 k f3) (wdB c arg2 k f2)
  have c2 := cond2_iff (wdA c arg3 k f3) (wdA c arg2 k f2) (wdB c arg3 k f3) (wdB c arg2 k f2)
  have c3 := cond3_iff (wdA c arg3 k f3) (wdA c arg2 k f2) (wdB c arg3 k f3) (wdB c arg2 k f2)
  by_cases e0 : (envOf c arg2 arg3 arg4 arg5 arg6 arg7 f2 f3 f4 f5 f6 f7).kt (2 * k.val) = (envOf c arg2 arg3 arg4 arg5 arg6 arg7 f2 f3 f4 f5 f6 f7).qt (2 * k.val)
  · have e1 : ¬ (envOf c arg2 arg3 arg4 arg5 arg6 arg7 f2 f3 f4 f5 f6 f7).kt (2 * k.val + 1) = (envOf c arg2 arg3 arg4 arg5 arg6 arg7 f2 f3 f4 f5 f6 f7).qt (2 * k.val + 1) := fun h => hd ⟨e0, h⟩
    have w0 := a3.trans (e0.trans a2.symm)
    have w1 : wdB c arg3 k f3 ≠ wdB c arg2 k f2 := fun h => e1 (b3.symm.trans (h.trans b2))
    have T := tripTF c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 v48 v49 k f2 f3 f4 f5 f6 f7 f8 f9 f10 f11 f12 f13 f14 f15 f16 f17 f18 f19 f20 f21 f22 f23 f24 f25 f26 f27 f28 f29 f30 f31 f32 f33 f34 f35 f36 hw2 hw3 (fun h => (c1.mp h).1 w0) (c2.mpr ⟨w0, w1⟩) (fun h => (c3.mp h).1 w0)
    have eO : (stepB (envOf c arg2 arg3 arg4 arg5 arg6 arg7 f2 f3 f4 f5 f6 f7) v48 v49 k.val B).O = _ := if_pos e0
    have es0 : (stepB (envOf c arg2 arg3 arg4 arg5 arg6 arg7 f2 f3 f4 f5 f6 f7) v48 v49 k.val B).st 0 = updT ((envOf c arg2 arg3 arg4 arg5 arg6 arg7 f2 f3 f4 f5 f6 f7).sc 0 (2 * k.val + 1)) ((envOf c arg2 arg3 arg4 arg5 arg6 arg7 f2 f3 f4 f5 f6 f7).mxs 0 (2 * k.val + 1)) ((envOf c arg2 arg3 arg4 arg5 arg6 arg7 f2 f3 f4 f5 f6 f7).vt 0 (2 * k.val + 1)) resetT := if_pos e0
    have es1 : (stepB (envOf c arg2 arg3 arg4 arg5 arg6 arg7 f2 f3 f4 f5 f6 f7) v48 v49 k.val B).st 1 = updT ((envOf c arg2 arg3 arg4 arg5 arg6 arg7 f2 f3 f4 f5 f6 f7).sc 1 (2 * k.val + 1)) ((envOf c arg2 arg3 arg4 arg5 arg6 arg7 f2 f3 f4 f5 f6 f7).mxs 1 (2 * k.val + 1)) ((envOf c arg2 arg3 arg4 arg5 arg6 arg7 f2 f3 f4 f5 f6 f7).vt 1 (2 * k.val + 1)) resetT := if_pos e0
    have es2 : (stepB (envOf c arg2 arg3 arg4 arg5 arg6 arg7 f2 f3 f4 f5 f6 f7) v48 v49 k.val B).st 2 = updT ((envOf c arg2 arg3 arg4 arg5 arg6 arg7 f2 f3 f4 f5 f6 f7).sc 2 (2 * k.val + 1)) ((envOf c arg2 arg3 arg4 arg5 arg6 arg7 f2 f3 f4 f5 f6 f7).mxs 2 (2 * k.val + 1)) ((envOf c arg2 arg3 arg4 arg5 arg6 arg7 f2 f3 f4 f5 f6 f7).vt 2 (2 * k.val + 1)) resetT := if_pos e0
    have es3 : (stepB (envOf c arg2 arg3 arg4 arg5 arg6 arg7 f2 f3 f4 f5 f6 f7) v48 v49 k.val B).st 3 = updT ((envOf c arg2 arg3 arg4 arg5 arg6 arg7 f2 f3 f4 f5 f6 f7).sc 3 (2 * k.val + 1)) ((envOf c arg2 arg3 arg4 arg5 arg6 arg7 f2 f3 f4 f5 f6 f7).mxs 3 (2 * k.val + 1)) ((envOf c arg2 arg3 arg4 arg5 arg6 arg7 f2 f3 f4 f5 f6 f7).vt 3 (2 * k.val + 1)) resetT := if_pos e0
    simp only [h8, h9, h11, h13, h14, h15, h16, h18, h20, h21, h22, h23, h25, h27, h28, h29, h30, h32, h34, h35, h36, off10_0, off11_0, off28_0] at T
    subst hPost
    unfold INV
    rw [eO, es0, es1, es2, es3, stepB_mx, stepB_mx, stepB_mx, stepB_mx, stepB_s, stepB_s, stepB_s, stepB_s]
    iapply (wp_wand_r Idealize.ShloMosaic.frame (wpE (defs₀ (F := F)) Variants.none (c : Thread nD τ) none) Set.univ)
    isplitl [H2 H3 H4 H5 H6 H7 H8 H9 H10 H11 H12 H13 H14 H15 H16 H17 H18 H19 H20 H21 H22 H23 H24 H25 H26 H27 H28 H29 H30 H31 H32 H33 H34 H35 H36]
    · iapply T
      isplitl [H2]
      · iexact H2
      isplitl [H3]
      · iexact H3
      isplitl [H4]
      · iexact H4
      isplitl [H5]
      · iexact H5
      isplitl [H6]
      · iexact H6
      isplitl [H7]
      · iexact H7
      isplitl [H8]
      · iexact H8
      isplitl [H9]
      · iexact H9
      isplitl [H10]
      · iexact H10
      isplitl [H11]
      · iexact H11
      isplitl [H12]
      · iexact H12
      isplitl [H13]
      · iexact H13
      isplitl [H14]
      · iexact H14
      isplitl [H15]
      · iexact H15
      isplitl [H16]
      · iexact H16
      isplitl [H17]
      · iexact H17
      isplitl [H18]
      · iexact H18
      isplitl [H19]
      · iexact H19
      isplitl [H20]
      · iexact H20
      isplitl [H21]
      · iexact H21
      isplitl [H22]
      · iexact H22
      isplitl [H23]
      · iexact H23
      isplitl [H24]
      · iexact H24
      isplitl [H25]
      · iexact H25
      isplitl [H26]
      · iexact H26
      isplitl [H27]
      · iexact H27
      isplitl [H28]
      · iexact H28
      isplitl [H29]
      · iexact H29
      isplitl [H30]
      · iexact H30
      isplitl [H31]
      · iexact H31
      isplitl [H32]
      · iexact H32
      isplitl [H33]
      · iexact H33
      isplitl [H34]
      · iexact H34
      isplitl [H35]
      · iexact H35
      iexact H36
    iintro %_ ⟨K2, K3, K4, K5, K6, K7, K8, G0, G1, G2, G3⟩
    isplitl [K2]
    · iexact K2
    isplitl [K3]
    · iexact K3
    isplitl [K4]
    · iexact K4
    isplitl [K5]
    · iexact K5
    isplitl [K6]
    · iexact K6
    isplitl [K7]
    · iexact K7
    isplitl [K8]
    · iexact K8
    isplitl [G0]
    · iexact G0
    isplitl [G1]
    · iexact G1
    isplitl [G2]
    · iexact G2
    iexact G3
  · by_cases e1 : (envOf c arg2 arg3 arg4 arg5 arg6 arg7 f2 f3 f4 f5 f6 f7).kt (2 * k.val + 1) = (envOf c arg2 arg3 arg4 arg5 arg6 arg7 f2 f3 f4 f5 f6 f7).qt (2 * k.val + 1)
    · have w0 : wdA c arg3 k f3 ≠ wdA c arg2 k f2 := fun h => e0 (a3.symm.trans (h.trans a2))
      have w1 := b3.trans (e1.trans b2.symm)
      have T := tripFT c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 v48 v49 k f2 f3 f4 f5 f6 f7 f8 f9 f10 f11 f12 f13 f14 f15 f16 f17 f18 f19 f20 f21 f22 f23 f24 f25 f26 f27 f28 f29 f30 f31 f32 f33 f34 f35 f36 hw2 hw3 (fun h => (c1.mp h).2 w1) (fun h => (c2.mp h).2 w1) (c3.mpr ⟨w0, w1⟩)
      have eO : (stepB (envOf c arg2 arg3 arg4 arg5 arg6 arg7 f2 f3 f4 f5 f6 f7) v48 v49 k.val B).O = _ := (if_neg e0).trans (if_pos e1)
      have es0 : (stepB (envOf c arg2 arg3 arg4 arg5 arg6 arg7 f2 f3 f4 f5 f6 f7) v48 v49 k.val B).st 0 = resetT := (if_neg e0).trans (if_pos e1)
      have es1 : (stepB (envOf c arg2 arg3 arg4 arg5 arg6 arg7 f2 f3 f4 f5 f6 f7) v48 v49 k.val B).st 1 = resetT := (if_neg e0).trans (if_pos e1)
      have es2 : (stepB (envOf c arg2 arg3 arg4 arg5 arg6 arg7 f2 f3 f4 f5 f6 f7) v48 v49 k.val B).st 2 = resetT := (if_neg e0).trans (if_pos e1)
      have es3 : (stepB (envOf c arg2 arg3 arg4 arg5 arg6 arg7 f2 f3 f4 f5 f6 f7) v48 v49 k.val B).st 3 = resetT := (if_neg e0).trans (if_pos e1)
      simp only [h8, h9, h11, h13, h14, h15, h16, h18, h20, h21, h22, h23, h25, h27, h28, h29, h30, h32, h34, h35, h36, off10_0, off11_0, off28_0] at T
      subst hPost
      unfold INV
      rw [eO, es0, es1, es2, es3, stepB_mx, stepB_mx, stepB_mx, stepB_mx, stepB_s, stepB_s, stepB_s, stepB_s]
      iapply (wp_wand_r Idealize.ShloMosaic.frame (wpE (defs₀ (F := F)) Variants.none (c : Thread nD τ) none) Set.univ)
      isplitl [H2 H3 H4 H5 H6 H7 H8 H9 H10 H11 H12 H13 H14 H15 H16 H17 H18 H19 H20 H21 H22 H23 H24 H25 H26 H27 H28 H29 H30 H31 H32 H33 H34 H35 H36]
      · iapply T
        isplitl [H2]
        · iexact H2
        isplitl [H3]
        · iexact H3
        isplitl [H4]
        · iexact H4
        isplitl [H5]
        · iexact H5
        isplitl [H6]
        · iexact H6
        isplitl [H7]
        · iexact H7
        isplitl [H8]
        · iexact H8
        isplitl [H9]
        · iexact H9
        isplitl [H10]
        · iexact H10
        isplitl [H11]
        · iexact H11
        isplitl [H12]
        · iexact H12
        isplitl [H13]
        · iexact H13
        isplitl [H14]
        · iexact H14
        isplitl [H15]
        · iexact H15
        isplitl [H16]
        · iexact H16
        isplitl [H17]
        · iexact H17
        isplitl [H18]
        · iexact H18
        isplitl [H19]
        · iexact H19
        isplitl [H20]
        · iexact H20
        isplitl [H21]
        · iexact H21
        isplitl [H22]
        · iexact H22
        isplitl [H23]
        · iexact H23
        isplitl [H24]
        · iexact H24
        isplitl [H25]
        · iexact H25
        isplitl [H26]
        · iexact H26
        isplitl [H27]
        · iexact H27
        isplitl [H28]
        · iexact H28
        isplitl [H29]
        · iexact H29
        isplitl [H30]
        · iexact H30
        isplitl [H31]
        · iexact H31
        isplitl [H32]
        · iexact H32
        isplitl [H33]
        · iexact H33
        isplitl [H34]
        · iexact H34
        isplitl [H35]
        · iexact H35
        iexact H36
      iintro %_ ⟨K2, K3, K4, K5, K6, K7, K8, G0, G1, G2, G3⟩
      isplitl [K2]
      · iexact K2
      isplitl [K3]
      · iexact K3
      isplitl [K4]
      · iexact K4
      isplitl [K5]
      · iexact K5
      isplitl [K6]
      · iexact K6
      isplitl [K7]
      · iexact K7
      isplitl [K8]
      · iexact K8
      isplitl [G0]
      · iexact G0
      isplitl [G1]
      · iexact G1
      isplitl [G2]
      · iexact G2
      iexact G3
    · have w0 : wdA c arg3 k f3 ≠ wdA c arg2 k f2 := fun h => e0 (a3.symm.trans (h.trans a2))
      have w1 : wdB c arg3 k f3 ≠ wdB c arg2 k f2 := fun h => e1 (b3.symm.trans (h.trans b2))
      have T := tripFF c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 v48 v49 k f2 f3 f4 f5 f6 f7 f8 f9 f10 f11 f12 f13 f14 f15 f16 f17 f18 f19 f20 f21 f22 f23 f24 f25 f26 f27 f28 f29 f30 f31 f32 f33 f34 f35 f36 hw2 hw3 (c1.mpr ⟨w0, w1⟩) (fun h => w0 (c2.mp h).1) (fun h => w1 (c3.mp h).2)
      have eO : (stepB (envOf c arg2 arg3 arg4 arg5 arg6 arg7 f2 f3 f4 f5 f6 f7) v48 v49 k.val B).O = _ := (if_neg e0).trans (if_neg e1)
      have es0 : (stepB (envOf c arg2 arg3 arg4 arg5 arg6 arg7 f2 f3 f4 f5 f6 f7) v48 v49 k.val B).st 0 = updT ((envOf c arg2 arg3 arg4 arg5 arg6 arg7 f2 f3 f4 f5 f6 f7).sc 0 (2 * k.val + 1)) ((envOf c arg2 arg3 arg4 arg5 arg6 arg7 f2 f3 f4 f5 f6 f7).mxs 0 (2 * k.val + 1)) ((envOf c arg2 arg3 arg4 arg5 arg6 arg7 f2 f3 f4 f5 f6 f7).vt 0 (2 * k.val + 1)) (updT (B.s 0) (B.mx 0) ((envOf c arg2 arg3 arg4 arg5 arg6 arg7 f2 f3 f4 f5 f6 f7).vt 0 (2 * k.val)) (B.st 0)) := (if_neg e0).trans (if_neg e1)
      have es1 : (stepB (envOf c arg2 arg3 arg4 arg5 arg6 arg7 f2 f3 f4 f5 f6 f7) v48 v49 k.val B).st 1 = updT ((envOf c arg2 arg3 arg4 arg5 arg6 arg7 f2 f3 f4 f5 f6 f7).sc 1 (2 * k.val + 1)) ((envOf c arg2 arg3 arg4 arg5 arg6 arg7 f2 f3 f4 f5 f6 f7).mxs 1 (2 * k.val + 1)) ((envOf c arg2 arg3 arg4 arg5 arg6 arg7 f2 f3 f4 f5 f6 f7).vt 1 (2 * k.val + 1)) (updT (B.s 1) (B.mx 1) ((envOf c arg2 arg3 arg4 arg5 arg6 arg7 f2 f3 f4 f5 f6 f7).vt 1 (2 * k.val)) (B.st 1)) := (if_neg e0).trans (if_neg e1)
      have es2 : (stepB (envOf c arg2 arg3 arg4 arg5 arg6 arg7 f2 f3 f4 f5 f6 f7) v48 v49 k.val B).st 2 = updT ((envOf c arg2 arg3 arg4 arg5 arg6 arg7 f2 f3 f4 f5 f6 f7).sc 2 (2 * k.val + 1)) ((envOf c arg2 arg3 arg4 arg5 arg6 arg7 f2 f3 f4 f5 f6 f7).mxs 2 (2 * k.val + 1)) ((envOf c arg2 arg3 arg4 arg5 arg6 arg7 f2 f3 f4 f5 f6 f7).vt 2 (2 * k.val + 1)) (updT (B.s 2) (B.mx 2) ((envOf c arg2 arg3 arg4 arg5 arg6 arg7 f2 f3 f4 f5 f6 f7).vt 2 (2 * k.val)) (B.st 2)) := (if_neg e0).trans (if_neg e1)
      have es3 : (stepB (envOf c arg2 arg3 arg4 arg5 arg6 arg7 f2 f3 f4 f5 f6 f7) v48 v49 k.val B).st 3 = updT ((envOf c arg2 arg3 arg4 arg5 arg6 arg7 f2 f3 f4 f5 f6 f7).sc 3 (2 * k.val + 1)) ((envOf c arg2 arg3 arg4 arg5 arg6 arg7 f2 f3 f4 f5 f6 f7).mxs 3 (2 * k.val + 1)) ((envOf c arg2 arg3 arg4 arg5 arg6 arg7 f2 f3 f4 f5 f6 f7).vt 3 (2 * k.val + 1)) (updT (B.s 3) (B.mx 3) ((envOf c arg2 arg3 arg4 arg5 arg6 arg7 f2 f3 f4 f5 f6 f7).vt 3 (2 * k.val)) (B.st 3)) := (if_neg e0).trans (if_neg e1)
      simp only [h8, h9, h11, h13, h14, h15, h16, h18, h20, h21, h22, h23, h25, h27, h28, h29, h30, h32, h34, h35, h36, off10_0, off11_0, off28_0] at T
      subst hPost
      unfold INV
      rw [eO, es0, es1, es2, es3, stepB_mx, stepB_mx, stepB_mx, stepB_mx, stepB_s, stepB_s, stepB_s, stepB_s]
      iapply (wp_wand_r Idealize.ShloMosaic.frame (wpE (defs₀ (F := F)) Variants.none (c : Thread nD τ) none) Set.univ)
      isplitl [H2 H3 H4 H5 H6 H7 H8 H9 H10 H11 H12 H13 H14 H15 H16 H17 H18 H19 H20 H21 H22 H23 H24 H25 H26 H27 H28 H29 H30 H31 H32 H33 H34 H35 H36]
      · iapply T
        isplitl [H2]
        · iexact H2
        isplitl [H3]
        · iexact H3
        isplitl [H4]
        · iexact H4
        isplitl [H5]
        · iexact H5
        isplitl [H6]
        · iexact H6
        isplitl [H7]
        · iexact H7
        isplitl [H8]
        · iexact H8
        isplitl [H9]
        · iexact H9
        isplitl [H10]
        · iexact H10
        isplitl [H11]
        · iexact H11
        isplitl [H12]
        · iexact H12
        isplitl [H13]
        · iexact H13
        isplitl [H14]
        · iexact H14
        isplitl [H15]
        · iexact H15
        isplitl [H16]
        · iexact H16
        isplitl [H17]
        · iexact H17
        isplitl [H18]
        · iexact H18
        isplitl [H19]
        · iexact H19
        isplitl [H20]
        · iexact H20
        isplitl [H21]
        · iexact H21
        isplitl [H22]
        · iexact H22
        isplitl [H23]
        · iexact H23
        isplitl [H24]
        · iexact H24
        isplitl [H25]
        · iexact H25
        isplitl [H26]
        · iexact H26
        isplitl [H27]
        · iexact H27
        isplitl [H28]
        · iexact H28
        isplitl [H29]
        · iexact H29
        isplitl [H30]
        · iexact H30
        isplitl [H31]
        · iexact H31
        isplitl [H32]
        · iexact H32
        isplitl [H33]
        · iexact H33
        isplitl [H34]
        · iexact H34
        isplitl [H35]
        · iexact H35
        iexact H36
      iintro %_ ⟨K2, K3, K4, K5, K6, K7, K8, G0, G1, G2, G3⟩
      isplitl [K2]
      · iexact K2
      isplitl [K3]
      · iexact K3
      isplitl [K4]
      · iexact K4
      isplitl [K5]
      · iexact K5
      isplitl [K6]
      · iexact K6
      isplitl [K7]
      · iexact K7
      isplitl [K8]
      · iexact K8
      isplitl [G0]
      · iexact G0
      isplitl [G1]
      · iexact G1
      isplitl [G2]
      · iexact G2
      iexact G3

end Cert.KernelIdeal.Hand
end
-- ==== Proof.Body.lean ====
module

public import proofs.«01_k».proof.Proof.Gen.KernelIdeal.Frame
public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import Idealize.ShloMosaic.Lib.Pipeline.KitQuiescent
public import Idealize.ShloMosaic.Lib.Tactic
public import proofs.«01_k».proof.Proof.Resources
public import proofs.«01_k».proof.Proof.Checks
public import proofs.«01_k».proof.Proof.State
public import proofs.«01_k».proof.Proof.Step

@[expose] public section

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

open Idealize.ShloMosaic.ValueIdx

variable (c : Dev nD) (i : grid0.Coords) (arg2 : Memref sig .tc .smem S37 .i32) (harg2 : arg2.IsWhole) (arg3 : Memref sig .tc .smem S37 .i32) (harg3 : arg3.IsWhole) (arg4 : Memref sig .tc .vmem S1x4096x1024 .bf16) (harg4 : arg4.IsWhole) (arg5 : Memref sig .tc .vmem S1x4096x512 .bf16) (harg5 : arg5.IsWhole) (arg6 : Memref sig .tc .vmem S1x4096x128 .bf16) (harg6 : arg6.IsWhole) (arg7 : Memref sig .tc .vmem S512x4096 .bf16) (harg7 : arg7.IsWhole) (arg8 : Memref sig .tc .vmem S1x4096x512 .bf16) (harg8 : arg8.IsWhole) (arg9 : Memref sig .tc .vmem S512x512 .f32) (harg9 : arg9.IsWhole) (arg10 : Memref sig .tc .vmem S512x512 .f32) (harg10 : arg10.IsWhole) (arg11 : Memref sig .tc .vmem S1x512 .f32) (harg11 : arg11.IsWhole) (arg12 : Memref sig .tc .vmem S1x512 .f32) (harg12 : arg12.IsWhole) (arg13 : Memref sig .tc .vmem S1x512 .f32) (harg13 : arg13.IsWhole) (arg14 : Memref sig .tc .vmem S1x512 .f32) (harg14 : arg14.IsWhole) (arg15 : Memref sig .tc .vmem S128x512 .f32) (harg15 : arg15.IsWhole) (arg16 : Memref sig .tc .vmem S512x512 .f32) (harg16 : arg16.IsWhole) (arg17 : Memref sig .tc .vmem S512x512 .f32) (harg17 : arg17.IsWhole) (arg18 : Memref sig .tc .vmem S1x512 .f32) (harg18 : arg18.IsWhole) (arg19 : Memref sig .tc .vmem S1x512 .f32) (harg19 : arg19.IsWhole) (arg20 : Memref sig .tc .vmem S1x512 .f32) (harg20 : arg20.IsWhole) (arg21 : Memref sig .tc .vmem S1x512 .f32) (harg21 : arg21.IsWhole) (arg22 : Memref sig .tc .vmem S128x512 .f32) (harg22 : arg22.IsWhole) (arg23 : Memref sig .tc .vmem S512x512 .f32) (harg23 : arg23.IsWhole) (arg24 : Memref sig .tc .vmem S512x512 .f32) (harg24 : arg24.IsWhole) (arg25 : Memref sig .tc .vmem S1x512 .f32) (harg25 : arg25.IsWhole) (arg26 : Memref sig .tc .vmem S1x512 .f32) (harg26 : arg26.IsWhole) (arg27 : Memref sig .tc .vmem S1x512 .f32) (harg27 : arg27.IsWhole) (arg28 : Memref sig .tc .vmem S1x512 .f32) (harg28 : arg28.IsWhole) (arg29 : Memref sig .tc .vmem S128x512 .f32) (harg29 : arg29.IsWhole) (arg30 : Memref sig .tc .vmem S512x512 .f32) (harg30 : arg30.IsWhole) (arg31 : Memref sig .tc .vmem S512x512 .f32) (harg31 : arg31.IsWhole) (arg32 : Memref sig .tc .vmem S1x512 .f32) (harg32 : arg32.IsWhole) (arg33 : Memref sig .tc .vmem S1x512 .f32) (harg33 : arg33.IsWhole) (arg34 : Memref sig .tc .vmem S1x512 .f32) (harg34 : arg34.IsWhole) (arg35 : Memref sig .tc .vmem S1x512 .f32) (harg35 : arg35.IsWhole) (arg36 : Memref sig .tc .vmem S128x512 .f32) (harg36 : arg36.IsWhole)

abbrev bodyG : Prog (TpuEff nD τ sig (Elt F) Λ₀ .tc) PUnit :=
  cc0_mla_attention (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36

set_option maxHeartbeats 8000000 in
set_option maxRecDepth 20000 in
theorem body_run (f2 : Buf (Elt F) (arg2.view.loc (c : Thread nD τ))) (f3 : Buf (Elt F) (arg3.view.loc (c : Thread nD τ))) (f4 : Buf (Elt F) (arg4.view.loc (c : Thread nD τ))) (f5 : Buf (Elt F) (arg5.view.loc (c : Thread nD τ))) (f6 : Buf (Elt F) (arg6.view.loc (c : Thread nD τ))) (f7 : Buf (Elt F) (arg7.view.loc (c : Thread nD τ))) (f8 : Buf (Elt F) (arg8.view.loc (c : Thread nD τ))) (f9 : Buf (Elt F) (arg9.view.loc (c : Thread nD τ))) (f10 : Buf (Elt F) (arg10.view.loc (c : Thread nD τ))) (f11 : Buf (Elt F) (arg11.view.loc (c : Thread nD τ))) (f12 : Buf (Elt F) (arg12.view.loc (c : Thread nD τ))) (f13 : Buf (Elt F) (arg13.view.loc (c : Thread nD τ))) (f14 : Buf (Elt F) (arg14.view.loc (c : Thread nD τ))) (f15 : Buf (Elt F) (arg15.view.loc (c : Thread nD τ))) (f16 : Buf (Elt F) (arg16.view.loc (c : Thread nD τ))) (f17 : Buf (Elt F) (arg17.view.loc (c : Thread nD τ))) (f18 : Buf (Elt F) (arg18.view.loc (c : Thread nD τ))) (f19 : Buf (Elt F) (arg19.view.loc (c : Thread nD τ))) (f20 : Buf (Elt F) (arg20.view.loc (c : Thread nD τ))) (f21 : Buf (Elt F) (arg21.view.loc (c : Thread nD τ))) (f22 : Buf (Elt F) (arg22.view.loc (c : Thread nD τ))) (f23 : Buf (Elt F) (arg23.view.loc (c : Thread nD τ))) (f24 : Buf (Elt F) (arg24.view.loc (c : Thread nD τ))) (f25 : Buf (Elt F) (arg25.view.loc (c : Thread nD τ))) (f26 : Buf (Elt F) (arg26.view.loc (c : Thread nD τ))) (f27 : Buf (Elt F) (arg27.view.loc (c : Thread nD τ))) (f28 : Buf (Elt F) (arg28.view.loc (c : Thread nD τ))) (f29 : Buf (Elt F) (arg29.view.loc (c : Thread nD τ))) (f30 : Buf (Elt F) (arg30.view.loc (c : Thread nD τ))) (f31 : Buf (Elt F) (arg31.view.loc (c : Thread nD τ))) (f32 : Buf (Elt F) (arg32.view.loc (c : Thread nD τ))) (f33 : Buf (Elt F) (arg33.view.loc (c : Thread nD τ))) (f34 : Buf (Elt F) (arg34.view.loc (c : Thread nD τ))) (f35 : Buf (Elt F) (arg35.view.loc (c : Thread nD τ))) (f36 : Buf (Elt F) (arg36.view.loc (c : Thread nD τ)))
    (hfit : Fit (envOf c arg2 arg3 arg4 arg5 arg6 arg7 f2 f3 f4 f5 f6 f7)) :
    (iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ (arg17.view.loc (c : Thread nD τ) ↦[arg17.view.set]{fullShare} f17) ∗ (arg18.view.loc (c : Thread nD τ) ↦[arg18.view.set]{fullShare} f18) ∗ (arg19.view.loc (c : Thread nD τ) ↦[arg19.view.set]{fullShare} f19) ∗ (arg20.view.loc (c : Thread nD τ) ↦[arg20.view.set]{fullShare} f20) ∗ (arg21.view.loc (c : Thread nD τ) ↦[arg21.view.set]{fullShare} f21) ∗ (arg22.view.loc (c : Thread nD τ) ↦[arg22.view.set]{fullShare} f22) ∗ (arg23.view.loc (c : Thread nD τ) ↦[arg23.view.set]{fullShare} f23) ∗ (arg24.view.loc (c : Thread nD τ) ↦[arg24.view.set]{fullShare} f24) ∗ (arg25.view.loc (c : Thread nD τ) ↦[arg25.view.set]{fullShare} f25) ∗ (arg26.view.loc (c : Thread nD τ) ↦[arg26.view.set]{fullShare} f26) ∗ (arg27.view.loc (c : Thread nD τ) ↦[arg27.view.set]{fullShare} f27) ∗ (arg28.view.loc (c : Thread nD τ) ↦[arg28.view.set]{fullShare} f28) ∗ (arg29.view.loc (c : Thread nD τ) ↦[arg29.view.set]{fullShare} f29) ∗ (arg30.view.loc (c : Thread nD τ) ↦[arg30.view.set]{fullShare} f30) ∗ (arg31.view.loc (c : Thread nD τ) ↦[arg31.view.set]{fullShare} f31) ∗ (arg32.view.loc (c : Thread nD τ) ↦[arg32.view.set]{fullShare} f32) ∗ (arg33.view.loc (c : Thread nD τ) ↦[arg33.view.set]{fullShare} f33) ∗ (arg34.view.loc (c : Thread nD τ) ↦[arg34.view.set]{fullShare} f34) ∗ (arg35.view.loc (c : Thread nD τ) ↦[arg35.view.set]{fullShare} f35) ∗ (arg36.view.loc (c : Thread nD τ) ↦[arg36.view.set]{fullShare} f36)) : sProp 𝕄)
      ⊢ wp frame (wpE (defs₀ (F := F)) Variants.none (c : Thread nD τ) none) Set.univ (bodyG i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36)
        (fun _ => INV c arg2 arg3 arg4 arg5 arg6 arg7 arg8 arg9 arg10 arg11 arg12 arg13 arg14 arg15 arg16 arg17 arg18 arg19 arg20 arg21 arg22 arg23 arg24 arg25 arg26 arg27 arg28 arg29 arg30 arg31 arg32 arg33 arg34 arg35 arg36 f2 f3 f4 f5 f6 f7 (runB (envOf c arg2 arg3 arg4 arg5 arg6 arg7 f2 f3 f4 f5 f6 f7) jjK iiK (initB (envOf c arg2 arg3 arg4 arg5 arg6 arg7 f2 f3 f4 f5 f6 f7) (arg8.view.read (Elt F) f8)) 18)) := by
  have hw2 := fun B x => rd_lt (F := F) arg2.view f2 hfit.w2 B x
  have hw3 := fun B x => rd_lt (F := F) arg3.view f3 hfit.w3 B x
  iintro ⟨H2, H3, H4, H5, H6, H7, H8, H9, H10, H11, H12, H13, H14, H15, H16, H17, H18, H19, H20, H21, H22, H23, H24, H25, H26, H27, H28, H29, H30, H31, H32, H33, H34, H35, H36⟩
  dsimp only [bodyG]
  sl_exec_parts (disch := ((first | with_reducible refine chk1_of ?_ | with_reducible refine chk2_of ?_) <;> (sl_unfold_run_names; first | with_reducible exact hw3 _ _ | with_reducible exact hw2 _ _)))
  ihave HK := (Scf.wp_for_bind Idealize.ShloMosaic.frame (wpE (defs₀ (F := F)) Variants.none (c : Thread nD τ) none) Set.univ k0_t1_loop.lb k0_t1_loop.ub k0_t1_loop.st k0_t1_ok ⟨⟩ _
    (fun n _ => INV c arg2 arg3 arg4 arg5 arg6 arg7 arg8 arg9 arg10 arg11 arg12 arg13 arg14 arg15 arg16 arg17 arg18 arg19 arg20 arg21 arg22 arg23 arg24 arg25 arg26 arg27 arg28 arg29 arg30 arg31 arg32 arg33 arg34 arg35 arg36 f2 f3 f4 f5 f6 f7 (runB (envOf c arg2 arg3 arg4 arg5 arg6 arg7 f2 f3 f4 f5 f6 f7) jjK iiK (initB (envOf c arg2 arg3 arg4 arg5 arg6 arg7 f2 f3 f4 f5 f6 f7) (arg8.view.read (Elt F) f8)) n)) (fun k _ => step_run c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 jjK iiK k f2 f3 f4 f5 f6 f7 hfit _)) $$ [H2 H3 H4 H5 H6 H7 H8 H9 H10 H11 H12 H13 H14 H15 H16 H17 H18 H19 H20 H21 H22 H23 H24 H25 H26 H27 H28 H29 H30 H31 H32 H33 H34 H35 H36]
  · beta_reduce
    unfold INV HeadR
    isplitl [H2]
    · iexact H2
    isplitl [H3]
    · iexact H3
    isplitl [H4]
    · iexact H4
    isplitl [H5]
    · iexact H5
    isplitl [H6]
    · iexact H6
    isplitl [H7]
    · iexact H7
    isplitl [H8]
    · iapply (holds_intro c arg8 _ _ ?_) $$ H8
      rfl
    isplitl [H9 H10 H11 H12 H13 H14 H15]
    · isplitl [H9]
      · iapply (holds_intro c arg9 _ _ ?_) $$ H9
        sl_unfold_run_names
        simp only [rd_whole_a, rd_stored_a, rd_covered_a, rd_whole_b, rd_stored_b, rd_covered_b, rd_whole_c, rd_stored_c, rd_covered_c]
        refine (score_of ?_ ?_ ?_) <;> first | with_reducible rfl | (simp only [rd_table', rd_q', rd_kn', rd_kp', rd_vt', rd_whole_a, rd_stored_a, rd_covered_a, rd_whole_b, rd_stored_b, rd_covered_b, rd_whole_c, rd_stored_c, rd_covered_c]; rfl) | rfl
      isplitl [H10]
      · iapply (any_intro c arg10 _) $$ H10
      isplitl [H11]
      · iapply (holds_intro c arg11 _ _ ?_) $$ H11
        sl_unfold_run_names
        simp only [rd_whole_a, rd_stored_a, rd_covered_a, rd_whole_b, rd_stored_b, rd_covered_b, rd_whole_c, rd_stored_c, rd_covered_c, runB_zero, initB_mx]
        refine (mx_of ?_ ?_ ?_) <;> first | with_reducible rfl | (simp only [rd_table', rd_q', rd_kn', rd_kp', rd_vt', rd_whole_a, rd_stored_a, rd_covered_a, rd_whole_b, rd_stored_b, rd_covered_b, rd_whole_c, rd_stored_c, rd_covered_c]; rfl) | rfl
      isplitl [H12]
      · iapply (any_intro c arg12 _) $$ H12
      isplitl [H13]
      · iapply (holds_intro c arg13 _ _ ?_) $$ H13
        sl_unfold_run_names
        simp only [rd_whole_a, rd_stored_a, rd_covered_a, rd_whole_b, rd_stored_b, rd_covered_b, rd_whole_c, rd_stored_c, rd_covered_c]
        rfl
      isplitl [H14]
      · iapply (holds_intro c arg14 _ _ ?_) $$ H14
        sl_unfold_run_names
        simp only [rd_whole_a, rd_stored_a, rd_covered_a, rd_whole_b, rd_stored_b, rd_covered_b, rd_whole_c, rd_stored_c, rd_covered_c]
        rfl
      iapply (holds_intro c arg15 _ _ ?_) $$ H15
      sl_unfold_run_names
      simp only [rd_whole_a, rd_stored_a, rd_covered_a, rd_whole_b, rd_stored_b, rd_covered_b, rd_whole_c, rd_stored_c, rd_covered_c]
      rfl
    isplitl [H16 H17 H18 H19 H20 H21 H22]
    · isplitl [H16]
      · iapply (holds_intro c arg16 _ _ ?_) $$ H16
        sl_unfold_run_names
        simp only [rd_whole_a, rd_stored_a, rd_covered_a, rd_whole_b, rd_stored_b, rd_covered_b, rd_whole_c, rd_stored_c, rd_covered_c]
        refine (score_of ?_ ?_ ?_) <;> first | with_reducible rfl | (simp only [rd_table', rd_q', rd_kn', rd_kp', rd_vt', rd_whole_a, rd_stored_a, rd_covered_a, rd_whole_b, rd_stored_b, rd_covered_b, rd_whole_c, rd_stored_c, rd_covered_c]; rfl) | rfl
      isplitl [H17]
      · iapply (any_intro c arg17 _) $$ H17
      isplitl [H18]
      · iapply (holds_intro c arg18 _ _ ?_) $$ H18
        sl_unfold_run_names
        simp only [rd_whole_a, rd_stored_a, rd_covered_a, rd_whole_b, rd_stored_b, rd_covered_b, rd_whole_c, rd_stored_c, rd_covered_c, runB_zero, initB_mx]
        refine (mx_of ?_ ?_ ?_) <;> first | with_reducible rfl | (simp only [rd_table', rd_q', rd_kn', rd_kp', rd_vt', rd_whole_a, rd_stored_a, rd_covered_a, rd_whole_b, rd_stored_b, rd_covered_b, rd_whole_c, rd_stored_c, rd_covered_c]; rfl) | rfl
      isplitl [H19]
      · iapply (any_intro c arg19 _) $$ H19
      isplitl [H20]
      · iapply (holds_intro c arg20 _ _ ?_) $$ H20
        sl_unfold_run_names
        simp only [rd_whole_a, rd_stored_a, rd_covered_a, rd_whole_b, rd_stored_b, rd_covered_b, rd_whole_c, rd_stored_c, rd_covered_c]
        rfl
      isplitl [H21]
      · iapply (holds_intro c arg21 _ _ ?_) $$ H21
        sl_unfold_run_names
        simp only [rd_whole_a, rd_stored_a, rd_covered_a, rd_whole_b, rd_stored_b, rd_covered_b, rd_whole_c, rd_stored_c, rd_covered_c]
        rfl
      iapply (holds_intro c arg22 _ _ ?_) $$ H22
      sl_unfold_run_names
      simp only [rd_whole_a, rd_stored_a, rd_covered_a, rd_whole_b, rd_stored_b, rd_covered_b, rd_whole_c, rd_stored_c, rd_covered_c]
      rfl
    isplitl [H23 H24 H25 H26 H27 H28 H29]
    · isplitl [H23]
      · iapply (holds_intro c arg23 _ _ ?_) $$ H23
        sl_unfold_run_names
        simp only [rd_whole_a, rd_stored_a, rd_covered_a, rd_whole_b, rd_stored_b, rd_covered_b, rd_whole_c, rd_stored_c, rd_covered_c]
        refine (score_of ?_ ?_ ?_) <;> first | with_reducible rfl | (simp only [rd_table', rd_q', rd_kn', rd_kp', rd_vt', rd_whole_a, rd_stored_a, rd_covered_a, rd_whole_b, rd_stored_b, rd_covered_b, rd_whole_c, rd_stored_c, rd_covered_c]; rfl) | rfl
      isplitl [H24]
      · iapply (any_intro c arg24 _) $$ H24
      isplitl [H25]
      · iapply (holds_intro c arg25 _ _ ?_) $$ H25
        sl_unfold_run_names
        simp only [rd_whole_a, rd_stored_a, rd_covered_a, rd_whole_b, rd_stored_b, rd_covered_b, rd_whole_c, rd_stored_c, rd_covered_c, runB_zero, initB_mx]
        refine (mx_of ?_ ?_ ?_) <;> first | with_reducible rfl | (simp only [rd_table', rd_q', rd_kn', rd_kp', rd_vt', rd_whole_a, rd_stored_a, rd_covered_a, rd_whole_b, rd_stored_b, rd_covered_b, rd_whole_c, rd_stored_c, rd_covered_c]; rfl) | rfl
      isplitl [H26]
      · iapply (any_intro c arg26 _) $$ H26
      isplitl [H27]
      · iapply (holds_intro c arg27 _ _ ?_) $$ H27
        sl_unfold_run_names
        simp only [rd_whole_a, rd_stored_a, rd_covered_a, rd_whole_b, rd_stored_b, rd_covered_b, rd_whole_c, rd_stored_c, rd_covered_c]
        rfl
      isplitl [H28]
      · iapply (holds_intro c arg28 _ _ ?_) $$ H28
        sl_unfold_run_names
        simp only [rd_whole_a, rd_stored_a, rd_covered_a, rd_whole_b, rd_stored_b, rd_covered_b, rd_whole_c, rd_stored_c, rd_covered_c]
        rfl
      iapply (holds_intro c arg29 _ _ ?_) $$ H29
      sl_unfold_run_names
      simp only [rd_whole_a, rd_stored_a, rd_covered_a, rd_whole_b, rd_stored_b, rd_covered_b, rd_whole_c, rd_stored_c, rd_covered_c]
      rfl
    isplitl [H30]
    · iapply (holds_intro c arg30 _ _ ?_) $$ H30
      sl_unfold_run_names
      simp only [rd_whole_a, rd_stored_a, rd_covered_a, rd_whole_b, rd_stored_b, rd_covered_b, rd_whole_c, rd_stored_c, rd_covered_c]
      refine (score_of ?_ ?_ ?_) <;> first | with_reducible rfl | (simp only [rd_table', rd_q', rd_kn', rd_kp', rd_vt', rd_whole_a, rd_stored_a, rd_covered_a, rd_whole_b, rd_stored_b, rd_covered_b, rd_whole_c, rd_stored_c, rd_covered_c]; rfl) | rfl
    isplitl [H31]
    · iapply (any_intro c arg31 _) $$ H31
    isplitl [H32]
    · iapply (holds_intro c arg32 _ _ ?_) $$ H32
      sl_unfold_run_names
      simp only [rd_whole_a, rd_stored_a, rd_covered_a, rd_whole_b, rd_stored_b, rd_covered_b, rd_whole_c, rd_stored_c, rd_covered_c, runB_zero, initB_mx]
      refine (mx_of ?_ ?_ ?_) <;> first | with_reducible rfl | (simp only [rd_table', rd_q', rd_kn', rd_kp', rd_vt', rd_whole_a, rd_stored_a, rd_covered_a, rd_whole_b, rd_stored_b, rd_covered_b, rd_whole_c, rd_stored_c, rd_covered_c]; rfl) | rfl
    isplitl [H33]
    · iapply (any_intro c arg33 _) $$ H33
    isplitl [H34]
    · iapply (holds_intro c arg34 _ _ ?_) $$ H34
      sl_unfold_run_names
      simp only [rd_whole_a, rd_stored_a, rd_covered_a, rd_whole_b, rd_stored_b, rd_covered_b, rd_whole_c, rd_stored_c, rd_covered_c]
      rfl
    isplitl [H35]
    · iapply (holds_intro c arg35 _ _ ?_) $$ H35
      sl_unfold_run_names
      simp only [rd_whole_a, rd_stored_a, rd_covered_a, rd_whole_b, rd_stored_b, rd_covered_b, rd_whole_c, rd_stored_c, rd_covered_c]
      rfl
    iapply (holds_intro c arg36 _ _ ?_) $$ H36
    sl_unfold_run_names
    simp only [rd_whole_a, rd_stored_a, rd_covered_a, rd_whole_b, rd_stored_b, rd_covered_b, rd_whole_c, rd_stored_c, rd_covered_c]
    rfl
  iapply HK
  iintro %_ H
  sl_step
  iexact H

end Cert.KernelIdeal.Hand
end
-- ==== Proof.Spec.lean ====
module

public import proofs.«01_k».proof.Proof.Gen.KernelIdeal.Frame
public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import Idealize.ShloMosaic.Lib.Pipeline.KitQuiescent
public import Idealize.ShloMosaic.Lib.Tactic
public import proofs.«01_k».proof.Proof.Resources
public import proofs.«01_k».proof.Proof.Checks
public import proofs.«01_k».proof.Proof.State
public import proofs.«01_k».proof.Proof.Step
public import proofs.«01_k».proof.Proof.Body

@[expose] public section

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf ΦA)

variable {F : FTy → Type} [FloatOps F] [Named F]

local notation "𝕄" => MT nD τ sig Unit (Elt F) ℕ (UR sig nD τ) ℕ

open Idealize.ShloMosaic.ValueIdx

/-! The grid point's output block does not depend on what its buffer held before. -/

/-- Trip `k` writes the output rows of query tile `q`. -/
def Done (E : Env F) (k q : ℕ) : Prop :=
  (E.kt (2 * k) = E.qt (2 * k) ∧ (E.qt (2 * k) * 512#32).toNat = 512 * q)
    ∨ (E.kt (2 * k) ≠ E.qt (2 * k) ∧ E.kt (2 * k + 1) = E.qt (2 * k + 1) ∧ (E.qt (2 * k + 1) * 512#32).toNat = 512 * q)

theorem outPut_same (O O' : Vec F S1x4096x512 .bf16) (o : ℕ) (T0 T1 T2 T3 : Vec F S1x512x128 .bf16) (y : S1x4096x512.Idx)
    (h : O y = O' y) : outPut O o T0 T1 T2 T3 y = outPut O' o T0 T1 T2 T3 y := by
  unfold outPut
  split_ifs <;> first | rfl | exact h

theorem outPut_in (O O' : Vec F S1x4096x512 .bf16) (o : ℕ) (T0 T1 T2 T3 : Vec F S1x512x128 .bf16) (y : S1x4096x512.Idx)
    (h : o ≤ (y 1).val ∧ (y 1).val < o + 512) : outPut O o T0 T1 T2 T3 y = outPut O' o T0 T1 T2 T3 y := by
  unfold outPut
  rw [if_pos h, if_pos h]

/-- Two runs from different output blocks carry the same scratch, and agree at the rows written so far. -/
theorem runB_indep (E : Env F) (jj ii : IVec S512x512 32) (O O' : Vec F S1x4096x512 .bf16) (n : ℕ) :
    (runB E jj ii (initB E O) n).s = (runB E jj ii (initB E O') n).s
    ∧ (runB E jj ii (initB E O) n).mx = (runB E jj ii (initB E O') n).mx
    ∧ (runB E jj ii (initB E O) n).st = (runB E jj ii (initB E O') n).st
    ∧ ∀ y : S1x4096x512.Idx, (∃ k < n, Done E k ((y 1).val / 512)) →
        (runB E jj ii (initB E O) n).O y = (runB E jj ii (initB E O') n).O y := by
  induction n with
  | zero => exact ⟨rfl, rfl, rfl, fun y h => by obtain ⟨k, hk, -⟩ := h; omega⟩
  | succ n ih =>
    obtain ⟨hs, hm, ht, hO⟩ := ih
    refine ⟨rfl, rfl, ?_, fun y h => ?_⟩
    · simp only [runB, stepB, hs, hm, ht]
    · simp only [runB, stepB, hs, hm, ht]
      by_cases h' : ∃ k < n, Done E k ((y 1).val / 512)
      · have e := hO y h'
        split_ifs
        · exact outPut_same _ _ _ _ _ _ _ y e
        · exact outPut_same _ _ _ _ _ _ _ y e
        · exact e
      · obtain ⟨k, hk, hd⟩ := h
        have hkn : k = n := by
          by_contra hne
          exact h' ⟨k, by omega, hd⟩
        subst hkn
        rcases hd with ⟨h1, h2⟩ | ⟨h1, h2, h3⟩
        · rw [if_pos h1, if_pos h1]
          exact outPut_in _ _ _ _ _ _ _ y (by rw [h2]; omega)
        · rw [if_neg h1, if_neg h1, if_pos h2, if_pos h2]
          exact outPut_in _ _ _ _ _ _ _ y (by rw [h3]; omega)

/-- Every query tile is written by some trip. -/
def Covers (E : Env F) : Prop := ∀ q < 8, ∃ k < 18, Done E k q

/-- The grid point's output block. -/
def outV (E : Env F) : Vec F S1x4096x512 .bf16 := (runB E jjK iiK (initB E (fun _ => E.Q (ix3 0 0 0))) 18).O

theorem outV_eq (E : Env F) (h : Covers E) (O : Vec F S1x4096x512 .bf16) : (runB E jjK iiK (initB E O) 18).O = outV E := by
  funext y
  refine (runB_indep E jjK iiK O _ 18).2.2.2 y (h _ ?_)
  have : (y 1).val < 4096 := (y 1).isLt
  omega

/-! The body on the memrefs it is handed. -/

variable (c : Dev nD) (i : grid0.Coords) (arg2 : Memref sig .tc .smem S37 .i32) (harg2 : arg2.IsWhole) (arg3 : Memref sig .tc .smem S37 .i32) (harg3 : arg3.IsWhole) (arg4 : Memref sig .tc .vmem S1x4096x1024 .bf16) (harg4 : arg4.IsWhole) (arg5 : Memref sig .tc .vmem S1x4096x512 .bf16) (harg5 : arg5.IsWhole) (arg6 : Memref sig .tc .vmem S1x4096x128 .bf16) (harg6 : arg6.IsWhole) (arg7 : Memref sig .tc .vmem S512x4096 .bf16) (harg7 : arg7.IsWhole) (arg8 : Memref sig .tc .vmem S1x4096x512 .bf16) (harg8 : arg8.IsWhole) (arg9 : Memref sig .tc .vmem S512x512 .f32) (harg9 : arg9.IsWhole) (arg10 : Memref sig .tc .vmem S512x512 .f32) (harg10 : arg10.IsWhole) (arg11 : Memref sig .tc .vmem S1x512 .f32) (harg11 : arg11.IsWhole) (arg12 : Memref sig .tc .vmem S1x512 .f32) (harg12 : arg12.IsWhole) (arg13 : Memref sig .tc .vmem S1x512 .f32) (harg13 : arg13.IsWhole) (arg14 : Memref sig .tc .vmem S1x512 .f32) (harg14 : arg14.IsWhole) (arg15 : Memref sig .tc .vmem S128x512 .f32) (harg15 : arg15.IsWhole) (arg16 : Memref sig .tc .vmem S512x512 .f32) (harg16 : arg16.IsWhole) (arg17 : Memref sig .tc .vmem S512x512 .f32) (harg17 : arg17.IsWhole) (arg18 : Memref sig .tc .vmem S1x512 .f32) (harg18 : arg18.IsWhole) (arg19 : Memref sig .tc .vmem S1x512 .f32) (harg19 : arg19.IsWhole) (arg20 : Memref sig .tc .vmem S1x512 .f32) (harg20 : arg20.IsWhole) (arg21 : Memref sig .tc .vmem S1x512 .f32) (harg21 : arg21.IsWhole) (arg22 : Memref sig .tc .vmem S128x512 .f32) (harg22 : arg22.IsWhole) (arg23 : Memref sig .tc .vmem S512x512 .f32) (harg23 : arg23.IsWhole) (arg24 : Memref sig .tc .vmem S512x512 .f32) (harg24 : arg24.IsWhole) (arg25 : Memref sig .tc .vmem S1x512 .f32) (harg25 : arg25.IsWhole) (arg26 : Memref sig .tc .vmem S1x512 .f32) (harg26 : arg26.IsWhole) (arg27 : Memref sig .tc .vmem S1x512 .f32) (harg27 : arg27.IsWhole) (arg28 : Memref sig .tc .vmem S1x512 .f32) (harg28 : arg28.IsWhole) (arg29 : Memref sig .tc .vmem S128x512 .f32) (harg29 : arg29.IsWhole) (arg30 : Memref sig .tc .vmem S512x512 .f32) (harg30 : arg30.IsWhole) (arg31 : Memref sig .tc .vmem S512x512 .f32) (harg31 : arg31.IsWhole) (arg32 : Memref sig .tc .vmem S1x512 .f32) (harg32 : arg32.IsWhole) (arg33 : Memref sig .tc .vmem S1x512 .f32) (harg33 : arg33.IsWhole) (arg34 : Memref sig .tc .vmem S1x512 .f32) (harg34 : arg34.IsWhole) (arg35 : Memref sig .tc .vmem S1x512 .f32) (harg35 : arg35.IsWhole) (arg36 : Memref sig .tc .vmem S128x512 .f32) (harg36 : arg36.IsWhole)

set_option maxHeartbeats 1000000 in
/-- The body from blocks at known contents and scratch at anything: the blocks are left, the output block is `outV`. -/
theorem body_spec (x2 : S37.Idx → Elt F .i32) (x3 : S37.Idx → Elt F .i32) (x4 : S1x4096x1024.Idx → Elt F .bf16) (x5 : S1x4096x512.Idx → Elt F .bf16) (x6 : S1x4096x128.Idx → Elt F .bf16) (x7 : S512x4096.Idx → Elt F .bf16) (hfit : Fit (F := F) ⟨x2, x3, x4, x5, x6, x7⟩) (hcov : Covers (F := F) ⟨x2, x3, x4, x5, x6, x7⟩) (K : PUnit → sProp 𝕄) :
    (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ d, owns (c : Thread nD τ) arg8 fullShare d) ∗ AnyC c arg9 ∗ AnyC c arg10 ∗ AnyC c arg11 ∗ AnyC c arg12 ∗ AnyC c arg13 ∗ AnyC c arg14 ∗ AnyC c arg15 ∗ AnyC c arg16 ∗ AnyC c arg17 ∗ AnyC c arg18 ∗ AnyC c arg19 ∗ AnyC c arg20 ∗ AnyC c arg21 ∗ AnyC c arg22 ∗ AnyC c arg23 ∗ AnyC c arg24 ∗ AnyC c arg25 ∗ AnyC c arg26 ∗ AnyC c arg27 ∗ AnyC c arg28 ∗ AnyC c arg29 ∗ AnyC c arg30 ∗ AnyC c arg31 ∗ AnyC c arg32 ∗ AnyC c arg33 ∗ AnyC c arg34 ∗ AnyC c arg35 ∗ AnyC c arg36
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare (outV (F := F) ⟨x2, x3, x4, x5, x6, x7⟩) ∗ AnyC c arg9 ∗ AnyC c arg10 ∗ AnyC c arg11 ∗ AnyC c arg12 ∗ AnyC c arg13 ∗ AnyC c arg14 ∗ AnyC c arg15 ∗ AnyC c arg16 ∗ AnyC c arg17 ∗ AnyC c arg18 ∗ AnyC c arg19 ∗ AnyC c arg20 ∗ AnyC c arg21 ∗ AnyC c arg22 ∗ AnyC c arg23 ∗ AnyC c arg24 ∗ AnyC c arg25 ∗ AnyC c arg26 ∗ AnyC c arg27 ∗ AnyC c arg28 ∗ AnyC c arg29 ∗ AnyC c arg30 ∗ AnyC c arg31 ∗ AnyC c arg32 ∗ AnyC c arg33 ∗ AnyC c arg34 ∗ AnyC c arg35 ∗ AnyC c arg36) -∗ K ⟨⟩)) : sProp 𝕄)
      ⊢ wp frame (wpE (defs₀ (F := F)) Variants.none (c : Thread nD τ) none) Set.univ (bodyG i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36) K := by
  unfold owns AnyC
  iintro ⟨⟨%f2, %h2, H2⟩, ⟨%f3, %h3, H3⟩, ⟨%f4, %h4, H4⟩, ⟨%f5, %h5, H5⟩, ⟨%f6, %h6, H6⟩, ⟨%f7, %h7, H7⟩, ⟨%d8, %f8, -, H8⟩, ⟨%f9, H9⟩, ⟨%f10, H10⟩, ⟨%f11, H11⟩, ⟨%f12, H12⟩, ⟨%f13, H13⟩, ⟨%f14, H14⟩, ⟨%f15, H15⟩, ⟨%f16, H16⟩, ⟨%f17, H17⟩, ⟨%f18, H18⟩, ⟨%f19, H19⟩, ⟨%f20, H20⟩, ⟨%f21, H21⟩, ⟨%f22, H22⟩, ⟨%f23, H23⟩, ⟨%f24, H24⟩, ⟨%f25, H25⟩, ⟨%f26, H26⟩, ⟨%f27, H27⟩, ⟨%f28, H28⟩, ⟨%f29, H29⟩, ⟨%f30, H30⟩, ⟨%f31, H31⟩, ⟨%f32, H32⟩, ⟨%f33, H33⟩, ⟨%f34, H34⟩, ⟨%f35, H35⟩, ⟨%f36, H36⟩, HK⟩
  subst h2 h3 h4 h5 h6 h7
  ihave HW := (body_run c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 f2 f3 f4 f5 f6 f7 f8 f9 f10 f11 f12 f13 f14 f15 f16 f17 f18 f19 f20 f21 f22 f23 f24 f25 f26 f27 f28 f29 f30 f31 f32 f33 f34 f35 f36 hfit) $$ [H2 H3 H4 H5 H6 H7 H8 H9 H10 H11 H12 H13 H14 H15 H16 H17 H18 H19 H20 H21 H22 H23 H24 H25 H26 H27 H28 H29 H30 H31 H32 H33 H34 H35 H36]
  · isplitl [H2]
    · iexact H2
    isplitl [H3]
    · iexact H3
    isplitl [H4]
    · iexact H4
    isplitl [H5]
    · iexact H5
    isplitl [H6]
    · iexact H6
    isplitl [H7]
    · iexact H7
    isplitl [H8]
    · iexact H8
    isplitl [H9]
    · iexact H9
    isplitl [H10]
    · iexact H10
    isplitl [H11]
    · iexact H11
    isplitl [H12]
    · iexact H12
    isplitl [H13]
    · iexact H13
    isplitl [H14]
    · iexact H14
    isplitl [H15]
    · iexact H15
    isplitl [H16]
    · iexact H16
    isplitl [H17]
    · iexact H17
    isplitl [H18]
    · iexact H18
    isplitl [H19]
    · iexact H19
    isplitl [H20]
    · iexact H20
    isplitl [H21]
    · iexact H21
    isplitl [H22]
    · iexact H22
    isplitl [H23]
    · iexact H23
    isplitl [H24]
    · iexact H24
    isplitl [H25]
    · iexact H25
    isplitl [H26]
    · iexact H26
    isplitl [H27]
    · iexact H27
    isplitl [H28]
    · iexact H28
    isplitl [H29]
    · iexact H29
    isplitl [H30]
    · iexact H30
    isplitl [H31]
    · iexact H31
    isplitl [H32]
    · iexact H32
    isplitl [H33]
    · iexact H33
    isplitl [H34]
    · iexact H34
    isplitl [H35]
    · iexact H35
    iexact H36
  iapply (wp_wand_r frame (wpE (defs₀ (F := F)) Variants.none (c : Thread nD τ) none) Set.univ)
  isplitl [HW]
  · iexact HW
  iintro %_
  unfold INV HeadR Holds AnyC
  iintro ⟨H2, H3, H4, H5, H6, H7, ⟨%f8', H8, %h8⟩, ⟨⟨%g9, H9, %h9⟩, ⟨%g10, H10⟩, ⟨%g11, H11, %h11⟩, ⟨%g12, H12⟩, ⟨%g13, H13, %h13⟩, ⟨%g14, H14, %h14⟩, ⟨%g15, H15, %h15⟩⟩, ⟨⟨%g16, H16, %h16⟩, ⟨%g17, H17⟩, ⟨%g18, H18, %h18⟩, ⟨%g19, H19⟩, ⟨%g20, H20, %h20⟩, ⟨%g21, H21, %h21⟩, ⟨%g22, H22, %h22⟩⟩, ⟨⟨%g23, H23, %h23⟩, ⟨%g24, H24⟩, ⟨%g25, H25, %h25⟩, ⟨%g26, H26⟩, ⟨%g27, H27, %h27⟩, ⟨%g28, H28, %h28⟩, ⟨%g29, H29, %h29⟩⟩, ⟨⟨%g30, H30, %h30⟩, ⟨%g31, H31⟩, ⟨%g32, H32, %h32⟩, ⟨%g33, H33⟩, ⟨%g34, H34, %h34⟩, ⟨%g35, H35, %h35⟩, ⟨%g36, H36, %h36⟩⟩⟩
  iapply HK
  isplitl [H2]
  · iexists f2; isplitr
    · ipureintro; rfl
    iexact H2
  isplitl [H3]
  · iexists f3; isplitr
    · ipureintro; rfl
    iexact H3
  isplitl [H4]
  · iexists f4; isplitr
    · ipureintro; rfl
    iexact H4
  isplitl [H5]
  · iexists f5; isplitr
    · ipureintro; rfl
    iexact H5
  isplitl [H6]
  · iexists f6; isplitr
    · ipureintro; rfl
    iexact H6
  isplitl [H7]
  · iexists f7; isplitr
    · ipureintro; rfl
    iexact H7
  isplitl [H8]
  · iexists f8'
    isplitr
    · ipureintro; exact h8.trans (outV_eq _ hcov _)
    iexact H8
  isplitl [H9]
  · iexists g9; iexact H9
  isplitl [H10]
  · iexists g10; iexact H10
  isplitl [H11]
  · iexists g11; iexact H11
  isplitl [H12]
  · iexists g12; iexact H12
  isplitl [H13]
  · iexists g13; iexact H13
  isplitl [H14]
  · iexists g14; iexact H14
  isplitl [H15]
  · iexists g15; iexact H15
  isplitl [H16]
  · iexists g16; iexact H16
  isplitl [H17]
  · iexists g17; iexact H17
  isplitl [H18]
  · iexists g18; iexact H18
  isplitl [H19]
  · iexists g19; iexact H19
  isplitl [H20]
  · iexists g20; iexact H20
  isplitl [H21]
  · iexists g21; iexact H21
  isplitl [H22]
  · iexists g22; iexact H22
  isplitl [H23]
  · iexists g23; iexact H23
  isplitl [H24]
  · iexists g24; iexact H24
  isplitl [H25]
  · iexists g25; iexact H25
  isplitl [H26]
  · iexists g26; iexact H26
  isplitl [H27]
  · iexists g27; iexact H27
  isplitl [H28]
  · iexists g28; iexact H28
  isplitl [H29]
  · iexists g29; iexact H29
  isplitl [H30]
  · iexists g30; iexact H30
  isplitl [H31]
  · iexists g31; iexact H31
  isplitl [H32]
  · iexists g32; iexact H32
  isplitl [H33]
  · iexists g33; iexact H33
  isplitl [H34]
  · iexists g34; iexact H34
  isplitl [H35]
  · iexists g35; iexact H35
  iexists g36; iexact H36

end Cert.KernelIdeal.Hand
end
-- ==== Proof.Run.lean ====
module

public import proofs.«01_k».proof.Proof.Gen.KernelIdeal.Frame
public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import Idealize.ShloMosaic.Lib.Pipeline.KitQuiescent
public import Idealize.ShloMosaic.Lib.Tactic
public import proofs.«01_k».proof.Proof.Resources
public import proofs.«01_k».proof.Proof.Checks
public import proofs.«01_k».proof.Proof.State
public import proofs.«01_k».proof.Proof.Step
public import proofs.«01_k».proof.Proof.Body
public import proofs.«01_k».proof.Proof.Spec

@[expose] public section

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf ΦA)

variable {F : FTy → Type} [FloatOps F] [Named F]

local notation "𝕄" => MT nD τ sig Unit (Elt F) ℕ (UR sig nD τ) ℕ

open Idealize.ShloMosaic.ValueIdx

variable (m : (ℓ : Loc nD τ sig) → Buf (Elt F) ℓ) (ρ : Dev nD → PrngReg)

/-! The two tables of tile numbers, as the region finds them. -/

theorem V_tab2 (c : Dev nD) : V m c main_c = fun i => lit0 (S37.rowMajor i) := by
  show StableHlo.after hostOps0 _ _ = _
  simp only [hostOps0, StableHlo.after_cons, StableHlo.after_nil]
  rfl

theorem V_tab3 (c : Dev nD) : V m c main_c_0 = fun i => lit1 (S37.rowMajor i) := by
  show StableHlo.after hostOps0 _ _ = _
  simp only [hostOps0, StableHlo.after_cons, StableHlo.after_nil]
  rfl

/-- The tables as the body reads them. -/
def tab2 : S37.Idx → BitVec 32 := fun x => lit0 (x 0)
def tab3 : S37.Idx → BitVec 32 := fun x => lit1 (x 0)

theorem iblk_tab2 (c : Dev nD) (t : Fin cfg0.N) : iblk m c 0 t = tab2 := by
  funext x
  unfold iblk
  rw [View.read_apply]
  show V m c main_c _ = _
  rw [V_tab2]
  show lit0 _ = lit0 _
  refine congrArg _ (Fin.ext ?_)
  rw [Shape.rowMajor_val_one]
  show 0 * 37 + 1 * (x 0).val = (x 0).val
  omega

theorem iblk_tab3 (c : Dev nD) (t : Fin cfg0.N) : iblk m c 1 t = tab3 := by
  funext x
  unfold iblk
  rw [View.read_apply]
  show V m c main_c_0 _ = _
  rw [V_tab3]
  show lit1 _ = lit1 _
  refine congrArg _ (Fin.ext ?_)
  rw [Shape.rowMajor_val_one]
  show 0 * 37 + 1 * (x 0).val = (x 0).val
  omega

theorem tab2_lt (x : S37.Idx) : (tab2 x).toNat < 8 :=
  (by decide +kernel : ∀ i : Fin 37, (lit0 i).toNat < 8) (x 0)
theorem tab3_lt (x : S37.Idx) : (tab3 x).toNat < 8 :=
  (by decide +kernel : ∀ i : Fin 37, (lit1 i).toNat < 8) (x 0)

/-- The grid point's environment: the tables and the four blocks. -/
def envAt (c : Dev nD) (t : Fin cfg0.N) : Env F := ⟨tab2, tab3, iblk m c 2 t, iblk m c 3 t, iblk m c 4 t, iblk m c 5 t⟩

theorem fit_tab (Q : Vec F S1x4096x1024 .bf16) (KN : Vec F S1x4096x512 .bf16) (KP : Vec F S1x4096x128 .bf16) (VT : Vec F S512x4096 .bf16) :
    Fit (F := F) ⟨tab2, tab3, Q, KN, KP, VT⟩ :=
  ⟨tab2_lt, tab3_lt, (by decide +kernel : ∀ k < 18, ¬ (rdT tab3 (2 * k) = rdT tab2 (2 * k) ∧ rdT tab3 (2 * k + 1) = rdT tab2 (2 * k + 1)))⟩

theorem covers_tab (Q : Vec F S1x4096x1024 .bf16) (KN : Vec F S1x4096x512 .bf16) (KP : Vec F S1x4096x128 .bf16) (VT : Vec F S512x4096 .bf16) :
    Covers (F := F) ⟨tab2, tab3, Q, KN, KP, VT⟩ :=
  (by decide +kernel : ∀ q < 8, ∃ k < 18, (rdT tab3 (2 * k) = rdT tab2 (2 * k) ∧ (rdT tab2 (2 * k) * 512#32).toNat = 512 * q)
    ∨ (rdT tab3 (2 * k) ≠ rdT tab2 (2 * k) ∧ rdT tab3 (2 * k + 1) = rdT tab2 (2 * k + 1) ∧ (rdT tab2 (2 * k + 1) * 512#32).toNat = 512 * q))

/-! The pipeline's proof data. -/

/-- The input blocks stay; the output block is `outV`; the scratch is at anything between points. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outV (envAt m c t)
  Φ _ := Pipeline.ΦA spec0 c
  q _ := fullShare
  owed _ := 0

theorem A_eq (c : Dev nD) (w : Fin cfg0.W) : (dats m 0 c).A w = V m c (Pipeline.arrRef spec0 w) := rfl
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = outV (envAt m c t) := by dsimp only [dats]
theorem before0_0 (c : Dev nD) (t : Fin cfg0.N) (d) : (dats m 0 c).before 0 t d = iblk m c 0 t := before0_0_of m (dats m 0 c) (A_eq m c 0) (after0_0 m c) t d
theorem before0_1 (c : Dev nD) (t : Fin cfg0.N) (d) : (dats m 0 c).before 1 t d = iblk m c 1 t := before0_1_of m (dats m 0 c) (A_eq m c 1) (after0_1 m c) t d
theorem before0_2 (c : Dev nD) (t : Fin cfg0.N) (d) : (dats m 0 c).before 2 t d = iblk m c 2 t := before0_2_of m (dats m 0 c) (A_eq m c 2) (after0_2 m c) t d
theorem before0_3 (c : Dev nD) (t : Fin cfg0.N) (d) : (dats m 0 c).before 3 t d = iblk m c 3 t := before0_3_of m (dats m 0 c) (A_eq m c 3) (after0_3 m c) t d
theorem before0_4 (c : Dev nD) (t : Fin cfg0.N) (d) : (dats m 0 c).before 4 t d = iblk m c 4 t := before0_4_of m (dats m 0 c) (A_eq m c 4) (after0_4 m c) t d
theorem before0_5 (c : Dev nD) (t : Fin cfg0.N) (d) : (dats m 0 c).before 5 t d = iblk m c 5 t := before0_5_of m (dats m 0 c) (A_eq m c 5) (after0_5 m c) t d

theorem any_of_ref (c : Dev nD) (b : Ref sig .tc) : (iprop(∃ f : Buf (Elt F) ((c : Thread nD τ).loc b), ((c : Thread nD τ).loc b) ↦{fullShare} f) : sProp 𝕄)
    = AnyC c (Memref.whole b) := by
  unfold AnyC
  rw [show (Memref.whole b).view.set = Finset.univ from View.set_whole _]

set_option maxHeartbeats 1000000 in
theorem body_obligation (c : Dev nD) : BodyObligation (dats (F := F) m 0 c) (defs₀ (F := F)) 𝒱₀ () Set.univ := fun t => by
  rw [bigSep_W0, bigSep_W0]
  sl_whnfR [defs₀, Defs.onTc]
  simp only [before0_0, before0_1, before0_2, before0_3, before0_4, before0_5]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl, after0_0, after0_1, after0_2, after0_3, after0_4, after0_5, after0_6]
  unfold Pipeline.ΦA
  rw [scopedRest0_eq]
  simp only [any_of_ref]
  iintro ⟨⟨⟨H9, H10, H11, H12, H13, H14, H15, H16, H17, H18, H19, H20, H21, H22, H23, H24, H25, H26, H27, H28, H29, H30, H31, H32, H33, H34, H35, H36⟩, Hr⟩, Ho, ⟨%d0, K0⟩, ⟨%d1, K1⟩, ⟨%d2, K2⟩, ⟨%d3, K3⟩, ⟨%d4, K4⟩, ⟨%d5, K5⟩, ⟨%d6, K6⟩⟩
  have hfit : Fit (F := F) ⟨iblk m c 0 t, iblk m c 1 t, iblk m c 2 t, iblk m c 3 t, iblk m c 4 t, iblk m c 5 t⟩ := by
    rw [iblk_tab2, iblk_tab3]; exact fit_tab _ _ _ _
  have hcov : Covers (F := F) ⟨iblk m c 0 t, iblk m c 1 t, iblk m c 2 t, iblk m c 3 t, iblk m c 4 t, iblk m c 5 t⟩ := by
    rw [iblk_tab2, iblk_tab3]; exact covers_tab _ _ _ _
  have hval : outV (F := F) ⟨iblk m c 0 t, iblk m c 1 t, iblk m c 2 t, iblk m c 3 t, iblk m c 4 t, iblk m c 5 t⟩ = outV (envAt m c t) := by
    unfold envAt
    rw [iblk_tab2, iblk_tab3]
  rw [← hval]
  iapply (body_spec c _  _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) hfit hcov _)
  isplitl [K0]
  · iexact K0
  isplitl [K1]
  · iexact K1
  isplitl [K2]
  · iexact K2
  isplitl [K3]
  · iexact K3
  isplitl [K4]
  · iexact K4
  isplitl [K5]
  · iexact K5
  isplitl [K6]
  · iexists _; iexact K6
  isplitl [H9]
  · iexact H9
  isplitl [H10]
  · iexact H10
  isplitl [H11]
  · iexact H11
  isplitl [H12]
  · iexact H12
  isplitl [H13]
  · iexact H13
  isplitl [H14]
  · iexact H14
  isplitl [H15]
  · iexact H15
  isplitl [H16]
  · iexact H16
  isplitl [H17]
  · iexact H17
  isplitl [H18]
  · iexact H18
  isplitl [H19]
  · iexact H19
  isplitl [H20]
  · iexact H20
  isplitl [H21]
  · iexact H21
  isplitl [H22]
  · iexact H22
  isplitl [H23]
  · iexact H23
  isplitl [H24]
  · iexact H24
  isplitl [H25]
  · iexact H25
  isplitl [H26]
  · iexact H26
  isplitl [H27]
  · iexact H27
  isplitl [H28]
  · iexact H28
  isplitl [H29]
  · iexact H29
  isplitl [H30]
  · iexact H30
  isplitl [H31]
  · iexact H31
  isplitl [H32]
  · iexact H32
  isplitl [H33]
  · iexact H33
  isplitl [H34]
  · iexact H34
  isplitl [H35]
  · iexact H35
  isplitl [H36]
  · iexact H36
  iintro ⟨K0, K1, K2, K3, K4, K5, K6, H9, H10, H11, H12, H13, H14, H15, H16, H17, H18, H19, H20, H21, H22, H23, H24, H25, H26, H27, H28, H29, H30, H31, H32, H33, H34, H35, H36⟩
  isplitl [Hr H9 H10 H11 H12 H13 H14 H15 H16 H17 H18 H19 H20 H21 H22 H23 H24 H25 H26 H27 H28 H29 H30 H31 H32 H33 H34 H35 H36]
  · isplitr [Hr]
    · isplitl [H9]
      · iexact H9
      isplitl [H10]
      · iexact H10
      isplitl [H11]
      · iexact H11
      isplitl [H12]
      · iexact H12
      isplitl [H13]
      · iexact H13
      isplitl [H14]
      · iexact H14
      isplitl [H15]
      · iexact H15
      isplitl [H16]
      · iexact H16
      isplitl [H17]
      · iexact H17
      isplitl [H18]
      · iexact H18
      isplitl [H19]
      · iexact H19
      isplitl [H20]
      · iexact H20
      isplitl [H21]
      · iexact H21
      isplitl [H22]
      · iexact H22
      isplitl [H23]
      · iexact H23
      isplitl [H24]
      · iexact H24
      isplitl [H25]
      · iexact H25
      isplitl [H26]
      · iexact H26
      isplitl [H27]
      · iexact H27
      isplitl [H28]
      · iexact H28
      isplitl [H29]
      · iexact H29
      isplitl [H30]
      · iexact H30
      isplitl [H31]
      · iexact H31
      isplitl [H32]
      · iexact H32
      isplitl [H33]
      · iexact H33
      isplitl [H34]
      · iexact H34
      isplitl [H35]
      · iexact H35
      iexact H36
    iexact Hr
  isplitl [Ho]
  · iexact Ho
  isplitl [K0]
  · iexact K0
  isplitl [K1]
  · iexact K1
  isplitl [K2]
  · iexact K2
  isplitl [K3]
  · iexact K3
  isplitl [K4]
  · iexact K4
  isplitl [K5]
  · iexact K5
  iexact K6

/-! The run. -/

-- unifying the launch theorem's conclusion with this one takes unfolding plain definitions in a metavariable's type
set_option backward.isDefEq.respectTransparency.types false in
/-- Every fair execution ends, with the arrays at what the proof data compute and every semaphore back at zero. -/
theorem run_main : θ_run defs (onTc (τ := τ) (main (F := F))) (s₀ m ρ)
    (fun r => Pipeline.FramePost cfgs (dats m) 0 (V m) r ∧ r.2.sem = fun _ => 0) :=
  Pipeline.θ_run_frame (Q' := _) cfgs (dats m) (0 : Fin 1) launch0 defs₀ 𝒱₀ m ρ main
    (hbody := fun c => (body_obligation m c).loose) (hshare := fun c => (dats m 0 c).share_full fun _ => rfl)
    (howed := fun _ _ => rfl) (V := V m) (hmain := hmain m 𝒱₀) (hA := fun _ _ => rfl) (hΦ := fun _ _ => rfl)

/-- The arguments end as they were, the semaphores at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_with_sems (frame_of m ρ (dats m) fun _ _ => rfl) (run_main m ρ)

end Cert.KernelIdeal.Hand
end
-- ==== Proof.Product.lean ====
module

public import Idealize.ShloMosaic.Lib.Pipeline.ValueKit
public import Idealize.ShloMosaic.Lib.Pointwise

/-!
# A product of two matrices over the extended reals

The whole product, as one function of the two arrays, for any number of rows and columns.
-/

@[expose] public section

noncomputable section

namespace Cert.Product

open Idealize.ShloMosaic

/-- The product of two matrices: element `(r, c)` sums the products along row `r` and column `c`. -/
def prod {M K N : ℕ} (a : (⟨2, ![M, K]⟩ : Shape).Idx → EReal) (w : (⟨2, ![K, N]⟩ : Shape).Idx → EReal) :
    (⟨2, ![M, N]⟩ : Shape).Idx → EReal :=
  fun y => ∑ k : Fin K, a (ix2 (y 0) k) * w (ix2 k (y 1))

/-- The product of a matrix with the transpose of another: element `(r, c)` sums the products along both rows. -/
def prodT {M K N : ℕ} (a : (⟨2, ![M, K]⟩ : Shape).Idx → EReal) (w : (⟨2, ![N, K]⟩ : Shape).Idx → EReal) :
    (⟨2, ![M, N]⟩ : Shape).Idx → EReal :=
  fun y => ∑ k : Fin K, a (ix2 (y 0) k) * w (ix2 (y 1) k)

/-- An index of two coordinates is told by the coordinates' values. -/
theorem idx_ext {M N : ℕ} {i j : (⟨2, ![M, N]⟩ : Shape).Idx} (h0 : (i 0).val = (j 0).val) (h1 : (i 1).val = (j 1).val) : i = j :=
  funext fun d => Fin.ext (match d with | ⟨0, _⟩ => h0 | ⟨1, _⟩ => h1)

/-- A block of a product is the product of blocks: the left block holds the whole operand's rows, the right one its columns,
each read at an index with the same value in the shared coordinate. -/
theorem prod_block {M K N M' N' : ℕ} {a : (⟨2, ![M, K]⟩ : Shape).Idx → EReal} {w : (⟨2, ![K, N]⟩ : Shape).Idx → EReal}
    {a' : (⟨2, ![M', K]⟩ : Shape).Idx → EReal} {w' : (⟨2, ![K, N']⟩ : Shape).Idx → EReal}
    {y : (⟨2, ![M, N]⟩ : Shape).Idx} {y' : (⟨2, ![M', N']⟩ : Shape).Idx}
    (l : (⟨2, ![M', K]⟩ : Shape).Idx → (⟨2, ![M, K]⟩ : Shape).Idx) (r : (⟨2, ![K, N']⟩ : Shape).Idx → (⟨2, ![K, N]⟩ : Shape).Idx)
    (ha : ∀ q, a' q = a (l q)) (hw : ∀ q, w' q = w (r q))
    (h0 : ∀ k, (l (ix2 (y' 0) k) 0).val = (y 0).val) (h1 : ∀ k, (l (ix2 (y' 0) k) 1).val = k.val)
    (h2 : ∀ k, (r (ix2 k (y' 1)) 0).val = k.val) (h3 : ∀ k, (r (ix2 k (y' 1)) 1).val = (y 1).val) :
    prod a' w' y' = prod a w y :=
  Finset.sum_congr rfl fun k _ => congrArg₂ (· * ·) ((ha _).trans (congrArg a (idx_ext (h0 k) (h1 k))))
    ((hw _).trans (congrArg w (idx_ext (h2 k) (h3 k))))

/-- The same of a product with a transpose. -/
theorem prodT_block {M K N M' N' : ℕ} {a : (⟨2, ![M, K]⟩ : Shape).Idx → EReal} {w : (⟨2, ![N, K]⟩ : Shape).Idx → EReal}
    {a' : (⟨2, ![M', K]⟩ : Shape).Idx → EReal} {w' : (⟨2, ![N', K]⟩ : Shape).Idx → EReal}
    {y : (⟨2, ![M, N]⟩ : Shape).Idx} {y' : (⟨2, ![M', N']⟩ : Shape).Idx}
    (l : (⟨2, ![M', K]⟩ : Shape).Idx → (⟨2, ![M, K]⟩ : Shape).Idx) (r : (⟨2, ![N', K]⟩ : Shape).Idx → (⟨2, ![N, K]⟩ : Shape).Idx)
    (ha : ∀ q, a' q = a (l q)) (hw : ∀ q, w' q = w (r q))
    (h0 : ∀ k, (l (ix2 (y' 0) k) 0).val = (y 0).val) (h1 : ∀ k, (l (ix2 (y' 0) k) 1).val = k.val)
    (h2 : ∀ k, (r (ix2 (y' 1) k) 0).val = (y 1).val) (h3 : ∀ k, (r (ix2 (y' 1) k) 1).val = k.val) :
    prodT a' w' y' = prodT a w y :=
  Finset.sum_congr rfl fun k _ => congrArg₂ (· * ·) ((ha _).trans (congrArg a (idx_ext (h0 k) (h1 k))))
    ((hw _).trans (congrArg w (idx_ext (h2 k) (h3 k))))

/-- A block's first coordinate is where the block of the same number starts. -/
theorem off_eq {i j n k : ℕ} (h : i = j) : i * n + 1 * k = j * n + 1 * k := by rw [h]

/-- In block 0 a coordinate is itself. -/
theorem off_zero {i n k : ℕ} (h : i = 0) : i * n + 1 * k = k := by rw [h]; omega

/-- A sum of products whose factors are read along row `y 0` and column `y 1` is the product's element `y`. -/
theorem sum_eq_prod {M K N : ℕ} {a : (⟨2, ![M, K]⟩ : Shape).Idx → EReal} {w : (⟨2, ![K, N]⟩ : Shape).Idx → EReal}
    {y : (⟨2, ![M, N]⟩ : Shape).Idx} {l : Fin K → (⟨2, ![M, K]⟩ : Shape).Idx} {r : Fin K → (⟨2, ![K, N]⟩ : Shape).Idx}
    (h0 : ∀ k, (l k 0).val = (y 0).val) (h1 : ∀ k, (l k 1).val = k.val) (h2 : ∀ k, (r k 0).val = k.val)
    (h3 : ∀ k, (r k 1).val = (y 1).val) : ∑ k : Fin K, a (l k) * w (r k) = prod a w y :=
  Finset.sum_congr rfl fun k _ => congrArg₂ (· * ·) (congrArg a (idx_ext (h0 k) (h1 k))) (congrArg w (idx_ext (h2 k) (h3 k)))

/-- The same of a product with a transpose. -/
theorem sum_eq_prodT {M K N : ℕ} {a : (⟨2, ![M, K]⟩ : Shape).Idx → EReal} {w : (⟨2, ![N, K]⟩ : Shape).Idx → EReal}
    {y : (⟨2, ![M, N]⟩ : Shape).Idx} {l : Fin K → (⟨2, ![M, K]⟩ : Shape).Idx} {r : Fin K → (⟨2, ![N, K]⟩ : Shape).Idx}
    (h0 : ∀ k, (l k 0).val = (y 0).val) (h1 : ∀ k, (l k 1).val = k.val) (h2 : ∀ k, (r k 0).val = (y 1).val)
    (h3 : ∀ k, (r k 1).val = k.val) : ∑ k : Fin K, a (l k) * w (r k) = prodT a w y :=
  Finset.sum_congr rfl fun k _ => congrArg₂ (· * ·) (congrArg a (idx_ext (h0 k) (h1 k))) (congrArg w (idx_ext (h2 k) (h3 k)))

/-- A product whose shared side is in two parts is the sum of the parts' products. -/
theorem prod_add {M K L N : ℕ} {a : (⟨2, ![M, K + L]⟩ : Shape).Idx → EReal} {w : (⟨2, ![K + L, N]⟩ : Shape).Idx → EReal}
    (y : (⟨2, ![M, N]⟩ : Shape).Idx) : prod a w y
      = prod (fun q : (⟨2, ![M, K]⟩ : Shape).Idx => a (ix2 (q 0) (Fin.castAdd L (q 1)))) (fun q : (⟨2, ![K, N]⟩ : Shape).Idx => w (ix2 (Fin.castAdd L (q 0)) (q 1))) y
        + prod (fun q : (⟨2, ![M, L]⟩ : Shape).Idx => a (ix2 (q 0) (Fin.natAdd K (q 1)))) (fun q : (⟨2, ![L, N]⟩ : Shape).Idx => w (ix2 (Fin.natAdd K (q 0)) (q 1))) y :=
  Fin.sum_univ_add _

end Cert.Product

end
-- ==== Proof.Dilated.lean ====
module

public import proofs.«01_k».proof.Proof.Product
public import proofs.«01_k».proof.Proof.Gen.Kernel3Ideal.Value
public import proofs.«01_k».proof.Proof.Gen.Reference3Ideal.Read

/-!
# The even layers' projection for the dilated attention
-/

@[expose] public section

noncomputable section

namespace Cert.Kernel3Ideal.Hand

open Cert.Kernel3Ideal Cert.Kernel3Ideal.Gen Idealize.ShloMosaic Idealize.ShloMosaic.TcCoe Idealize.SL.Sem
open Cert.Product

variable (m : (ℓ : Loc nD τ sig) → Buf (Elt Ideal) ℓ)

/-- What the result array is shown to hold. -/
def resV (c : Dev nD) : Buf (Elt Ideal) ((c : Thread nD τ).loc main_v0) :=
  prod (M := 32768) (K := 2048) (N := 4608) (m ((c : Thread nD τ).loc main_arg0)) (m ((c : Thread nD τ).loc main_arg1))

/-- Grid point `t` takes the left operand's rows and the right operand's columns of its own block of the result. -/
theorem idx_facts : ∀ t : Fin cfg0.N,
    (win0_0.index t (0 : Fin 2) = win0_2.index t (0 : Fin 2) ∧ win0_0.index t (1 : Fin 2) = 0)
    ∧ (win0_1.index t (0 : Fin 2) = 0 ∧ win0_1.index t (1 : Fin 2) = win0_2.index t (1 : Fin 2)) :=
  (by decide +kernel : ∀ t : Fin grid0.N, _)

/-- Each block of the result array ends as that block of the product, and the blocks cover the array. -/
theorem final (c : Dev nD) : (dats m 0 c).arrAt 2 cfg0.N = resV m c := by
  refine (dats m 0 c).arrAt_eq_of_covers 2 _ (by decide +kernel) fun t hf y => ?_
  blk_simp
  rw [after0_2]
  frame_out
  pointwise [k0_pay1]
  obtain ⟨⟨a0, a1⟩, b0, b1⟩ := idx_facts t
  show prod (M := 1024) (K := 2048) (N := 1536) (iblk m c 0 t) (iblk m c 1 t) y = _
  exact prod_block ((cfg0.win 0).blk t).view.emb ((cfg0.win 1).blk t).view.emb
    (fun q => congrFun (V_main_arg0 m c) _) (fun q => congrFun (V_main_arg1 m c) _)
    (fun _ => off_eq a0) (fun _ => off_zero a1) (fun _ => off_zero b0) (fun _ => off_eq b1)

/-- From arguments that agree both programs end with the product of the two. -/
theorem value (m' : (ℓ : Loc Cert.Reference3Ideal.nD Cert.Reference3Ideal.τ Cert.Reference3Ideal.sig) → Buf (Elt Ideal) ℓ)
    (c : Dev nD) (e0 : m' ((c.tc : Thread _ _).loc Cert.Reference3Ideal.main_arg0) = m ((c : Thread nD τ).loc main_arg0))
    (e1 : m' ((c.tc : Thread _ _).loc Cert.Reference3Ideal.main_arg1) = m ((c : Thread nD τ).loc main_arg1)) :
    Cert.Reference3Ideal.Read.val_main_v1 (F := Ideal) (m' ((c.tc : Thread _ _).loc Cert.Reference3Ideal.main_arg0))
      (m' ((c.tc : Thread _ _).loc Cert.Reference3Ideal.main_arg1)) = resV m c := by
  rw [e0, e1]
  funext y
  rw [Cert.Reference3Ideal.Read.val_main_v1_apply, Cert.Reference3Ideal.Read.val_main_v0_apply]
  exact sum_eq_prod (fun _ => rfl) (fun _ => rfl) (fun _ => rfl) fun _ => rfl

end Cert.Kernel3Ideal.Hand

end
-- ==== Proof.Latent.lean ====
module

public import proofs.«01_k».proof.Proof.Product
public import proofs.«01_k».proof.Proof.Gen.Kernel4Ideal.Value
public import proofs.«01_k».proof.Proof.Gen.Reference4Ideal.Read

/-!
# The odd layers' projection
-/

@[expose] public section

noncomputable section

namespace Cert.Kernel4Ideal.Hand

open Cert.Kernel4Ideal Cert.Kernel4Ideal.Gen Idealize.ShloMosaic Idealize.ShloMosaic.TcCoe Idealize.SL.Sem
open Cert.Product

variable (m : (ℓ : Loc nD τ sig) → Buf (Elt Ideal) ℓ)

/-- What the result array is shown to hold. -/
def resV (c : Dev nD) : Buf (Elt Ideal) ((c : Thread nD τ).loc main_v0) :=
  prod (M := 32768) (K := 2048) (N := 4096) (m ((c : Thread nD τ).loc main_arg0)) (m ((c : Thread nD τ).loc main_arg1))

/-- Grid point `t` takes the left operand's rows and the right operand's columns of its own block of the result. -/
theorem idx_facts : ∀ t : Fin cfg0.N,
    (win0_0.index t (0 : Fin 2) = win0_2.index t (0 : Fin 2) ∧ win0_0.index t (1 : Fin 2) = 0)
    ∧ (win0_1.index t (0 : Fin 2) = 0 ∧ win0_1.index t (1 : Fin 2) = win0_2.index t (1 : Fin 2)) :=
  (by decide +kernel : ∀ t : Fin grid0.N, _)

/-- Each block of the result array ends as that block of the product, and the blocks cover the array. -/
theorem final (c : Dev nD) : (dats m 0 c).arrAt 2 cfg0.N = resV m c := by
  refine (dats m 0 c).arrAt_eq_of_covers 2 _ (by decide +kernel) fun t hf y => ?_
  blk_simp
  rw [after0_2]
  frame_out
  pointwise [k0_pay1]
  obtain ⟨⟨a0, a1⟩, b0, b1⟩ := idx_facts t
  show prod (M := 1024) (K := 2048) (N := 1024) (iblk m c 0 t) (iblk m c 1 t) y = _
  exact prod_block ((cfg0.win 0).blk t).view.emb ((cfg0.win 1).blk t).view.emb
    (fun q => congrFun (V_main_arg0 m c) _) (fun q => congrFun (V_main_arg1 m c) _)
    (fun _ => off_eq a0) (fun _ => off_zero a1) (fun _ => off_zero b0) (fun _ => off_eq b1)

/-- From arguments that agree both programs end with the product of the two. -/
theorem value (m' : (ℓ : Loc Cert.Reference4Ideal.nD Cert.Reference4Ideal.τ Cert.Reference4Ideal.sig) → Buf (Elt Ideal) ℓ)
    (c : Dev nD) (e0 : m' ((c.tc : Thread _ _).loc Cert.Reference4Ideal.main_arg0) = m ((c : Thread nD τ).loc main_arg0))
    (e1 : m' ((c.tc : Thread _ _).loc Cert.Reference4Ideal.main_arg1) = m ((c : Thread nD τ).loc main_arg1)) :
    Cert.Reference4Ideal.Read.val_main_v0 (F := Ideal) (m' ((c.tc : Thread _ _).loc Cert.Reference4Ideal.main_arg0))
      (m' ((c.tc : Thread _ _).loc Cert.Reference4Ideal.main_arg1)) = resV m c := by
  rw [e0, e1]
  funext y
  rw [Cert.Reference4Ideal.Read.val_main_v0_apply]
  exact sum_eq_prod (fun _ => rfl) (fun _ => rfl) (fun _ => rfl) fun _ => rfl

end Cert.Kernel4Ideal.Hand

end
-- ==== Proof.Gates.lean ====
module

public import proofs.«01_k».proof.Proof.Product
public import proofs.«01_k».proof.Proof.Gen.Kernel5Ideal.Value
public import proofs.«01_k».proof.Proof.Gen.Reference5Ideal.Read

/-!
# The even layers' projection read in 32 bits
-/

@[expose] public section

noncomputable section

namespace Cert.Kernel5Ideal.Hand

open Cert.Kernel5Ideal Cert.Kernel5Ideal.Gen Idealize.ShloMosaic Idealize.ShloMosaic.TcCoe Idealize.SL.Sem
open Cert.Product

variable (m : (ℓ : Loc nD τ sig) → Buf (Elt Ideal) ℓ)

/-- What the result array is shown to hold. -/
def resV (c : Dev nD) : Buf (Elt Ideal) ((c : Thread nD τ).loc main_v0) :=
  prod (M := 32768) (K := 2048) (N := 2304) (m ((c : Thread nD τ).loc main_arg0)) (m ((c : Thread nD τ).loc main_arg1))

/-- Grid point `t` takes the left operand's rows and the right operand's columns of its own block of the result. -/
theorem idx_facts : ∀ t : Fin cfg0.N,
    (win0_0.index t (0 : Fin 2) = win0_2.index t (0 : Fin 2) ∧ win0_0.index t (1 : Fin 2) = 0)
    ∧ (win0_1.index t (0 : Fin 2) = 0 ∧ win0_1.index t (1 : Fin 2) = win0_2.index t (1 : Fin 2)) :=
  (by decide +kernel : ∀ t : Fin grid0.N, _)

/-- Each block of the result array ends as that block of the product, and the blocks cover the array. -/
theorem final (c : Dev nD) : (dats m 0 c).arrAt 2 cfg0.N = resV m c := by
  refine (dats m 0 c).arrAt_eq_of_covers 2 _ (by decide +kernel) fun t hf y => ?_
  blk_simp
  rw [after0_2]
  frame_out
  pointwise [k0_pay1]
  obtain ⟨⟨a0, a1⟩, b0, b1⟩ := idx_facts t
  show prod (M := 1024) (K := 2048) (N := 768) (iblk m c 0 t) (iblk m c 1 t) y = _
  exact prod_block ((cfg0.win 0).blk t).view.emb ((cfg0.win 1).blk t).view.emb
    (fun q => congrFun (V_main_arg0 m c) _) (fun q => congrFun (V_main_arg1 m c) _)
    (fun _ => off_eq a0) (fun _ => off_zero a1) (fun _ => off_zero b0) (fun _ => off_eq b1)

/-- From arguments that agree both programs end with the product of the two. -/
theorem value (m' : (ℓ : Loc Cert.Reference5Ideal.nD Cert.Reference5Ideal.τ Cert.Reference5Ideal.sig) → Buf (Elt Ideal) ℓ)
    (c : Dev nD) (e0 : m' ((c.tc : Thread _ _).loc Cert.Reference5Ideal.main_arg0) = m ((c : Thread nD τ).loc main_arg0))
    (e1 : m' ((c.tc : Thread _ _).loc Cert.Reference5Ideal.main_arg1) = m ((c : Thread nD τ).loc main_arg1)) :
    Cert.Reference5Ideal.Read.val_main_v0 (F := Ideal) (m' ((c.tc : Thread _ _).loc Cert.Reference5Ideal.main_arg0))
      (m' ((c.tc : Thread _ _).loc Cert.Reference5Ideal.main_arg1)) = resV m c := by
  rw [e0, e1]
  funext y
  rw [Cert.Reference5Ideal.Read.val_main_v0_apply]
  exact sum_eq_prod (fun _ => rfl) (fun _ => rfl) (fun _ => rfl) fun _ => rfl

end Cert.Kernel5Ideal.Hand

end
-- ==== Proof.Brief.lean ====
module

public import proofs.«01_k».proof.Proof.Product
public import proofs.«01_k».proof.Proof.Gen.Kernel6Ideal.Value
public import proofs.«01_k».proof.Proof.Gen.Reference6Ideal.Read

/-!
# The even layers' projection read in 16 bits
-/

@[expose] public section

noncomputable section

namespace Cert.Kernel6Ideal.Hand

open Cert.Kernel6Ideal Cert.Kernel6Ideal.Gen Idealize.ShloMosaic Idealize.ShloMosaic.TcCoe Idealize.SL.Sem
open Cert.Product

variable (m : (ℓ : Loc nD τ sig) → Buf (Elt Ideal) ℓ)

/-- What the result array is shown to hold. -/
def resV (c : Dev nD) : Buf (Elt Ideal) ((c : Thread nD τ).loc main_v0) :=
  prod (M := 32768) (K := 2048) (N := 1536) (m ((c : Thread nD τ).loc main_arg0)) (m ((c : Thread nD τ).loc main_arg1))

/-- Grid point `t` takes the left operand's rows and the right operand's columns of its own block of the result. -/
theorem idx_facts : ∀ t : Fin cfg0.N,
    (win0_0.index t (0 : Fin 2) = win0_2.index t (0 : Fin 2) ∧ win0_0.index t (1 : Fin 2) = 0)
    ∧ (win0_1.index t (0 : Fin 2) = 0 ∧ win0_1.index t (1 : Fin 2) = win0_2.index t (1 : Fin 2)) :=
  (by decide +kernel : ∀ t : Fin grid0.N, _)

/-- Each block of the result array ends as that block of the product, and the blocks cover the array. -/
theorem final (c : Dev nD) : (dats m 0 c).arrAt 2 cfg0.N = resV m c := by
  refine (dats m 0 c).arrAt_eq_of_covers 2 _ (by decide +kernel) fun t hf y => ?_
  blk_simp
  rw [after0_2]
  frame_out
  pointwise [k0_pay1]
  obtain ⟨⟨a0, a1⟩, b0, b1⟩ := idx_facts t
  show prod (M := 1024) (K := 2048) (N := 1536) (iblk m c 0 t) (iblk m c 1 t) y = _
  exact prod_block ((cfg0.win 0).blk t).view.emb ((cfg0.win 1).blk t).view.emb
    (fun q => congrFun (V_main_arg0 m c) _) (fun q => congrFun (V_main_arg1 m c) _)
    (fun _ => off_eq a0) (fun _ => off_zero a1) (fun _ => off_zero b0) (fun _ => off_eq b1)

/-- From arguments that agree both programs end with the product of the two. -/
theorem value (m' : (ℓ : Loc Cert.Reference6Ideal.nD Cert.Reference6Ideal.τ Cert.Reference6Ideal.sig) → Buf (Elt Ideal) ℓ)
    (c : Dev nD) (e0 : m' ((c.tc : Thread _ _).loc Cert.Reference6Ideal.main_arg0) = m ((c : Thread nD τ).loc main_arg0))
    (e1 : m' ((c.tc : Thread _ _).loc Cert.Reference6Ideal.main_arg1) = m ((c : Thread nD τ).loc main_arg1)) :
    Cert.Reference6Ideal.Read.val_main_v1 (F := Ideal) (m' ((c.tc : Thread _ _).loc Cert.Reference6Ideal.main_arg0))
      (m' ((c.tc : Thread _ _).loc Cert.Reference6Ideal.main_arg1)) = resV m c := by
  rw [e0, e1]
  funext y
  rw [Cert.Reference6Ideal.Read.val_main_v1_apply, Cert.Reference6Ideal.Read.val_main_v0_apply]
  exact sum_eq_prod (fun _ => rfl) (fun _ => rfl) (fun _ => rfl) fun _ => rfl

end Cert.Kernel6Ideal.Hand

end
-- ==== Proof.Transposed.lean ====
module

public import proofs.«01_k».proof.Proof.Product
public import proofs.«01_k».proof.Proof.Gen.Kernel7Ideal.Value
public import proofs.«01_k».proof.Proof.Gen.Reference7Ideal.Read

/-!
# The even layers' transposed values: a product with a transpose
-/

@[expose] public section

noncomputable section

namespace Cert.Kernel7Ideal.Hand

open Cert.Kernel7Ideal Cert.Kernel7Ideal.Gen Idealize.ShloMosaic Idealize.ShloMosaic.TcCoe Idealize.SL.Sem
open Cert.Product

variable (m : (ℓ : Loc nD τ sig) → Buf (Elt Ideal) ℓ)

/-- What the result array is shown to hold. -/
def resV (c : Dev nD) : Buf (Elt Ideal) ((c : Thread nD τ).loc main_v0) :=
  prodT (M := 512) (K := 2048) (N := 32768) (m ((c : Thread nD τ).loc main_arg0)) (m ((c : Thread nD τ).loc main_arg1))

/-- Grid point `t` takes both operands' rows that its own block of the result is made of. -/
theorem idx_facts : ∀ t : Fin cfg0.N,
    (win0_0.index t (0 : Fin 2) = win0_2.index t (0 : Fin 2) ∧ win0_0.index t (1 : Fin 2) = 0)
    ∧ (win0_1.index t (0 : Fin 2) = win0_2.index t (1 : Fin 2) ∧ win0_1.index t (1 : Fin 2) = 0) :=
  (by decide +kernel : ∀ t : Fin grid0.N, _)

/-- Each block of the result array ends as that block of the product, and the blocks cover the array. -/
theorem final (c : Dev nD) : (dats m 0 c).arrAt 2 cfg0.N = resV m c := by
  refine (dats m 0 c).arrAt_eq_of_covers 2 _ (by decide +kernel) fun t hf y => ?_
  blk_simp
  rw [after0_2]
  frame_out
  pointwise [k0_pay1]
  obtain ⟨⟨a0, a1⟩, b0, b1⟩ := idx_facts t
  show prodT (M := 512) (K := 2048) (N := 1024) (iblk m c 0 t) (iblk m c 1 t) y = _
  exact prodT_block ((cfg0.win 0).blk t).view.emb ((cfg0.win 1).blk t).view.emb
    (fun q => congrFun (V_main_arg0 m c) _) (fun q => congrFun (V_main_arg1 m c) _)
    (fun _ => off_eq a0) (fun _ => off_zero a1) (fun _ => off_eq b0) (fun _ => off_zero b1)

/-- From arguments that agree both programs end with the product of the first with the second's transpose. -/
theorem value (m' : (ℓ : Loc Cert.Reference7Ideal.nD Cert.Reference7Ideal.τ Cert.Reference7Ideal.sig) → Buf (Elt Ideal) ℓ)
    (c : Dev nD) (e0 : m' ((c.tc : Thread _ _).loc Cert.Reference7Ideal.main_arg0) = m ((c : Thread nD τ).loc main_arg0))
    (e1 : m' ((c.tc : Thread _ _).loc Cert.Reference7Ideal.main_arg1) = m ((c : Thread nD τ).loc main_arg1)) :
    Cert.Reference7Ideal.Read.val_main_v1 (F := Ideal) (m' ((c.tc : Thread _ _).loc Cert.Reference7Ideal.main_arg0))
      (m' ((c.tc : Thread _ _).loc Cert.Reference7Ideal.main_arg1)) = resV m c := by
  rw [e0, e1]
  funext y
  rw [Cert.Reference7Ideal.Read.val_main_v1_apply, Cert.Reference7Ideal.Read.val_main_v0_apply]
  exact sum_eq_prodT (fun _ => rfl) (fun _ => rfl) (fun _ => rfl) fun _ => rfl

end Cert.Kernel7Ideal.Hand

end
-- ==== Proof.Norm.lean ====
module

public import proofs.«01_k».proof.Proof.Product

/-!
# A gated projection added to the residual stream, and a row's root mean square norm

Both as functions of whole arrays, for any number of rows, with the fact that a block of rows is computed from the blocks of the
same rows.
-/

@[expose] public section

noncomputable section

namespace Cert.Product

open Idealize.ShloMosaic

/-- `o` times `g`'s SiLU: `g` times its logistic function. -/
def gated (o g : EReal) : EReal := o * (g * Ideal.div 1 (1 + Ideal.exp (0 - g)))

/-- The same with the logistic function's ones and its negation as the host writes them. -/
theorem gated_host (o g : EReal) : o * (g * Ideal.div (Ideal.ofBits FTy.f32 0x3F800000#32)
    (Ideal.ofBits FTy.f32 0x3F800000#32 + Ideal.exp (-g))) = gated o g := by
  rw [← zero_sub, Ideal.ofBits_one_f32]
  rfl

/-- The residual stream plus the gated outputs' projection. -/
def resid {M K N : ℕ} (x : (⟨2, ![M, N]⟩ : Shape).Idx → EReal) (o g : (⟨2, ![M, K]⟩ : Shape).Idx → EReal)
    (w : (⟨2, ![K, N]⟩ : Shape).Idx → EReal) : (⟨2, ![M, N]⟩ : Shape).Idx → EReal :=
  fun y => x y + prod (fun q => gated (o q) (g q)) w y

/-- Each row over the root of its mean square plus `e`, times a weight for each column: `d` is what the sum of squares is divided by. -/
def normed {M N : ℕ} (x : (⟨2, ![M, N]⟩ : Shape).Idx → EReal) (n : Fin N → EReal) (d e : EReal) :
    (⟨2, ![M, N]⟩ : Shape).Idx → EReal :=
  fun y => x y * Ideal.rsqrt (Ideal.div (∑ k : Fin N, x (ix2 (y 0) k) * x (ix2 (y 0) k)) d + e) * n (y 1)

/-- The `N'` columns of a matrix from column `s` on. -/
def cols {M N : ℕ} (s N' : ℕ) (h : s + N' ≤ N) (x : (⟨2, ![M, N]⟩ : Shape).Idx → EReal) : (⟨2, ![M, N']⟩ : Shape).Idx → EReal :=
  fun q => x (ix2 (q 0) ⟨s + (q 1).val, lt_of_lt_of_le (Nat.add_lt_add_left (q 1).isLt s) h⟩)

/-- A block of rows of the stream is computed from the same rows of the stream, the outputs and the gates. -/
theorem resid_rows {M K N M' : ℕ} {x : (⟨2, ![M, N]⟩ : Shape).Idx → EReal} {o g : (⟨2, ![M, K]⟩ : Shape).Idx → EReal}
    {w w' : (⟨2, ![K, N]⟩ : Shape).Idx → EReal} {x' : (⟨2, ![M', N]⟩ : Shape).Idx → EReal} {o' g' : (⟨2, ![M', K]⟩ : Shape).Idx → EReal}
    (ρ : Fin M' → Fin M) (hx : ∀ q, x' q = x (ix2 (ρ (q 0)) (q 1))) (ho : ∀ q, o' q = o (ix2 (ρ (q 0)) (q 1)))
    (hg : ∀ q, g' q = g (ix2 (ρ (q 0)) (q 1))) (hw : ∀ q, w' q = w q) (q : (⟨2, ![M', N]⟩ : Shape).Idx) :
    resid x' o' g' w' q = resid x o g w (ix2 (ρ (q 0)) (q 1)) := by
  obtain rfl : x' = _ := funext hx
  obtain rfl : o' = _ := funext ho
  obtain rfl : g' = _ := funext hg
  obtain rfl : w' = _ := funext hw
  rfl

/-- A block of rows of the norm is computed from the same rows. -/
theorem normed_rows {M N M' : ℕ} {x : (⟨2, ![M, N]⟩ : Shape).Idx → EReal} {x' : (⟨2, ![M', N]⟩ : Shape).Idx → EReal}
    {n n' : Fin N → EReal} {d e : EReal} (ρ : Fin M' → Fin M) (hx : ∀ q, x' q = x (ix2 (ρ (q 0)) (q 1))) (hn : ∀ k, n' k = n k)
    (q : (⟨2, ![M', N]⟩ : Shape).Idx) : normed x' n' d e q = normed x n d e (ix2 (ρ (q 0)) (q 1)) := by
  obtain rfl : x' = _ := funext hx
  obtain rfl : n' = _ := funext hn
  rfl

/-- A norm's element, its row read through other indices of the same values. -/
theorem normed_at {M N : ℕ} {x : (⟨2, ![M, N]⟩ : Shape).Idx → EReal} {n : Fin N → EReal} {d e : EReal} {y : (⟨2, ![M, N]⟩ : Shape).Idx}
    (i : Fin N → (⟨2, ![M, N]⟩ : Shape).Idx) {u : EReal} (h0 : ∀ k, (i k 0).val = (y 0).val) (h1 : ∀ k, (i k 1).val = k.val)
    (hu : u = n (y 1)) : x y * Ideal.rsqrt (Ideal.div (∑ k : Fin N, x (i k) * x (i k)) d + e) * u = normed x n d e y := by
  obtain rfl : i = fun k => ix2 (y 0) k := funext fun k => idx_ext (h0 k) (h1 k)
  rw [hu]
  rfl

/-- A vector as a matrix of one row holds the vector's elements in order. -/
theorem row_apply {N : ℕ} (x : (⟨1, ![N]⟩ : Shape).Idx → EReal) (h : (⟨1, ![N]⟩ : Shape).ShapeCasts ⟨2, ![1, N]⟩)
    (q : (⟨2, ![1, N]⟩ : Shape).Idx) : shapeCast ⟨2, ![1, N]⟩ x h q = x (ix1 (q 1)) := by
  refine shapeCast_apply x h q _ ?_
  rw [Shape.rowMajor_val_one, Shape.rowMajor_val_two]
  have h0 : (q 0).val < 1 := (q 0).isLt
  show (q 1).val = (q 0).val * N + (q 1).val
  rw [show (q 0).val = 0 by omega]
  omega

end Cert.Product

end
-- ==== Proof.Output.lean ====
module

public import proofs.«01_k».proof.Proof.Norm
public import proofs.«01_k».proof.Proof.Gen.Kernel2Ideal.Value
public import proofs.«01_k».proof.Proof.Gen.Reference2Ideal.Read

/-!
# The last output projection and the trunk's final norm: the result
-/

@[expose] public section

noncomputable section

namespace Cert.Kernel2Ideal.Hand

open Cert.Kernel2Ideal Cert.Kernel2Ideal.Gen Idealize.ShloMosaic Idealize.ShloMosaic.TcCoe Idealize.SL.Sem
open Cert.Product

variable (m : (ℓ : Loc nD τ sig) → Buf (Elt Ideal) ℓ)

/-- The gates: the right half of the projection's columns. -/
def gateHalf (z : (⟨2, ![32768, 4096]⟩ : Shape).Idx → EReal) : (⟨2, ![32768, 2048]⟩ : Shape).Idx → EReal :=
  fun q => z (ix2 (q 0) ⟨2048 + (q 1).val, have h : (q 1).val < 2048 := (q 1).isLt; by omega⟩)

/-- The result, of the stream, the attention's outputs, the projection, the output weights and the norm's weights. -/
def res (x o : (⟨2, ![32768, 2048]⟩ : Shape).Idx → EReal) (z : (⟨2, ![32768, 4096]⟩ : Shape).Idx → EReal)
    (w : (⟨2, ![2048, 2048]⟩ : Shape).Idx → EReal) (n : (⟨1, ![2048]⟩ : Shape).Idx → EReal) :
    (⟨2, ![32768, 2048]⟩ : Shape).Idx → EReal :=
  normed (resid x o (gateHalf z) w) (fun k => n (ix1 k)) (Ideal.ofBits FTy.f32 1157627904#32) (Ideal.ofBits FTy.f32 897988541#32)

/-- What the result array is shown to hold. -/
def resV (c : Dev nD) : Buf (Elt Ideal) ((c : Thread nD τ).loc main_v1) :=
  res (m ((c : Thread nD τ).loc main_arg0)) (m ((c : Thread nD τ).loc main_arg1)) (m ((c : Thread nD τ).loc main_arg2))
    (m ((c : Thread nD τ).loc main_arg3)) (m ((c : Thread nD τ).loc main_arg4))

/-- Grid point `t` takes the rows of its own block of the result, the gates' column half, and the whole of both weights. -/
theorem idx_facts : ∀ t : Fin cfg0.N, win0_5.index t (1 : Fin 2) = 0
    ∧ (win0_0.index t (0 : Fin 2) = win0_5.index t (0 : Fin 2) ∧ win0_0.index t (1 : Fin 2) = 0)
    ∧ (win0_1.index t (0 : Fin 2) = win0_5.index t (0 : Fin 2) ∧ win0_1.index t (1 : Fin 2) = 0)
    ∧ (win0_2.index t (0 : Fin 2) = win0_5.index t (0 : Fin 2) ∧ win0_2.index t (1 : Fin 2) = 1)
    ∧ (win0_3.index t (0 : Fin 2) = 0 ∧ win0_3.index t (1 : Fin 2) = 0)
    ∧ (win0_4.index t (0 : Fin 2) = 0 ∧ win0_4.index t (1 : Fin 2) = 0) :=
  (by decide +kernel : ∀ t : Fin grid0.N, _)

/-- What a grid point computes of its blocks: the same function, of 512 rows. -/
theorem block (v0 : Vec Ideal S512x2048 .bf16) (v1 v13 : Vec Ideal S512x2048 .f32) (v14 : Vec Ideal S2048x2048 .bf16)
    (v27 : Vec Ideal S1x2048 .f32) (y : S512x2048.Idx) : k0_pay1 (F := Ideal) v0 v1 v13 v14 v27 y
      = normed (M := 512) (N := 2048) (resid (K := 2048) v13 v0 v1 v14) (fun k => v27 (ix2 0 k)) (Ideal.ofBits FTy.f32 1157627904#32)
          (Ideal.ofBits FTy.f32 897988541#32) y := by
  pointwise [k0_pay1]
  rfl

/-- The norm's weights as a row. -/
theorem V_norm (c : Dev nD) (q : S1x2048.Idx) : V m c main_v0 q = m ((c : Thread nD τ).loc main_arg4) (ix1 (n0 := 2048) (q 1)) := by
  have h : V m c main_v0 = shapeCast S1x2048 (m ((c : Thread nD τ).loc main_arg4)) shapeCasts_S2048_S1x2048 := by
    unfold V
    after_results
    rfl
  rw [h]
  exact row_apply _ _ q

open Cert.Reference2Ideal.Read in
/-- The reference's stream is the same function of its arguments. -/
theorem refX (x0 : (⟨S32768x2048, .f32⟩ : BufTy).Contents (Elt Ideal)) (x1 : (⟨S32768x2048, .bf16⟩ : BufTy).Contents (Elt Ideal))
    (x2 x3) (q) : val_main_v6 (F := Ideal) x0 x1 x2 x3 q = resid (M := 32768) (K := 2048) (N := 2048) x0 x1 (gateHalf x2) x3 q := by
  have hg : ∀ q, val_main_v4 (F := Ideal) x1 x2 q = gated (x1 q) (gateHalf x2 q) := fun q => by
    rw [val_main_v4_apply, val_main_v3_apply, val_main_v2_apply, val_main_v1_apply, val_main_call0_v5_apply, val_main_call0_v4_apply,
      val_main_call0_v3_apply, val_main_call0_v2_apply, val_main_call0_v1_apply, val_main_call0_v0_apply, val_main_v0_apply]
    exact (gated_host (x1 q) (x2 (idx_main_v0 q))).trans (congrArg (fun i => gated (x1 q) (x2 i)) (idx_ext rfl rfl))
  rw [val_main_v6_apply, val_main_v5_apply]
  show x0 q + _ = x0 q + _
  refine congrArg (x0 q + ·) ?_
  rw [show val_main_v4 (F := Ideal) x1 x2 = _ from funext hg]
  exact sum_eq_prod (M := 32768) (K := 2048) (N := 2048) (a := fun q => gated (x1 q) (gateHalf x2 q)) (w := x3) (y := q)
    (l := lidx_main_v5 q) (r := ridx_main_v5 q) (fun _ => rfl) (fun _ => rfl) (fun _ => rfl) fun _ => rfl

open Cert.Reference2Ideal.Read in
/-- The reference's value is the same function of its arguments. -/
theorem ref (x0 : (⟨S32768x2048, .f32⟩ : BufTy).Contents (Elt Ideal)) (x1 : (⟨S32768x2048, .bf16⟩ : BufTy).Contents (Elt Ideal))
    (x2 x3 x4) : val_main_v19 (F := Ideal) x0 x1 x2 x3 x4 = res x0 x1 x2 x3 x4 := by
  funext y
  rw [val_main_v19_apply, val_main_v18_apply, val_main_v17_apply, val_main_v16_apply, val_main_v15_apply, val_main_v14_apply,
    val_main_v13_apply, val_main_v12_apply, val_main_v11_apply, val_main_v10_apply, val_main_v9_apply, val_main_v8_apply]
  simp only [val_main_v7_apply, refX]
  have h0 : val_main_cst (F := Ideal) (Shape.Idx.first Cert.Reference2Ideal.Gen.h_S_) = 0 := Ideal.ofBits_zero_f32
  rw [h0, zero_add]
  exact normed_at (x := resid (M := 32768) (K := 2048) (N := 2048) x0 x1 (gateHalf x2) x3) (n := fun k => x4 (ix1 k)) (y := y)
    (fun k => idx_main_v8 (idx_main_v9 (idx_main_v15 y)) k) (fun _ => rfl) (fun _ => rfl) (congrArg x4 (funext fun a => match a with | ⟨0, _⟩ => rfl))

/-- Each block of the result array ends as that block of the result, and the blocks cover the array. -/
theorem final (c : Dev nD) : (dats m 0 c).arrAt 5 cfg0.N = resV m c := by
  refine (dats m 0 c).arrAt_eq_of_covers 5 _ (by decide +kernel) fun t hf y => ?_
  blk_simp
  rw [after0_5]
  frame_out
  rw [block]
  obtain ⟨o1, ⟨a0, a1⟩, ⟨b0, b1⟩, ⟨c0, c1⟩, ⟨d0, d1⟩, e0, e1⟩ := idx_facts t
  let ρ : Fin 512 → Fin 32768 := fun r => (((cfg0.win 5).blk t).view.emb (ix2 r 0)) 0
  have hx : ∀ q : S512x2048.Idx, iblk m c 0 t q = m ((c : Thread nD τ).loc main_arg0) (ix2 (ρ (q 0)) (q 1)) := fun q =>
    (congrFun (V_main_arg0 m c) _).trans (congrArg (m ((c : Thread nD τ).loc main_arg0)) (idx_ext (off_eq a0) (off_zero a1)))
  have ho : ∀ q : S512x2048.Idx, iblk m c 1 t q = m ((c : Thread nD τ).loc main_arg1) (ix2 (ρ (q 0)) (q 1)) := fun q =>
    (congrFun (V_main_arg1 m c) _).trans (congrArg (m ((c : Thread nD τ).loc main_arg1)) (idx_ext (off_eq b0) (off_zero b1)))
  have hg : ∀ q : S512x2048.Idx, iblk m c 2 t q = gateHalf (m ((c : Thread nD τ).loc main_arg2)) (ix2 (ρ (q 0)) (q 1)) := fun q =>
    (congrFun (V_main_arg2 m c) _).trans (congrArg (m ((c : Thread nD τ).loc main_arg2)) (idx_ext (off_eq c0)
      (show win0_2.index t (1 : Fin 2) * 2048 + 1 * (q 1).val = 2048 + (q 1).val by rw [c1]; omega)))
  have hw : ∀ q : S2048x2048.Idx, iblk m c 3 t q = m ((c : Thread nD τ).loc main_arg3) q := fun q =>
    (congrFun (V_main_arg3 m c) _).trans (congrArg (m ((c : Thread nD τ).loc main_arg3)) (idx_ext (off_zero d0) (off_zero d1)))
  have hn : ∀ k : Fin 2048, iblk m c 4 t (ix2 0 k) = m ((c : Thread nD τ).loc main_arg4) (ix1 k) := fun k =>
    (V_norm m c _).trans (congrArg (m ((c : Thread nD τ).loc main_arg4)) (congrArg ix1 (Fin.ext (show win0_4.index t (1 : Fin 2) * 2048 + 1 * k.val = k.val from off_zero e1))))
  refine (normed_rows ρ (resid_rows (K := 2048) ρ hx ho hg hw) hn y).trans ?_
  exact congrArg (resV m c) (idx_ext rfl (off_zero o1).symm)

/-- From arguments that agree both programs end with the same result. -/
theorem value (m' : (ℓ : Loc Cert.Reference2Ideal.nD Cert.Reference2Ideal.τ Cert.Reference2Ideal.sig) → Buf (Elt Ideal) ℓ)
    (c : Dev nD) (e0 : m' ((c.tc : Thread _ _).loc Cert.Reference2Ideal.main_arg0) = m ((c : Thread nD τ).loc main_arg0))
    (e1 : m' ((c.tc : Thread _ _).loc Cert.Reference2Ideal.main_arg1) = m ((c : Thread nD τ).loc main_arg1))
    (e2 : m' ((c.tc : Thread _ _).loc Cert.Reference2Ideal.main_arg2) = m ((c : Thread nD τ).loc main_arg2))
    (e3 : m' ((c.tc : Thread _ _).loc Cert.Reference2Ideal.main_arg3) = m ((c : Thread nD τ).loc main_arg3))
    (e4 : m' ((c.tc : Thread _ _).loc Cert.Reference2Ideal.main_arg4) = m ((c : Thread nD τ).loc main_arg4)) :
    Cert.Reference2Ideal.Read.val_main_v19 (F := Ideal) (m' ((c.tc : Thread _ _).loc Cert.Reference2Ideal.main_arg0))
      (m' ((c.tc : Thread _ _).loc Cert.Reference2Ideal.main_arg1)) (m' ((c.tc : Thread _ _).loc Cert.Reference2Ideal.main_arg2))
      (m' ((c.tc : Thread _ _).loc Cert.Reference2Ideal.main_arg3)) (m' ((c.tc : Thread _ _).loc Cert.Reference2Ideal.main_arg4))
      = resV m c := by
  rw [e0, e1, e2, e3, e4]
  exact ref _ _ _ _ _

end Cert.Kernel2Ideal.Hand

end
-- ==== Proof.OutputEven.lean ====
module

public import proofs.«01_k».proof.Proof.Norm
public import proofs.«01_k».proof.Proof.Gen.Kernel8Ideal.Value
public import proofs.«01_k».proof.Proof.Gen.Reference8Ideal.Read

/-!
# The even layers' output projection and the next layer's norm

Two results: the residual stream after the layer, and its norm. The kernel multiplies the two attentions' outputs with their rows of
the weights in two products; the reference multiplies both at once.
-/

@[expose] public section

noncomputable section

namespace Cert.Kernel8Ideal.Hand

open Cert.Kernel8Ideal Cert.Kernel8Ideal.Gen Idealize.ShloMosaic Idealize.ShloMosaic.TcCoe Idealize.SL.Sem
open Cert.Product

variable (m : (ℓ : Loc nD τ sig) → Buf (Elt Ideal) ℓ)

/-- The first attention's gates: the projection's first 1024 columns. -/
def gateA (z : (⟨2, ![32768, 2304]⟩ : Shape).Idx → EReal) : (⟨2, ![32768, 1024]⟩ : Shape).Idx → EReal :=
  fun q => z (ix2 (q 0) ⟨(q 1).val, have h : (q 1).val < 1024 := (q 1).isLt; by omega⟩)

/-- The second attention's gates: the 512 columns after those. -/
def gateB (z : (⟨2, ![32768, 2304]⟩ : Shape).Idx → EReal) : (⟨2, ![32768, 512]⟩ : Shape).Idx → EReal :=
  fun q => z (ix2 (q 0) ⟨1024 + (q 1).val, have h : (q 1).val < 512 := (q 1).isLt; by omega⟩)

/-- The output weights' rows for the first attention. -/
def rowsA (w : (⟨2, ![1536, 2048]⟩ : Shape).Idx → EReal) : (⟨2, ![1024, 2048]⟩ : Shape).Idx → EReal :=
  fun q => w (ix2 ⟨(q 0).val, have h : (q 0).val < 1024 := (q 0).isLt; by omega⟩ (q 1))

/-- The output weights' rows for the second attention. -/
def rowsB (w : (⟨2, ![1536, 2048]⟩ : Shape).Idx → EReal) : (⟨2, ![512, 2048]⟩ : Shape).Idx → EReal :=
  fun q => w (ix2 ⟨1024 + (q 0).val, have h : (q 0).val < 512 := (q 0).isLt; by omega⟩ (q 1))

/-- The stream after the layer. -/
def stream (x : (⟨2, ![32768, 2048]⟩ : Shape).Idx → EReal) (a : (⟨2, ![32768, 1024]⟩ : Shape).Idx → EReal)
    (b : (⟨2, ![32768, 512]⟩ : Shape).Idx → EReal) (z : (⟨2, ![32768, 2304]⟩ : Shape).Idx → EReal)
    (w : (⟨2, ![1536, 2048]⟩ : Shape).Idx → EReal) : (⟨2, ![32768, 2048]⟩ : Shape).Idx → EReal :=
  resid (resid x a (gateA z) (rowsA w)) b (gateB z) (rowsB w)

/-- What the first result array is shown to hold. -/
def resX (c : Dev nD) : Buf (Elt Ideal) ((c : Thread nD τ).loc main_v3_0) :=
  stream (m ((c : Thread nD τ).loc main_arg0)) (m ((c : Thread nD τ).loc main_arg1)) (m ((c : Thread nD τ).loc main_arg2))
    (m ((c : Thread nD τ).loc main_arg3)) (m ((c : Thread nD τ).loc main_arg4))

/-- What the second result array is shown to hold. -/
def resH (c : Dev nD) : Buf (Elt Ideal) ((c : Thread nD τ).loc main_v3_1) :=
  normed (M := 32768) (N := 2048) (resX m c) (fun k => m ((c : Thread nD τ).loc main_arg5) (ix1 k))
    (Ideal.ofBits FTy.f32 1157627904#32) (Ideal.ofBits FTy.f32 897988541#32)

/-- Grid point `t` takes the rows of its own block of both results, the gates' columns, and the whole of the weights. -/
theorem idx_facts : ∀ t : Fin cfg0.N, win0_8.index t (1 : Fin 2) = 0
    ∧ (win0_9.index t (0 : Fin 2) = win0_8.index t (0 : Fin 2) ∧ win0_9.index t (1 : Fin 2) = 0)
    ∧ (win0_0.index t (0 : Fin 2) = win0_8.index t (0 : Fin 2) ∧ win0_0.index t (1 : Fin 2) = 0)
    ∧ (win0_1.index t (0 : Fin 2) = win0_8.index t (0 : Fin 2) ∧ win0_1.index t (1 : Fin 2) = 0)
    ∧ (win0_2.index t (0 : Fin 2) = win0_8.index t (0 : Fin 2) ∧ win0_2.index t (1 : Fin 2) = 0)
    ∧ (win0_3.index t (0 : Fin 2) = win0_8.index t (0 : Fin 2) ∧ win0_3.index t (1 : Fin 2) = 0)
    ∧ (win0_4.index t (0 : Fin 2) = win0_8.index t (0 : Fin 2) ∧ win0_4.index t (1 : Fin 2) = 2)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0) :=
  (by decide +kernel : ∀ t : Fin grid0.N, _)

/-- The weights' rows for the first attention, as the kernel is given them. -/
theorem V_rowsA (c : Dev nD) (q : S1024x2048.Idx) : V m c main_v0 q = rowsA (m ((c : Thread nD τ).loc main_arg4)) q := by
  have h : V m c main_v0 = extractStridedSlice S1024x2048 ![0, 0] (m ((c : Thread nD τ).loc main_arg4)) slices_S1536x2048_S1024x2048_0_0 := by
    unfold V
    after_results
  rw [h]
  exact extractStridedSlice_apply _ _ _ _ _ fun a => match a with
    | ⟨0, _⟩ => by show (q 0).val = 0 + (q 0).val; omega
    | ⟨1, _⟩ => by show (q 1).val = 0 + (q 1).val; omega

/-- The weights' rows for the second attention, as the kernel is given them. -/
theorem V_rowsB (c : Dev nD) (q : S512x2048.Idx) : V m c main_v1 q = rowsB (m ((c : Thread nD τ).loc main_arg4)) q := by
  have h : V m c main_v1 = extractStridedSlice S512x2048 ![1024, 0] (m ((c : Thread nD τ).loc main_arg4)) slices_S1536x2048_S512x2048_1024_0 := by
    unfold V
    after_results
  rw [h]
  exact extractStridedSlice_apply _ _ _ _ _ fun a => match a with
    | ⟨0, _⟩ => by show 1024 + (q 0).val = 1024 + (q 0).val; omega
    | ⟨1, _⟩ => by show (q 1).val = 0 + (q 1).val; omega

/-- The norm's weights as a row. -/
theorem V_norm (c : Dev nD) (q : S1x2048.Idx) : V m c main_v2 q = m ((c : Thread nD τ).loc main_arg5) (ix1 (n0 := 2048) (q 1)) := by
  have h : V m c main_v2 = shapeCast S1x2048 (m ((c : Thread nD τ).loc main_arg5)) shapeCasts_S2048_S1x2048 := by
    unfold V
    after_results
    rfl
  rw [h]
  exact row_apply _ _ q

/-- What a grid point computes of its blocks for the first result: the same function, of 512 rows. -/
theorem blockX (v0 : Vec Ideal S512x1024 .bf16) (v1 : Vec Ideal S512x1024 .f32) (v13 : Vec Ideal S512x512 .bf16)
    (v14 : Vec Ideal S512x512 .f32) (v26 : Vec Ideal S512x2048 .f32) (v27 : Vec Ideal S1024x2048 .bf16) (v31 : Vec Ideal S512x2048 .bf16)
    (y : S512x2048.Idx) : k0_pay2 (F := Ideal) v0 v1 v13 v14 v26 v27 v31 y
      = resid (M := 512) (K := 512) (N := 2048) (resid (K := 1024) v26 v0 v1 v27) v13 v14 v31 y := by
  pointwise [k0_pay2]
  rfl

/-- What it computes for the second result, of the first. -/
theorem blockH (v34 : FVec Ideal S512x2048 .f32) (v46 : Vec Ideal S1x2048 .f32) (y : S512x2048.Idx) :
    k0_pay1 (F := Ideal) v34 v46 y = normed (M := 512) (N := 2048) v34 (fun k => v46 (ix2 0 k)) (Ideal.ofBits FTy.f32 1157627904#32)
      (Ideal.ofBits FTy.f32 897988541#32) y := by
  pointwise [k0_pay1]
  rfl

/-- The row of the arrays that row `r` of grid point `t`'s blocks is. -/
def rowOf (t : Fin cfg0.N) (r : Fin 512) : Fin 32768 := (((cfg0.win 8).blk t).view.emb (ix2 r 0)) 0

/-- What grid point `t` computes for the first result is its block of rows of the stream. -/
theorem rowsX (c : Dev nD) (t : Fin cfg0.N) (q : S512x2048.Idx) :
    k0_pay2 (F := Ideal) (iblk m c 1 t) (X0_2 m c t) (iblk m c 3 t) (X0_4 m c t) (iblk m c 0 t) (iblk m c 5 t) (iblk m c 6 t) q
      = resX m c (ix2 (rowOf t (q 0)) (q 1)) := by
  obtain ⟨o1, -, ⟨a0, a1⟩, ⟨b0, b1⟩, ⟨c0, c1⟩, ⟨d0, d1⟩, ⟨e0, e1⟩, ⟨f0, f1⟩, ⟨g0, g1⟩, -⟩ := idx_facts t
  have hx : ∀ q : S512x2048.Idx, iblk m c 0 t q = m ((c : Thread nD τ).loc main_arg0) (ix2 (rowOf t (q 0)) (q 1)) := fun q =>
    (congrFun (V_main_arg0 m c) _).trans (congrArg (m ((c : Thread nD τ).loc main_arg0)) (idx_ext (off_eq a0) (off_zero a1)))
  have ha : ∀ q : S512x1024.Idx, iblk m c 1 t q = m ((c : Thread nD τ).loc main_arg1) (ix2 (rowOf t (q 0)) (q 1)) := fun q =>
    (congrFun (V_main_arg1 m c) _).trans (congrArg (m ((c : Thread nD τ).loc main_arg1)) (idx_ext (off_eq b0) (off_zero b1)))
  have hga : ∀ q : S512x1024.Idx, X0_2 m c t q = gateA (m ((c : Thread nD τ).loc main_arg3)) (ix2 (rowOf t (q 0)) (q 1)) := fun q =>
    (dif_pos (moved0_2 t q)).trans ((congrFun (V_main_arg3 m c) _).trans
      (congrArg (m ((c : Thread nD τ).loc main_arg3)) (idx_ext (off_eq c0) (off_zero c1))))
  have hb : ∀ q : S512x512.Idx, iblk m c 3 t q = m ((c : Thread nD τ).loc main_arg2) (ix2 (rowOf t (q 0)) (q 1)) := fun q =>
    (congrFun (V_main_arg2 m c) _).trans (congrArg (m ((c : Thread nD τ).loc main_arg2)) (idx_ext (off_eq d0) (off_zero d1)))
  have hgb : ∀ q : S512x512.Idx, X0_4 m c t q = gateB (m ((c : Thread nD τ).loc main_arg3)) (ix2 (rowOf t (q 0)) (q 1)) := fun q =>
    (dif_pos (moved0_4 t q)).trans ((congrFun (V_main_arg3 m c) _).trans
      (congrArg (m ((c : Thread nD τ).loc main_arg3)) (idx_ext (off_eq e0)
        (show win0_4.index t (1 : Fin 2) * 512 + 1 * (q 1).val = 1024 + (q 1).val by rw [e1]; omega))))
  have hwa : ∀ q : S1024x2048.Idx, iblk m c 5 t q = rowsA (m ((c : Thread nD τ).loc main_arg4)) q := fun q =>
    (V_rowsA m c _).trans (congrArg (rowsA (m ((c : Thread nD τ).loc main_arg4))) (idx_ext (off_zero f0) (off_zero f1)))
  have hwb : ∀ q : S512x2048.Idx, iblk m c 6 t q = rowsB (m ((c : Thread nD τ).loc main_arg4)) q := fun q =>
    (V_rowsB m c _).trans (congrArg (rowsB (m ((c : Thread nD τ).loc main_arg4))) (idx_ext (off_zero g0) (off_zero g1)))
  rw [blockX]
  exact resid_rows (K := 512) (rowOf t) (resid_rows (K := 1024) (rowOf t) hx ha hga hwa) hb hgb hwb q

/-- The first result: each block ends as that block of the stream, and the blocks cover the array. -/
theorem finalX (c : Dev nD) : (dats m 0 c).arrAt 8 cfg0.N = resX m c := by
  refine (dats m 0 c).arrAt_eq_of_covers 8 _ (by decide +kernel) fun t hf y => ?_
  blk_simp
  rw [after0_8]
  unfold outsAt0 out0_A_8
  frame_out
  exact (rowsX m c t y).trans (congrArg (resX m c) (idx_ext rfl (off_zero (idx_facts t).1).symm))

/-- The second result: each block ends as that block of the norm, and the blocks cover the array. -/
theorem finalH (c : Dev nD) : (dats m 0 c).arrAt 9 cfg0.N = resH m c := by
  refine (dats m 0 c).arrAt_eq_of_covers 9 _ (by decide +kernel) fun t hf y => ?_
  blk_simp
  rw [after0_9]
  unfold outsAt0 out0_A_9
  frame_out
  rw [blockH]
  obtain ⟨-, ⟨o0, o1⟩, -, -, -, -, -, -, -, n0, n1⟩ := idx_facts t
  have hn : ∀ k : Fin 2048, iblk m c 7 t (ix2 0 k) = m ((c : Thread nD τ).loc main_arg5) (ix1 k) := fun k =>
    (V_norm m c _).trans (congrArg (m ((c : Thread nD τ).loc main_arg5)) (congrArg ix1
      (Fin.ext (show win0_7.index t (1 : Fin 2) * 2048 + 1 * k.val = k.val from off_zero n1))))
  refine (normed_rows (rowOf t) (rowsX m c t) hn y).trans ?_
  exact congrArg (resH m c) (idx_ext (off_eq o0.symm) (off_zero o1).symm)

open Cert.Reference8Ideal.Read in
/-- The reference's first value is the same function of its arguments. -/
theorem refX (x0 : (⟨S32768x2048, .f32⟩ : BufTy).Contents (Elt Ideal)) (x1 : (⟨S32768x1024, .bf16⟩ : BufTy).Contents (Elt Ideal))
    (x2 : (⟨S32768x512, .bf16⟩ : BufTy).Contents (Elt Ideal)) (x3 x4) :
    val_main_v11 (F := Ideal) x0 x1 x2 x3 x4 = stream x0 x1 x2 x3 x4 := by
  have ha : ∀ q, val_main_v4 (F := Ideal) x1 x3 q = gated (x1 q) (gateA x3 q) := fun q => by
    rw [val_main_v4_apply, val_main_v3_apply, val_main_v2_apply, val_main_call0_v5_apply, val_main_call0_v4_apply,
      val_main_call0_v3_apply, val_main_call0_v2_apply, val_main_call0_v1_apply, val_main_call0_v0_apply, val_main_v0_apply]
    exact (gated_host (x1 q) (x3 (idx_main_v0 q))).trans (congrArg (fun i => gated (x1 q) (x3 i)) (idx_ext rfl rfl))
  have hb : ∀ q, val_main_v7 (F := Ideal) x2 x3 q = gated (x2 q) (gateB x3 q) := fun q => by
    rw [val_main_v7_apply, val_main_v6_apply, val_main_v5_apply, val_main_call1_v5_apply, val_main_call1_v4_apply,
      val_main_call1_v3_apply, val_main_call1_v2_apply, val_main_call1_v1_apply, val_main_call1_v0_apply, val_main_v1_apply]
    exact (gated_host (x2 q) (x3 (idx_main_v1 q))).trans (congrArg (fun i => gated (x2 q) (x3 i)) (idx_ext rfl rfl))
  have h8a : ∀ q : (⟨2, ![32768, 1024]⟩ : Shape).Idx, val_main_v8 (F := Ideal) x1 x2 x3 (ix2 (q 0) (Fin.castAdd 512 (q 1) : Fin 1536))
      = gated (x1 q) (gateA x3 q) := fun q => by
    unfold val_main_v8
    exact (concatenate_pair_apply_left (t := Cert.Reference8Ideal.S32768x1536) 1 (val_main_v4 (F := Ideal) x1 x3) (val_main_v7 (F := Ideal) x2 x3)
      Cert.Reference8Ideal.Gen.concatenates_S32768x1024_S32768x512_S32768x1536_d1 (ix2 (q 0) (Fin.castAdd 512 (q 1) : Fin 1536)) rfl q fun b => match b with | ⟨0, _⟩ => rfl | ⟨1, _⟩ => rfl).trans (ha q)
  have h8b : ∀ q : (⟨2, ![32768, 512]⟩ : Shape).Idx, val_main_v8 (F := Ideal) x1 x2 x3 (ix2 (q 0) (Fin.natAdd 1024 (q 1) : Fin 1536))
      = gated (x2 q) (gateB x3 q) := fun q => by
    unfold val_main_v8
    exact (concatenate_pair_apply_right (t := Cert.Reference8Ideal.S32768x1536) 1 (val_main_v4 (F := Ideal) x1 x3) (val_main_v7 (F := Ideal) x2 x3)
      Cert.Reference8Ideal.Gen.concatenates_S32768x1024_S32768x512_S32768x1536_d1 (ix2 (q 0) (Fin.natAdd 1024 (q 1) : Fin 1536)) rfl rfl q (fun b hb => match b with | ⟨0, _⟩ => rfl | ⟨1, _⟩ => absurd rfl hb)
      (Nat.add_comm _ _)).trans (hb q)
  funext y
  rw [val_main_v11_apply, val_main_v10_apply]
  show x0 y + _ = (x0 y + prod (M := 32768) (K := 1024) (N := 2048) (fun q => gated (x1 q) (gateA x3 q)) (rowsA x4) y)
    + prod (M := 32768) (K := 512) (N := 2048) (fun q => gated (x2 q) (gateB x3 q)) (rowsB x4) y
  rw [add_assoc]
  refine congrArg (x0 y + ·) ?_
  refine (sum_eq_prod (M := 32768) (K := 1024 + 512) (N := 2048) (a := val_main_v8 (F := Ideal) x1 x2 x3) (w := x4) (y := y)
    (l := lidx_main_v10 y) (r := ridx_main_v10 y) (fun _ => rfl) (fun _ => rfl) (fun _ => rfl) fun _ => rfl).trans ?_
  refine (prod_add (K := 1024) (L := 512) (a := val_main_v8 (F := Ideal) x1 x2 x3) (w := x4) y).trans (congrArg₂ (· + ·) ?_ ?_)
  · exact congrFun (congrArg (fun a => prod a (rowsA x4)) (funext h8a)) y
  · exact congrFun (congrArg (fun a => prod a (rowsB x4)) (funext h8b)) y

open Cert.Reference8Ideal.Read in
/-- The reference's second value is the norm of the first. -/
theorem refH (x0 : (⟨S32768x2048, .f32⟩ : BufTy).Contents (Elt Ideal)) (x1 : (⟨S32768x1024, .bf16⟩ : BufTy).Contents (Elt Ideal))
    (x2 : (⟨S32768x512, .bf16⟩ : BufTy).Contents (Elt Ideal)) (x3 x4 x5) :
    val_main_v25 (F := Ideal) x0 x1 x2 x3 x4 x5 = normed (M := 32768) (N := 2048) (stream x0 x1 x2 x3 x4) (fun k => x5 (ix1 k))
      (Ideal.ofBits FTy.f32 1157627904#32) (Ideal.ofBits FTy.f32 897988541#32) := by
  funext y
  rw [val_main_v25_apply, val_main_v24_apply, val_main_v23_apply, val_main_v22_apply, val_main_v21_apply, val_main_v20_apply,
    val_main_v19_apply, val_main_v18_apply, val_main_v17_apply, val_main_v16_apply, val_main_v15_apply, val_main_v14_apply,
    val_main_v13_apply]
  simp only [val_main_v12_apply, refX]
  have h0 : val_main_cst (F := Ideal) (Shape.Idx.first Cert.Reference8Ideal.Gen.h_S_) = 0 := Ideal.ofBits_zero_f32
  rw [h0, zero_add]
  exact normed_at (x := stream x0 x1 x2 x3 x4) (n := fun k => x5 (ix1 k)) (y := y)
    (fun k => idx_main_v13 (idx_main_v14 (idx_main_v20 y)) k) (fun _ => rfl) (fun _ => rfl)
    (congrArg x5 (funext fun a => match a with | ⟨0, _⟩ => rfl))

section

variable (m' : (ℓ : Loc Cert.Reference8Ideal.nD Cert.Reference8Ideal.τ Cert.Reference8Ideal.sig) → Buf (Elt Ideal) ℓ)
  (c : Dev nD) (e0 : m' ((c.tc : Thread _ _).loc Cert.Reference8Ideal.main_arg0) = m ((c : Thread nD τ).loc main_arg0))
  (e1 : m' ((c.tc : Thread _ _).loc Cert.Reference8Ideal.main_arg1) = m ((c : Thread nD τ).loc main_arg1))
  (e2 : m' ((c.tc : Thread _ _).loc Cert.Reference8Ideal.main_arg2) = m ((c : Thread nD τ).loc main_arg2))
  (e3 : m' ((c.tc : Thread _ _).loc Cert.Reference8Ideal.main_arg3) = m ((c : Thread nD τ).loc main_arg3))
  (e4 : m' ((c.tc : Thread _ _).loc Cert.Reference8Ideal.main_arg4) = m ((c : Thread nD τ).loc main_arg4))

include e0 e1 e2 e3 e4

/-- From arguments that agree both programs end with the same stream. -/
theorem valueX : Cert.Reference8Ideal.Read.val_main_v11 (F := Ideal) (m' ((c.tc : Thread _ _).loc Cert.Reference8Ideal.main_arg0))
      (m' ((c.tc : Thread _ _).loc Cert.Reference8Ideal.main_arg1)) (m' ((c.tc : Thread _ _).loc Cert.Reference8Ideal.main_arg2))
      (m' ((c.tc : Thread _ _).loc Cert.Reference8Ideal.main_arg3)) (m' ((c.tc : Thread _ _).loc Cert.Reference8Ideal.main_arg4))
      = resX m c := by
  rw [e0, e1, e2, e3, e4]
  exact refX _ _ _ _ _

/-- … and with the same norm of it. -/
theorem valueH (e5 : m' ((c.tc : Thread _ _).loc Cert.Reference8Ideal.main_arg5) = m ((c : Thread nD τ).loc main_arg5)) :
    Cert.Reference8Ideal.Read.val_main_v25 (F := Ideal) (m' ((c.tc : Thread _ _).loc Cert.Reference8Ideal.main_arg0))
      (m' ((c.tc : Thread _ _).loc Cert.Reference8Ideal.main_arg1)) (m' ((c.tc : Thread _ _).loc Cert.Reference8Ideal.main_arg2))
      (m' ((c.tc : Thread _ _).loc Cert.Reference8Ideal.main_arg3)) (m' ((c.tc : Thread _ _).loc Cert.Reference8Ideal.main_arg4))
      (m' ((c.tc : Thread _ _).loc Cert.Reference8Ideal.main_arg5)) = resH m c := by
  rw [e0, e1, e2, e3, e4, e5]
  exact refH _ _ _ _ _ _

end

end Cert.Kernel8Ideal.Hand

end
-- ==== Proof.Rope.lean ====
module

public import proofs.«01_k».proof.Proof.Norm
public import Idealize.ShloMosaic.Lib.KernelVsHost

/-!
# The rotary embedding of the second half of each head's features

A head has 256 columns. The first 128 stay; each of the others becomes itself times a cosine plus the column 64 further on,
around the 128, times a sine.
-/

@[expose] public section

noncomputable section

namespace Cert.Product

open Idealize.ShloMosaic

/-- Column `j`, or the one 64 further on around its 128 columns. -/
def turn {N : ℕ} (h : 128 ∣ N) (j : Fin N) : Fin N :=
  ⟨j.val / 128 * 128 + (j.val + 64) % 128, by obtain ⟨k, rfl⟩ := h; have := j.isLt; omega⟩

/-- A column's place in its 128 columns. -/
def lane {N : ℕ} (j : Fin N) : Fin 128 := ⟨j.val % 128, Nat.mod_lt _ (by decide)⟩

/-- The embedding: `c` and `s` hold the cosines and the sines for each row. -/
def roped {M N : ℕ} (h : 128 ∣ N) (p : (⟨2, ![M, N]⟩ : Shape).Idx → EReal) (c s : (⟨2, ![M, 128]⟩ : Shape).Idx → EReal) :
    (⟨2, ![M, N]⟩ : Shape).Idx → EReal :=
  fun y => if (y 1).val % 256 < 128 then p y
    else p y * c (ix2 (y 0) (lane (y 1))) + p (ix2 (y 0) (turn h (y 1))) * s (ix2 (y 0) (lane (y 1)))

/-- An element of 128 columns is the matrix's element that many columns on. -/
theorem slice_at {M N o : ℕ} (p : (⟨2, ![M, N]⟩ : Shape).Idx → EReal) (hs : (⟨2, ![M, N]⟩ : Shape).Slices ![0, o] ⟨2, ![M, 128]⟩)
    (x : (⟨2, ![M, 128]⟩ : Shape).Idx) (y : (⟨2, ![M, N]⟩ : Shape).Idx) (h0 : (y 0).val = 0 + (x 0).val)
    (h1 : (y 1).val = o + (x 1).val) : extractStridedSlice ⟨2, ![M, 128]⟩ ![0, o] p hs x = p y :=
  extractStridedSlice_apply (s := ⟨2, ![M, N]⟩) (t := ⟨2, ![M, 128]⟩) ![0, o] p hs x y
    (fun a => match a with | ⟨0, _⟩ => h0 | ⟨1, _⟩ => h1)

/-- 128 columns from the start of a head stay. -/
theorem roped_plain {M N o : ℕ} (h : 128 ∣ N) (p : (⟨2, ![M, N]⟩ : Shape).Idx → EReal) (c s : (⟨2, ![M, 128]⟩ : Shape).Idx → EReal)
    (hs : (⟨2, ![M, N]⟩ : Shape).Slices ![0, o] ⟨2, ![M, 128]⟩) (x : (⟨2, ![M, 128]⟩ : Shape).Idx) (y : (⟨2, ![M, N]⟩ : Shape).Idx)
    (h0 : (y 0).val = 0 + (x 0).val) (h1 : (y 1).val = o + (x 1).val) (ho : o % 256 = 0) :
    extractStridedSlice ⟨2, ![M, 128]⟩ ![0, o] p hs x = roped h p c s y := by
  have hx : (x 1).val < 128 := (x 1).isLt
  rw [slice_at p hs x y h0 h1]
  unfold roped
  rw [if_pos (by omega)]

/-- 128 columns from the middle of a head are turned. -/
theorem roped_turned {M N o : ℕ} (h : 128 ∣ N) (p : (⟨2, ![M, N]⟩ : Shape).Idx → EReal) (c s : (⟨2, ![M, 128]⟩ : Shape).Idx → EReal)
    (hs : (⟨2, ![M, N]⟩ : Shape).Slices ![0, o] ⟨2, ![M, 128]⟩) (hr : (⟨2, ![M, 128]⟩ : Shape).Rotates 1 none)
    (x : (⟨2, ![M, 128]⟩ : Shape).Idx) (y : (⟨2, ![M, N]⟩ : Shape).Idx)
    (h0 : (y 0).val = 0 + (x 0).val) (h1 : (y 1).val = o + (x 1).val) (ho : o % 256 = 128) :
    extractStridedSlice ⟨2, ![M, 128]⟩ ![0, o] p hs x * c x
      + dynamicRotate 1 64#32 none (extractStridedSlice ⟨2, ![M, 128]⟩ ![0, o] p hs) hr x * s x = roped h p c s y := by
  have hx : (x 1).val < 128 := (x 1).isLt
  have hl : x = ix2 (y 0) (lane (y 1)) := idx_ext (by show _ = (y 0).val; omega) (by show _ = (y 1).val % 128; omega)
  have ht : ((x 1).val + 64) % 128 < 128 := Nat.mod_lt _ (by decide)
  have er : dynamicRotate 1 64#32 none (extractStridedSlice ⟨2, ![M, 128]⟩ ![0, o] p hs) hr x
      = extractStridedSlice ⟨2, ![M, 128]⟩ ![0, o] p hs (ix2 (x 0) ⟨((x 1).val + 64) % 128, ht⟩) :=
    dynamicRotate_apply (s := ⟨2, ![M, 128]⟩) 1 64#32 _ hr x _ (fun b => match b with
      | ⟨0, _⟩ => rfl
      | ⟨1, _⟩ => (show ((x 1).val + 64) % 128 = ((x 1).val + 128 - 64 % 128) % 128 by omega))
  rw [er, slice_at p hs x y h0 h1, slice_at p hs (ix2 (x 0) ⟨((x 1).val + 64) % 128, ht⟩) (ix2 (y 0) (turn h (y 1))) h0
    (show (y 1).val / 128 * 128 + ((y 1).val + 64) % 128 = o + ((x 1).val + 64) % 128 by omega)]
  unfold roped
  rw [if_neg (by omega)]
  exact congrArg₂ (· + ·) (congrArg (p y * ·) (congrArg c hl)) (congrArg (p _ * ·) (congrArg s hl))

/-- A block of whole heads is computed from the same rows and columns. -/
theorem roped_block {M N M' N' o : ℕ} (h : 128 ∣ N) (h' : 128 ∣ N') {p : (⟨2, ![M, N]⟩ : Shape).Idx → EReal}
    {c s : (⟨2, ![M, 128]⟩ : Shape).Idx → EReal} {p' : (⟨2, ![M', N']⟩ : Shape).Idx → EReal}
    {c' s' : (⟨2, ![M', 128]⟩ : Shape).Idx → EReal} (ρ : Fin M' → Fin M) (κ : Fin N' → Fin N) (hκ : ∀ j, (κ j).val = o + j.val)
    (ho : o % 256 = 0) (hp : ∀ q, p' q = p (ix2 (ρ (q 0)) (κ (q 1)))) (hc : ∀ q, c' q = c (ix2 (ρ (q 0)) (q 1)))
    (hs : ∀ q, s' q = s (ix2 (ρ (q 0)) (q 1))) (y : (⟨2, ![M', N']⟩ : Shape).Idx) :
    roped h' p' c' s' y = roped h p c s (ix2 (ρ (y 0)) (κ (y 1))) := by
  have hk := hκ (y 1)
  have hl : lane (κ (y 1)) = lane (y 1) := Fin.ext (by show (κ (y 1)).val % 128 = (y 1).val % 128; omega)
  have ht : κ (turn h' (y 1)) = turn h (κ (y 1)) := Fin.ext (by
    rw [hκ]
    show o + ((y 1).val / 128 * 128 + ((y 1).val + 64) % 128) = (κ (y 1)).val / 128 * 128 + ((κ (y 1)).val + 64) % 128
    omega)
  show (if (y 1).val % 256 < 128 then p' y else _) = if (κ (y 1)).val % 256 < 128 then _ else
    p (ix2 (ρ (y 0)) (κ (y 1))) * c (ix2 (ρ (y 0)) (lane (κ (y 1))))
      + p (ix2 (ρ (y 0)) (turn h (κ (y 1)))) * s (ix2 (ρ (y 0)) (lane (κ (y 1))))
  rw [hp, hp, hc, hs, hl, ← ht, show (κ (y 1)).val % 256 = (y 1).val % 256 by omega]
  rfl

end Cert.Product

end
-- ==== Proof.Query.lean ====
module

public import proofs.«01_k».proof.Proof.Rope
public import Idealize.ShloMosaic.Lib.Pipeline.ReadBack
public import proofs.«01_k».proof.Proof.Gen.Kernel9Ideal.Value
public import proofs.«01_k».proof.Proof.Gen.Reference9Ideal.Read

/-!
# The odd layers' queries: the query latents' norm, its product, and the rotary embedding
-/

@[expose] public section

noncomputable section

namespace Cert.Kernel9Ideal.Hand

open Cert.Kernel9Ideal Cert.Kernel9Ideal.Gen Idealize.ShloMosaic Idealize.ShloMosaic.TcCoe Idealize.SL.Sem
open Cert.Product

variable (m : (ℓ : Loc nD τ sig) → Buf (Elt Ideal) ℓ)

/-- The normed query latents: the first 1536 columns of the layer's projection. -/
def latents (z : (⟨2, ![32768, 4096]⟩ : Shape).Idx → EReal) (n : (⟨1, ![1536]⟩ : Shape).Idx → EReal) :
    (⟨2, ![32768, 1536]⟩ : Shape).Idx → EReal :=
  normed (cols 0 1536 (by decide) z) (fun k => n (ix1 k)) (Ideal.ofBits FTy.f32 0x44C00000#32) (Ideal.ofBits FTy.f32 0x358637BD#32)

/-- The cosines or the sines of one sequence's 4096 positions, for the rows of all the sequences. -/
def everyRow (x : (⟨2, ![4096, 128]⟩ : Shape).Idx → EReal) : (⟨2, ![32768, 128]⟩ : Shape).Idx → EReal :=
  fun q => x (ix2 ⟨(q 0).val % 4096, Nat.mod_lt _ (by decide)⟩ (q 1))

/-- The queries of given latents, norm weights, projection weights, cosines and sines. -/
def queries (z : (⟨2, ![32768, 4096]⟩ : Shape).Idx → EReal) (n : (⟨1, ![1536]⟩ : Shape).Idx → EReal)
    (w : (⟨2, ![1536, 4096]⟩ : Shape).Idx → EReal) (c s : (⟨2, ![4096, 128]⟩ : Shape).Idx → EReal) :
    (⟨2, ![32768, 4096]⟩ : Shape).Idx → EReal :=
  roped (by decide) (prod (latents z n) w) (everyRow c) (everyRow s)

/-- What the result array is shown to hold. -/
def resV (c : Dev nD) : Buf (Elt Ideal) ((c : Thread nD τ).loc main_v1) :=
  queries (m ((c : Thread nD τ).loc main_arg0)) (m ((c : Thread nD τ).loc main_arg1)) (m ((c : Thread nD τ).loc main_arg2))
    (m ((c : Thread nD τ).loc main_arg3)) (m ((c : Thread nD τ).loc main_arg4))

/-- Grid point `t` takes the rows of its own block of the result, the weights' columns of that block, and the cosines and sines
of the rows' positions. -/
theorem idx_facts : ∀ t : Fin cfg0.N,
    (win0_0.index t (0 : Fin 2) = t.val / 2 ∧ win0_0.index t (1 : Fin 2) = 0)
    ∧ win0_1.index t (1 : Fin 2) = 0
    ∧ (win0_2.index t (0 : Fin 2) = 0 ∧ win0_2.index t (1 : Fin 2) = win0_5.index t (1 : Fin 2))
    ∧ (win0_3.index t (0 : Fin 2) = t.val / 2 % 4 ∧ win0_3.index t (1 : Fin 2) = 0)
    ∧ (win0_4.index t (0 : Fin 2) = t.val / 2 % 4 ∧ win0_4.index t (1 : Fin 2) = 0)
    ∧ win0_5.index t (0 : Fin 2) = t.val / 2 ∧ win0_5.index t (1 : Fin 2) = t.val % 2 :=
  (by decide +kernel : ∀ t : Fin grid0.N, _)

/-- The norm's weights as a row. -/
theorem V_norm (c : Dev nD) (q : S1x1536.Idx) : V m c main_v0 q = m ((c : Thread nD τ).loc main_arg1) (ix1 (n0 := 1536) (q 1)) := by
  have h : V m c main_v0 = shapeCast S1x1536 (m ((c : Thread nD τ).loc main_arg1)) shapeCasts_S1536_S1x1536 := by
    unfold V
    after_results
    rfl
  rw [h]
  exact row_apply _ _ q

/-- The row of the array that row `r` of grid point `t`'s block is. -/
def rowOf (t : Fin cfg0.N) (r : Fin 1024) : Fin 32768 :=
  ⟨t.val / 2 * 1024 + 1 * r.val, by have h : t.val < 64 := lt_of_lt_of_eq t.isLt N_0; have := r.isLt; omega⟩

/-- The column of the array that column `j` of grid point `t`'s block is. -/
def colOf (t : Fin cfg0.N) (j : Fin 2048) : Fin 4096 :=
  ⟨t.val % 2 * 2048 + j.val, by have := j.isLt; omega⟩

/-- What a grid point computes of its rows and of the norm's weights. -/
theorem block (v88 : Vec Ideal S1024x1536 .f32) (v99 : Vec Ideal S1x1536 .f32) (y : S1024x1536.Idx) :
    k0_pay5 (F := Ideal) v88 v99 y = normed (M := 1024) (N := 1536) v88 (fun k => v99 (ix2 0 k)) (Ideal.ofBits FTy.f32 0x44C00000#32)
      (Ideal.ofBits FTy.f32 0x358637BD#32) y := by
  pointwise [k0_pay5]
  rfl

/-- The norm of a grid point's own rows. -/
theorem own (c : Dev nD) (t : Fin cfg0.N) (q : S1024x1536.Idx) : k0_pay5 (F := Ideal) (X0_0 m c t) (iblk m c 1 t) q
    = latents (m ((c : Thread nD τ).loc main_arg0)) (m ((c : Thread nD τ).loc main_arg1)) (ix2 (rowOf t (q 0)) (q 1)) := by
  obtain ⟨⟨a0, a1⟩, b1, -⟩ := idx_facts t
  have hz : ∀ q : S1024x1536.Idx, X0_0 m c t q = cols (N := 4096) 0 1536 (by decide) (m ((c : Thread nD τ).loc main_arg0)) (ix2 (rowOf t (q 0)) (q 1)) := fun q =>
    (dif_pos (moved0_0 t q)).trans ((congrFun (V_main_arg0 m c) _).trans (congrArg (m ((c : Thread nD τ).loc main_arg0)) (idx_ext (off_eq a0)
      (show win0_0.index t (1 : Fin 2) * 1536 + 1 * (q 1).val = 0 + (q 1).val by rw [a1]; omega))))
  have hn : ∀ k : Fin 1536, iblk m c 1 t (ix2 0 k) = m ((c : Thread nD τ).loc main_arg1) (ix1 k) := fun k =>
    (V_norm m c _).trans (congrArg (m ((c : Thread nD τ).loc main_arg1)) (congrArg ix1 (Fin.ext
      (show win0_1.index t (1 : Fin 2) * 1536 + 1 * k.val = k.val from off_zero b1))))
  exact (block _ _ q).trans (normed_rows (rowOf t) hz hn q)

/-- After an even grid point the scratch holds the norm of its rows. -/
theorem kept (c : Dev nD) (t : Fin cfg0.N) (h0 : t.val % 2 = 0) :
    (outsAt0 m c t.val t.isLt).2 = k0_pay5 (F := Ideal) (X0_0 m c t) (iblk m c 1 t) := by
  rw [outsAt0_A m c t h0]
  unfold sout0_A_0
  frame_out

/-- The product of a block's rows with a block's columns. -/
theorem product (v3 : Vec Ideal S1024x1536 .bf16) (v4 : Vec Ideal S1536x2048 .bf16) :
    prod (M := 1024) (K := 1536) (N := 2048) v3 v4 = k0_pay6 (F := Ideal) v3 v4 := by
  funext y
  pointwise [k0_pay6]
  rfl

/-- What an even grid point stores. -/
theorem storedA (c : Dev nD) (t : Fin cfg0.N) (h0 : t.val % 2 = 0) (y : S1024x2048.Idx) :
    (outsAt0 m c t.val t.isLt).1 y = roped (M := 1024) (N := 2048) (by decide)
      (prod (M := 1024) (K := 1536) (N := 2048) (k0_pay5 (F := Ideal) (X0_0 m c t) (iblk m c 1 t)) (iblk m c 2 t)) (iblk m c 3 t) (iblk m c 4 t) y := by
  rw [outsAt0_A m c t h0]
  unfold out0_A_5
  frame_out
  rw [product]
  canon_tiles x h
  iterate 8
    · exact roped_turned _ _ _ _ _ _ x y (h0.trans (Nat.zero_add _).symm) (by omega) rfl
    · exact roped_plain (M := 1024) (N := 2048) _ (k0_pay6 (F := Ideal) (k0_pay5 (F := Ideal) (X0_0 m c t) (iblk m c 1 t)) (iblk m c 2 t)) (iblk m c 3 t) (iblk m c 4 t) (by decide) x y (h0.trans (Nat.zero_add _).symm) (by omega) rfl

/-- What an odd grid point stores. -/
theorem storedB (c : Dev nD) (t : Fin cfg0.N) (h0 : ¬t.val % 2 = 0) (y : S1024x2048.Idx) :
    (outsAt0 m c t.val t.isLt).1 y = roped (M := 1024) (N := 2048) (by decide)
      (prod (M := 1024) (K := 1536) (N := 2048) (outsAt0 m c (t.val - 1) (lt_of_le_of_lt (Nat.sub_le _ _) t.isLt)).2 (iblk m c 2 t)) (iblk m c 3 t) (iblk m c 4 t) y := by
  rw [outsAt0_B m c t h0]
  unfold out0_B_5
  frame_out
  simp only [read_unread_whole]
  rw [product]
  canon_tiles x h
  iterate 8
    · exact roped_turned _ _ _ _ _ _ x y (h0.trans (Nat.zero_add _).symm) (by omega) rfl
    · exact roped_plain (M := 1024) (N := 2048) _ (k0_pay6 (F := Ideal) (outsAt0 m c (t.val - 1) (lt_of_le_of_lt (Nat.sub_le _ _) t.isLt)).2 (iblk m c 2 t)) (iblk m c 3 t) (iblk m c 4 t) (by decide) x y (h0.trans (Nat.zero_add _).symm) (by omega) rfl

/-- An odd grid point finds the norm of its rows in the scratch: the point before it has the same rows. -/
theorem found (c : Dev nD) (t : Fin cfg0.N) (h0 : ¬t.val % 2 = 0) (q : S1024x1536.Idx) :
    (outsAt0 m c (t.val - 1) (lt_of_le_of_lt (Nat.sub_le _ _) t.isLt)).2 q
      = latents (m ((c : Thread nD τ).loc main_arg0)) (m ((c : Thread nD τ).loc main_arg1)) (ix2 (rowOf t (q 0)) (q 1)) := by
  have e := kept m c ⟨t.val - 1, lt_of_le_of_lt (Nat.sub_le _ _) t.isLt⟩ (by show (t.val - 1) % 2 = 0; omega)
  refine (congrFun e q).trans ((own m c _ q).trans (congrArg (latents _ _) (idx_ext ?_ rfl)))
  show (t.val - 1) / 2 * 1024 + 1 * (q 0).val = t.val / 2 * 1024 + 1 * (q 0).val
  rw [show (t.val - 1) / 2 = t.val / 2 by omega]

/-- A grid point's block of the embedded product, from the norm of its rows. -/
theorem embedded (c : Dev nD) (t : Fin cfg0.N) (a : S1024x1536.Idx → EReal)
    (ha : ∀ q : S1024x1536.Idx, a q = latents (m ((c : Thread nD τ).loc main_arg0)) (m ((c : Thread nD τ).loc main_arg1)) (ix2 (rowOf t (q 0)) (q 1)))
    (y : S1024x2048.Idx) : roped (M := 1024) (N := 2048) (by decide) (prod (M := 1024) (K := 1536) (N := 2048) a (iblk m c 2 t))
      (iblk m c 3 t) (iblk m c 4 t) y = resV m c (ix2 (rowOf t (y 0)) (colOf t (y 1))) := by
  obtain ⟨-, -, ⟨c0, c1⟩, ⟨d0, d1⟩, ⟨e0, e1⟩, -, f1⟩ := idx_facts t
  have hr : ∀ r : Fin 1024, t.val / 2 % 4 * 1024 + 1 * r.val = (t.val / 2 * 1024 + 1 * r.val) % 4096 := fun r => by
    have := r.isLt
    omega
  refine roped_block (M := 32768) (N := 4096) (M' := 1024) (N' := 2048) (o := t.val % 2 * 2048) _ _ (rowOf t) (colOf t) (fun _ => rfl) (by omega) (fun q => ?_)
    (fun q => ?_) (fun q => ?_) y
  · exact prod_block (fun q => ix2 (rowOf t (q 0)) (q 1)) ((cfg0.win 2).blk t).view.emb ha (fun q => congrFun (V_main_arg2 m c) _)
      (fun _ => rfl) (fun _ => rfl) (fun _ => off_zero c0) (fun _ => by
        show win0_2.index t (1 : Fin 2) * 2048 + 1 * (q 1).val = t.val % 2 * 2048 + (q 1).val
        rw [c1, f1]; omega)
  · exact (congrFun (V_main_arg3 m c) _).trans (congrArg (m ((c : Thread nD τ).loc main_arg3)) (idx_ext
      ((off_eq d0).trans (hr (q 0))) (off_zero d1)))
  · exact (congrFun (V_main_arg4 m c) _).trans (congrArg (m ((c : Thread nD τ).loc main_arg4)) (idx_ext
      ((off_eq e0).trans (hr (q 0))) (off_zero e1)))

/-- Each block of the result array ends as that block of the result, and the blocks cover the array. -/
theorem final (c : Dev nD) : (dats m 0 c).arrAt 5 cfg0.N = resV m c := by
  refine (dats m 0 c).arrAt_eq_of_covers 5 _ (by decide +kernel) fun t hf y => ?_
  blk_simp
  rw [after0_5]
  obtain ⟨-, -, -, -, -, f0, f1⟩ := idx_facts t
  have hy : ix2 (rowOf t (y 0)) (colOf t (y 1)) = ((cfg0.win 5).blk t).view.emb y := idx_ext (off_eq f0.symm)
    (show t.val % 2 * 2048 + (y 1).val = win0_5.index t (1 : Fin 2) * 2048 + 1 * (y 1).val by rw [f1]; omega)
  refine Eq.trans ?_ (congrArg (resV m c) hy)
  by_cases h0 : t.val % 2 = 0
  · exact (storedA m c t h0 y).trans (embedded m c t _ (own m c t) y)
  · exact (storedB m c t h0 y).trans (embedded m c t _ (found m c t h0) y)

open Cert.Reference9Ideal.Read in
/-- The reference's normed latents. -/
theorem refLatents (x0 : (⟨S32768x4096, .f32⟩ : BufTy).Contents (Elt Ideal)) (x1) (q) :
    val_main_v14 (F := Ideal) x0 x1 q = latents x0 x1 q := by
  have hz : ∀ q, val_main_v0 (F := Ideal) x0 q = cols (N := 4096) 0 1536 (by decide) x0 q := fun q =>
    (val_main_v0_apply x0 q).trans (congrArg x0 (idx_ext rfl (Nat.zero_add _).symm))
  rw [val_main_v14_apply, val_main_v13_apply, val_main_v12_apply, val_main_v11_apply, val_main_v10_apply, val_main_v9_apply,
    val_main_v8_apply, val_main_v7_apply, val_main_v6_apply, val_main_v5_apply, val_main_v4_apply, val_main_v3_apply,
    val_main_v2_apply]
  simp only [val_main_v1_apply, hz]
  have h0 : val_main_cst (F := Ideal) (Shape.Idx.first Cert.Reference9Ideal.Gen.h_S_) = 0 := Ideal.ofBits_zero_f32
  rw [h0, zero_add (M := EReal)]
  exact normed_at (x := cols (N := 4096) 0 1536 (by decide) x0) (n := fun k => x1 (ix1 k)) (y := q)
    (fun k => idx_main_v2 (idx_main_v3 (idx_main_v9 q)) k) (fun _ => rfl) (fun _ => rfl)
    (congrArg x1 (funext fun a => match a with | ⟨0, _⟩ => rfl))

open Cert.Reference9Ideal.Read in
/-- The reference's product of the latents. -/
theorem refProduct (x0 : (⟨S32768x4096, .f32⟩ : BufTy).Contents (Elt Ideal)) (x1) (x2 : (⟨S1536x4096, .bf16⟩ : BufTy).Contents (Elt Ideal)) (y) :
    val_main_v15 (F := Ideal) x0 x1 x2 y = prod (M := 32768) (K := 1536) (N := 4096) (latents x0 x1) x2 y := by
  rw [val_main_v15_apply]
  rw [show val_main_v14 (F := Ideal) _ _ = _ from funext (refLatents _ _)]
  exact sum_eq_prod (M := 32768) (K := 1536) (N := 4096) (a := latents x0 x1) (w := x2) (y := y) (l := lidx_main_v15 y)
    (r := ridx_main_v15 y) (fun _ => rfl) (fun _ => rfl) (fun _ => rfl) fun _ => rfl

/-- An index of the heads' turned features. -/
abbrev Ix : Type := (⟨4, ![8, 4096, 16, 128]⟩ : Shape).Idx

open Cert.Reference9Ideal.Read in
/-- The reference's product at a head's turned features. -/
theorem refTurned (x0 : (⟨S32768x4096, .f32⟩ : BufTy).Contents (Elt Ideal)) (x1) (x2 : (⟨S1536x4096, .bf16⟩ : BufTy).Contents (Elt Ideal))
    (i : Ix) (y : (⟨2, ![32768, 4096]⟩ : Shape).Idx) (h0 : (y 0).val = (i 0).val * 4096 + (i 1).val)
    (h1 : (y 1).val = (i 2).val * 256 + (128 + (i 3).val)) :
    val_main_v18 (F := Ideal) x0 x1 x2 i = prod (M := 32768) (K := 1536) (N := 4096) (latents x0 x1) x2 y := by
  have b3 : (i 3).val < 128 := (i 3).isLt
  have b2 : (i 2).val < 16 := (i 2).isLt
  rw [val_main_v18_apply, val_main_v16_apply]
  refine (refProduct x0 x1 x2 _).trans (congrArg (prod (latents x0 x1) x2) (idx_ext ?_ ?_))
  · show ((((i 0).val * 4096 + (i 1).val) * 16 + (i 2).val) * 256 + (128 + (i 3).val)) / 4096 = (y 0).val
    omega
  · show ((((i 0).val * 4096 + (i 1).val) * 16 + (i 2).val) * 256 + (128 + (i 3).val)) % 4096 = (y 1).val
    omega

open Cert.Reference9Ideal.Read in
/-- The reference's halves exchanged: the feature 64 further on, around the 128. -/
theorem refExchanged (x0 : (⟨S32768x4096, .f32⟩ : BufTy).Contents (Elt Ideal)) (x1) (x2 : (⟨S1536x4096, .bf16⟩ : BufTy).Contents (Elt Ideal))
    (i : Ix) (y : (⟨2, ![32768, 4096]⟩ : Shape).Idx) (h0 : (y 0).val = (i 0).val * 4096 + (i 1).val)
    (h1 : (y 1).val = (i 2).val * 256 + (128 + ((i 3).val + 64) % 128)) :
    val_main_v21 (F := Ideal) x0 x1 x2 i = prod (M := 32768) (K := 1536) (N := 4096) (latents x0 x1) x2 y := by
  have b3 : (i 3).val < 128 := (i 3).isLt
  unfold val_main_v21
  by_cases h : (i 3).val < 64
  · rw [concatenate_pair_apply_left (t := Cert.Reference9Ideal.S8x4096x16x128) 3 (val_main_v19 (F := Ideal) x0 x1 x2)
      (val_main_v20 (F := Ideal) x0 x1 x2) Cert.Reference9Ideal.Gen.concatenates_S8x4096x16x64_S8x4096x16x64_S8x4096x16x128_d3 i rfl
      (fun a => match a with | ⟨0, _⟩ => i 0 | ⟨1, _⟩ => i 1 | ⟨2, _⟩ => i 2 | ⟨3, _⟩ => ⟨(i 3).val, h⟩)
      (fun a => match a with | ⟨0, _⟩ => rfl | ⟨1, _⟩ => rfl | ⟨2, _⟩ => rfl | ⟨3, _⟩ => rfl), val_main_v19_apply]
    exact refTurned x0 x1 x2 _ y h0 (show (y 1).val = (i 2).val * 256 + (128 + (64 + (i 3).val)) by omega)
  · rw [concatenate_pair_apply_right (t := Cert.Reference9Ideal.S8x4096x16x128) 3 (val_main_v19 (F := Ideal) x0 x1 x2)
      (val_main_v20 (F := Ideal) x0 x1 x2) Cert.Reference9Ideal.Gen.concatenates_S8x4096x16x64_S8x4096x16x64_S8x4096x16x128_d3 i rfl rfl
      (fun a => match a with | ⟨0, _⟩ => i 0 | ⟨1, _⟩ => i 1 | ⟨2, _⟩ => i 2 | ⟨3, _⟩ => ⟨(i 3).val - 64, by show (i 3).val - 64 < 64; omega⟩)
      (fun a => match a with | ⟨0, _⟩ => fun _ => rfl | ⟨1, _⟩ => fun _ => rfl | ⟨2, _⟩ => fun _ => rfl | ⟨3, _⟩ => fun n => absurd rfl n)
      (show (i 3).val - 64 + 64 = (i 3).val by omega), val_main_v20_apply]
    exact refTurned x0 x1 x2 _ y h0 (show (y 1).val = (i 2).val * 256 + (128 + ((i 3).val - 64)) by omega)

open Cert.Reference9Ideal.Read in
/-- The reference's result. -/
theorem ref (x0 : (⟨S32768x4096, .f32⟩ : BufTy).Contents (Elt Ideal)) (x1) (x2 : (⟨S1536x4096, .bf16⟩ : BufTy).Contents (Elt Ideal))
    (x3 x4 : (⟨S4096x128, .f32⟩ : BufTy).Contents (Elt Ideal)) (y : (⟨2, ![32768, 4096]⟩ : Shape).Idx) :
    val_main_v33 (F := Ideal) x0 x1 x2 x3 x4 y = queries x0 x1 x2 x3 x4 y := by
  have b0 : (y 0).val < 32768 := (y 0).isLt
  have b1 : (y 1).val < 4096 := (y 1).isLt
  rw [val_main_v33_apply, val_main_v32_apply]
  show val_main_v31 (F := Ideal) x0 x1 x2 x3 x4 (idx_main_v33 y) = _
  unfold val_main_v31 queries roped
  by_cases h : (y 1).val % 256 < 128
  · rw [if_pos h, concatenate_pair_apply_left (t := Cert.Reference9Ideal.S8x4096x16x256) 3 (val_main_v17 (F := Ideal) x0 x1 x2)
      (val_main_v30 (F := Ideal) x0 x1 x2 x3 x4) Cert.Reference9Ideal.Gen.concatenates_S8x4096x16x128_S8x4096x16x128_S8x4096x16x256_d3 (idx_main_v33 y) rfl
      (fun a => match a with
        | ⟨0, _⟩ => idx_main_v33 y 0 | ⟨1, _⟩ => idx_main_v33 y 1 | ⟨2, _⟩ => idx_main_v33 y 2
        | ⟨3, _⟩ => ⟨((y 0).val * 4096 + (y 1).val) % 256, by show ((y 0).val * 4096 + (y 1).val) % 256 < 128; omega⟩)
      (fun a => match a with | ⟨0, _⟩ => rfl | ⟨1, _⟩ => rfl | ⟨2, _⟩ => rfl | ⟨3, _⟩ => rfl), val_main_v17_apply, val_main_v16_apply]
    refine (refProduct x0 x1 x2 _).trans (congrArg (prod (latents x0 x1) x2) (idx_ext ?_ ?_))
    · show (((((y 0).val * 4096 + (y 1).val) / 16777216 * 4096 + ((y 0).val * 4096 + (y 1).val) / 4096 % 4096) * 16
        + ((y 0).val * 4096 + (y 1).val) / 256 % 16) * 256 + ((y 0).val * 4096 + (y 1).val) % 256) / 4096 = (y 0).val
      omega
    · show (((((y 0).val * 4096 + (y 1).val) / 16777216 * 4096 + ((y 0).val * 4096 + (y 1).val) / 4096 % 4096) * 16
        + ((y 0).val * 4096 + (y 1).val) / 256 % 16) * 256 + ((y 0).val * 4096 + (y 1).val) % 256) % 4096 = (y 1).val
      omega
  · let i : Ix := fun a => match a with
      | ⟨0, _⟩ => idx_main_v33 y 0 | ⟨1, _⟩ => idx_main_v33 y 1 | ⟨2, _⟩ => idx_main_v33 y 2
      | ⟨3, _⟩ => ⟨((y 0).val * 4096 + (y 1).val) % 256 - 128, by show ((y 0).val * 4096 + (y 1).val) % 256 - 128 < 128; omega⟩
    have hi0 : (y 0).val = ((y 0).val * 4096 + (y 1).val) / 16777216 * 4096 + ((y 0).val * 4096 + (y 1).val) / 4096 % 4096 := by omega
    have hl : i 3 = lane (y 1) := Fin.ext (by
      show ((y 0).val * 4096 + (y 1).val) % 256 - 128 = (y 1).val % 128
      omega)
    have hs : ((y 0).val * 4096 + (y 1).val) / 4096 % 4096 = (y 0).val % 4096 := by omega
    rw [if_neg h, concatenate_pair_apply_right (t := Cert.Reference9Ideal.S8x4096x16x256) 3 (val_main_v17 (F := Ideal) x0 x1 x2)
      (val_main_v30 (F := Ideal) x0 x1 x2 x3 x4) Cert.Reference9Ideal.Gen.concatenates_S8x4096x16x128_S8x4096x16x128_S8x4096x16x256_d3 (idx_main_v33 y) rfl rfl i
      (fun a => match a with | ⟨0, _⟩ => fun _ => rfl | ⟨1, _⟩ => fun _ => rfl | ⟨2, _⟩ => fun _ => rfl | ⟨3, _⟩ => fun n => absurd rfl n)
      (show ((y 0).val * 4096 + (y 1).val) % 256 - 128 + 128 = ((y 0).val * 4096 + (y 1).val) % 256 by omega),
      val_main_v30_apply, val_main_v25_apply, val_main_v29_apply, val_main_v24_apply, val_main_v23_apply, val_main_v22_apply,
      val_main_v28_apply, val_main_v27_apply, val_main_v26_apply,
      refTurned x0 x1 x2 i y hi0 (show (y 1).val = ((y 0).val * 4096 + (y 1).val) / 256 % 16 * 256
        + (128 + (((y 0).val * 4096 + (y 1).val) % 256 - 128)) by omega),
      refExchanged x0 x1 x2 i (ix2 (y 0) (turn (by decide) (y 1))) hi0
        (show (y 1).val / 128 * 128 + ((y 1).val + 64) % 128 = ((y 0).val * 4096 + (y 1).val) / 256 % 16 * 256
          + (128 + (((y 0).val * 4096 + (y 1).val) % 256 - 128 + 64) % 128) by omega)]
    exact congrArg₂ (· + ·) (congrArg (prod (latents x0 x1) x2 y * ·) (congrArg x3 (idx_ext hs (congrArg Fin.val hl))))
      (congrArg (prod (latents x0 x1) x2 _ * ·) (congrArg x4 (idx_ext hs (congrArg Fin.val hl))))

open Cert.Reference9Ideal.Read in
/-- From arguments that agree both programs end with the same result. -/
theorem value (m' : (ℓ : Loc Cert.Reference9Ideal.nD Cert.Reference9Ideal.τ Cert.Reference9Ideal.sig) → Buf (Elt Ideal) ℓ)
    (c : Dev nD) (e0 : m' ((c.tc : Thread _ _).loc Cert.Reference9Ideal.main_arg0) = m ((c : Thread nD τ).loc main_arg0))
    (e1 : m' ((c.tc : Thread _ _).loc Cert.Reference9Ideal.main_arg1) = m ((c : Thread nD τ).loc main_arg1))
    (e2 : m' ((c.tc : Thread _ _).loc Cert.Reference9Ideal.main_arg2) = m ((c : Thread nD τ).loc main_arg2))
    (e3 : m' ((c.tc : Thread _ _).loc Cert.Reference9Ideal.main_arg3) = m ((c : Thread nD τ).loc main_arg3))
    (e4 : m' ((c.tc : Thread _ _).loc Cert.Reference9Ideal.main_arg4) = m ((c : Thread nD τ).loc main_arg4)) :
    val_main_v33 (F := Ideal) (m' ((c.tc : Thread _ _).loc Cert.Reference9Ideal.main_arg0))
      (m' ((c.tc : Thread _ _).loc Cert.Reference9Ideal.main_arg1)) (m' ((c.tc : Thread _ _).loc Cert.Reference9Ideal.main_arg2))
      (m' ((c.tc : Thread _ _).loc Cert.Reference9Ideal.main_arg3)) (m' ((c.tc : Thread _ _).loc Cert.Reference9Ideal.main_arg4))
      = resV m c := by
  rw [e0, e1, e2, e3, e4]
  exact funext (ref _ _ _ _ _)

end Cert.Kernel9Ideal.Hand

end
-- ==== Proof.Keys.lean ====
module

public import proofs.«01_k».proof.Proof.Norm
public import proofs.«01_k».proof.Proof.Gen.Kernel10Ideal.Value
public import proofs.«01_k».proof.Proof.Gen.Reference10Ideal.Read

/-!
# The odd layers' keys: the key latents' norm and its product
-/

@[expose] public section

noncomputable section

namespace Cert.Kernel10Ideal.Hand

open Cert.Kernel10Ideal Cert.Kernel10Ideal.Gen Idealize.ShloMosaic Idealize.ShloMosaic.TcCoe Idealize.SL.Sem
open Cert.Product

variable (m : (ℓ : Loc nD τ sig) → Buf (Elt Ideal) ℓ)

/-- The normed key latents: 512 columns of the layer's projection, after the 1536 of the queries' latents. -/
def latents (z : (⟨2, ![32768, 4096]⟩ : Shape).Idx → EReal) (n : (⟨1, ![512]⟩ : Shape).Idx → EReal) :
    (⟨2, ![32768, 512]⟩ : Shape).Idx → EReal :=
  normed (cols 1536 512 (by decide) z) (fun k => n (ix1 k)) (Ideal.ofBits FTy.f32 0x44000000#32) (Ideal.ofBits FTy.f32 0x358637BD#32)

/-- What the result array is shown to hold. -/
def resV (c : Dev nD) : Buf (Elt Ideal) ((c : Thread nD τ).loc main_v1) :=
  prod (M := 32768) (K := 512) (N := 2048) (latents (m ((c : Thread nD τ).loc main_arg0)) (m ((c : Thread nD τ).loc main_arg1)))
    (m ((c : Thread nD τ).loc main_arg2))

/-- Grid point `t` takes the rows of its own block of the result, the latents' columns, and the whole of the weights. -/
theorem idx_facts : ∀ t : Fin cfg0.N,
    (win0_0.index t (0 : Fin 2) = win0_3.index t (0 : Fin 2) ∧ win0_0.index t (1 : Fin 2) = 3)
    ∧ win0_1.index t (1 : Fin 2) = 0
    ∧ (win0_2.index t (0 : Fin 2) = 0 ∧ win0_2.index t (1 : Fin 2) = win0_3.index t (1 : Fin 2)) :=
  (by decide +kernel : ∀ t : Fin grid0.N, _)

/-- The norm's weights as a row. -/
theorem V_norm (c : Dev nD) (q : S1x512.Idx) : V m c main_v0 q = m ((c : Thread nD τ).loc main_arg1) (ix1 (n0 := 512) (q 1)) := by
  have h : V m c main_v0 = shapeCast S1x512 (m ((c : Thread nD τ).loc main_arg1)) shapeCasts_S512_S1x512 := by
    unfold V
    after_results
    rfl
  rw [h]
  exact row_apply _ _ q

/-- What a grid point computes of its rows and of the norm's weights. -/
theorem block (v8 : Vec Ideal S1024x512 .f32) (v19 : Vec Ideal S1x512 .f32) (y : S1024x512.Idx) :
    k0_pay1 (F := Ideal) v8 v19 y = normed (M := 1024) (N := 512) v8 (fun k => v19 (ix2 0 k)) (Ideal.ofBits FTy.f32 0x44000000#32)
      (Ideal.ofBits FTy.f32 0x358637BD#32) y := by
  pointwise [k0_pay1]
  rfl

/-- Each block of the result array ends as that block of the result, and the blocks cover the array. -/
theorem final (c : Dev nD) : (dats m 0 c).arrAt 3 cfg0.N = resV m c := by
  refine (dats m 0 c).arrAt_eq_of_covers 3 _ (by decide +kernel) fun t hf y => ?_
  blk_simp
  rw [after0_3]
  unfold outsAt0 out0_A_3
  frame_out
  obtain ⟨⟨a0, a1⟩, b1, c0, c1⟩ := idx_facts t
  let ρ : Fin 1024 → Fin 32768 := fun r => (((cfg0.win 3).blk t).view.emb (ix2 r 0)) 0
  have hz : ∀ q : S1024x512.Idx, iblk m c 0 t q = cols (N := 4096) 1536 512 (by decide) (m ((c : Thread nD τ).loc main_arg0)) (ix2 (ρ (q 0)) (q 1)) := fun q =>
    (congrFun (V_main_arg0 m c) _).trans (congrArg (m ((c : Thread nD τ).loc main_arg0)) (idx_ext (off_eq a0)
      (show win0_0.index t (1 : Fin 2) * 512 + 1 * (q 1).val = 1536 + (q 1).val by rw [a1]; omega)))
  have hn : ∀ k : Fin 512, iblk m c 1 t (ix2 0 k) = m ((c : Thread nD τ).loc main_arg1) (ix1 k) := fun k =>
    (V_norm m c _).trans (congrArg (m ((c : Thread nD τ).loc main_arg1)) (congrArg ix1 (Fin.ext
      (show win0_1.index t (1 : Fin 2) * 512 + 1 * k.val = k.val from off_zero b1))))
  have hp : ∀ q : S1024x512.Idx, k0_pay1 (F := Ideal) (iblk m c 0 t) (iblk m c 1 t) q
      = latents (m ((c : Thread nD τ).loc main_arg0)) (m ((c : Thread nD τ).loc main_arg1)) (ix2 (ρ (q 0)) (q 1)) := fun q =>
    (block _ _ q).trans (normed_rows ρ hz hn q)
  pointwise [k0_pay2]
  show prod (M := 1024) (K := 512) (N := 2048) (k0_pay1 (F := Ideal) (iblk m c 0 t) (iblk m c 1 t)) (iblk m c 2 t) y = _
  exact prod_block (fun q => ix2 (ρ (q 0)) (q 1)) ((cfg0.win 2).blk t).view.emb hp (fun q => congrFun (V_main_arg2 m c) _)
    (fun _ => rfl) (fun _ => rfl) (fun _ => off_zero c0) (fun _ => off_eq c1)

open Cert.Reference10Ideal.Read in
/-- The reference's normed latents. -/
theorem ref (x0 : (⟨S32768x4096, .f32⟩ : BufTy).Contents (Elt Ideal)) (x1) (q) :
    val_main_v14 (F := Ideal) x0 x1 q = latents x0 x1 q := by
  have hz : ∀ q, val_main_v0 (F := Ideal) x0 q = cols (N := 4096) 1536 512 (by decide) x0 q := fun q =>
    (val_main_v0_apply x0 q).trans (congrArg x0 (idx_ext rfl rfl))
  rw [val_main_v14_apply, val_main_v13_apply, val_main_v12_apply, val_main_v11_apply, val_main_v10_apply, val_main_v9_apply,
    val_main_v8_apply, val_main_v7_apply, val_main_v6_apply, val_main_v5_apply, val_main_v4_apply, val_main_v3_apply,
    val_main_v2_apply]
  simp only [val_main_v1_apply, hz]
  have h0 : val_main_cst (F := Ideal) (Shape.Idx.first Cert.Reference10Ideal.Gen.h_S_) = 0 := Ideal.ofBits_zero_f32
  rw [h0, zero_add]
  exact normed_at (x := cols (N := 4096) 1536 512 (by decide) x0) (n := fun k => x1 (ix1 k)) (y := q)
    (fun k => idx_main_v2 (idx_main_v3 (idx_main_v9 q)) k) (fun _ => rfl) (fun _ => rfl)
    (congrArg x1 (funext fun a => match a with | ⟨0, _⟩ => rfl))

open Cert.Reference10Ideal.Read in
/-- From arguments that agree both programs end with the same result. -/
theorem value (m' : (ℓ : Loc Cert.Reference10Ideal.nD Cert.Reference10Ideal.τ Cert.Reference10Ideal.sig) → Buf (Elt Ideal) ℓ)
    (c : Dev nD) (e0 : m' ((c.tc : Thread _ _).loc Cert.Reference10Ideal.main_arg0) = m ((c : Thread nD τ).loc main_arg0))
    (e1 : m' ((c.tc : Thread _ _).loc Cert.Reference10Ideal.main_arg1) = m ((c : Thread nD τ).loc main_arg1))
    (e2 : m' ((c.tc : Thread _ _).loc Cert.Reference10Ideal.main_arg2) = m ((c : Thread nD τ).loc main_arg2)) :
    val_main_v16 (F := Ideal) (m' ((c.tc : Thread _ _).loc Cert.Reference10Ideal.main_arg0))
      (m' ((c.tc : Thread _ _).loc Cert.Reference10Ideal.main_arg1)) (m' ((c.tc : Thread _ _).loc Cert.Reference10Ideal.main_arg2))
      = resV m c := by
  rw [e0, e1, e2]
  funext y
  rw [val_main_v16_apply, val_main_v15_apply]
  rw [show val_main_v14 (F := Ideal) _ _ = _ from funext (ref _ _)]
  exact sum_eq_prod (M := 32768) (K := 512) (N := 2048) (a := latents (m ((c : Thread nD τ).loc main_arg0)) (m ((c : Thread nD τ).loc main_arg1)))
    (w := m ((c : Thread nD τ).loc main_arg2)) (y := y) (l := lidx_main_v15 y) (r := ridx_main_v15 y)
    (fun _ => rfl) (fun _ => rfl) (fun _ => rfl) fun _ => rfl

end Cert.Kernel10Ideal.Hand

end
-- ==== Proof.LatentValues.lean ====
module

public import proofs.«01_k».proof.Proof.Keys
public import proofs.«01_k».proof.Proof.Gen.Kernel11Ideal.Value
public import proofs.«01_k».proof.Proof.Gen.Reference11Ideal.Read

/-!
# The odd layers' values: the key latents' norm and its product, features on the rows
-/

@[expose] public section

noncomputable section

namespace Cert.Kernel11Ideal.Hand

open Cert.Kernel11Ideal Cert.Kernel11Ideal.Gen Idealize.ShloMosaic Idealize.ShloMosaic.TcCoe Idealize.SL.Sem
open Cert.Product
open Cert.Kernel10Ideal.Hand (latents)

variable (m : (ℓ : Loc nD τ sig) → Buf (Elt Ideal) ℓ)

/-- What the result array is shown to hold. -/
def resV (c : Dev nD) : Buf (Elt Ideal) ((c : Thread nD τ).loc main_v1) :=
  prodT (M := 2048) (K := 512) (N := 32768) (m ((c : Thread nD τ).loc main_arg0))
    (latents (m ((c : Thread nD τ).loc main_arg1)) (m ((c : Thread nD τ).loc main_arg2)))

/-- Grid point `t` takes the latents' rows that are the columns of its own block of the result, and the weights' rows. -/
theorem idx_facts : ∀ t : Fin cfg0.N,
    (win0_0.index t (0 : Fin 2) = win0_3.index t (0 : Fin 2) ∧ win0_0.index t (1 : Fin 2) = 0)
    ∧ (win0_1.index t (0 : Fin 2) = win0_3.index t (1 : Fin 2) ∧ win0_1.index t (1 : Fin 2) = 3)
    ∧ win0_2.index t (1 : Fin 2) = 0 :=
  (by decide +kernel : ∀ t : Fin grid0.N, _)

/-- The norm's weights as a row. -/
theorem V_norm (c : Dev nD) (q : S1x512.Idx) : V m c main_v0 q = m ((c : Thread nD τ).loc main_arg2) (ix1 (n0 := 512) (q 1)) := by
  have h : V m c main_v0 = shapeCast S1x512 (m ((c : Thread nD τ).loc main_arg2)) shapeCasts_S512_S1x512 := by
    unfold V
    after_results
    rfl
  rw [h]
  exact row_apply _ _ q

/-- Each block of the result array ends as that block of the result, and the blocks cover the array. -/
theorem final (c : Dev nD) : (dats m 0 c).arrAt 3 cfg0.N = resV m c := by
  refine (dats m 0 c).arrAt_eq_of_covers 3 _ (by decide +kernel) fun t hf y => ?_
  blk_simp
  rw [after0_3]
  unfold outsAt0 out0_A_3
  frame_out
  obtain ⟨⟨c0, c1⟩, ⟨a0, a1⟩, b1⟩ := idx_facts t
  let ρ : Fin 1024 → Fin 32768 := fun r => (((cfg0.win 3).blk t).view.emb (ix2 0 r)) 1
  have hz : ∀ q : S1024x512.Idx, iblk m c 1 t q = cols (N := 4096) 1536 512 (by decide) (m ((c : Thread nD τ).loc main_arg1)) (ix2 (ρ (q 0)) (q 1)) := fun q =>
    (congrFun (V_main_arg1 m c) _).trans (congrArg (m ((c : Thread nD τ).loc main_arg1)) (idx_ext (off_eq a0)
      (show win0_1.index t (1 : Fin 2) * 512 + 1 * (q 1).val = 1536 + (q 1).val by rw [a1]; omega)))
  have hn : ∀ k : Fin 512, iblk m c 2 t (ix2 0 k) = m ((c : Thread nD τ).loc main_arg2) (ix1 k) := fun k =>
    (V_norm m c _).trans (congrArg (m ((c : Thread nD τ).loc main_arg2)) (congrArg ix1 (Fin.ext
      (show win0_2.index t (1 : Fin 2) * 512 + 1 * k.val = k.val from off_zero b1))))
  have hp : ∀ q : S1024x512.Idx, k0_pay1 (F := Ideal) (iblk m c 1 t) (iblk m c 2 t) q
      = latents (m ((c : Thread nD τ).loc main_arg1)) (m ((c : Thread nD τ).loc main_arg2)) (ix2 (ρ (q 0)) (q 1)) := fun q =>
    (Cert.Kernel10Ideal.Hand.block _ _ q).trans (normed_rows ρ hz hn q)
  pointwise [k0_pay2]
  show prodT (M := 2048) (K := 512) (N := 1024) (iblk m c 0 t) (k0_pay1 (F := Ideal) (iblk m c 1 t) (iblk m c 2 t)) y = _
  exact prodT_block ((cfg0.win 0).blk t).view.emb (fun q => ix2 (ρ (q 0)) (q 1)) (fun q => congrFun (V_main_arg0 m c) _) hp
    (fun _ => off_eq c0) (fun _ => off_zero c1) (fun _ => rfl) (fun _ => rfl)

open Cert.Reference11Ideal.Read in
/-- From arguments that agree both programs end with the same result. -/
theorem value (m' : (ℓ : Loc Cert.Reference11Ideal.nD Cert.Reference11Ideal.τ Cert.Reference11Ideal.sig) → Buf (Elt Ideal) ℓ)
    (c : Dev nD) (e0 : m' ((c.tc : Thread _ _).loc Cert.Reference11Ideal.main_arg0) = m ((c : Thread nD τ).loc main_arg0))
    (e1 : m' ((c.tc : Thread _ _).loc Cert.Reference11Ideal.main_arg1) = m ((c : Thread nD τ).loc main_arg1))
    (e2 : m' ((c.tc : Thread _ _).loc Cert.Reference11Ideal.main_arg2) = m ((c : Thread nD τ).loc main_arg2)) :
    val_main_v16 (F := Ideal) (m' ((c.tc : Thread _ _).loc Cert.Reference11Ideal.main_arg0))
      (m' ((c.tc : Thread _ _).loc Cert.Reference11Ideal.main_arg1)) (m' ((c.tc : Thread _ _).loc Cert.Reference11Ideal.main_arg2))
      = resV m c := by
  rw [e0, e1, e2]
  funext y
  rw [val_main_v16_apply, val_main_v15_apply]
  rw [show val_main_v14 (F := Ideal) _ _ = _ from funext (Cert.Kernel10Ideal.Hand.ref _ _)]
  exact sum_eq_prodT (M := 2048) (K := 512) (N := 32768) (a := m ((c : Thread nD τ).loc main_arg0))
    (w := latents (m ((c : Thread nD τ).loc main_arg1)) (m ((c : Thread nD τ).loc main_arg2))) (y := y) (l := lidx_main_v15 y)
    (r := ridx_main_v15 y) (fun _ => rfl) (fun _ => rfl) (fun _ => rfl) fun _ => rfl

end Cert.Kernel11Ideal.Hand

end
-- ==== Proof.Stream.lean ====
module

public import proofs.«01_k».proof.Proof.Output
public import proofs.«01_k».proof.Proof.Gen.Kernel12Ideal.Value
public import proofs.«01_k».proof.Proof.Gen.Reference12Ideal.Read

/-!
# The first odd layer's output: the residual stream and its norm
-/

@[expose] public section

noncomputable section

namespace Cert.Kernel12Ideal.Hand

open Cert.Kernel12Ideal Cert.Kernel12Ideal.Gen Idealize.ShloMosaic Idealize.ShloMosaic.TcCoe Idealize.SL.Sem
open Cert.Product
open Cert.Kernel2Ideal.Hand (gateHalf res)

variable (m : (ℓ : Loc nD τ sig) → Buf (Elt Ideal) ℓ)

/-- What the first result array is shown to hold. -/
def resX (c : Dev nD) : Buf (Elt Ideal) ((c : Thread nD τ).loc main_v1_0) :=
  resid (M := 32768) (K := 2048) (N := 2048) (m ((c : Thread nD τ).loc main_arg0)) (m ((c : Thread nD τ).loc main_arg1))
    (gateHalf (m ((c : Thread nD τ).loc main_arg2))) (m ((c : Thread nD τ).loc main_arg3))

/-- What the second result array is shown to hold. -/
def resH (c : Dev nD) : Buf (Elt Ideal) ((c : Thread nD τ).loc main_v1_1) :=
  res (m ((c : Thread nD τ).loc main_arg0)) (m ((c : Thread nD τ).loc main_arg1)) (m ((c : Thread nD τ).loc main_arg2))
    (m ((c : Thread nD τ).loc main_arg3)) (m ((c : Thread nD τ).loc main_arg4))

/-- Grid point `t` takes the rows of its own block of both results, the gates' column half, and the whole of both weights. -/
theorem idx_facts : ∀ t : Fin cfg0.N, win0_5.index t (1 : Fin 2) = 0
    ∧ (win0_6.index t (0 : Fin 2) = win0_5.index t (0 : Fin 2) ∧ win0_6.index t (1 : Fin 2) = 0)
    ∧ (win0_0.index t (0 : Fin 2) = win0_5.index t (0 : Fin 2) ∧ win0_0.index t (1 : Fin 2) = 0)
    ∧ (win0_1.index t (0 : Fin 2) = win0_5.index t (0 : Fin 2) ∧ win0_1.index t (1 : Fin 2) = 0)
    ∧ (win0_2.index t (0 : Fin 2) = win0_5.index t (0 : Fin 2) ∧ win0_2.index t (1 : Fin 2) = 1)
    ∧ (win0_3.index t (0 : Fin 2) = 0 ∧ win0_3.index t (1 : Fin 2) = 0)
    ∧ (win0_4.index t (0 : Fin 2) = 0 ∧ win0_4.index t (1 : Fin 2) = 0) :=
  (by decide +kernel : ∀ t : Fin grid0.N, _)

/-- The norm's weights as a row. -/
theorem V_norm (c : Dev nD) (q : S1x2048.Idx) : V m c main_v0 q = m ((c : Thread nD τ).loc main_arg4) (ix1 (n0 := 2048) (q 1)) := by
  have h : V m c main_v0 = shapeCast S1x2048 (m ((c : Thread nD τ).loc main_arg4)) shapeCasts_S2048_S1x2048 := by
    unfold V
    after_results
    rfl
  rw [h]
  exact row_apply _ _ q

/-- What a grid point computes of its blocks for the first result: the same function, of 512 rows. -/
theorem blockX (v0 : Vec Ideal S512x2048 .bf16) (v1 v13 : Vec Ideal S512x2048 .f32) (v14 : Vec Ideal S2048x2048 .bf16)
    (y : S512x2048.Idx) : k0_pay1 (F := Ideal) v0 v1 v13 v14 y = resid (M := 512) (K := 2048) (N := 2048) v13 v0 v1 v14 y := by
  pointwise [k0_pay1]
  rfl

/-- What it computes for the second. -/
theorem blockH (v0 : Vec Ideal S512x2048 .bf16) (v1 v13 : Vec Ideal S512x2048 .f32) (v14 : Vec Ideal S2048x2048 .bf16)
    (v28 : Vec Ideal S1x2048 .f32) (y : S512x2048.Idx) : k0_pay2 (F := Ideal) v0 v1 v13 v14 v28 y
      = normed (M := 512) (N := 2048) (k0_pay1 (F := Ideal) v0 v1 v13 v14) (fun k => v28 (ix2 0 k)) (Ideal.ofBits FTy.f32 1157627904#32)
          (Ideal.ofBits FTy.f32 897988541#32) y := by
  pointwise [k0_pay2]
  rfl

/-- The row of the arrays that row `r` of grid point `t`'s blocks is. -/
def rowOf (t : Fin cfg0.N) (r : Fin 512) : Fin 32768 := (((cfg0.win 5).blk t).view.emb (ix2 r 0)) 0

/-- What grid point `t` computes for the first result is its block of rows of the stream. -/
theorem rowsX (c : Dev nD) (t : Fin cfg0.N) (q : S512x2048.Idx) :
    k0_pay1 (F := Ideal) (iblk m c 1 t) (iblk m c 2 t) (iblk m c 0 t) (iblk m c 3 t) q = resX m c (ix2 (rowOf t (q 0)) (q 1)) := by
  obtain ⟨o1, -, ⟨a0, a1⟩, ⟨b0, b1⟩, ⟨c0, c1⟩, ⟨d0, d1⟩, -⟩ := idx_facts t
  have hx : ∀ q : S512x2048.Idx, iblk m c 0 t q = m ((c : Thread nD τ).loc main_arg0) (ix2 (rowOf t (q 0)) (q 1)) := fun q =>
    (congrFun (V_main_arg0 m c) _).trans (congrArg (m ((c : Thread nD τ).loc main_arg0)) (idx_ext (off_eq a0) (off_zero a1)))
  have ho : ∀ q : S512x2048.Idx, iblk m c 1 t q = m ((c : Thread nD τ).loc main_arg1) (ix2 (rowOf t (q 0)) (q 1)) := fun q =>
    (congrFun (V_main_arg1 m c) _).trans (congrArg (m ((c : Thread nD τ).loc main_arg1)) (idx_ext (off_eq b0) (off_zero b1)))
  have hg : ∀ q : S512x2048.Idx, iblk m c 2 t q = gateHalf (m ((c : Thread nD τ).loc main_arg2)) (ix2 (rowOf t (q 0)) (q 1)) := fun q =>
    (congrFun (V_main_arg2 m c) _).trans (congrArg (m ((c : Thread nD τ).loc main_arg2)) (idx_ext (off_eq c0)
      (show win0_2.index t (1 : Fin 2) * 2048 + 1 * (q 1).val = 2048 + (q 1).val by rw [c1]; omega)))
  have hw : ∀ q : S2048x2048.Idx, iblk m c 3 t q = m ((c : Thread nD τ).loc main_arg3) q := fun q =>
    (congrFun (V_main_arg3 m c) _).trans (congrArg (m ((c : Thread nD τ).loc main_arg3)) (idx_ext (off_zero d0) (off_zero d1)))
  rw [blockX]
  exact resid_rows (K := 2048) (rowOf t) hx ho hg hw q

/-- The first result: each block ends as that block of the stream, and the blocks cover the array. -/
theorem finalX (c : Dev nD) : (dats m 0 c).arrAt 5 cfg0.N = resX m c := by
  refine (dats m 0 c).arrAt_eq_of_covers 5 _ (by decide +kernel) fun t hf y => ?_
  blk_simp
  rw [after0_5]
  frame_out
  exact (rowsX m c t y).trans (congrArg (resX m c) (idx_ext rfl (off_zero (idx_facts t).1).symm))

/-- The second result, likewise. -/
theorem finalH (c : Dev nD) : (dats m 0 c).arrAt 6 cfg0.N = resH m c := by
  refine (dats m 0 c).arrAt_eq_of_covers 6 _ (by decide +kernel) fun t hf y => ?_
  blk_simp
  rw [after0_6]
  frame_out
  rw [blockH]
  obtain ⟨-, ⟨o0, o1⟩, -, -, -, -, -, n1⟩ := idx_facts t
  have hn : ∀ k : Fin 2048, iblk m c 4 t (ix2 0 k) = m ((c : Thread nD τ).loc main_arg4) (ix1 k) := fun k =>
    (V_norm m c _).trans (congrArg (m ((c : Thread nD τ).loc main_arg4)) (congrArg ix1
      (Fin.ext (show win0_4.index t (1 : Fin 2) * 2048 + 1 * k.val = k.val from off_zero n1))))
  refine (normed_rows (rowOf t) (rowsX m c t) hn y).trans ?_
  exact congrArg (resH m c) (idx_ext (off_eq o0.symm) (off_zero o1).symm)

section

variable (m' : (ℓ : Loc Cert.Reference12Ideal.nD Cert.Reference12Ideal.τ Cert.Reference12Ideal.sig) → Buf (Elt Ideal) ℓ)
  (c : Dev nD) (e0 : m' ((c.tc : Thread _ _).loc Cert.Reference12Ideal.main_arg0) = m ((c : Thread nD τ).loc main_arg0))
  (e1 : m' ((c.tc : Thread _ _).loc Cert.Reference12Ideal.main_arg1) = m ((c : Thread nD τ).loc main_arg1))
  (e2 : m' ((c.tc : Thread _ _).loc Cert.Reference12Ideal.main_arg2) = m ((c : Thread nD τ).loc main_arg2))
  (e3 : m' ((c.tc : Thread _ _).loc Cert.Reference12Ideal.main_arg3) = m ((c : Thread nD τ).loc main_arg3))

include e0 e1 e2 e3

/-- From arguments that agree both programs end with the same stream: the reference's lines are those of the last layer. -/
theorem valueX : Cert.Reference12Ideal.Read.val_main_v6 (F := Ideal) (m' ((c.tc : Thread _ _).loc Cert.Reference12Ideal.main_arg0))
      (m' ((c.tc : Thread _ _).loc Cert.Reference12Ideal.main_arg1)) (m' ((c.tc : Thread _ _).loc Cert.Reference12Ideal.main_arg2))
      (m' ((c.tc : Thread _ _).loc Cert.Reference12Ideal.main_arg3)) = resX m c := by
  rw [e0, e1, e2, e3]
  exact funext (Cert.Kernel2Ideal.Hand.refX _ _ _ _)

/-- And with the same norm of it. -/
theorem valueH (e4 : m' ((c.tc : Thread _ _).loc Cert.Reference12Ideal.main_arg4) = m ((c : Thread nD τ).loc main_arg4)) :
    Cert.Reference12Ideal.Read.val_main_v20 (F := Ideal) (m' ((c.tc : Thread _ _).loc Cert.Reference12Ideal.main_arg0))
      (m' ((c.tc : Thread _ _).loc Cert.Reference12Ideal.main_arg1)) (m' ((c.tc : Thread _ _).loc Cert.Reference12Ideal.main_arg2))
      (m' ((c.tc : Thread _ _).loc Cert.Reference12Ideal.main_arg3)) (m' ((c.tc : Thread _ _).loc Cert.Reference12Ideal.main_arg4))
      = resH m c := by
  rw [e0, e1, e2, e3, e4]
  exact Cert.Kernel2Ideal.Hand.ref _ _ _ _ _

end

end Cert.Kernel12Ideal.Hand

end
-- ==== Proof.Calls.lean ====
module

public import proofs.«01_k».proof.Defs
public import proofs.«01_k».proof.Proof.Dilated
public import proofs.«01_k».proof.Proof.Latent
public import proofs.«01_k».proof.Proof.Gates
public import proofs.«01_k».proof.Proof.Brief
public import proofs.«01_k».proof.Proof.Transposed
public import proofs.«01_k».proof.Proof.Output
public import proofs.«01_k».proof.Proof.OutputEven
public import proofs.«01_k».proof.Proof.Query
public import proofs.«01_k».proof.Proof.Keys
public import proofs.«01_k».proof.Proof.LatentValues
public import proofs.«01_k».proof.Proof.Stream
public import proofs.«01_k».proof.Proof.Gen.Reference2Ideal.Run
public import proofs.«01_k».proof.Proof.Gen.Reference3Ideal.Run
public import proofs.«01_k».proof.Proof.Gen.Reference4Ideal.Run
public import proofs.«01_k».proof.Proof.Gen.Reference5Ideal.Run
public import proofs.«01_k».proof.Proof.Gen.Reference6Ideal.Run
public import proofs.«01_k».proof.Proof.Gen.Reference7Ideal.Run
public import proofs.«01_k».proof.Proof.Gen.Reference8Ideal.Run
public import proofs.«01_k».proof.Proof.Gen.Reference9Ideal.Run
public import proofs.«01_k».proof.Proof.Gen.Reference10Ideal.Run
public import proofs.«01_k».proof.Proof.Gen.Reference11Ideal.Run
public import proofs.«01_k».proof.Proof.Gen.Reference12Ideal.Run

/-!
# The calls beside the attention: each kernel and its reference end with one array

Per call, the kernel's run names its result array, the call's own module says what that array is, and the same module
says that the reference's last stage is it too.
-/

@[expose] public section

noncomputable section

namespace Cert.Proof

open Idealize.ShloMosaic Idealize.SL.Sem

variable {nD : Nat} {τ : Topo} {sig : RefSig} {Val : EltTy → Type} {Λ : Labels}

/-- A run's postcondition on every device gains that its result is the array `v` as soon as the run names the result
    some other way that is shown to be `v`. -/
theorem names {defs : Defs nD τ sig Val Λ} {p : (c : Thread nD τ) → Prog (TpuEff nD τ sig Val Λ c.2) PUnit}
    {s : MemSt nD τ sig Val} {α : Dev nD → Type} {f : PUnit × MemSt nD τ sig Val → (c : Dev nD) → α c}
    {u v : (c : Dev nD) → α c} {K : PUnit × MemSt nD τ sig Val → Dev nD → Prop} (e : ∀ c, u c = v c)
    (h : θ_run defs p s fun r => ∀ c, f r c = u c ∧ K r c) : θ_run defs p s fun r => ∀ c, f r c = v c ∧ K r c :=
  (θ_run defs p s).mono (fun _ h c => ⟨(h c).1.trans (e c), (h c).2⟩) h

/-- A program that declares no semaphore ends with none raised. -/
theorem quiet {defs : Defs nD τ sig Val Λ} {p : (c : Thread nD τ) → Prog (TpuEff nD τ sig Val Λ c.2) PUnit}
    {s : MemSt nD τ sig Val} {A K : PUnit × MemSt nD τ sig Val → Dev nD → Prop} (hs : sig.nSem + sig.nDmaSem = 0)
    (h : θ_run defs p s fun r => ∀ c, A r c ∧ K r c) :
    θ_run defs p s fun r => (∀ c, K r c) ∧ r.2.sem = fun _ => 0 :=
  (θ_run defs p s).mono (fun r h => ⟨fun c => (h c).2, sem_eq_zero_of_no_sems hs r.2⟩) h

/-- The odd layers' output projection, with the final norm. -/
theorem output : Cert.algebraic_Kernel2Ideal_Reference2Ideal := fun m g m' g' _ ha =>
  ⟨Cert.Kernel2Ideal.Hand.resV m, names (Cert.Kernel2Ideal.Hand.final m) (Cert.Kernel2Ideal.Value.run_blocks m g),
    names (fun c => (Cert.Reference2Ideal.Read.val_main_v19_eq _ _ _ _ _).trans
      (Cert.Kernel2Ideal.Hand.value m m' c (ha c).1 (ha c).2.1 (ha c).2.2.1 (ha c).2.2.2.1 (ha c).2.2.2.2))
      (Cert.Reference2Ideal.Value.run (F := Ideal) m' g')⟩

/-- The dilated layers' projection. -/
theorem dilated : Cert.algebraic_Kernel3Ideal_Reference3Ideal := fun m g m' g' _ ha =>
  ⟨Cert.Kernel3Ideal.Hand.resV m, names (Cert.Kernel3Ideal.Hand.final m) (Cert.Kernel3Ideal.Value.run_blocks m g),
    names (fun c => (Cert.Reference3Ideal.Read.val_main_v1_eq _ _).trans
      (Cert.Kernel3Ideal.Hand.value m m' c (ha c).1 (ha c).2))
      (Cert.Reference3Ideal.Value.run (F := Ideal) m' g')⟩

/-- The odd layers' projection. -/
theorem latent : Cert.algebraic_Kernel4Ideal_Reference4Ideal := fun m g m' g' _ ha =>
  ⟨Cert.Kernel4Ideal.Hand.resV m, names (Cert.Kernel4Ideal.Hand.final m) (Cert.Kernel4Ideal.Value.run_blocks m g),
    names (fun c => (Cert.Reference4Ideal.Read.val_main_v0_eq _ _).trans
      (Cert.Kernel4Ideal.Hand.value m m' c (ha c).1 (ha c).2))
      (Cert.Reference4Ideal.Value.run (F := Ideal) m' g')⟩

/-- The even layers' gate projection. -/
theorem gates : Cert.algebraic_Kernel5Ideal_Reference5Ideal := fun m g m' g' _ ha =>
  ⟨Cert.Kernel5Ideal.Hand.resV m, names (Cert.Kernel5Ideal.Hand.final m) (Cert.Kernel5Ideal.Value.run_blocks m g),
    names (fun c => (Cert.Reference5Ideal.Read.val_main_v0_eq _ _).trans
      (Cert.Kernel5Ideal.Hand.value m m' c (ha c).1 (ha c).2))
      (Cert.Reference5Ideal.Value.run (F := Ideal) m' g')⟩

/-- The even layers' projection to bfloat16. -/
theorem brief : Cert.algebraic_Kernel6Ideal_Reference6Ideal := fun m g m' g' _ ha =>
  ⟨Cert.Kernel6Ideal.Hand.resV m, names (Cert.Kernel6Ideal.Hand.final m) (Cert.Kernel6Ideal.Value.run_blocks m g),
    names (fun c => (Cert.Reference6Ideal.Read.val_main_v1_eq _ _).trans
      (Cert.Kernel6Ideal.Hand.value m m' c (ha c).1 (ha c).2))
      (Cert.Reference6Ideal.Value.run (F := Ideal) m' g')⟩

/-- The even layers' values, features on the rows. -/
theorem transposed : Cert.algebraic_Kernel7Ideal_Reference7Ideal := fun m g m' g' _ ha =>
  ⟨Cert.Kernel7Ideal.Hand.resV m, names (Cert.Kernel7Ideal.Hand.final m) (Cert.Kernel7Ideal.Value.run_blocks m g),
    names (fun c => (Cert.Reference7Ideal.Read.val_main_v1_eq _ _).trans
      (Cert.Kernel7Ideal.Hand.value m m' c (ha c).1 (ha c).2))
      (Cert.Reference7Ideal.Value.run (F := Ideal) m' g')⟩

/-- The even layers' output projection: the residual stream and its norm. -/
theorem outputEven : Cert.algebraic_Kernel8Ideal_Reference8Ideal := fun m g m' g' _ ha =>
  ⟨Cert.Kernel8Ideal.Hand.resX m, Cert.Kernel8Ideal.Hand.resH m,
    (θ_run Cert.Kernel8Ideal.defs _ _).mono (fun _ h c => ⟨(h c).1.trans (Cert.Kernel8Ideal.Hand.finalX m c),
      (h c).2.1.trans (Cert.Kernel8Ideal.Hand.finalH m c), (h c).2.2⟩) (Cert.Kernel8Ideal.Value.run_blocks m g),
    (θ_run Cert.Reference8Ideal.defs _ _).mono (fun _ h c => by
      obtain ⟨e0, e1, e2, e3, e4, e5⟩ := ha c
      exact ⟨(h c).1.trans ((Cert.Reference8Ideal.Read.val_main_v11_eq _ _ _ _ _).trans
          (Cert.Kernel8Ideal.Hand.valueX m m' c e0 e1 e2 e3 e4)),
        (h c).2.1.trans ((Cert.Reference8Ideal.Read.val_main_v25_eq m' c).trans
          (Cert.Kernel8Ideal.Hand.valueH m m' c e0 e1 e2 e3 e4 e5)), (h c).2.2⟩)
      (Cert.Reference8Ideal.Value.run (F := Ideal) m' g')⟩

/-- The odd layers' queries, from the latents, with the rotary embedding. -/
theorem query : Cert.algebraic_Kernel9Ideal_Reference9Ideal := fun m g m' g' _ ha =>
  ⟨Cert.Kernel9Ideal.Hand.resV m, names (Cert.Kernel9Ideal.Hand.final m) (Cert.Kernel9Ideal.Value.run_blocks m g),
    names (fun c => (Cert.Reference9Ideal.Read.val_main_v33_eq m' c).trans
      (Cert.Kernel9Ideal.Hand.value m m' c (ha c).1 (ha c).2.1 (ha c).2.2.1 (ha c).2.2.2.1 (ha c).2.2.2.2))
      (Cert.Reference9Ideal.Value.run (F := Ideal) m' g')⟩

/-- The odd layers' keys, from the latents. -/
theorem keys : Cert.algebraic_Kernel10Ideal_Reference10Ideal := fun m g m' g' _ ha =>
  ⟨Cert.Kernel10Ideal.Hand.resV m, names (Cert.Kernel10Ideal.Hand.final m) (Cert.Kernel10Ideal.Value.run_blocks m g),
    names (fun c => (Cert.Reference10Ideal.Read.val_main_v16_eq _ _ _).trans
      (Cert.Kernel10Ideal.Hand.value m m' c (ha c).1 (ha c).2.1 (ha c).2.2))
      (Cert.Reference10Ideal.Value.run (F := Ideal) m' g')⟩

/-- The odd layers' values, from the latents, features on the rows. -/
theorem values : Cert.algebraic_Kernel11Ideal_Reference11Ideal := fun m g m' g' _ ha =>
  ⟨Cert.Kernel11Ideal.Hand.resV m, names (Cert.Kernel11Ideal.Hand.final m) (Cert.Kernel11Ideal.Value.run_blocks m g),
    names (fun c => (Cert.Reference11Ideal.Read.val_main_v16_eq _ _ _).trans
      (Cert.Kernel11Ideal.Hand.value m m' c (ha c).1 (ha c).2.1 (ha c).2.2))
      (Cert.Reference11Ideal.Value.run (F := Ideal) m' g')⟩

/-- The first odd layer's output projection: the residual stream and its norm. -/
theorem stream : Cert.algebraic_Kernel12Ideal_Reference12Ideal := fun m g m' g' _ ha =>
  ⟨Cert.Kernel12Ideal.Hand.resX m, Cert.Kernel12Ideal.Hand.resH m,
    (θ_run Cert.Kernel12Ideal.defs _ _).mono (fun _ h c => ⟨(h c).1.trans (Cert.Kernel12Ideal.Hand.finalX m c),
      (h c).2.1.trans (Cert.Kernel12Ideal.Hand.finalH m c), (h c).2.2⟩) (Cert.Kernel12Ideal.Value.run_blocks m g),
    (θ_run Cert.Reference12Ideal.defs _ _).mono (fun _ h c => by
      obtain ⟨e0, e1, e2, e3, e4⟩ := ha c
      exact ⟨(h c).1.trans ((Cert.Reference12Ideal.Read.val_main_v6_eq _ _ _ _).trans
          (Cert.Kernel12Ideal.Hand.valueX m m' c e0 e1 e2 e3)),
        (h c).2.1.trans ((Cert.Reference12Ideal.Read.val_main_v20_eq _ _ _ _ _).trans
          (Cert.Kernel12Ideal.Hand.valueH m m' c e0 e1 e2 e3 e4)), (h c).2.2⟩)
      (Cert.Reference12Ideal.Value.run (F := Ideal) m' g')⟩

end Cert.Proof

end
-- ==== Proof.Bits.Trip.lean ====
module

public import proofs.«01_k».proof.Proof.Gen.Kernel.Frame
public import proofs.«01_k».proof.Proof.Gen.Kernel.Launch
public import proofs.«01_k».proof.Proof.Gen.Kernel.Skeleton
public import proofs.«01_k».proof.Proof.Gen.Kernel.Loops
public import proofs.«01_k».proof.Proof.Gen.Kernel.Points
public import Idealize.ShloMosaic.Lib.Pipeline.KitQuiescent
public import Idealize.ShloMosaic.Lib.Tactic
public import proofs.«01_k».proof.Proof.Bits.Resources
public import proofs.«01_k».proof.Proof.Bits.Checks

@[expose] public section

noncomputable section

namespace Cert.Kernel.Hand

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The word a trip's condition reads from a table: the pair's first position. -/
abbrev wdA (c : Dev nD) (m : Memref sig .tc .smem S37 .i32) (k : Fin k0_t1_loop.trips) (f : Buf (Elt F) (m.view.loc (c : Thread nD τ))) : BitVec 32 :=
  View.readAt (Elt F) m.view (Rect.unit (s := S37) (k0_off10 k) S1.size (k0_off10_inb k)).toLoadRect f (Shape.Idx.first (numel1_S1.symm ▸ Nat.one_pos))

/-- The word a trip's condition reads from a table: the pair's second position. -/
abbrev wdB (c : Dev nD) (m : Memref sig .tc .smem S37 .i32) (k : Fin k0_t1_loop.trips) (f : Buf (Elt F) (m.view.loc (c : Thread nD τ))) : BitVec 32 :=
  View.readAt (Elt F) m.view (Rect.unit (s := S37) (k0_off11 k) S1.size (k0_off11_inb k)).toLoadRect f (Shape.Idx.first (numel1_S1.symm ▸ Nat.one_pos))

variable (c : Dev nD) (i : grid0.Coords) (arg2 : Memref sig .tc .smem S37 .i32) (harg2 : arg2.IsWhole) (arg3 : Memref sig .tc .smem S37 .i32) (harg3 : arg3.IsWhole) (arg4 : Memref sig .tc .vmem S1x4096x1024 .bf16) (harg4 : arg4.IsWhole) (arg5 : Memref sig .tc .vmem S1x4096x512 .bf16) (harg5 : arg5.IsWhole) (arg6 : Memref sig .tc .vmem S1x4096x128 .bf16) (harg6 : arg6.IsWhole) (arg7 : Memref sig .tc .vmem S512x4096 .bf16) (harg7 : arg7.IsWhole) (arg8 : Memref sig .tc .vmem S1x4096x512 .bf16) (harg8 : arg8.IsWhole) (arg9 : Memref sig .tc .vmem S512x512 .f32) (harg9 : arg9.IsWhole) (arg10 : Memref sig .tc .vmem S512x512 .f32) (harg10 : arg10.IsWhole) (arg11 : Memref sig .tc .vmem S1x512 .f32) (harg11 : arg11.IsWhole) (arg12 : Memref sig .tc .vmem S1x512 .f32) (harg12 : arg12.IsWhole) (arg13 : Memref sig .tc .vmem S1x512 .f32) (harg13 : arg13.IsWhole) (arg14 : Memref sig .tc .vmem S1x512 .f32) (harg14 : arg14.IsWhole) (arg15 : Memref sig .tc .vmem S128x512 .f32) (harg15 : arg15.IsWhole) (arg16 : Memref sig .tc .vmem S512x512 .f32) (harg16 : arg16.IsWhole) (arg17 : Memref sig .tc .vmem S512x512 .f32) (harg17 : arg17.IsWhole) (arg18 : Memref sig .tc .vmem S1x512 .f32) (harg18 : arg18.IsWhole) (arg19 : Memref sig .tc .vmem S1x512 .f32) (harg19 : arg19.IsWhole) (arg20 : Memref sig .tc .vmem S1x512 .f32) (harg20 : arg20.IsWhole) (arg21 : Memref sig .tc .vmem S1x512 .f32) (harg21 : arg21.IsWhole) (arg22 : Memref sig .tc .vmem S128x512 .f32) (harg22 : arg22.IsWhole) (arg23 : Memref sig .tc .vmem S512x512 .f32) (harg23 : arg23.IsWhole) (arg24 : Memref sig .tc .vmem S512x512 .f32) (harg24 : arg24.IsWhole) (arg25 : Memref sig .tc .vmem S1x512 .f32) (harg25 : arg25.IsWhole) (arg26 : Memref sig .tc .vmem S1x512 .f32) (harg26 : arg26.IsWhole) (arg27 : Memref sig .tc .vmem S1x512 .f32) (harg27 : arg27.IsWhole) (arg28 : Memref sig .tc .vmem S1x512 .f32) (harg28 : arg28.IsWhole) (arg29 : Memref sig .tc .vmem S128x512 .f32) (harg29 : arg29.IsWhole) (arg30 : Memref sig .tc .vmem S512x512 .f32) (harg30 : arg30.IsWhole) (arg31 : Memref sig .tc .vmem S512x512 .f32) (harg31 : arg31.IsWhole) (arg32 : Memref sig .tc .vmem S1x512 .f32) (harg32 : arg32.IsWhole) (arg33 : Memref sig .tc .vmem S1x512 .f32) (harg33 : arg33.IsWhole) (arg34 : Memref sig .tc .vmem S1x512 .f32) (harg34 : arg34.IsWhole) (arg35 : Memref sig .tc .vmem S1x512 .f32) (harg35 : arg35.IsWhole) (arg36 : Memref sig .tc .vmem S128x512 .f32) (harg36 : arg36.IsWhole) (v48 v49 : IVec S512x512 32)

abbrev tripG (k : Fin k0_t1_loop.trips) : Prog (TpuEff nD τ sig (Elt F) Λ₀ .tc) Unit :=
  k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 v48 v49 k ()

end Cert.Kernel.Hand
end
-- ==== Proof.Flash.lean ====
module

public import Idealize.ShloMosaic.PureOps.Ideal.Laws
public import Mathlib.Data.EReal.Operations
public import Mathlib.Analysis.SpecialFunctions.Pow.Real

/-!
# The running softmax over extended reals

One query has a score `x j` and a value `v j` at every key `j`. The kernel walks the keys in tiles and keeps a running
maximum, the sum of the weights taken against that maximum, and the sum of the values so weighted. This module says what
the three are after any number of keys, that a tile carries one count of keys to the next, and that the quotient at the
end is the plain softmax of the scaled scores. A masked key has the score `⊥` and the weight zero.
-/

@[expose] public section

noncomputable section

open Idealize Idealize.ShloMosaic

namespace Cert.Flash

/-- The factor inside the powers of two: the attention scale over the logarithm of two. -/
def kap : ℝ := (Real.sqrt 192)⁻¹ * (Real.log 2)⁻¹

/-- The attention scale. -/
def scl : ℝ := (Real.sqrt 192)⁻¹

theorem scl_pos : 0 < scl := by unfold scl; positivity

theorem kap_pos : 0 < kap := by
  unfold kap
  have : 0 < Real.log 2 := Real.log_pos (by norm_num)
  positivity

theorem log_kap : Real.log 2 * kap = scl := by
  unfold kap scl
  have : Real.log 2 ≠ 0 := (Real.log_pos (by norm_num)).ne'
  field_simp

/-- The weight of a score against a maximum. -/
def ex (x M : EReal) : EReal := Ideal.exp2 ((x - M) * (kap : EReal))

theorem ex_bot (M : EReal) : ex ⊥ M = 0 := by
  unfold ex
  rw [EReal.bot_sub, EReal.bot_mul_coe_of_pos kap_pos]
  rfl

theorem ex_coe (a b : ℝ) : ex a b = ((2 : ℝ) ^ ((a - b) * kap) : ℝ) := by
  unfold ex
  rw [← EReal.coe_sub, ← EReal.coe_mul]
  rfl

theorem ex_real {x M : EReal} (h : x ≤ M) (hT : M ≠ ⊤) : ∃ r : ℝ, 0 ≤ r ∧ ex x M = r := by
  induction x using EReal.rec with
  | bot => exact ⟨0, le_rfl, by rw [ex_bot]; rfl⟩
  | top => exact absurd (top_le_iff.mp h) hT
  | coe a =>
    induction M using EReal.rec with
    | bot => exact absurd h (by simp)
    | top => exact absurd rfl hT
    | coe b => exact ⟨_, by positivity, ex_coe a b⟩

/-- Weights against a smaller maximum, carried to a larger one. -/
theorem ex_merge {x M M' : EReal} (h : x ≤ M) (h' : M ≤ M') (hT : M' ≠ ⊤) : ex M M' * ex x M = ex x M' := by
  induction x using EReal.rec with
  | bot => rw [ex_bot, ex_bot, mul_zero]
  | top => exact absurd (top_le_iff.mp (h.trans h')) hT
  | coe a =>
    induction M using EReal.rec with
    | bot => exact absurd h (by simp)
    | top => exact absurd (top_le_iff.mp h') hT
    | coe b =>
      induction M' using EReal.rec with
      | bot => exact absurd h' (by simp)
      | top => exact absurd rfl hT
      | coe c =>
        rw [ex_coe, ex_coe, ex_coe, ← EReal.coe_mul, ← Real.rpow_add (by norm_num)]
        congr 2; ring

/-- A nonnegative real passes into a sum of extended reals. -/
theorem mul_sum_real {ι : Type} (s : Finset ι) (f : ι → EReal) (r : ℝ) (hr : 0 ≤ r) :
    (r : EReal) * ∑ j ∈ s, f j = ∑ j ∈ s, (r : EReal) * f j := by
  classical
  induction s using Finset.induction_on with
  | empty => simp
  | insert a s ha ih =>
    rw [Finset.sum_insert ha, Finset.sum_insert ha,
      EReal.left_distrib_of_nonneg_of_ne_top (EReal.coe_nonneg.mpr hr) (EReal.coe_ne_top r), ih]

theorem coe_sum' {ι : Type} (s : Finset ι) (f : ι → ℝ) : ((∑ j ∈ s, f j : ℝ) : EReal) = ∑ j ∈ s, (f j : EReal) := by
  classical
  induction s using Finset.induction_on with
  | empty => simp
  | insert a s ha ih => rw [Finset.sum_insert ha, Finset.sum_insert ha, EReal.coe_add, ih]

/-- The greatest of the first `n` scores. -/
def top (x : ℕ → EReal) (n : ℕ) : EReal := (Finset.range n).sup x

/-- The sum of the first `n` weights. -/
def sumL (x : ℕ → EReal) (n : ℕ) (M : EReal) : EReal := ∑ j ∈ Finset.range n, ex (x j) M

/-- The sum of the first `n` values by their weights. -/
def sumA (x v : ℕ → EReal) (n : ℕ) (M : EReal) : EReal := ∑ j ∈ Finset.range n, v j * ex (x j) M

theorem le_top {x : ℕ → EReal} {n j : ℕ} (h : j < n) : x j ≤ top x n := Finset.le_sup (Finset.mem_range.mpr h)

theorem top_ne_top {x : ℕ → EReal} {n : ℕ} (h : ∀ j < n, x j ≠ ⊤) : top x n ≠ ⊤ := by
  refine ((Finset.sup_lt_iff (by exact bot_lt_top)).mpr fun j hj => ?_).ne
  exact (h j (Finset.mem_range.mp hj)).lt_top

theorem top_zero (x : ℕ → EReal) : top x 0 = ⊥ := rfl
theorem sumL_zero (x : ℕ → EReal) (M : EReal) : sumL x 0 M = 0 := rfl
theorem sumA_zero (x v : ℕ → EReal) (M : EReal) : sumA x v 0 M = 0 := rfl

theorem top_add (x : ℕ → EReal) (n w : ℕ) :
    top x (n + w) = max (top x n) (Finset.univ.sup fun j : Fin w => x (n + j.val)) := by
  apply le_antisymm
  · refine Finset.sup_le fun j hj => ?_
    rw [Finset.mem_range] at hj
    rcases Nat.lt_or_ge j n with h | h
    · exact (le_top h).trans (le_max_left _ _)
    · refine le_trans ?_ (le_max_right _ _)
      have := Finset.le_sup (f := fun j : Fin w => x (n + j.val)) (Finset.mem_univ ⟨j - n, by omega⟩)
      simpa [Nat.add_sub_cancel' h] using this
  · refine max_le (Finset.sup_mono (Finset.range_mono (Nat.le_add_right _ _))) (Finset.sup_le fun j _ => ?_)
    exact le_top (by have := j.isLt; omega)

theorem top_le_add (x : ℕ → EReal) (n w : ℕ) : top x n ≤ top x (n + w) :=
  Finset.sup_mono (Finset.range_mono (Nat.le_add_right _ _))

theorem sumL_add (x : ℕ → EReal) (n w : ℕ) (h : ∀ j < n + w, x j ≠ ⊤) :
    ex (top x n) (top x (n + w)) * sumL x n (top x n) + ∑ j : Fin w, ex (x (n + j.val)) (top x (n + w))
      = sumL x (n + w) (top x (n + w)) := by
  obtain ⟨r, hr, e⟩ := ex_real (top_le_add x n w) (top_ne_top h)
  unfold sumL
  rw [Finset.sum_range_add, ← Fin.sum_univ_eq_sum_range (fun j => ex (x (n + j)) (top x (n + w))), e,
    mul_sum_real _ _ r hr]
  refine congrArg (· + _) (Finset.sum_congr rfl fun j hj => ?_)
  rw [← e, ex_merge (le_top (Finset.mem_range.mp hj)) (top_le_add x n w) (top_ne_top h)]

theorem sumA_add (x v : ℕ → EReal) (n w : ℕ) (h : ∀ j < n + w, x j ≠ ⊤) :
    ex (top x n) (top x (n + w)) * sumA x v n (top x n) + ∑ j : Fin w, v (n + j.val) * ex (x (n + j.val)) (top x (n + w))
      = sumA x v (n + w) (top x (n + w)) := by
  obtain ⟨r, hr, e⟩ := ex_real (top_le_add x n w) (top_ne_top h)
  unfold sumA
  rw [Finset.sum_range_add, ← Fin.sum_univ_eq_sum_range (fun j => v (n + j) * ex (x (n + j)) (top x (n + w))), e,
    mul_sum_real _ _ r hr]
  refine congrArg (· + _) (Finset.sum_congr rfl fun j hj => ?_)
  rw [← e, mul_left_comm, ex_merge (le_top (Finset.mem_range.mp hj)) (top_le_add x n w) (top_ne_top h)]

/-- A score by the scale. -/
theorem scaled_le {a b : EReal} (h : a ≤ b) : a * (scl : EReal) ≤ b * (scl : EReal) :=
  mul_le_mul_of_nonneg_right h (EReal.coe_nonneg.mpr scl_pos.le)

/-- The natural exponential of scaled scores is the power of two the kernel takes. -/
theorem exp_scaled {x M : EReal} (h : x ≤ M) (hT : M ≠ ⊤) :
    Ideal.exp (x * (scl : EReal) - M * (scl : EReal)) = ex x M := by
  induction x using EReal.rec with
  | bot => rw [ex_bot, EReal.bot_mul_coe_of_pos scl_pos, EReal.bot_sub]; rfl
  | top => exact absurd (top_le_iff.mp h) hT
  | coe a =>
    induction M using EReal.rec with
    | bot => exact absurd h (by simp)
    | top => exact absurd rfl hT
    | coe b =>
      rw [ex_coe, ← EReal.coe_mul, ← EReal.coe_mul, ← EReal.coe_sub]
      show ((Real.exp _ : ℝ) : EReal) = _
      rw [Real.rpow_def_of_pos (by norm_num), ← log_kap]
      congr 2; ring

/-- Masked keys past `q` add nothing: the maximum and both sums are those of the first `n` keys, any `n` past `q`. -/
theorem top_masked {x : ℕ → EReal} {q n : ℕ} (hq : q < n) (hb : ∀ k, q < k → x k = ⊥) : top x n = top x (q + 1) := by
  refine le_antisymm (Finset.sup_le fun j _ => ?_) (Finset.sup_mono (Finset.range_mono hq))
  rcases Nat.lt_or_ge q j with h | h
  · rw [hb j h]; exact bot_le
  · exact le_top (by omega)

theorem sumL_masked {x : ℕ → EReal} {q n : ℕ} (M : EReal) (hq : q < n) (hb : ∀ k, q < k → x k = ⊥) :
    sumL x n M = sumL x (q + 1) M := by
  unfold sumL
  refine (Finset.sum_subset (Finset.range_mono hq) fun j _ hj => ?_).symm
  rw [hb j (by simpa using hj), ex_bot]

theorem sumA_masked {x v : ℕ → EReal} {q n : ℕ} (M : EReal) (hq : q < n) (hb : ∀ k, q < k → x k = ⊥) :
    sumA x v n M = sumA x v (q + 1) M := by
  unfold sumA
  refine (Finset.sum_subset (Finset.range_mono hq) fun j _ hj => ?_).symm
  rw [hb j (by simpa using hj), ex_bot, mul_zero]

/-- The sum of weights is a positive real. -/
theorem sumL_real {x : ℕ → EReal} {n : ℕ} (hn : 0 < n) (h0 : ∃ r : ℝ, x 0 = r) (h : ∀ j < n, x j ≠ ⊤) :
    ∃ r : ℝ, 0 < r ∧ sumL x n (top x n) = r := by
  have hx : ∀ j, ∃ r : ℝ, 0 ≤ r ∧ (j < n → ex (x j) (top x n) = r) := fun j => by
    by_cases hj : j < n
    · obtain ⟨r, hr, e⟩ := ex_real (le_top hj) (top_ne_top h); exact ⟨r, hr, fun _ => e⟩
    · exact ⟨0, le_rfl, fun h => absurd h hj⟩
  choose f hf e using hx
  refine ⟨∑ j ∈ Finset.range n, f j, ?_, ?_⟩
  · refine Finset.sum_pos' (fun j _ => hf j) ⟨0, Finset.mem_range.mpr hn, ?_⟩
    obtain ⟨r, hr⟩ := h0
    have hT := top_ne_top h
    have hle := le_top (x := x) hn
    have e0 := e 0 hn
    rw [hr] at hle e0
    generalize top x n = M at hT hle e0
    induction M using EReal.rec with
    | bot => exact absurd hle (by simp)
    | top => exact absurd rfl hT
    | coe b =>
      rw [ex_coe] at e0
      rw [← EReal.coe_eq_coe_iff.mp e0]; positivity
  · unfold sumL
    rw [coe_sum']
    exact Finset.sum_congr rfl fun j hj => e j (Finset.mem_range.mp hj)

/-- The plain softmax attention of one query over `N` keys: scores scaled, the greatest subtracted, the exponentials over
    their sum, masked keys given zero, and the values summed by that. -/
def softmax (x v : ℕ → EReal) (q N : ℕ) : EReal :=
  ∑ k ∈ Finset.range N, v k * (if k ≤ q then
    Ideal.div (Ideal.exp (x k * (scl : EReal) - (Finset.range N).sup fun j => x j * (scl : EReal)))
      (∑ i ∈ Finset.range N, Ideal.exp (x i * (scl : EReal) - (Finset.range N).sup fun j => x j * (scl : EReal))) else 0)

theorem sup_scaled (x : ℕ → EReal) {N : ℕ} (hN : 0 < N) :
    ((Finset.range N).sup fun j => x j * (scl : EReal)) = top x N * (scl : EReal) := by
  refine le_antisymm (Finset.sup_le fun j hj => scaled_le (le_top (Finset.mem_range.mp hj))) ?_
  obtain ⟨j, hj, e⟩ := Finset.exists_mem_eq_sup (Finset.range N) ⟨0, Finset.mem_range.mpr hN⟩ x
  unfold top
  rw [e]
  exact Finset.le_sup (f := fun j => x j * (scl : EReal)) hj

/-- The kernel's quotient after any number of keys past the query's own is the plain softmax attention. -/
theorem quotient_eq {x v : ℕ → EReal} {q n N : ℕ} (hn : q < n) (hN : q < N) (hr : ∀ k, k ≤ q → ∃ r : ℝ, x k = r)
    (hb : ∀ k, q < k → x k = ⊥) :
    Ideal.div (sumA x v n (top x n)) (sumL x n (top x n)) = softmax x v q N := by
  have hT : ∀ k, x k ≠ ⊤ := fun k => by
    rcases Nat.lt_or_ge q k with h | h
    · rw [hb k h]; exact bot_ne_top
    · obtain ⟨r, e⟩ := hr k h; rw [e]; exact EReal.coe_ne_top r
  rw [top_masked hn hb, sumA_masked _ hn hb, sumL_masked _ hn hb, ← top_masked hN hb, ← sumA_masked _ hN hb,
    ← sumL_masked _ hN hb]
  have hN0 : 0 < N := by omega
  obtain ⟨l, hl, e⟩ := sumL_real hN0 (hr 0 (Nat.zero_le _)) fun j _ => hT j
  have hex : ∀ k ∈ Finset.range N, Ideal.exp (x k * (scl : EReal) - top x N * (scl : EReal)) = ex (x k) (top x N) :=
    fun k hk => exp_scaled (le_top (Finset.mem_range.mp hk)) (top_ne_top fun j _ => hT j)
  unfold softmax
  rw [sup_scaled x hN0, Finset.sum_congr rfl hex, show ∑ k ∈ Finset.range N, ex (x k) (top x N) = sumL x N (top x N) from rfl, e]
  have hl0 : (l : EReal) ≠ 0 := by exact_mod_cast hl.ne'
  unfold Ideal.div
  rw [if_neg hl0, ← EReal.coe_inv, mul_comm]
  unfold sumA
  rw [mul_sum_real _ _ _ (inv_nonneg.mpr hl.le)]
  refine Finset.sum_congr rfl fun k hk => ?_
  rw [hex k hk]
  rcases Nat.lt_or_ge q k with h | h
  · rw [if_neg (by omega), hb k h, ex_bot, mul_zero, mul_zero]
  · simp only [if_pos h, if_neg hl0]
    rw [mul_comm, mul_assoc, EReal.coe_inv]

end Cert.Flash
-- ==== Proof.Val.lean ====
module

public import proofs.«01_k».proof.Proof.Run
public import proofs.«01_k».proof.Proof.Flash
public import Idealize.ShloMosaic.Lib.Pointwise
public import Idealize.ShloMosaic.Lib.WordCmp

@[expose] public section

noncomputable section

namespace Cert.KernelIdeal.Hand

open Cert.KernelIdeal Cert.KernelIdeal.Gen
open Idealize.ShloMosaic
open Idealize.ShloMosaic.TcCoe Idealize.ShloMosaic.Tactic
open Cert.Flash

/-! The kernel's stages at an index, over the extended reals. -/

theorem pay67_at (mx m : Vec Ideal S1x512 .f32) (a : Fin 1) (i : Fin 512) :
    k0_pay67 (F := Ideal) mx m (ix2 a i) = ex (m (ix2 a i)) (max (m (ix2 a i)) (mx (ix2 a i))) := by
  pointwise [k0_pay67, k0_pay66]
  rfl

theorem pay68_at (s : Vec Ideal S512x512 .f32) (mx m : Vec Ideal S1x512 .f32) (j i : Fin 512) :
    k0_pay68 (F := Ideal) s mx m (ix2 j i) = ex (s (ix2 j i)) (max (m (ix2 0 i)) (mx (ix2 0 i))) := by
  pointwise [k0_pay68, k0_pay66]
  rfl

theorem pay69_at (s : Vec Ideal S512x512 .f32) (mx m l : Vec Ideal S1x512 .f32) (i : Fin 512) :
    k0_pay69 (F := Ideal) s mx m l (ix2 0 i) = ex (m (ix2 0 i)) (max (m (ix2 0 i)) (mx (ix2 0 i))) * l (ix2 0 i)
      + ∑ j : Fin 512, ex (s (ix2 j i)) (max (m (ix2 0 i)) (mx (ix2 0 i))) := by
  pointwise [k0_pay69]
  simp only [pay67_at, pay68_at]

theorem pay70_at (s : Vec Ideal S512x512 .f32) (mx m : Vec Ideal S1x512 .f32) (vt : Vec Ideal S128x512 .bf16)
    (acc : Vec Ideal S128x512 .f32) (d : Fin 128) (i : Fin 512) :
    k0_pay70 (F := Ideal) s mx vt m acc (ix2 d i) = ex (m (ix2 0 i)) (max (m (ix2 0 i)) (mx (ix2 0 i))) * acc (ix2 d i)
      + ∑ j : Fin 512, vt (ix2 d j) * ex (s (ix2 j i)) (max (m (ix2 0 i)) (mx (ix2 0 i))) := by
  pointwise [k0_pay70]
  simp only [pay67_at, pay68_at]

theorem pay71_at (mx m : Vec Ideal S1x512 .f32) (i : Fin 512) :
    k0_pay71 (F := Ideal) mx m (ix2 0 i) = max (m (ix2 0 i)) (mx (ix2 0 i)) := by
  pointwise [k0_pay71, k0_pay66]

theorem pay110_at (acc : Vec Ideal S128x512 .f32) (l : Vec Ideal S1x512 .f32) (i : Fin 512) (d : Fin 128) :
    k0_pay110 (F := Ideal) acc l (ix3 0 i d) = Ideal.div (acc (ix2 d i)) (l (ix2 0 i)) := by
  pointwise [k0_pay110]

theorem cmax_at (s : Vec Ideal S512x512 .f32) (i : Fin 512) :
    cmaxT (F := Ideal) s (ix2 0 i) = Finset.univ.sup fun j : Fin 512 => s (ix2 j i) := by
  pointwise [cmaxT]
  rfl

theorem mask_at (s : Vec Ideal S512x512 .f32) (j i : Fin 512) :
    k0_pay103 (F := Ideal) jjK iiK s (ix2 j i) = if j.val ≤ i.val then s (ix2 j i) else ⊥ := by
  pointwise [k0_pay103, jjK, iiK]
  rw [IdealRules.named_const.ideal_named_scalar _ _ _ _ rfl,
    WordCmp.cmpi_sle_ofNat (by have := j.isLt; omega) (by have := i.isLt; omega)]
  by_cases h : j.val ≤ i.val
  · rw [if_pos h, decide_eq_true h]; rfl
  · rw [if_neg h, decide_eq_false h]; rfl

theorem pay9_at (a b : Vec Ideal S1x512x128 .bf16) (q : Vec Ideal S1x512x256 .bf16) (j i : Fin 512) :
    k0_pay9 (F := Ideal) a b q (ix2 j i) = (∑ f : Fin 128, a (ix3 0 j f) * q (ix3 0 i (Fin.castAdd 128 f)))
      + ∑ f : Fin 128, b (ix3 0 j f) * q (ix3 0 i (Fin.natAdd 128 f)) := by
  pointwise [k0_pay9]
  rfl

theorem pay11_at (a b : Vec Ideal S1x512x128 .bf16) (q : Vec Ideal S1x512x256 .bf16) (i : Fin 512) :
    k0_pay11 (F := Ideal) a b q (ix2 0 i) = Finset.univ.sup fun j : Fin 512 => k0_pay9 (F := Ideal) a b q (ix2 j i) := by
  pointwise [k0_pay11]
  rfl

theorem pay10_at (a b : Vec Ideal S1x512x128 .bf16) (q : Vec Ideal S1x512x256 .bf16) (j i : Fin 512) :
    k0_pay10 (F := Ideal) a b q (ix2 j i) = k0_pay9 (F := Ideal) a b q (ix2 j i) := by
  pointwise [k0_pay10]

theorem reset_m (i : Fin 512) : (resetT (F := Ideal)).m (ix2 0 i) = ⊥ := by
  pointwise [resetT, k0_pay112, k0_pay111]
  rfl
theorem reset_l (i : Fin 512) : (resetT (F := Ideal)).l (ix2 0 i) = 0 := by
  pointwise [resetT, k0_pay113]
theorem reset_acc (d : Fin 128) (i : Fin 512) : (resetT (F := Ideal)).acc (ix2 d i) = 0 := by
  pointwise [resetT, k0_pay114]

/-! The scores and values of one grid point, by the key's and the query's row. -/

variable (E : Env Ideal)

/-- The score of key `k` for query `r` in head `h` of the block: a content part and a positional part. -/
def scr (h r k : ℕ) : EReal :=
  (∑ f : Fin 128, (E.KN (ValueIdx.ix3 0 ⟨k % 4096, Nat.mod_lt _ (by decide)⟩ ⟨(128 * h + f.val) % 512, Nat.mod_lt _ (by decide)⟩) : EReal)
    * E.Q (ValueIdx.ix3 0 ⟨r % 4096, Nat.mod_lt _ (by decide)⟩ ⟨(256 * h + f.val) % 1024, Nat.mod_lt _ (by decide)⟩))
  + ∑ f : Fin 128, (E.KP (ValueIdx.ix3 0 ⟨k % 4096, Nat.mod_lt _ (by decide)⟩ ⟨(0 + f.val) % 128, Nat.mod_lt _ (by decide)⟩) : EReal)
    * E.Q (ValueIdx.ix3 0 ⟨r % 4096, Nat.mod_lt _ (by decide)⟩ ⟨(256 * h + (128 + f.val)) % 1024, Nat.mod_lt _ (by decide)⟩)

/-- The masked score. -/
def msk (h r k : ℕ) : EReal := if k ≤ r then scr E h r k else ⊥

/-- Column `c` of the block's values at key `k`. -/
def vl (c k : ℕ) : EReal := E.VT (ValueIdx.ix2 ⟨c % 512, Nat.mod_lt _ (by decide)⟩ ⟨k % 4096, Nat.mod_lt _ (by decide)⟩)

/-- The tile numbers at position `t`, as naturals. -/
def kN (t : ℕ) : ℕ := (rdT tab3 t).toNat
def qN (t : ℕ) : ℕ := (rdT tab2 t).toNat

theorem off_k (t : ℕ) : (rdT tab3 t * 512#32).toNat = 512 * kN t := by
  have h := tab3_lt (ValueIdx.ix1 ⟨t % 37, Nat.mod_lt _ (by decide)⟩)
  unfold kN rdT
  rw [BitVec.toNat_mul]
  show _ * 512 % 4294967296 = _
  omega

theorem off_q (t : ℕ) : (rdT tab2 t * 512#32).toNat = 512 * qN t := by
  have h := tab2_lt (ValueIdx.ix1 ⟨t % 37, Nat.mod_lt _ (by decide)⟩)
  unfold qN rdT
  rw [BitVec.toNat_mul]
  show _ * 512 % 4294967296 = _
  omega

theorem qN_lt (t : ℕ) : qN t < 8 := tab2_lt _

/-- The grid point's tables are the kernel's. -/
structure Tabs : Prop where
  h2 : E.T2 = tab2
  h3 : E.T3 = tab3

variable {E}

theorem sc_at (hE : Tabs E) (h t : ℕ) (j i : Fin 512) : E.sc h t (ix2 j i) = scr E h (512 * qN t + i.val) (512 * kN t + j.val) := by
  unfold Env.sc Env.kt Env.qt scoreT
  rw [hE.h2, hE.h3, off_k, off_q, pay10_at, pay9_at]
  rfl

theorem mxs_at (hE : Tabs E) (h t : ℕ) (i : Fin 512) : E.mxs h t (ix2 0 i) = Finset.univ.sup fun j : Fin 512 => E.sc h t (ix2 j i) := by
  unfold Env.mxs mxScoreT Env.sc scoreT
  rw [pay11_at]
  simp only [pay10_at]

theorem vt_at (hE : Tabs E) (h t : ℕ) (d : Fin 128) (j : Fin 512) : E.vt h t (ix2 d j) = vl E (128 * h + d.val) (512 * kN t + j.val) := by
  unfold Env.vt Env.kt
  rw [hE.h3, off_k]
  rfl

/-- What a head's running state is when `n` key tiles of query tile `q` are in it. -/
def InState (E : Env Ideal) (h q n : ℕ) (st : St Ideal) : Prop := ∀ (i : Fin 512) (d : Fin 128),
  st.m (ix2 0 i) = top (msk E h (512 * q + i.val)) (512 * n)
  ∧ st.l (ix2 0 i) = sumL (msk E h (512 * q + i.val)) (512 * n) (top (msk E h (512 * q + i.val)) (512 * n))
  ∧ st.acc (ix2 d i) = sumA (msk E h (512 * q + i.val)) (vl E (128 * h + d.val)) (512 * n) (top (msk E h (512 * q + i.val)) (512 * n))

theorem holds_reset (h q : ℕ) : InState E h q 0 resetT := fun i d =>
  ⟨reset_m i, reset_l i, reset_acc d i⟩

/-- Every score is a real number. -/
def Real' (E : Env Ideal) : Prop := ∀ h r k, ∃ a : ℝ, scr E h r k = a

theorem msk_ne_top (hR : Real' E) (h r k : ℕ) : msk E h r k ≠ ⊤ := by
  unfold msk
  split_ifs
  · obtain ⟨a, e⟩ := hR h r k; rw [e]; exact EReal.coe_ne_top a
  · exact bot_ne_top

/-- A tile of masked scores takes the state one tile further. -/
theorem holds_step (hR : Real' E) {h q n : ℕ} {st : St Ideal} (s : Vec Ideal S512x512 .f32) (mx : Vec Ideal S1x512 .f32)
    (vt : Vec Ideal S128x512 .bf16) (hs : ∀ j i : Fin 512, s (ix2 j i) = msk E h (512 * q + i.val) (512 * n + j.val))
    (hm : ∀ i : Fin 512, mx (ix2 0 i) = Finset.univ.sup fun j : Fin 512 => s (ix2 j i))
    (hv : ∀ (d : Fin 128) (j : Fin 512), vt (ix2 d j) = vl E (128 * h + d.val) (512 * n + j.val))
    (H : InState E h q n st) : InState E h q (n + 1) (updT s mx vt st) := fun i d => by
  obtain ⟨h1, h2, h3⟩ := H i d
  have hM : max (st.m (ix2 0 i)) (mx (ix2 0 i)) = top (msk E h (512 * q + i.val)) (512 * n + 512) := by
    rw [top_add, h1, hm]; simp only [hs]
  rw [show 512 * (n + 1) = 512 * n + 512 from rfl]
  refine ⟨?_, ?_, ?_⟩
  · rw [← hM]; exact pay71_at _ _ i
  · rw [← sumL_add _ _ _ fun _ _ => msk_ne_top hR _ _ _]
    refine (pay69_at s mx st.m st.l i).trans ?_
    rw [hM, h1, h2]; simp only [hs]
  · rw [← sumA_add _ _ _ _ fun _ _ => msk_ne_top hR _ _ _]
    refine (pay70_at s mx st.m vt st.acc d i).trans ?_
    rw [hM, h1, h3]; simp only [hs, hv]

/-- The tile at a position below the diagonal. -/
theorem holds_upd (hE : Tabs E) (hR : Real' E) {h t : ℕ} {st : St Ideal} (hlt : kN t < qN t) (H : InState E h (qN t) (kN t) st) :
    InState E h (qN t) (kN t + 1) (updT (E.sc h t) (E.mxs h t) (E.vt h t) st) := by
  refine holds_step hR _ _ _ (fun j i => ?_) (mxs_at hE h t) (vt_at hE h t) H
  rw [sc_at hE]
  unfold msk
  rw [if_pos (by have := j.isLt; omega)]

/-- The result of query row `r` at column `c` of the block. -/
def val (E : Env Ideal) (r c : ℕ) : EReal := softmax (msk E (c / 128) r) (vl E c) r 4096

/-- The tile on the diagonal, and the quotient after it. -/
theorem out_diag (hE : Tabs E) (hR : Real' E) {h t : ℕ} {st : St Ideal} (he : kN t = qN t) (H : InState E h (qN t) (kN t) st)
    (i : Fin 512) (d : Fin 128) :
    outT (diagT jjK iiK (E.sc h t) (E.vt h t) st) (ix3 0 i d) = val E (512 * qN t + i.val) (128 * h + d.val) := by
  have H' : InState E h (qN t) (kN t + 1) (diagT jjK iiK (E.sc h t) (E.vt h t) st) := by
    refine holds_step hR _ _ _ (fun j i => ?_) (cmax_at _) (vt_at hE h t) H
    rw [mask_at, sc_at hE]
    unfold msk
    by_cases hji : j.val ≤ i.val
    · rw [if_pos hji, if_pos (by omega)]
    · rw [if_neg hji, if_neg (by omega)]
  obtain ⟨-, h2, h3⟩ := H' i d
  refine (pay110_at _ _ i d).trans ?_
  rw [h2, h3]
  have := qN_lt t
  have := i.isLt
  have := d.isLt
  unfold val
  rw [show (128 * h + d.val) / 128 = h by omega]
  refine quotient_eq (by omega) (by omega) (fun k hk => ?_) fun k hk => ?_
  · unfold msk; rw [if_pos hk]; exact hR _ _ _
  · unfold msk; rw [if_neg (by omega)]

end Cert.KernelIdeal.Hand
-- ==== Proof.Traverse.lean ====
module

public import proofs.«01_k».proof.Proof.Val

@[expose] public section

noncomputable section

namespace Cert.KernelIdeal.Hand

open Cert.KernelIdeal Cert.KernelIdeal.Gen
open Idealize.ShloMosaic
open Idealize.ShloMosaic.TcCoe Idealize.ShloMosaic.Tactic
open Cert.Flash

/-! The loop's trips over the tile positions: the running state stays what the tiles before it make it, and every
diagonal position leaves its query tile's results in the output block. -/

/-- How the tile numbers go from one trip to the next: after a diagonal position a query tile starts at key tile 0, and
otherwise the key tile number goes up by one. -/
theorem tabs_go : ∀ k < 18,
    if rdT tab3 (2 * k) = rdT tab2 (2 * k) then
      kN (2 * k) = qN (2 * k) ∧ kN (2 * k + 1) = 0 ∧ kN (2 * k + 1) < qN (2 * k + 1)
        ∧ (k + 1 < 18 → kN (2 * k + 2) = kN (2 * k + 1) + 1 ∧ qN (2 * k + 2) = qN (2 * k + 1))
    else kN (2 * k) < qN (2 * k) ∧ qN (2 * k + 1) = qN (2 * k) ∧ kN (2 * k + 1) = kN (2 * k) + 1 ∧
      if rdT tab3 (2 * k + 1) = rdT tab2 (2 * k + 1) then kN (2 * k + 1) = qN (2 * k + 1) ∧ (k + 1 < 18 → kN (2 * k + 2) = 0)
      else kN (2 * k + 1) < qN (2 * k + 1)
        ∧ (k + 1 < 18 → kN (2 * k + 2) = kN (2 * k + 1) + 1 ∧ qN (2 * k + 2) = qN (2 * k + 1)) := by
  unfold kN qN
  decide +kernel

theorem tabs_start : kN 0 = 0 := by
  unfold kN
  decide +kernel

variable {E : Env Ideal}

/-- The rows of query tile `q` hold their results. -/
def Rows (E : Env Ideal) (O : Vec Ideal S1x4096x512 .bf16) (q : ℕ) : Prop := ∀ y : S1x4096x512.Idx,
  512 * q ≤ (y 1).val → (y 1).val < 512 * q + 512 → O y = val E (y 1).val (y 2).val

/-- A tile of results written into the block: its own rows are right, and the rows right before stay so. -/
theorem rows_put {O : Vec Ideal S1x4096x512 .bf16} {q : ℕ} {T0 T1 T2 T3 : Vec Ideal S1x512x128 .bf16}
    (h0 : ∀ (i : Fin 512) (d : Fin 128), T0 (ix3 0 i d) = val E (512 * q + i.val) (128 * 0 + d.val))
    (h1 : ∀ (i : Fin 512) (d : Fin 128), T1 (ix3 0 i d) = val E (512 * q + i.val) (128 * 1 + d.val))
    (h2 : ∀ (i : Fin 512) (d : Fin 128), T2 (ix3 0 i d) = val E (512 * q + i.val) (128 * 2 + d.val))
    (h3 : ∀ (i : Fin 512) (d : Fin 128), T3 (ix3 0 i d) = val E (512 * q + i.val) (128 * 3 + d.val)) (q' : ℕ)
    (hq : q' = q ∨ Rows E O q') : Rows E (outPut O (512 * q) T0 T1 T2 T3) q' := fun y hl hu => by
  have y2 : (y 2).val < 512 := (y 2).isLt
  unfold outPut
  by_cases hr : 512 * q ≤ (y 1).val ∧ (y 1).val < 512 * q + 512
  · rw [if_pos hr]
    have e1 : 512 * q + ((y 1).val - 512 * q) % 512 = (y 1).val := by omega
    by_cases c0 : (y 2).val < 128
    · rw [if_pos c0]
      refine (h0 _ _).trans ?_
      simp only [e1]
      congr 1; omega
    · rw [if_neg c0]
      by_cases c1 : (y 2).val < 256
      · rw [if_pos c1]
        refine (h1 _ _).trans ?_
        simp only [e1]
        congr 1; omega
      · rw [if_neg c1]
        by_cases c2 : (y 2).val < 384
        · rw [if_pos c2]
          refine (h2 _ _).trans ?_
          simp only [e1]
          congr 1; omega
        · rw [if_neg c2]
          refine (h3 _ _).trans ?_
          simp only [e1]
          congr 1; omega
  · rw [if_neg hr]
    rcases hq with e | H
    · subst e; exact absurd ⟨hl, hu⟩ hr
    · exact H y hl hu

/-- What holds before trip `k`. -/
structure Inv (E : Env Ideal) (k : ℕ) (B : Big Ideal) : Prop where
  s : ∀ h (hh : h < 4), B.s ⟨h, hh⟩ = E.sc h (2 * k)
  mx : ∀ h (hh : h < 4), B.mx ⟨h, hh⟩ = E.mxs h (2 * k)
  st : k < 18 → ∀ h (hh : h < 4), InState E h (qN (2 * k)) (kN (2 * k)) (B.st ⟨h, hh⟩)
  O : ∀ k' < k, ∀ q, Done E k' q → Rows E B.O q

theorem inv_step (hE : Tabs E) (hR : Real' E) {k : ℕ} (hk : k < 18) {B : Big Ideal} (I : Inv E k B) :
    Inv E (k + 1) (stepB E jjK iiK k B) := by
  have hT := tabs_go k hk
  have hkt : ∀ t, E.kt t = rdT tab3 t := fun t => by unfold Env.kt; rw [hE.h3]
  have hqt : ∀ t, E.qt t = rdT tab2 t := fun t => by unfold Env.qt; rw [hE.h2]
  refine ⟨fun h hh => rfl, fun h hh => by simp only [stepB, Nat.mul_add, Nat.mul_one], fun hk1 h hh => ?_, fun k' hk' q hq => ?_⟩
  · show InState E h (qN (2 * k + 2)) (kN (2 * k + 2)) _
    dsimp only [stepB]
    rw [hkt, hqt, hkt, hqt]
    by_cases c0 : rdT tab3 (2 * k) = rdT tab2 (2 * k)
    · rw [if_pos c0] at hT ⊢
      obtain ⟨-, a, b, c⟩ := hT
      obtain ⟨c, d⟩ := c hk1
      rw [c, d]
      refine holds_upd hE hR b ?_
      rw [a]; exact holds_reset _ _
    · rw [if_neg c0] at hT ⊢
      obtain ⟨a, b, c, d⟩ := hT
      by_cases c1 : rdT tab3 (2 * k + 1) = rdT tab2 (2 * k + 1)
      · rw [if_pos c1] at d ⊢
        rw [d.2 hk1]; exact holds_reset _ _
      · rw [if_neg c1] at d ⊢
        obtain ⟨e, f⟩ := d
        obtain ⟨f, g⟩ := f hk1
        rw [f, g]
        refine holds_upd hE hR e ?_
        rw [b, c, I.s h hh, I.mx h hh]
        exact holds_upd hE hR a (I.st hk h hh)
  · have hold : k' < k → Rows E B.O q := fun h => I.O k' h q hq
    dsimp only [stepB]
    unfold Done at hq
    simp only [hkt, hqt, off_q] at hq ⊢
    by_cases c0 : rdT tab3 (2 * k) = rdT tab2 (2 * k)
    · rw [if_pos c0] at hT ⊢
      have D := fun h hh => out_diag hE hR hT.1 (I.st hk h hh)
      refine rows_put (fun i d => ?_) (fun i d => ?_) (fun i d => ?_) (fun i d => ?_) q ?_
      · refine Eq.trans ?_ (D 0 (by decide) i d); rw [← I.s 0 (by decide)]; rfl
      · refine Eq.trans ?_ (D 1 (by decide) i d); rw [← I.s 1 (by decide)]; rfl
      · refine Eq.trans ?_ (D 2 (by decide) i d); rw [← I.s 2 (by decide)]; rfl
      · refine Eq.trans ?_ (D 3 (by decide) i d); rw [← I.s 3 (by decide)]; rfl
      · rcases Nat.lt_or_ge k' k with h | h
        · exact Or.inr (hold h)
        · obtain rfl : k' = k := by omega
          rcases hq with ⟨-, e⟩ | ⟨ne, -⟩
          · exact Or.inl (by omega)
          · exact absurd c0 ne
    · rw [if_neg c0] at hT ⊢
      obtain ⟨a, b, c, d⟩ := hT
      by_cases c1 : rdT tab3 (2 * k + 1) = rdT tab2 (2 * k + 1)
      · rw [if_pos c1] at d ⊢
        have D := fun h hh => out_diag (h := h) hE hR d.1 (st := updT (B.s ⟨h, hh⟩) (B.mx ⟨h, hh⟩) (E.vt h (2 * k)) (B.st ⟨h, hh⟩)) (by
          rw [b, c, I.s h hh, I.mx h hh]
          exact holds_upd hE hR a (I.st hk h hh))
        refine rows_put (fun i d => ?_) (fun i d => ?_) (fun i d => ?_) (fun i d => ?_) q ?_
        · exact D 0 (by decide) i d
        · exact D 1 (by decide) i d
        · exact D 2 (by decide) i d
        · exact D 3 (by decide) i d
        · rcases Nat.lt_or_ge k' k with h | h
          · exact Or.inr (hold h)
          · obtain rfl : k' = k := by omega
            rcases hq with ⟨e, -⟩ | ⟨-, -, e⟩
            · exact absurd e c0
            · exact Or.inl (by omega)
      · rw [if_neg c1]
        rcases Nat.lt_or_ge k' k with h | h
        · exact hold h
        · obtain rfl : k' = k := by omega
          rcases hq with ⟨e, -⟩ | ⟨-, e, -⟩
          · exact absurd e c0
          · exact absurd e c1

theorem inv_all (hE : Tabs E) (hR : Real' E) (O : Vec Ideal S1x4096x512 .bf16) : ∀ k ≤ 18, Inv E k (runB E jjK iiK (initB E O) k)
  | 0, _ => ⟨fun _ _ => rfl, fun _ _ => by simp only [runB_zero, initB, Nat.mul_zero], fun _ h _ => by
      show InState E h (qN 0) (kN 0) resetT
      rw [tabs_start]; exact holds_reset _ _, fun _ h => absurd h (Nat.not_lt_zero _)⟩
  | k + 1, hk => inv_step hE hR (by omega) (inv_all hE hR O k (by omega))

/-- The grid point's output block is the softmax attention of every query row. -/
theorem outV_val (hE : Tabs E) (hR : Real' E) (hc : Covers E) (y : S1x4096x512.Idx) : outV E y = val E (y 1).val (y 2).val := by
  have h1 : (y 1).val < 4096 := (y 1).isLt
  obtain ⟨k, hk, hd⟩ := hc ((y 1).val / 512) (by omega)
  exact (inv_all hE hR _ 18 le_rfl).O k hk _ hd y (by omega) (by omega)

end Cert.KernelIdeal.Hand
-- ==== Proof.Arrays.lean ====
module

public import proofs.«01_k».proof.Proof.Traverse

@[expose] public section

noncomputable section

namespace Cert.KernelIdeal.Hand

open Cert.KernelIdeal Cert.KernelIdeal.Gen
open Idealize.ShloMosaic
open Idealize.ShloMosaic.TcCoe Idealize.ShloMosaic.Tactic
open Idealize.SL.Sem
open Idealize.ShloMosaic.Pipeline (Dat)
open Cert.Flash

/-! The result array after the run: the softmax attention of the four argument arrays. -/

section
variable (A0 : S8x4096x4096.Idx → EReal) (A1 : S8x4096x2048.Idx → EReal) (A2 : S8x4096x128.Idx → EReal) (A3 : S2048x32768.Idx → EReal)

/-- The score of key `k` for query `r` in batch `b` and head `hd`, of the whole arrays. -/
def gscr (b hd r k : ℕ) : EReal :=
  (∑ f : Fin 128, A1 (ix3 ⟨b % 8, Nat.mod_lt _ (by decide)⟩ ⟨k % 4096, Nat.mod_lt _ (by decide)⟩ ⟨(128 * hd + f.val) % 2048, Nat.mod_lt _ (by decide)⟩)
    * A0 (ix3 ⟨b % 8, Nat.mod_lt _ (by decide)⟩ ⟨r % 4096, Nat.mod_lt _ (by decide)⟩ ⟨(256 * hd + f.val) % 4096, Nat.mod_lt _ (by decide)⟩))
  + ∑ f : Fin 128, A2 (ix3 ⟨b % 8, Nat.mod_lt _ (by decide)⟩ ⟨k % 4096, Nat.mod_lt _ (by decide)⟩ f)
    * A0 (ix3 ⟨b % 8, Nat.mod_lt _ (by decide)⟩ ⟨r % 4096, Nat.mod_lt _ (by decide)⟩ ⟨(256 * hd + (128 + f.val)) % 4096, Nat.mod_lt _ (by decide)⟩)

/-- The masked score. -/
def gmsk (b hd r k : ℕ) : EReal := if k ≤ r then gscr A0 A1 A2 b hd r k else ⊥

/-- Row `C` of the transposed values at key `k` of batch `b`. -/
def gvl (b C k : ℕ) : EReal := A3 (ix2 ⟨C % 2048, Nat.mod_lt _ (by decide)⟩ ⟨(4096 * b + k % 4096) % 32768, Nat.mod_lt _ (by decide)⟩)

/-- The attention's result at an index. -/
def attn (y : S8x4096x2048.Idx) : EReal :=
  softmax (gmsk A0 A1 A2 (y 0).val ((y 2).val / 128) (y 1).val) (gvl A3 (y 0).val (y 2).val) (y 1).val 4096

theorem sum_real {ι : Type} (s : Finset ι) (f : ι → EReal) (h : ∀ i, ∃ a : ℝ, f i = a) : ∃ a : ℝ, ∑ i ∈ s, f i = a := by
  choose g hg using h
  exact ⟨∑ i ∈ s, g i, by rw [coe_sum']; exact Finset.sum_congr rfl fun i _ => hg i⟩

theorem mul_real {x y : EReal} (hx : ∃ a : ℝ, x = a) (hy : ∃ a : ℝ, y = a) : ∃ a : ℝ, x * y = a := by
  obtain ⟨a, rfl⟩ := hx; obtain ⟨b, rfl⟩ := hy; exact ⟨a * b, (EReal.coe_mul a b).symm⟩

theorem add_real {x y : EReal} (hx : ∃ a : ℝ, x = a) (hy : ∃ a : ℝ, y = a) : ∃ a : ℝ, x + y = a := by
  obtain ⟨a, rfl⟩ := hx; obtain ⟨b, rfl⟩ := hy; exact ⟨a + b, (EReal.coe_add a b).symm⟩

variable {A0 A1 A2}

theorem gscr_real (h0 : ∀ i, ∃ a : ℝ, A0 i = a) (h1 : ∀ i, ∃ a : ℝ, A1 i = a) (h2 : ∀ i, ∃ a : ℝ, A2 i = a) (b hd r k : ℕ) :
    ∃ a : ℝ, gscr A0 A1 A2 b hd r k = a :=
  add_real (sum_real _ _ fun _ => mul_real (h1 _) (h0 _)) (sum_real _ _ fun _ => mul_real (h2 _) (h0 _))
end

/-! The windows' blocks: grid point `t` is batch `t / 4` and head group `t % 4`. -/

theorem idx_facts : ∀ t : Fin cfg0.N,
    (win0_2.index t (0 : Fin 3) = t.val / 4 ∧ win0_2.index t (1 : Fin 3) = 0 ∧ win0_2.index t (2 : Fin 3) = t.val % 4)
    ∧ (win0_3.index t (0 : Fin 3) = t.val / 4 ∧ win0_3.index t (1 : Fin 3) = 0 ∧ win0_3.index t (2 : Fin 3) = t.val % 4)
    ∧ (win0_4.index t (0 : Fin 3) = t.val / 4 ∧ win0_4.index t (1 : Fin 3) = 0 ∧ win0_4.index t (2 : Fin 3) = 0)
    ∧ (win0_5.index t (0 : Fin 2) = t.val % 4 ∧ win0_5.index t (1 : Fin 2) = t.val / 4)
    ∧ (win0_6.index t (0 : Fin 3) = t.val / 4 ∧ win0_6.index t (1 : Fin 3) = 0 ∧ win0_6.index t (2 : Fin 3) = t.val % 4) :=
  (by decide +kernel : ∀ t : Fin grid0.N, _)

theorem t_lt (t : Fin cfg0.N) : t.val < 32 := t.isLt

variable (m : (ℓ : Loc nD τ sig) → Buf (Elt Ideal) ℓ)

theorem iblk2_at (c : Dev nD) (t : Fin cfg0.N) (x : S1x4096x1024.Idx) :
    iblk m c 2 t x = m ((c : Thread nD τ).loc main_arg0) (ix3 ⟨(t.val / 4) % 8, Nat.mod_lt _ (by decide)⟩ (x 1)
      ⟨(1024 * (t.val % 4) + (x 2).val) % 4096, Nat.mod_lt _ (by decide)⟩) := by
  obtain ⟨⟨a, b, d⟩, -⟩ := idx_facts t
  have ht := t_lt t
  have h0 : (x 0).val < 1 := (x 0).isLt
  have h2 : (x 2).val < 1024 := (x 2).isLt
  unfold iblk
  rw [View.read_apply]
  show V m c main_arg0 _ = _
  rw [V_main_arg0]
  refine congrArg _ (funext fun i => Fin.ext ?_)
  match i with
  | ⟨0, _⟩ => show win0_2.index t (0 : Fin 3) * 1 + 1 * (x 0).val = t.val / 4 % 8; rw [a]; omega
  | ⟨1, _⟩ => show win0_2.index t (1 : Fin 3) * 4096 + 1 * (x 1).val = (x 1).val; rw [b]; omega
  | ⟨2, _⟩ => show win0_2.index t (2 : Fin 3) * 1024 + 1 * (x 2).val = (1024 * (t.val % 4) + (x 2).val) % 4096; rw [d]; omega

theorem iblk3_at (c : Dev nD) (t : Fin cfg0.N) (x : S1x4096x512.Idx) :
    iblk m c 3 t x = m ((c : Thread nD τ).loc main_arg1) (ix3 ⟨(t.val / 4) % 8, Nat.mod_lt _ (by decide)⟩ (x 1)
      ⟨(512 * (t.val % 4) + (x 2).val) % 2048, Nat.mod_lt _ (by decide)⟩) := by
  obtain ⟨-, ⟨a, b, d⟩, -⟩ := idx_facts t
  have ht := t_lt t
  have h0 : (x 0).val < 1 := (x 0).isLt
  have h2 : (x 2).val < 512 := (x 2).isLt
  unfold iblk
  rw [View.read_apply]
  show V m c main_arg1 _ = _
  rw [V_main_arg1]
  refine congrArg _ (funext fun i => Fin.ext ?_)
  match i with
  | ⟨0, _⟩ => show win0_3.index t (0 : Fin 3) * 1 + 1 * (x 0).val = t.val / 4 % 8; rw [a]; omega
  | ⟨1, _⟩ => show win0_3.index t (1 : Fin 3) * 4096 + 1 * (x 1).val = (x 1).val; rw [b]; omega
  | ⟨2, _⟩ => show win0_3.index t (2 : Fin 3) * 512 + 1 * (x 2).val = (512 * (t.val % 4) + (x 2).val) % 2048; rw [d]; omega

theorem iblk4_at (c : Dev nD) (t : Fin cfg0.N) (x : S1x4096x128.Idx) :
    iblk m c 4 t x = m ((c : Thread nD τ).loc main_arg2) (ix3 ⟨(t.val / 4) % 8, Nat.mod_lt _ (by decide)⟩ (x 1) (x 2)) := by
  obtain ⟨-, -, ⟨a, b, d⟩, -⟩ := idx_facts t
  have ht := t_lt t
  have h0 : (x 0).val < 1 := (x 0).isLt
  unfold iblk
  rw [View.read_apply]
  show V m c main_arg2 _ = _
  rw [V_main_arg2]
  refine congrArg _ (funext fun i => Fin.ext ?_)
  match i with
  | ⟨0, _⟩ => show win0_4.index t (0 : Fin 3) * 1 + 1 * (x 0).val = t.val / 4 % 8; rw [a]; omega
  | ⟨1, _⟩ => show win0_4.index t (1 : Fin 3) * 4096 + 1 * (x 1).val = (x 1).val; rw [b]; omega
  | ⟨2, _⟩ => show win0_4.index t (2 : Fin 3) * 128 + 1 * (x 2).val = (x 2).val; rw [d]; omega

theorem iblk5_at (c : Dev nD) (t : Fin cfg0.N) (x : S512x4096.Idx) :
    iblk m c 5 t x = m ((c : Thread nD τ).loc main_arg3) (ix2 ⟨(512 * (t.val % 4) + (x 0).val) % 2048, Nat.mod_lt _ (by decide)⟩
      ⟨(4096 * (t.val / 4) + (x 1).val) % 32768, Nat.mod_lt _ (by decide)⟩) := by
  obtain ⟨-, -, -, ⟨a, b⟩, -⟩ := idx_facts t
  have ht := t_lt t
  have h0 : (x 0).val < 512 := (x 0).isLt
  have h1 : (x 1).val < 4096 := (x 1).isLt
  unfold iblk
  rw [View.read_apply]
  show V m c main_arg3 _ = _
  rw [V_main_arg3]
  refine congrArg _ (funext fun i => Fin.ext ?_)
  match i with
  | ⟨0, _⟩ => show win0_5.index t (0 : Fin 2) * 512 + 1 * (x 0).val = (512 * (t.val % 4) + (x 0).val) % 2048; rw [a]; omega
  | ⟨1, _⟩ => show win0_5.index t (1 : Fin 2) * 4096 + 1 * (x 1).val = (4096 * (t.val / 4) + (x 1).val) % 32768; rw [b]; omega

theorem ix3_congr {n0 n1 n2 : ℕ} {a a' : Fin n0} {b b' : Fin n1} {c c' : Fin n2} (ha : a.val = a'.val) (hb : b.val = b'.val)
    (hc : c.val = c'.val) : ix3 a b c = ix3 a' b' c' := by
  obtain rfl := Fin.ext ha; obtain rfl := Fin.ext hb; obtain rfl := Fin.ext hc; rfl

theorem ix2_congr {n0 n1 : ℕ} {a a' : Fin n0} {b b' : Fin n1} (ha : a.val = a'.val) (hb : b.val = b'.val) : ix2 a b = ix2 a' b' := by
  obtain rfl := Fin.ext ha; obtain rfl := Fin.ext hb; rfl

/-- The scores of a grid point are those of the whole arrays. -/
theorem scr_env (c : Dev nD) (t : Fin cfg0.N) (h r k : ℕ) (hh : h < 4) :
    scr (envAt m c t) h r k = gscr (m ((c : Thread nD τ).loc main_arg0)) (m ((c : Thread nD τ).loc main_arg1))
      (m ((c : Thread nD τ).loc main_arg2)) (t.val / 4) (4 * (t.val % 4) + h) r k := by
  have ht := t_lt t
  unfold scr gscr
  dsimp only [envAt]
  refine congrArg₂ (· + ·) (Finset.sum_congr rfl fun f _ => ?_) (Finset.sum_congr rfl fun f _ => ?_)
  all_goals have hf := f.isLt
  · rw [iblk2_at, iblk3_at]
    refine congrArg₂ (· * ·) (congrArg _ (ix3_congr rfl rfl ?_)) (congrArg _ (ix3_congr rfl rfl ?_))
    · show (512 * (t.val % 4) + (128 * h + f.val) % 512) % 2048 = (128 * (4 * (t.val % 4) + h) + f.val) % 2048; omega
    · show (1024 * (t.val % 4) + (256 * h + f.val) % 1024) % 4096 = (256 * (4 * (t.val % 4) + h) + f.val) % 4096; omega
  · rw [iblk2_at, iblk4_at]
    refine congrArg₂ (· * ·) (congrArg _ (ix3_congr rfl rfl ?_)) (congrArg _ (ix3_congr rfl rfl ?_))
    · show (0 + f.val) % 128 = f.val; omega
    · show (1024 * (t.val % 4) + (256 * h + (128 + f.val)) % 1024) % 4096 = (256 * (4 * (t.val % 4) + h) + (128 + f.val)) % 4096; omega

theorem vl_env (c : Dev nD) (t : Fin cfg0.N) (C k : ℕ) (hC : C < 512) :
    vl (envAt m c t) C k = gvl (m ((c : Thread nD τ).loc main_arg3)) (t.val / 4) (512 * (t.val % 4) + C) k := by
  have ht := t_lt t
  unfold vl gvl
  dsimp only [envAt]
  rw [iblk5_at]
  refine congrArg _ (ix2_congr ?_ ?_)
  · show (512 * (t.val % 4) + C % 512) % 2048 = (512 * (t.val % 4) + C) % 2048; omega
  · show (4096 * (t.val / 4) + k % 4096) % 32768 = (4096 * (t.val / 4) + k % 4096) % 32768; rfl

theorem val_env (c : Dev nD) (t : Fin cfg0.N) (r C : ℕ) (hC : C < 512) :
    val (envAt m c t) r C = softmax (gmsk (m ((c : Thread nD τ).loc main_arg0)) (m ((c : Thread nD τ).loc main_arg1))
      (m ((c : Thread nD τ).loc main_arg2)) (t.val / 4) (4 * (t.val % 4) + C / 128) r)
      (gvl (m ((c : Thread nD τ).loc main_arg3)) (t.val / 4) (512 * (t.val % 4) + C)) r 4096 := by
  unfold val
  refine congrArg₂ (fun x v => softmax x v r 4096) (funext fun k => ?_) (funext fun k => vl_env m c t C k hC)
  unfold msk gmsk
  rw [scr_env m c t _ _ _ (by omega)]

/-- The queries, content keys and positional keys are real numbers. -/
structure Finite (c : Dev nD) : Prop where
  q : ∀ i : S8x4096x4096.Idx, ∃ a : ℝ, m ((c : Thread nD τ).loc main_arg0) i = (a : EReal)
  kn : ∀ i : S8x4096x2048.Idx, ∃ a : ℝ, m ((c : Thread nD τ).loc main_arg1) i = (a : EReal)
  kp : ∀ i : S8x4096x128.Idx, ∃ a : ℝ, m ((c : Thread nD τ).loc main_arg2) i = (a : EReal)

variable {m}

theorem real_env {c : Dev nD} (H : Finite m c) (t : Fin cfg0.N) : Real' (envAt m c t) := fun h r k => by
  unfold scr
  dsimp only [envAt]
  refine add_real (sum_real _ _ fun f => mul_real ?_ ?_) (sum_real _ _ fun f => mul_real ?_ ?_)
  · rw [iblk3_at]; exact H.kn _
  · rw [iblk2_at]; exact H.q _
  · rw [iblk4_at]; exact H.kp _
  · rw [iblk2_at]; exact H.q _

variable (m) in
/-- What the result array is shown to hold. -/
def resV (c : Dev nD) : Buf (Elt Ideal) ((c : Thread nD τ).loc main_v0) := fun y : S8x4096x2048.Idx =>
  attn (m ((c : Thread nD τ).loc main_arg0)) (m ((c : Thread nD τ).loc main_arg1)) (m ((c : Thread nD τ).loc main_arg2))
    (m ((c : Thread nD τ).loc main_arg3)) y

theorem flushed_eq {c : Dev nD} (H : Finite m c) (t : Fin cfg0.N) :
    (dats m 0 c).flushed 6 t = ((cfg0.win 6).blk t).view.read (Elt Ideal) (resV m c) := by
  show (cfg0.win 6).cut (grid0.coords t) ((dats m 0 c).after 6 t) = _
  rw [after0_6]
  funext y
  rw [View.read_apply]
  show outV (envAt m c t) y = _
  have ht := t_lt t
  obtain ⟨-, -, -, -, a, b, d⟩ := idx_facts t
  have y0 : (y (0 : Fin 3)).val < 1 := (y (0 : Fin 3)).isLt
  have y1 : (y (1 : Fin 3)).val < 4096 := (y (1 : Fin 3)).isLt
  have y2 : (y (2 : Fin 3)).val < 512 := (y (2 : Fin 3)).isLt
  rw [outV_val ⟨rfl, rfl⟩ (real_env H t) (covers_tab _ _ _ _), val_env m c t _ _ y2]
  have e : ((cfg0.win 6).blk t).view.emb y = ix3 (n0 := 8) (n1 := 4096) (n2 := 2048) ⟨t.val / 4, by omega⟩ ⟨(y (1 : Fin 3)).val, y1⟩
      ⟨512 * (t.val % 4) + (y (2 : Fin 3)).val, by omega⟩ := by
    funext i
    apply Fin.ext
    match i with
    | ⟨0, _⟩ => show win0_6.index t (0 : Fin 3) * 1 + 1 * (y (0 : Fin 3)).val = t.val / 4; rw [a]; omega
    | ⟨1, _⟩ => show win0_6.index t (1 : Fin 3) * 4096 + 1 * (y (1 : Fin 3)).val = (y (1 : Fin 3)).val; rw [b]; omega
    | ⟨2, _⟩ => show win0_6.index t (2 : Fin 3) * 512 + 1 * (y (2 : Fin 3)).val = 512 * (t.val % 4) + (y (2 : Fin 3)).val; rw [d]; omega
  rw [e]
  unfold resV attn
  dsimp only [ix3]
  rw [show (512 * (t.val % 4) + (y (2 : Fin 3)).val) / 128 = 4 * (t.val % 4) + (y (2 : Fin 3)).val / 128 by omega]
  rfl

theorem cover (i : S8x4096x2048.Idx) : ∃ t : Fin cfg0.N, (cfg0.win 6).flush t = true ∧ i ∈ ((cfg0.win 6).blk t).view.set := by
  have h0 : (i 0).val < 8 := (i 0).isLt
  have h1 : (i 1).val < 4096 := (i 1).isLt
  have h2 : (i 2).val < 2048 := (i 2).isLt
  have ht : 4 * (i 0).val + (i 2).val / 512 < cfg0.N := by show _ < 32; omega
  refine ⟨⟨4 * (i 0).val + (i 2).val / 512, ht⟩, flush0_6 _, ?_⟩
  generalize hg : (⟨4 * (i 0).val + (i 2).val / 512, ht⟩ : Fin cfg0.N) = t
  have hv : t.val = 4 * (i 0).val + (i 2).val / 512 := by rw [← hg]
  obtain ⟨-, -, -, -, a, b, d⟩ := idx_facts t
  show i ∈ ((View.whole main_v0).slice (win0_6.rect t)).set
  rw [View.set_slice_whole, Rect.mem_set_unit]
  intro k
  match k with
  | ⟨0, _⟩ => show win0_6.index t (0 : Fin 3) * 1 ≤ (i 0).val ∧ (i 0).val < win0_6.index t (0 : Fin 3) * 1 + 1; rw [a]; omega
  | ⟨1, _⟩ => show win0_6.index t (1 : Fin 3) * 4096 ≤ (i 1).val ∧ (i 1).val < win0_6.index t (1 : Fin 3) * 4096 + 4096; rw [b]; omega
  | ⟨2, _⟩ => show win0_6.index t (2 : Fin 3) * 512 ≤ (i 2).val ∧ (i 2).val < win0_6.index t (2 : Fin 3) * 512 + 512; rw [d]; omega

theorem final_v0 {c : Dev nD} (H : Finite m c) : (dats m 0 c).arrAt 6 cfg0.N = resV m c :=
  (dats m 0 c).arrAt_eq_of_cover 6 (resV m c) (fun t _ => flushed_eq H t) cover

/-- The kernel's run: the result is the attention, the arguments are unchanged. -/
theorem run_value (ρ : Dev nD → PrngReg) (H : ∀ c, Finite m c) :
    θ_run defs (onTc (τ := τ) (main (F := Ideal))) ⟨m, fun _ => 0, ρ⟩ (fun r => ∀ c : Dev nD,
      r.2.mem ((c.tc : Thread nD τ).loc main_v0) = resV m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h.1 c).1 6).trans (final_v0 (H c)),
      ((h.1 c).1 2).trans (((dats m 0 c).arrAt_in 2 rfl _).trans (V_main_arg0 m c)),
      ((h.1 c).1 3).trans (((dats m 0 c).arrAt_in 3 rfl _).trans (V_main_arg1 m c)),
      ((h.1 c).1 4).trans (((dats m 0 c).arrAt_in 4 rfl _).trans (V_main_arg2 m c)),
      ((h.1 c).1 5).trans (((dats m 0 c).arrAt_in 5 rfl _).trans (V_main_arg3 m c))⟩) (run_main m ρ)

end Cert.KernelIdeal.Hand
-- ==== Proof.RefVal.lean ====
module

public import proofs.«01_k».proof.Proof.Arrays
public import proofs.«01_k».proof.Proof.Gen.ReferenceIdeal.Read
public import Idealize.ShloMosaic.Lib.WordCmp

/-!
# What the reference computes over the extended reals

The reference's operations read at an index, one after the other: the scores, the scaled and masked scores, their greatest
over the keys, the exponentials, the sum of these, the quotients with the masked keys put to zero, and the product with the
values. The result array is `attn` of the four arguments, the array that the kernel's run ends with.
-/

@[expose] public section

noncomputable section

namespace Cert.ReferenceIdeal.Hand

open Cert.ReferenceIdeal Cert.ReferenceIdeal.Gen Cert.ReferenceIdeal.Read
open Idealize.ShloMosaic
open Cert.Flash Cert.KernelIdeal.Hand

variable (x0 : S8x4096x4096.Idx → EReal) (x1 : S8x4096x2048.Idx → EReal) (x2 : S8x4096x128.Idx → EReal)
  (x3 : S2048x32768.Idx → EReal)

/-- An index of three coordinates, from the coordinates' values. -/
theorem eq_ix3 {n0 n1 n2 : ℕ} (i : (⟨3, ![n0, n1, n2]⟩ : Shape).Idx) (a : Fin n0) (b : Fin n1) (c : Fin n2)
    (h0 : (i 0).val = a.val) (h1 : (i 1).val = b.val) (h2 : (i 2).val = c.val) : i = ix3 a b c :=
  funext fun d => Fin.ext (match d with | ⟨0, _⟩ => h0 | ⟨1, _⟩ => h1 | ⟨2, _⟩ => h2)

theorem eq_ix2 {n0 n1 : ℕ} (i : (⟨2, ![n0, n1]⟩ : Shape).Idx) (a : Fin n0) (b : Fin n1)
    (h0 : (i 0).val = a.val) (h1 : (i 1).val = b.val) : i = ix2 a b :=
  funext fun d => Fin.ext (match d with | ⟨0, _⟩ => h0 | ⟨1, _⟩ => h1)

/-- The scores. -/
theorem v9_at (i : S8x16x4096x4096.Idx) :
    val_main_v9 (F := Ideal) x0 x1 x2 i = gscr x0 x1 x2 (i 0).val (i 1).val (i 2).val (i 3).val := by
  have h0 : (i 0).val < 8 := (i 0).isLt
  have h1 : (i 1).val < 16 := (i 1).isLt
  have h2 : (i 2).val < 4096 := (i 2).isLt
  have h3 : (i 3).val < 4096 := (i 3).isLt
  rw [val_main_v9_apply, val_main_v6_apply, val_main_v8_apply, val_main_v7_apply]
  show (_ + _ : EReal) = _
  unfold gscr
  refine congrArg₂ (· + ·) (Finset.sum_congr rfl fun f _ => ?_) (Finset.sum_congr rfl fun f _ => ?_)
  · have hf : f.val < 128 := f.isLt
    rw [val_main_v2_apply, val_main_v1_apply, val_main_v4_apply, mul_comm]
    refine congrArg₂ (· * ·) (congrArg x1 (eq_ix3 _ _ _ _ ?_ ?_ ?_)) (congrArg x0 (eq_ix3 _ _ _ _ ?_ ?_ ?_))
    · show ((((i 0).val * 4096 + (i 3).val) * 16 + (i 1).val) * 128 + f.val) / 8388608 = (i 0).val % 8; omega
    · show ((((i 0).val * 4096 + (i 3).val) * 16 + (i 1).val) * 128 + f.val) / 2048 % 4096 = (i 3).val % 4096; omega
    · show ((((i 0).val * 4096 + (i 3).val) * 16 + (i 1).val) * 128 + f.val) % 2048 = (128 * (i 1).val + f.val) % 2048; omega
    · show ((((i 0).val * 4096 + (i 2).val) * 16 + (i 1).val) * 256 + f.val) / 16777216 = (i 0).val % 8; omega
    · show ((((i 0).val * 4096 + (i 2).val) * 16 + (i 1).val) * 256 + f.val) / 4096 % 4096 = (i 2).val % 4096; omega
    · show ((((i 0).val * 4096 + (i 2).val) * 16 + (i 1).val) * 256 + f.val) % 4096 = (256 * (i 1).val + f.val) % 4096; omega
  · have hf : f.val < 128 := f.isLt
    rw [val_main_v3_apply, val_main_v1_apply]
    refine congrArg₂ (· * ·) (congrArg x2 (eq_ix3 _ _ _ _ ?_ ?_ ?_)) (congrArg x0 (eq_ix3 _ _ _ _ ?_ ?_ ?_))
    · show (i 0).val = (i 0).val % 8; omega
    · show (i 3).val = (i 3).val % 4096; omega
    · rfl
    · show ((((i 0).val * 4096 + (i 2).val) * 16 + (i 1).val) * 256 + (128 + f.val)) / 16777216 = (i 0).val % 8; omega
    · show ((((i 0).val * 4096 + (i 2).val) * 16 + (i 1).val) * 256 + (128 + f.val)) / 4096 % 4096 = (i 2).val % 4096; omega
    · show ((((i 0).val * 4096 + (i 2).val) * 16 + (i 1).val) * 256 + (128 + f.val)) % 4096
        = (256 * (i 1).val + (128 + f.val)) % 4096; omega

theorem ofBits_192 : Ideal.ofBits .f32 0x43400000#32 = ((192 : ℝ) : EReal) := by
  simp [Ideal.ofBits, Ideal.ieee, -EReal.coe_mul]; norm_num

/-- The divisor is the root of 192. -/
theorem v11_at (i : S8x16x4096x4096.Idx) : val_main_v11 (F := Ideal) i = ((Real.sqrt 192 : ℝ) : EReal) := by
  rw [val_main_v11_apply, val_main_v10_apply, val_main_cst_apply, Ideal.hostUnary_sqrt_def, Ideal.ofBits_def, ofBits_192,
    Ideal.sqrt_coe, if_neg (by norm_num)]

/-- The scaled scores. -/
theorem v12_at (i : S8x16x4096x4096.Idx) :
    val_main_v12 (F := Ideal) x0 x1 x2 i = gscr x0 x1 x2 (i 0).val (i 1).val (i 2).val (i 3).val * (scl : EReal) := by
  rw [val_main_v12_apply, v11_at, Ideal.hostDivf_def, Ideal.div_coe (Real.sqrt_pos.mpr (by norm_num)).ne', one_div, v9_at]
  rfl

/-- The mask: a key is seen by the queries at its position or after it. -/
theorem v17_at (i : S4096x4096.Idx) :
    val_main_v17 (F := Ideal) i = BitVec.ofBool (decide ((i 1).val ≤ (i 0).val)) := by
  have h0 : (i 0).val < 4096 := (i 0).isLt
  have h1 : (i 1).val < 4096 := (i 1).isLt
  rw [val_main_v17_apply, val_main_v15_apply, val_main_v13_apply, val_main_v16_apply, val_main_v14_apply]
  exact WordCmp.cmpi_sle_ofNat (w := 32) (a := (i 1).val) (b := (i 0).val) (by omega) (by omega)

theorem ofBool_one (p : Prop) [Decidable p] : (BitVec.ofBool (decide p) = 1) ↔ p := by
  by_cases h : p <;> simp [h]

theorem ofBits_ninf : Ideal.ofBits .f32 0xFF800000#32 = ⊥ := by
  simp [Ideal.ofBits, Ideal.ieee]

/-- The masked scores, scaled. -/
theorem v18_at (i : S8x16x4096x4096.Idx) :
    val_main_v18 (F := Ideal) x0 x1 x2 i = gmsk x0 x1 x2 (i 0).val (i 1).val (i 2).val (i 3).val * (scl : EReal) := by
  rw [val_main_v18_apply, val_main_call0_v1_apply, v17_at, v12_at, val_main_call0_v2_apply, val_main_call0_v0_apply,
    val_main_cst_0_apply, Ideal.ofBits_def, ofBits_ninf]
  unfold Scalar.select gmsk
  show (if BitVec.ofBool (decide ((i 3).val ≤ (i 2).val)) = 1 then _ else _) = _
  by_cases h : (i 3).val ≤ (i 2).val
  · rw [if_pos ((ofBool_one _).mpr h), if_pos h]
  · rw [if_neg fun e => h ((ofBool_one _).mp e), if_neg h, EReal.bot_mul_coe_of_pos scl_pos]

/-- A supremum over the keys, by number. -/
theorem sup_fin (f : ℕ → EReal) (n : ℕ) : (Finset.univ.sup fun k : Fin n => f k.val) = (Finset.range n).sup f := by
  refine le_antisymm (Finset.sup_le fun k _ => Finset.le_sup (f := f) (Finset.mem_range.mpr k.isLt)) (Finset.sup_le fun k hk => ?_)
  exact Finset.le_sup (f := fun k : Fin n => f k.val) (Finset.mem_univ ⟨k, Finset.mem_range.mp hk⟩)

/-- The greatest masked score of a query. -/
theorem v19_at (j : S8x16x4096.Idx) :
    val_main_v19 (F := Ideal) x0 x1 x2 j
      = (Finset.range 4096).sup fun k => gmsk x0 x1 x2 (j 0).val (j 1).val (j 2).val k * (scl : EReal) := by
  have e : ∀ i, val_main_v18 (F := Ideal) x0 x1 x2 i = gmsk x0 x1 x2 (i 0).val (i 1).val (i 2).val (i 3).val * (scl : EReal) :=
    v18_at x0 x1 x2
  unfold val_main_v19
  generalize val_main_v18 (F := Ideal) x0 x1 x2 = y at e
  rw [← sup_fin]
  refine (Host.reduce_eq_fold_single (α := EReal) max y _ reducesTo_S8x16x4096x4096_S8x16x4096_d3 (by decide) h_S_ j).trans ?_
  show Finset.fold max (Ideal.ofBits .f32 0xFF800000#32) _ (Finset.univ : Finset (Fin 4096)) = _
  rw [ofBits_ninf]
  exact Finset.sup_congr rfl fun k _ => e _

theorem v23_at (i : S8x16x4096x4096.Idx) :
    val_main_v23 (F := Ideal) x0 x1 x2 i
      = (Finset.range 4096).sup fun k => gmsk x0 x1 x2 (i 0).val (i 1).val (i 2).val k * (scl : EReal) := by
  rw [val_main_v23_apply, val_main_v22_apply, val_main_v21_apply, val_main_v20_apply, val_main_cst_2_apply, v19_at,
    Ideal.ofBits_def, ofBits_ninf]
  exact max_eq_right bot_le

/-- The exponentials. -/
theorem v25_at (i : S8x16x4096x4096.Idx) :
    val_main_v25 (F := Ideal) x0 x1 x2 i
      = Ideal.exp (gmsk x0 x1 x2 (i 0).val (i 1).val (i 2).val (i 3).val * (scl : EReal)
        - (Finset.range 4096).sup fun k => gmsk x0 x1 x2 (i 0).val (i 1).val (i 2).val k * (scl : EReal)) := by
  rw [val_main_v25_apply, val_main_v24_apply, v23_at, v18_at]
  rfl

/-- Their sum. -/
theorem v28_at (i : S8x16x4096x4096.Idx) :
    val_main_v28 (F := Ideal) x0 x1 x2 i
      = ∑ k ∈ Finset.range 4096, Ideal.exp (gmsk x0 x1 x2 (i 0).val (i 1).val (i 2).val k * (scl : EReal)
        - (Finset.range 4096).sup fun k => gmsk x0 x1 x2 (i 0).val (i 1).val (i 2).val k * (scl : EReal)) := by
  rw [val_main_v28_apply, val_main_v27_apply, val_main_v26_apply, val_main_cst_3_apply, Ideal.ofBits_def, Ideal.ofBits_zero, zero_add,
    Finset.sum_range]
  exact Finset.sum_congr rfl fun k _ => v25_at x0 x1 x2 _

/-- The weights: the quotients, with zero at the masked keys. -/
theorem v31_at (i : S8x16x4096x4096.Idx) :
    val_main_v31 (F := Ideal) x0 x1 x2 i = if (i 3).val ≤ (i 2).val then
      Ideal.div (Ideal.exp (gmsk x0 x1 x2 (i 0).val (i 1).val (i 2).val (i 3).val * (scl : EReal)
          - (Finset.range 4096).sup fun k => gmsk x0 x1 x2 (i 0).val (i 1).val (i 2).val k * (scl : EReal)))
        (∑ k ∈ Finset.range 4096, Ideal.exp (gmsk x0 x1 x2 (i 0).val (i 1).val (i 2).val k * (scl : EReal)
          - (Finset.range 4096).sup fun k => gmsk x0 x1 x2 (i 0).val (i 1).val (i 2).val k * (scl : EReal))) else 0 := by
  rw [val_main_v31_apply, val_main_v30_apply, val_main_call1_v1_apply, v17_at, val_main_v29_apply, v28_at, v25_at,
    val_main_call1_v2_apply, val_main_call1_v0_apply, val_main_cst_4_apply, Ideal.ofBits_def, Ideal.ofBits_zero]
  unfold Scalar.select
  show (if BitVec.ofBool (decide ((i 3).val ≤ (i 2).val)) = 1 then _ else _) = _
  by_cases h : (i 3).val ≤ (i 2).val
  · rw [if_pos ((ofBool_one _).mpr h), if_pos h]; rfl
  · rw [if_neg fun e => h ((ofBool_one _).mp e), if_neg h]

/-- The reference's result is the array that the kernel's run ends with. -/
theorem result_at (y : S8x4096x2048.Idx) : val_main_v35 (F := Ideal) x0 x1 x2 x3 y = attn x0 x1 x2 x3 y := by
  have h0 : (y 0).val < 8 := (y 0).isLt
  have h1 : (y 1).val < 4096 := (y 1).isLt
  have h2 : (y 2).val < 2048 := (y 2).isLt
  have e0 : (((y 0).val * 4096 + (y 1).val) * 2048 + (y 2).val) / 8388608 = (y 0).val := by omega
  have e1 : (((y 0).val * 4096 + (y 1).val) * 2048 + (y 2).val) / 2048 % 4096 = (y 1).val := by omega
  have e2 : (((y 0).val * 4096 + (y 1).val) * 2048 + (y 2).val) / 128 % 16 = (y 2).val / 128 := by omega
  have e3 : (((y 0).val * 4096 + (y 1).val) * 2048 + (y 2).val) % 128 = (y 2).val % 128 := by omega
  have hd : (y 2).val / 128 * 128 + (y 2).val % 128 = (y 2).val := by omega
  rw [val_main_v35_apply, val_main_v34_apply, val_main_v33_apply, val_main_v32_apply]
  unfold attn softmax
  rw [Finset.sum_range]
  refine Finset.sum_congr rfl fun k _ => ?_
  have hk : k.val < 4096 := k.isLt
  rw [v31_at, val_main_v5_apply]
  refine congrArg₂ (· * ·) ?_ ?_
  · unfold gvl
    refine congrArg x3 (eq_ix2 _ _ _ ?_ ?_)
    · show (((_ / 128 % 16 * 128 + _ % 128) * 8 + _ / 8388608) * 4096 + k.val) / 32768 = (y 2).val % 2048
      rw [e0, e2, e3, hd]; clear e0 e1 e2 e3 hd; omega
    · show (((_ / 128 % 16 * 128 + _ % 128) * 8 + _ / 8388608) * 4096 + k.val) % 32768 = (4096 * (y 0).val + k.val % 4096) % 32768
      rw [e0, e2, e3, hd]; clear e0 e1 e2 e3 hd; omega
  · have g0 : (ridx_main_v32 (idx_main_v33 (idx_main_v35 y)) k 0).val = (y 0).val := e0
    have g1 : (ridx_main_v32 (idx_main_v33 (idx_main_v35 y)) k 1).val = (y 2).val / 128 := e2
    have g2 : (ridx_main_v32 (idx_main_v33 (idx_main_v35 y)) k 2).val = (y 1).val := e1
    have g3 : (ridx_main_v32 (idx_main_v33 (idx_main_v35 y)) k 3).val = k.val := rfl
    rw [g0, g1, g2, g3]

end Cert.ReferenceIdeal.Hand

end
-- ==== Proof.Pre.lean ====
module

public import proofs.«01_k».proof.Defs
public import proofs.«01_k».proof.Proof.Arrays
public import proofs.«01_k».proof.Proof.Gen.Pre_finite_scores
public import Idealize.ShloMosaic.Lib.ReduceAll

/-!
# The precondition read

`finite_scores` says that the magnitude of each element of the queries and of the two key arrays is below infinity. Over the
extended reals that is: each of these elements is a real number.
-/

@[expose] public section

noncomputable section

namespace Cert.KernelIdeal.Hand

open Cert.KernelIdeal Cert.KernelIdeal.Gen
open Idealize.ShloMosaic
open Idealize.ShloMosaic.TcCoe
open Cert.Pre_finite_scores (fn)

/-- A magnitude below infinity is a real number's. -/
theorem real_of_abs {x : EReal} (h : max x (-x) < ⊤) : ∃ a : ℝ, x = a := by
  induction x with
  | bot => simp at h
  | coe a => exact ⟨a, rfl⟩
  | top => simp at h

theorem ofBits_inf : Ideal.ofBits .f32 0x7F800000#32 = ⊤ := by
  simp [Ideal.ofBits, Ideal.ieee]

/-- An array whose magnitudes all compare below infinity holds real numbers. -/
theorem real_of_all {s : Shape} {axes : List (Fin s.rank)} {x : s.Idx → EReal}
    (hb : Cert.Pre_finite_scores.S_.BroadcastsInDim s (![] : Fin 0 → Fin s.rank))
    (hr : s.ReducesTo axes Cert.Pre_finite_scores.S_) (hl : FTy.bits .bf16 < FTy.bits .f32) (hu : 0 < Cert.Pre_finite_scores.S_.numel)
    (j : Cert.Pre_finite_scores.S_.Idx)
    (h : Host.reduce IntOp.andi (cmpf (F := Ideal) (φ := .f32) .olt (Host.absf (extf (F := Ideal) (φ := .bf16) .f32 x hl))
        (broadcastInDim s ![] hb (constant (F := Ideal) Cert.Pre_finite_scores.S_ .f32 0x7F800000#32)))
      (constantI Cert.Pre_finite_scores.S_ 1 1#1) hr hu j = 1#1) (i : s.Idx) : ∃ a : ℝ, x i = a := by
  haveI : Subsingleton Cert.Pre_finite_scores.S_.Idx := ⟨fun a b => funext fun d => d.elim0⟩
  have e := Host.reduce_andi_all _ _ hr hu j h i
  have e' : BitVec.ofBool (decide (max (x i) (-(x i)) < Ideal.ofBits .f32 0x7F800000#32)) = 1#1 := e
  rw [ofBits_inf] at e'
  refine real_of_abs ?_
  by_contra hc
  rw [decide_eq_false hc] at e'
  exact absurd e' (by decide)

/-- The precondition gives what the kernel's value run asks for. -/
theorem finite_of_pre (m : (ℓ : Loc nD τ sig) → Buf (Elt Ideal) ℓ) (h : Cert.Pre_KernelIdeal_finite_scores m) (c : Dev nD) :
    Finite m c := by
  have e := congrFun (h c) (fun d => d.elim0)
  obtain ⟨e1, e2⟩ := IntOp.andi_eq_one.1 e
  obtain ⟨e0, e1⟩ := IntOp.andi_eq_one.1 e1
  exact ⟨fun i => real_of_all _ _ _ _ _ e0 i, fun i => real_of_all _ _ _ _ _ e1 i, fun i => real_of_all _ _ _ _ _ e2 i⟩

end Cert.KernelIdeal.Hand

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.Gen.Kernel11
public import proofs.«01_k».proof.Proof.Gen.Kernel11.Frame
public import proofs.«01_k».proof.Proof.Gen.Kernel11Ideal
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import proofs.«01_k».proof.Proof.Gen.Kernel12
public import proofs.«01_k».proof.Proof.Gen.Kernel12.Frame
public import proofs.«01_k».proof.Proof.Gen.Kernel12Ideal
public import proofs.«01_k».proof.Proof.Gen.Kernel12Ideal.Value
public import proofs.«01_k».proof.Proof.Gen.Reference12Ideal
public import proofs.«01_k».proof.Proof.Gen.Reference12Ideal.Run
public import proofs.«01_k».proof.Proof.Gen.Reference12Ideal.Read
public import proofs.«01_k».proof.Proof.Gen.Pre_finite_scores
public import proofs.«01_k».proof.Proof.Run
public import proofs.«01_k».proof.Proof.Calls
public import proofs.«01_k».proof.Proof.Query
public import proofs.«01_k».proof.Proof.Bits.Run
public import proofs.«01_k».proof.Proof.RefVal
public import proofs.«01_k».proof.Proof.Pre
public import Idealize.ShloMosaic.Adequacy
public import Idealize.ShloMosaic.Init

@[expose] public section

noncomputable section

namespace Cert.Proof

open Idealize.ShloMosaic Idealize.SL.Sem

/-- The named constants' words and values. -/
theorem preserves : Cert.preserves_Kernel_KernelIdeal :=
  ⟨IdealRules.named_const.statement Cert.KernelIdeal.κ "scale_log2e" .f32 0x3DD53B95#32 _ rfl,
    IdealRules.named_const.statement Cert.KernelIdeal.κ "mask" .f32 0xF149F2CA#32 _ rfl⟩

/-- The reference's arguments end as they were; it declares no semaphore. -/
theorem frame_r (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, g⟩ (fun r => (∀ c : Dev Cert.ReferenceIdeal.nD,
        r.2.mem ((c.tc : Thread _ _).loc Cert.ReferenceIdeal.main_arg0) = m ((c.tc : Thread _ _).loc Cert.ReferenceIdeal.main_arg0)
        ∧ r.2.mem ((c.tc : Thread _ _).loc Cert.ReferenceIdeal.main_arg1) = m ((c.tc : Thread _ _).loc Cert.ReferenceIdeal.main_arg1)
        ∧ r.2.mem ((c.tc : Thread _ _).loc Cert.ReferenceIdeal.main_arg2) = m ((c.tc : Thread _ _).loc Cert.ReferenceIdeal.main_arg2)
        ∧ r.2.mem ((c.tc : Thread _ _).loc Cert.ReferenceIdeal.main_arg3) = m ((c.tc : Thread _ _).loc Cert.ReferenceIdeal.main_arg3))
        ∧ r.2.sem = fun _ => 0) :=
  (θ_run Cert.ReferenceIdeal.defs _ _).mono
    (fun r h => ⟨fun c => (h c).2, Idealize.ShloMosaic.sem_eq_zero_of_no_sems (by decide) r.2⟩)
    (Cert.ReferenceIdeal.Value.run (F := Ideal) m g)

/-- From arguments that agree, with finite queries and keys, both programs end with the softmax attention `attn` of them. -/
theorem algebraic : Cert.algebraic_KernelIdeal_ReferenceIdeal_pre_finite_scores := by
  intro m g m' g' hp ha
  refine ⟨Cert.KernelIdeal.Hand.resV m, Cert.KernelIdeal.Hand.run_value g fun c => Cert.KernelIdeal.Hand.finite_of_pre m hp c, ?_⟩
  refine (θ_run Cert.ReferenceIdeal.defs _ _).mono (fun r h c => ⟨(h c).1.trans ?_, (h c).2⟩)
    (Cert.ReferenceIdeal.Value.run (F := Ideal) m' g')
  rw [Cert.ReferenceIdeal.Read.val_main_v35_eq]
  obtain ⟨e0, e1, e2, e3⟩ := ha c
  refine (funext fun y => ?_ : Cert.ReferenceIdeal.Read.val_main_v35 (F := Ideal) _ _ _ _ = Cert.KernelIdeal.Hand.resV m c)
  rw [e0, e1, e2, e3]
  exact Cert.ReferenceIdeal.Hand.result_at _ _ _ _ y

theorem claim : Cert.Claim :=
  ⟨Cert.Kernel.Gen.facts, Cert.KernelIdeal.Gen.facts, Cert.ReferenceIdeal.Gen.facts, Cert.Kernel2.Gen.facts,
    Cert.Kernel2Ideal.Gen.facts, Cert.Reference2Ideal.Gen.facts, Cert.Kernel3.Gen.facts, Cert.Kernel3Ideal.Gen.facts,
    Cert.Reference3Ideal.Gen.facts, Cert.Kernel4.Gen.facts, Cert.Kernel4Ideal.Gen.facts, Cert.Reference4Ideal.Gen.facts,
    Cert.Kernel5.Gen.facts, Cert.Kernel5Ideal.Gen.facts, Cert.Reference5Ideal.Gen.facts, Cert.Kernel6.Gen.facts,
    Cert.Kernel6Ideal.Gen.facts, Cert.Reference6Ideal.Gen.facts, Cert.Kernel7.Gen.facts, Cert.Kernel7Ideal.Gen.facts,
    Cert.Reference7Ideal.Gen.facts, Cert.Kernel8.Gen.facts, Cert.Kernel8Ideal.Gen.facts, Cert.Reference8Ideal.Gen.facts,
    Cert.Kernel9.Gen.facts, Cert.Kernel9Ideal.Gen.facts, Cert.Reference9Ideal.Gen.facts, Cert.Kernel10.Gen.facts,
    Cert.Kernel10Ideal.Gen.facts, Cert.Reference10Ideal.Gen.facts, Cert.Kernel11.Gen.facts, Cert.Kernel11Ideal.Gen.facts,
    Cert.Reference11Ideal.Gen.facts, Cert.Kernel12.Gen.facts, Cert.Kernel12Ideal.Gen.facts,
    Cert.Reference12Ideal.Gen.facts, Cert.Pre_finite_scores.Gen.facts,
    fun m g _ => Cert.Kernel.Hand.frame_run m g, fun m g _ => Cert.KernelIdeal.Hand.frame_run m g,
    fun m g _ => Cert.KernelIdeal.Hand.frame_run m g, fun m g _ => frame_r m g, fun m g _ => frame_r m g,
    fun m g _ => Cert.Kernel2.Gen.frame m g, fun m g _ => Cert.Kernel2Ideal.Gen.frame m g,
    fun m g _ => quiet (by decide) (Cert.Reference2Ideal.Value.run (F := Ideal) m g),
    fun m g _ => Cert.Kernel3.Gen.frame m g, fun m g _ => Cert.Kernel3Ideal.Gen.frame m g,
    fun m g _ => quiet (by decide) (Cert.Reference3Ideal.Value.run (F := Ideal) m g),
    fun m g _ => Cert.Kernel4.Gen.frame m g, fun m g _ => Cert.Kernel4Ideal.Gen.frame m g,
    fun m g _ => quiet (by decide) (Cert.Reference4Ideal.Value.run (F := Ideal) m g),
    fun m g _ => Cert.Kernel5.Gen.frame m g, fun m g _ => Cert.Kernel5Ideal.Gen.frame m g,
    fun m g _ => quiet (by decide) (Cert.Reference5Ideal.Value.run (F := Ideal) m g),
    fun m g _ => Cert.Kernel6.Gen.frame m g, fun m g _ => Cert.Kernel6Ideal.Gen.frame m g,
    fun m g _ => quiet (by decide) (Cert.Reference6Ideal.Value.run (F := Ideal) m g),
    fun m g _ => Cert.Kernel7.Gen.frame m g, fun m g _ => Cert.Kernel7Ideal.Gen.frame m g,
    fun m g _ => quiet (by decide) (Cert.Reference7Ideal.Value.run (F := Ideal) m g),
    fun m g _ => Cert.Kernel8.Gen.frame m g, fun m g _ => Cert.Kernel8Ideal.Gen.frame m g,
    fun m g _ => (θ_run Cert.Reference8Ideal.defs _ _).mono (fun r h => ⟨fun c => (h c).2.2, sem_eq_zero_of_no_sems (by decide) r.2⟩)
      (Cert.Reference8Ideal.Value.run (F := Ideal) m g),
    fun m g _ => Cert.Kernel9.Gen.frame m g, fun m g _ => Cert.Kernel9Ideal.Gen.frame m g,
    fun m g _ => quiet (by decide) (Cert.Reference9Ideal.Value.run (F := Ideal) m g),
    fun m g _ => Cert.Kernel10.Gen.frame m g, fun m g _ => Cert.Kernel10Ideal.Gen.frame m g,
    fun m g _ => quiet (by decide) (Cert.Reference10Ideal.Value.run (F := Ideal) m g),
    fun m g _ => Cert.Kernel11.Gen.frame m g, fun m g _ => Cert.Kernel11Ideal.Gen.frame m g,
    fun m g _ => quiet (by decide) (Cert.Reference11Ideal.Value.run (F := Ideal) m g),
    fun m g _ => Cert.Kernel12.Gen.frame m g, fun m g _ => Cert.Kernel12Ideal.Gen.frame m g,
    fun m g _ => (θ_run Cert.Reference12Ideal.defs _ _).mono (fun r h => ⟨fun c => (h c).2.2, sem_eq_zero_of_no_sems (by decide) r.2⟩)
      (Cert.Reference12Ideal.Value.run (F := Ideal) m g),
    preserves, algebraic, trivial, output, trivial, dilated, trivial, latent, trivial, gates, trivial, brief, trivial, transposed, trivial, outputEven, trivial, query, trivial, keys, trivial, values, trivial, stream⟩

end Cert.Proof

end
